-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v3_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v3_0) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v150) = v0 c
          ∧ r.2.mem ((c.tc : Thread Cert.Reference2Ideal.nD Cert.Reference2Ideal.τ).loc Cert.Reference2Ideal.main_v151) = v1 c
          ∧ r.2.mem ((c.tc : Thread Cert.Reference2Ideal.nD Cert.Reference2Ideal.τ).loc Cert.Reference2Ideal.main_v153) = v2 c
          ∧ r.2.mem ((c.tc : Thread Cert.Reference2Ideal.nD Cert.Reference2Ideal.τ).loc Cert.Reference2Ideal.main_v154) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)) (v5 : (c : Dev Cert.Kernel5Ideal.nD) → Buf (Elt Ideal) ((c.tc : Thread Cert.Kernel5Ideal.nD Cert.Kernel5Ideal.τ).loc Cert.Kernel5Ideal.main_v14_5)) (v6 : (c : Dev Cert.Kernel5Ideal.nD) → Buf (Elt Ideal) ((c.tc : Thread Cert.Kernel5Ideal.nD Cert.Kernel5Ideal.τ).loc Cert.Kernel5Ideal.main_v12_0)) (v7 : (c : Dev Cert.Kernel5Ideal.nD) → Buf (Elt Ideal) ((c.tc : Thread Cert.Kernel5Ideal.nD Cert.Kernel5Ideal.τ).loc Cert.Kernel5Ideal.main_v12_1)) (v8 : (c : Dev Cert.Kernel5Ideal.nD) → Buf (Elt Ideal) ((c.tc : Thread Cert.Kernel5Ideal.nD Cert.Kernel5Ideal.τ).loc Cert.Kernel5Ideal.main_v12_2)) (v9 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_v14_5) = v5 c
          ∧ r.2.mem ((c.tc : Thread Cert.Kernel5Ideal.nD Cert.Kernel5Ideal.τ).loc Cert.Kernel5Ideal.main_v12_0) = v6 c
          ∧ r.2.mem ((c.tc : Thread Cert.Kernel5Ideal.nD Cert.Kernel5Ideal.τ).loc Cert.Kernel5Ideal.main_v12_1) = v7 c
          ∧ r.2.mem ((c.tc : Thread Cert.Kernel5Ideal.nD Cert.Kernel5Ideal.τ).loc Cert.Kernel5Ideal.main_v12_2) = v8 c
          ∧ r.2.mem ((c.tc : Thread Cert.Kernel5Ideal.nD Cert.Kernel5Ideal.τ).loc Cert.Kernel5Ideal.main_v12_3) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_v43) = v4 c
          ∧ r.2.mem ((c.tc : Thread Cert.Reference5Ideal.nD Cert.Reference5Ideal.τ).loc Cert.Reference5Ideal.main_v36) = v5 c
          ∧ r.2.mem ((c.tc : Thread Cert.Reference5Ideal.nD Cert.Reference5Ideal.τ).loc Cert.Reference5Ideal.main_v44) = v6 c
          ∧ r.2.mem ((c.tc : Thread Cert.Reference5Ideal.nD Cert.Reference5Ideal.τ).loc Cert.Reference5Ideal.main_v45) = v7 c
          ∧ r.2.mem ((c.tc : Thread Cert.Reference5Ideal.nD Cert.Reference5Ideal.τ).loc Cert.Reference5Ideal.main_v46) = v8 c
          ∧ r.2.mem ((c.tc : Thread Cert.Reference5Ideal.nD Cert.Reference5Ideal.τ).loc Cert.Reference5Ideal.main_v22) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v4_0)) (v5 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v4_0) = v4 c
          ∧ r.2.mem ((c.tc : Thread Cert.Kernel6Ideal.nD Cert.Kernel6Ideal.τ).loc Cert.Kernel6Ideal.main_v5_1) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_v50) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_v51) = v4 c
          ∧ r.2.mem ((c.tc : Thread Cert.Reference6Ideal.nD Cert.Reference6Ideal.τ).loc Cert.Reference6Ideal.main_v52) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite2.lean ====
abbrev S2048x768 : Shape := ⟨2, ![2048, 768]⟩
abbrev S1x8 : Shape := ⟨2, ![1, 8]⟩
abbrev S2048x512 : Shape := ⟨2, ![2048, 512]⟩
abbrev S2048x8 : Shape := ⟨2, ![2048, 8]⟩
abbrev S2048x1288 : Shape := ⟨2, ![2048, 1288]⟩
abbrev S_ : Shape := ⟨0, ![]⟩

class Facts : Prop where
  bcast_S1x8_S2048x8_0_1 : S1x8.BroadcastsInDim S2048x8 (![0, 1] : Fin 2 → Fin S2048x8.rank)
  concatenates_S2048x768_S2048x512_S2048x8_S2048x1288_d1 : Shape.Concatenates [S2048x768, S2048x512, S2048x8] S2048x1288 1
  bcast_S_S2048x1288 : S_.BroadcastsInDim S2048x1288 (![] : Fin 0 → Fin S2048x1288.rank)

variable [Facts]

def fn {F : FTy → Type} [FloatOps F] (main_arg0 : FVec F S2048x768 .f32) (main_arg1 : FVec F S1x8 .f32) (main_arg2 : FVec F S2048x512 .f32) : IVec S2048x1288 1 :=
  let main_v0 : FVec F S2048x8 .f32 := broadcastInDim S2048x8 ![0, 1] bcast_S1x8_S2048x8_0_1 main_arg1
  let main_v1 : FVec F S2048x1288 .f32 := concatenate S2048x1288 1 [⟨S2048x768, main_arg0⟩, ⟨S2048x512, main_arg2⟩, ⟨S2048x8, main_v0⟩] concatenates_S2048x768_S2048x512_S2048x8_S2048x1288_d1
  let main_v2 : FVec F S2048x1288 .f32 := Host.absf main_v1
  let main_cst : FVec F S_ .f32 := constant S_ .f32 0x7F800000#32
  let main_v3 : FVec F S2048x1288 .f32 := broadcastInDim S2048x1288 ![] bcast_S_S2048x1288 main_cst
  let main_v4 : IVec S2048x1288 1 := cmpf .olt main_v2 main_v3
  main_v4
-- ==== Pre_finite6.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S10497x1024 : Shape := ⟨2, ![10497, 1024]⟩
abbrev S_ : Shape := ⟨0, ![]⟩

class Facts : Prop where
  transposes_S1024x5632_S5632x1024_1_0 : S1024x5632.Transposes [1, 0] S5632x1024
  concatenates_S1x1024_S5632x1024_S2816x1024_S2048x1024_S10497x1024_d0 : Shape.Concatenates [S1x1024, S5632x1024, S2816x1024, S2048x1024] S10497x1024 0
  bcast_S_S10497x1024 : S_.BroadcastsInDim S10497x1024 (![] : Fin 0 → Fin S10497x1024.rank)

variable [Facts]

def fn {F : FTy → Type} [FloatOps F] (main_arg0 : FVec F S2048x1024 .f32) (main_arg1 : FVec F S1x1024 .f32) (main_arg2 : FVec F S1024x5632 .f32) (main_arg3 : FVec F S2816x1024 .f32) (main_arg4 : FVec F S2048x1024 .f32) : IVec S10497x1024 1 :=
  let main_v0 : FVec F S5632x1024 .f32 := (transpose S5632x1024 [1, 0] · transposes_S1024x5632_S5632x1024_1_0) main_arg2
  let main_v1 : FVec F S10497x1024 .f32 := concatenate S10497x1024 0 [⟨S1x1024, main_arg1⟩, ⟨S5632x1024, main_v0⟩, ⟨S2816x1024, main_arg3⟩, ⟨S2048x1024, main_arg4⟩] concatenates_S1x1024_S5632x1024_S2816x1024_S2048x1024_S10497x1024_d0
  let main_v2 : FVec F S10497x1024 .f32 := Host.absf main_v1
  let main_cst : FVec F S_ .f32 := constant S_ .f32 0x7F800000#32
  let main_v3 : FVec F S10497x1024 .f32 := broadcastInDim S10497x1024 ![] bcast_S_S10497x1024 main_cst
  let main_v4 : IVec S10497x1024 1 := cmpf .olt main_v2 main_v3
  main_v4
-- ==== Kernel.lean ====
abbrev S2048x1024 : Shape := ⟨2, ![2048, 1024]⟩
abbrev S2048x2816 : Shape := ⟨2, ![2048, 2816]⟩
abbrev S2816x1024 : Shape := ⟨2, ![2816, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S1024, .f32⟩
  | .hbm, ⟨4, _⟩ => ⟨S2048x1024, .f32⟩
  | .hbm, ⟨5, _⟩ => ⟨S2048x2816, .bf16⟩
  | .hbm, ⟨6, _⟩ => ⟨S2816x1024, .bf16⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2048x1024 : Shape := ⟨2, ![2048, 1024]⟩
abbrev S2048x2816 : Shape := ⟨2, ![2048, 2816]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .bf16⟩
  | .hbm, ⟨76, _⟩ => ⟨S1x1024, .f32⟩
  | .hbm, ⟨77, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel2.lean ====
abbrev S2048x768 : Shape := ⟨2, ![2048, 768]⟩
abbrev S1x8 : Shape := ⟨2, ![1, 8]⟩
abbrev S2048x512 : Shape := ⟨2, ![2048, 512]⟩
abbrev S_ : Shape := ⟨0, ![]⟩
abbrev S8x128 : Shape := ⟨2, ![8, 128]⟩
abbrev S2048x8 : Shape := ⟨2, ![2048, 8]⟩
abbrev S32x512x256 : Shape := ⟨3, ![32, 512, 256]⟩
abbrev S256x512 : Shape := ⟨2, ![256, 512]⟩
abbrev S256x8 : Shape := ⟨2, ![256, 8]⟩
abbrev S4x512x256 : Shape := ⟨3, ![4, 512, 256]⟩
abbrev S512x256 : Shape := ⟨2, ![512, 256]⟩
abbrev S256x64 : Shape := ⟨2, ![256, 64]⟩
abbrev S128x64 : Shape := ⟨2, ![128, 64]⟩
abbrev S128x256 : Shape := ⟨2, ![128, 256]⟩
abbrev S1x128x256 : Shape := ⟨3, ![1, 128, 256]⟩
abbrev S1x512x256 : Shape := ⟨3, ![1, 512, 256]⟩
abbrev S512x1 : Shape := ⟨2, ![512, 1]⟩
abbrev S1x1 : Shape := ⟨2, ![1, 1]⟩
abbrev S512 : Shape := ⟨1, ![512]⟩
abbrev S128x1 : Shape := ⟨2, ![128, 1]⟩
abbrev S2048x256 : Shape := ⟨2, ![2048, 256]⟩
abbrev S128x512 : Shape := ⟨2, ![128, 512]⟩
abbrev S128x8 : Shape := ⟨2, ![128, 8]⟩
abbrev S2x512x256 : Shape := ⟨3, ![2, 512, 256]⟩
abbrev S1x128 : Shape := ⟨2, ![1, 128]⟩
abbrev S1 : Shape := ⟨1, ![1]⟩

abbrev nBuf : Space → Nat
  | .hbm => 13
  | .vmem => 23
  | .smem => 2
  | _ => 0

abbrev bufTy : (tb : Table) → Fin (tcTables nBuf tb) → BufTy
  | .hbm, ⟨0, _⟩ => ⟨S2048x768, .f32⟩
  | .hbm, ⟨1, _⟩ => ⟨S1x8, .f32⟩
  | .hbm, ⟨2, _⟩ => ⟨S2048x512, .f32⟩
  | .hbm, ⟨3, _⟩ => ⟨S2048x768, .bf16⟩
  | .hbm, ⟨4, _⟩ => ⟨S2048x512, .bf16⟩
  | .hbm, ⟨5, _⟩ => ⟨S_, .f32⟩
  | .hbm, ⟨6, _⟩ => ⟨S8x128, .f32⟩
  | .hbm, ⟨7, _⟩ => ⟨S2048x512, .bf16⟩
  | .hbm, ⟨8, _⟩ => ⟨S2048x8, .f32⟩
  | .hbm, ⟨9, _⟩ => ⟨S32x512x256, .bf16⟩
  | .hbm, ⟨10, _⟩ => ⟨S2048x512, .bf16⟩
  | .hbm, ⟨11, _⟩ => ⟨S2048x256, .f32⟩
  | .hbm, ⟨12, _⟩ => ⟨S8x128, .f32⟩
  | .local _ .vmem, ⟨0, _⟩ => ⟨S2048x768, .bf16⟩
  | .local _ .vmem, ⟨1, _⟩ => ⟨S256x512, .bf16⟩
  | .local _ .vmem, ⟨2, _⟩ => ⟨S256x512, .bf16⟩
  | .local _ .vmem, ⟨3, _⟩ => ⟨S256x8, .f32⟩
  | .local _ .vmem, ⟨4, _⟩ => ⟨S256x8, .f32⟩
  | .local _ .vmem, ⟨5, _⟩ => ⟨S4x512x256, .bf16⟩
  | .local _ .vmem, ⟨6, _⟩ => ⟨S4x512x256, .bf16⟩
  | .local _ .vmem, ⟨7, _⟩ => ⟨S4x512x256, .f32⟩
  | .local _ .vmem, ⟨8, _⟩ => ⟨S2048x768, .bf16⟩
  | .local _ .vmem, ⟨9, _⟩ => ⟨S128x512, .bf16⟩
  | .local _ .vmem, ⟨10, _⟩ => ⟨S128x512, .bf16⟩
  | .local _ .vmem, ⟨11, _⟩ => ⟨S128x8, .f32⟩
  | .local _ .vmem, ⟨12, _⟩ => ⟨S128x8, .f32⟩
  | .local _ .vmem, ⟨13, _⟩ => ⟨S2x512x256, .bf16⟩
  | .local _ .vmem, ⟨14, _⟩ => ⟨S2x512x256, .bf16⟩
  | .local _ .vmem, ⟨15, _⟩ => ⟨S8x128, .f32⟩
  | .local _ .vmem, ⟨16, _⟩ => ⟨S8x128, .f32⟩
  | .local _ .vmem, ⟨17, _⟩ => ⟨S128x512, .bf16⟩
  | .local _ .vmem, ⟨18, _⟩ => ⟨S128x512, .bf16⟩
  | .local _ .vmem, ⟨19, _⟩ => ⟨S2048x256, .f32⟩
  | .local _ .vmem, ⟨20, _⟩ => ⟨S8x128, .f32⟩
  | .local _ .vmem, ⟨21, _⟩ => ⟨S2x512x256, .f32⟩
  | .local _ .vmem, ⟨22, _⟩ => ⟨S2x512x256, .bf16⟩
  | .local _ .smem, ⟨0, _⟩ => ⟨S1x8, .f32⟩
  | .local _ .smem, ⟨1, _⟩ => ⟨S1x8, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc1_scratch0 : Ref sig .tc := ⟨.vmem, 21, rfl⟩
abbrev cc1_scratch1 : Ref sig .tc := ⟨.vmem, 22, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  v4
def k0_mult2 (i : grid0.Coords) : BitVec 32 :=
  let arg0 : BitVec 32 := BitVec.ofNat 32 (i 0).val
  let c2_i32_3 : BitVec 32 := 2#32
  let v20 : BitVec 32 := Scalar.muli arg0 c2_i32_3
  let c1_i32_4 : BitVec 32 := 1#32
  let v21 : BitVec 32 := Scalar.addi v20 c1_i32_4
  let c1_i32_5 : BitVec 32 := 1#32
  let v22 : BitVec 32 := Scalar.subi v21 c1_i32_5
  let c0_i32_6 : BitVec 32 := 0#32
  let v23 : BitVec 32 := Scalar.maxsi v22 c0_i32_6
  let c128_i32_7 : BitVec 32 := 128#32
  let v24 : BitVec 32 := Scalar.muli v23 c128_i32_7
  v24
def k0_mult3 (i : grid0.Coords) : BitVec 32 :=
  let arg0 : BitVec 32 := BitVec.ofNat 32 (i 0).val
  let c2_i32_11 : BitVec 32 := 2#32
  let v40 : BitVec 32 := Scalar.muli arg0 c2_i32_11
  let c0_i32_12 : BitVec 32 := 0#32
  let v41 : BitVec 32 := Scalar.addi v40 c0_i32_12
  let c128_i32_13 : BitVec 32 := 128#32
  let v42 : BitVec 32 := Scalar.muli v41 c128_i32_13
  v42
def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v44 : Index := Scalar.indexCast v5
  let c512 : Index := 512#32
  ![v44.toNat, 512]
def k0_off2 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v47 : Index := Scalar.indexCast v43
  let c0 : Index := 0#32
  ![v47.toNat, 0]
def k0_off3 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v54 : Index := Scalar.indexCast v43
  let c64 : Index := 64#32
  ![v54.toNat, 64]
def k0_off4 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v61 : Index := Scalar.indexCast v43
  let c128_20 : Index := 128#32
  ![v61.toNat, 128]
def k0_off5 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v68 : Index := Scalar.indexCast v43
  let c192 : Index := 192#32
  ![v68.toNat, 192]
def k0_mult4 (i : grid0.Coords) : BitVec 32 :=
  let arg0 : BitVec 32 := BitVec.ofNat 32 (i 0).val
  let c2_i32_27 : BitVec 32 := 2#32
  let v75 : BitVec 32 := Scalar.muli arg0 c2_i32_27
  let c0_i32_28 : BitVec 32 := 0#32
  let v76 : BitVec 32 := Scalar.addi v75 c0_i32_28
  let c128_i32_29 : BitVec 32 := 128#32
  let v77 : BitVec 32 := Scalar.muli v76 c128_i32_29
  v77
def k0_off6 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v79 : Index := Scalar.indexCast v5
  let c576 : Index := 576#32
  ![v79.toNat, 576]
def k0_off7 (i : grid0.Coords) (c0_i32_28 : BitVec 32) : Fin 2 → Nat :=
  let arg0 : BitVec 32 := BitVec.ofNat 32 (i 0).val
  let c2_i32_27 : BitVec 32 := 2#32
  let v75 : BitVec 32 := Scalar.muli arg0 c2_i32_27
  let v76 : BitVec 32 := Scalar.addi v75 c0_i32_28
  let c128_i32_29 : BitVec 32 := 128#32
  let v77 : BitVec 32 := Scalar.muli v76 c128_i32_29
  let v78 : BitVec 32 := v77
  let v82 : Index := Scalar.indexCast v78
  let c256_30 : Index := 256#32
  ![v82.toNat, 256]
def k0_off8 (i : grid0.Coords) (c0_i32_28 : BitVec 32) : Fin 2 → Nat :=
  let arg0 : BitVec 32 := BitVec.ofNat 32 (i 0).val
  let c2_i32_27 : BitVec 32 := 2#32
  let v75 : BitVec 32 := Scalar.muli arg0 c2_i32_27
  let v76 : BitVec 32 := Scalar.addi v75 c0_i32_28
  let c128_i32_29 : BitVec 32 := 128#32
  let v77 : BitVec 32 := Scalar.muli v76 c128_i32_29
  let v78 : BitVec 32 := v77
  let v89 : Index := Scalar.indexCast v78
  let c320 : Index := 320#32
  ![v89.toNat, 320]
def k0_off9 (i : grid0.Coords) (c0_i32_28 : BitVec 32) : Fin 2 → Nat :=
  let arg0 : BitVec 32 := BitVec.ofNat 32 (i 0).val
  let c2_i32_27 : BitVec 32 := 2#32
  let v75 : BitVec 32 := Scalar.muli arg0 c2_i32_27
  let v76 : BitVec 32 := Scalar.addi v75 c0_i32_28
  let c128_i32_29 : BitVec 32 := 128#32
  let v77 : BitVec 32 := Scalar.muli v76 c128_i32_29
  let v78 : BitVec 32 := v77
  let v96 : Index := Scalar.indexCast v78
  let c384_38 : Index := 384#32
  ![v96.toNat, 384]
def k0_off10 (i : grid0.Coords) (c0_i32_28 : BitVec 32) : Fin 2 → Nat :=
  let arg0 : BitVec 32 := BitVec.ofNat 32 (i 0).val
  let c2_i32_27 : BitVec 32 := 2#32
  let v75 : BitVec 32 := Scalar.muli arg0 c2_i32_27
  let v76 : BitVec 32 := Scalar.addi v75 c0_i32_28
  let c128_i32_29 : BitVec 32 := 128#32
  let v77 : BitVec 32 := Scalar.muli v76 c128_i32_29
  let v78 : BitVec 32 := v77
  let v103 : Index := Scalar.indexCast v78
  let c448 : Index := 448#32
  ![v103.toNat, 448]
def k0_mult5 (i : grid0.Coords) : BitVec 32 :=
  let arg0 : BitVec 32 := BitVec.ofNat 32 (i 0).val
  let c2_i32_47 : BitVec 32 := 2#32
  let v110 : BitVec 32 := Scalar.muli arg0 c2_i32_47
  let c1_i32_48 : BitVec 32 := 1#32
  let v111 : BitVec 32 := Scalar.addi v110 c1_i32_48
  let c128_i32_49 : BitVec 32 := 128#32
  let v112 : BitVec 32 := Scalar.muli v111 c128_i32_49
  v112
def k0_mult6 (i : grid0.Coords) : BitVec 32 :=
  let arg0 : BitVec 32 := BitVec.ofNat 32 (i 0).val
  let c2_i32_70 : BitVec 32 := 2#32
  let v145 : BitVec 32 := Scalar.muli arg0 c2_i32_70
  let c1_i32_71 : BitVec 32 := 1#32
  let v146 : BitVec 32 := Scalar.addi v145 c1_i32_71
  let c128_i32_72 : BitVec 32 := 128#32
  let v147 : BitVec 32 := Scalar.muli v146 c128_i32_72
  v147
def k0_off11 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v368 : Index := Scalar.indexCast v5
  let c640 : Index := 640#32
  ![v368.toNat, 640]
def k0_off12 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v399 : Index := Scalar.indexCast v5
  let c704 : Index := 704#32
  ![v399.toNat, 704]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  v7
def k1_mult2 (i : grid1.Coords) : BitVec 32 :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  v11
def k1_off1 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v13 : Index := Scalar.indexCast v8
  let c640 : Index := 640#32
  ![v13.toNat, 640]
def k1_off2 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v49 : Index := Scalar.indexCast v8
  let c704 : Index := 704#32
  ![v49.toNat, 704]
def k1_off3 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v165 : Index := Scalar.indexCast v8
  let c512 : Index := 512#32
  ![v165.toNat, 512]
def k1_off4 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v179 : Index := Scalar.indexCast v12
  let c0_110 : Index := 0#32
  ![v179.toNat, 0]
def k1_off5 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v208 : Index := Scalar.indexCast v12
  let c64_133 : Index := 64#32
  ![v208.toNat, 64]
def k1_off6 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v237 : Index := Scalar.indexCast v12
  let c128_156 : Index := 128#32
  ![v237.toNat, 128]
def k1_off7 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v266 : Index := Scalar.indexCast v12
  let c192_179 : Index := 192#32
  ![v266.toNat, 192]
def k1_off8 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v286 : Index := Scalar.indexCast v8
  let c0_192 : Index := 0#32
  ![v286.toNat, 0]
def k1_off9 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v294 : Index := Scalar.indexCast v8
  let c128_195 : Index := 128#32
  ![v294.toNat, 128]
def k1_off10 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v300 : Index := Scalar.indexCast v8
  let c576 : Index := 576#32
  ![v300.toNat, 576]
def k1_off11 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v314 : Index := Scalar.indexCast v12
  let c256_209 : Index := 256#32
  ![v314.toNat, 256]
def k1_off12 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v343 : Index := Scalar.indexCast v12
  let c320_232 : Index := 320#32
  ![v343.toNat, 320]
def k1_off13 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v372 : Index := Scalar.indexCast v12
  let c384_255 : Index := 384#32
  ![v372.toNat, 384]
def k1_off14 (i : grid1.Coords) : Fin 2 → Nat :=
  let arg0 : BitVec 32 := BitVec.ofNat 32 (i 0).val
  let c1_i32_4 : BitVec 32 := 1#32
  let v9 : BitVec 32 := Scalar.muli arg0 c1_i32_4
  let c0_i32_5 : BitVec 32 := 0#32
  let v10 : BitVec 32 := Scalar.addi v9 c0_i32_5
  let c128_i32_6 : BitVec 32 := 128#32
  let v11 : BitVec 32 := Scalar.muli v10 c128_i32_6
  let v12 : BitVec 32 := v11
  let v401 : Index := Scalar.indexCast v12
  let c448_278 : Index := 448#32
  ![v401.toNat, 448]
def k1_off15 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v421 : Index := Scalar.indexCast v8
  let c64_291 : Index := 64#32
  ![v421.toNat, 64]
def k1_off16 (i : grid1.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_2 : BitVec 32 := 1#32
  let v5 : BitVec 32 := Scalar.subi v4 c1_i32_2
  let c0_i32_3 : BitVec 32 := 0#32
  let v6 : BitVec 32 := Scalar.maxsi v5 c0_i32_3
  let c128_i32 : BitVec 32 := 128#32
  let v7 : BitVec 32 := Scalar.muli v6 c128_i32
  let v8 : BitVec 32 := v7
  let v429 : Index := Scalar.indexCast v8
  let c192_294 : Index := 192#32
  ![v429.toNat, 192]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2048x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== Kernel2Ideal.lean ====
variable {F : FTy → Type} [FloatOps F] [Named F]
def κ : String → Option EReal := fun
  | "mask" => some ⊥
  | _ => none
-- ==== Reference2Ideal.lean ====
abbrev S2048x768 : Shape := ⟨2, ![2048, 768]⟩
abbrev S1x8 : Shape := ⟨2, ![1, 8]⟩
abbrev S2048x512 : Shape := ⟨2, ![2048, 512]⟩
abbrev S2048x8x64 : Shape := ⟨3, ![2048, 8, 64]⟩
abbrev S2048x128 : Shape := ⟨2, ![2048, 128]⟩
abbrev S2048x2x64 : Shape := ⟨3, ![2048, 2, 64]⟩
abbrev S16x128x2x4x64 : Shape := ⟨5, ![16, 128, 2, 4, 64]⟩
abbrev S_ : Shape := ⟨0, ![]⟩
abbrev S128x2x64 : Shape := ⟨3, ![128, 2, 64]⟩
abbrev S2176x2x64 : Shape := ⟨3, ![2176, 2, 64]⟩
abbrev S16x128x2x64 : Shape := ⟨4, ![16, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S1x2x4x1x1 : Shape := ⟨5, ![1, 2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩
abbrev S16x2x64x256 : Shape := ⟨4, ![16, 2, 64, 256]⟩
abbrev S2x4 : Shape := ⟨2, ![2, 4]⟩
abbrev S16x2x128x4x64 : Shape := ⟨5, ![16, 2, 128, 4, 64]⟩
abbrev S16x2x256x64 : Shape := ⟨4, ![16, 2, 256, 64]⟩
abbrev S2048x256 : Shape := ⟨2, ![2048, 256]⟩
abbrev S8x1 : Shape := ⟨2, ![8, 1]⟩
abbrev S8x128 : Shape := ⟨2, ![8, 128]⟩

abbrev nBuf : Space → Nat
  | .hbm => 197
  | .vmem => 0
  | .smem => 0
  | _ => 0

abbrev hbmTy0_0 (i : Nat) : BufTy := match i % 128 with
  | 0 => ⟨S2048x768, .f32⟩
  | 1 => ⟨S1x8, .f32⟩
  | 2 => ⟨S2048x512, .f32⟩
  | 3 => ⟨S2048x512, .f32⟩
  | 4 => ⟨S2048x8x64, .f32⟩
  | 5 => ⟨S2048x128, .f32⟩
  | 6 => ⟨S2048x2x64, .f32⟩
  | 7 => ⟨S2048x128, .f32⟩
  | 8 => ⟨S2048x2x64, .f32⟩
  | 9 => ⟨S16x128x2x4x64, .f32⟩
  | 10 => ⟨S_, .f32⟩
  | 11 => ⟨S128x2x64, .f32⟩
  | 12 => ⟨S2176x2x64, .f32⟩
  | 13 => ⟨S_, .f32⟩
  | 14 => ⟨S128x2x64, .f32⟩
  | 15 => ⟨S2048x2x64, .f32⟩
  | 16 => ⟨S16x128x2x64, .f32⟩
  | 17 => ⟨S16x128x2x64, .f32⟩
  | 18 => ⟨S16x256x2x64, .f32⟩
  | 19 => ⟨S_, .f32⟩
  | 20 => ⟨S128x2x64, .f32⟩
  | 21 => ⟨S2176x2x64, .f32⟩
  | 22 => ⟨S_, .f32⟩
  | 23 => ⟨S128x2x64, .f32⟩
  | 24 => ⟨S2048x2x64, .f32⟩
  | 25 => ⟨S16x128x2x64, .f32⟩
  | 26 => ⟨S16x128x2x64, .f32⟩
  | 27 => ⟨S16x256x2x64, .f32⟩
  | 28 => ⟨S16x2x256x128x4, .f32⟩
  | 29 => ⟨S16x2x4x128x256, .f32⟩
  | 30 => ⟨S_, .f32⟩
  | 31 => ⟨S16x2x4x128x256, .f32⟩
  | 32 => ⟨S16x2x4x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S16, .i32⟩
  | 44 => ⟨S16x1x1, .i32⟩
  | 45 => ⟨S_, .i32⟩
  | 46 => ⟨S16x1x1, .i32⟩
  | 47 => ⟨S16x1x1, .i32⟩
  | 48 => ⟨S_, .i32⟩
  | 49 => ⟨S16x1x1, .i32⟩
  | 50 => ⟨S16x1x1, .i32⟩
  | 51 => ⟨S1x1x256, .i32⟩
  | 52 => ⟨S16x1x256, .i32⟩
  | 53 => ⟨S16x1x256, .i32⟩
  | 54 => ⟨S16x1x256, .i32⟩
  | 55 => ⟨S_, .i32⟩
  | 56 => ⟨S128x256, .i32⟩
  | 57 => ⟨S128x256, .i1⟩
  | 58 => ⟨S1x128x256, .i1⟩
  | 59 => ⟨S_, .i32⟩
  | 60 => ⟨S128x256, .i32⟩
  | 61 => ⟨S128x256, .i1⟩
  | 62 => ⟨S1x128x256, .i1⟩
  | 63 => ⟨S1x128x256, .i1⟩
  | 64 => ⟨S_, .i32⟩
  | 65 => ⟨S16x1x256, .i32⟩
  | 66 => ⟨S16x1x256, .i1⟩
  | 67 => ⟨S16x128x256, .i1⟩
  | 68 => ⟨S16x128x256, .i1⟩
  | 69 => ⟨S16x128x256, .i1⟩
  | 70 => ⟨S16x1x1x128x256, .i1⟩
  | 71 => ⟨S_, .f32⟩
  | 72 => ⟨S_, .f32⟩
  | 73 => ⟨S16x2x4x128x256, .i1⟩
  | 74 => ⟨S16x2x4x128x256, .f32⟩
  | 75 => ⟨S16x2x4x128x256, .f32⟩
  | 76 => ⟨S_, .f32⟩
  | 77 => ⟨S16x2x4x128x256, .f32⟩
  | 78 => ⟨S1x2x4x1x1, .f32⟩
  | 79 => ⟨S16x2x4x128x1, .f32⟩
  | 80 => ⟨S16x2x4x128x257, .f32⟩
  | 81 => ⟨S_, .f32⟩
  | 82 => ⟨S16x2x4x128, .f32⟩
  | 83 => ⟨S16x2x4x128x1, .f32⟩
  | 84 => ⟨S16x2x4x128x257, .f32⟩
  | 85 => ⟨S16x2x4x128x257, .i1⟩
  | 86 => ⟨S16x2x4x128x257, .f32⟩
  | 87 => ⟨S_, .f32⟩
  | 88 => ⟨S16x2x4x128, .f32⟩
  | 89 => ⟨S_, .f32⟩
  | 90 => ⟨S16x2x4x128, .f32⟩
  | 91 => ⟨S16x2x4x128, .f32⟩
  | 92 => ⟨S_, .f32⟩
  | 93 => ⟨S16x2x4x128, .f32⟩
  | 94 => ⟨S16x2x4x128, .i1⟩
  | 95 => ⟨S_, .f32⟩
  | 96 => ⟨S16x2x4x128, .f32⟩
  | 97 => ⟨S16x2x4x128, .i1⟩
  | 98 => ⟨S_, .f32⟩
  | 99 => ⟨S16x2x4x128, .f32⟩
  | 100 => ⟨S_, .f32⟩
  | 101 => ⟨S16x2x4x128, .f32⟩
  | 102 => ⟨S_, .f32⟩
  | 103 => ⟨S16x2x4x128, .f32⟩
  | 104 => ⟨S16x2x4x128, .f32⟩
  | 105 => ⟨S16x2x4x128, .f32⟩
  | 106 => ⟨S16x2x4x128x1, .f32⟩
  | 107 => ⟨S16x2x4x128x257, .f32⟩
  | 108 => ⟨S16x2x4x128x257, .f32⟩
  | 109 => ⟨S16x2x4x128x257, .f32⟩
  | 110 => ⟨S_, .f32⟩
  | 111 => ⟨S16x2x4x128, .f32⟩
  | 112 => ⟨S16x2x4x128x1, .f32⟩
  | 113 => ⟨S16x2x4x128x257, .f32⟩
  | 114 => ⟨S16x2x4x128x257, .f32⟩
  | 115 => ⟨S16x2x4x128x1, .f32⟩
  | 116 => ⟨S_, .f32⟩
  | 117 => ⟨S16x2x4x128x1, .f32⟩
  | 118 => ⟨S16x2x4x128x1, .f32⟩
  | 119 => ⟨S16x2x4x128x256, .f32⟩
  | 120 => ⟨S16x2x64x4x128, .f32⟩
  | 121 => ⟨S16x128x2x4x64, .f32⟩
  | 122 => ⟨S2048x512, .f32⟩
  | 123 => ⟨S16x128x2x4x64, .f32⟩
  | 124 => ⟨S16x2x64x4x128, .f32⟩
  | 125 => ⟨S16x2x4x128x256, .f32⟩
  | 126 => ⟨S16x2x64x256, .f32⟩
  | 127 => ⟨S16x256x2x64, .f32⟩
  | _ => ⟨S2048x768, .f32⟩

abbrev hbmTy0_1 (i : Nat) : BufTy := match i % 128 with
  | 0 => ⟨S_, .f32⟩
  | 1 => ⟨S16x2x4x128x257, .f32⟩
  | 2 => ⟨S16x2x4x128x257, .f32⟩
  | 3 => ⟨S16x2x4x128x257, .f32⟩
  | 4 => ⟨S16x2x4x128x257, .f32⟩
  | 5 => ⟨S_, .f32⟩
  | 6 => ⟨S16x2x4x128, .f32⟩
  | 7 => ⟨S16x2x4x128x1, .f32⟩
  | 8 => ⟨S16x2x4x128x1, .f32⟩
  | 9 => ⟨S16x2x4x128x257, .f32⟩
  | 10 => ⟨S16x2x4x128x257, .f32⟩
  | 11 => ⟨S_, .f32⟩
  | 12 => ⟨S16x2x4x128, .f32⟩
  | 13 => ⟨S16x2x4x128x257, .f32⟩
  | 14 => ⟨S16x2x4x128x257, .f32⟩
  | 15 => ⟨S16x2x4x128x257, .f32⟩
  | 16 => ⟨S16x2x4x128x256, .f32⟩
  | 17 => ⟨S16x2x4x128x1, .f32⟩
  | 18 => ⟨S_, .f32⟩
  | 19 => ⟨S2x4, .f32⟩
  | 20 => ⟨S1x2x4x1x1, .f32⟩
  | 21 => ⟨S1x8, .f32⟩
  | 22 => ⟨S_, .f32⟩
  | 23 => ⟨S16x2x4x128x256, .f32⟩
  | 24 => ⟨S16x2x4x128x256, .f32⟩
  | 25 => ⟨S_, .f32⟩
  | 26 => ⟨S16x2x4x128x256, .f32⟩
  | 27 => ⟨S16x2x4x128x256, .f32⟩
  | 28 => ⟨S16x2x256x128x4, .f32⟩
  | 29 => ⟨S16x2x128x4x64, .f32⟩
  | 30 => ⟨S16x128x2x4x64, .f32⟩
  | 31 => ⟨S16x2x256x64, .f32⟩
  | 32 => ⟨S16x256x2x64, .f32⟩
  | 33 => ⟨S16x128x2x64, .f32⟩
  | 34 => ⟨S16x128x2x64, .f32⟩
  | 35 => ⟨S2048x2x64, .f32⟩
  | 36 => ⟨S2048x2x64, .f32⟩
  | 37 => ⟨S_, .f32⟩
  | 38 => ⟨S2176x2x64, .f32⟩
  | 39 => ⟨S128x2x64, .f32⟩
  | 40 => ⟨S2048x2x64, .f32⟩
  | 41 => ⟨S2048x2x64, .f32⟩
  | 42 => ⟨S16x128x2x64, .f32⟩
  | 43 => ⟨S16x128x2x64, .f32⟩
  | 44 => ⟨S2048x2x64, .f32⟩
  | 45 => ⟨S2048x2x64, .f32⟩
  | 46 => ⟨S_, .f32⟩
  | 47 => ⟨S2176x2x64, .f32⟩
  | 48 => ⟨S128x2x64, .f32⟩
  | 49 => ⟨S2048x2x64, .f32⟩
  | 50 => ⟨S2048x2x64, .f32⟩
  | 51 => ⟨S2048x8x64, .f32⟩
  | 52 => ⟨S2048x128, .f32⟩
  | 53 => ⟨S_, .f32⟩
  | 54 => ⟨S2048x768, .f32⟩
  | 55 => ⟨S2048x128, .f32⟩
  | 56 => ⟨S_, .f32⟩
  | 57 => ⟨S2048x768, .f32⟩
  | 58 => ⟨S2048x768, .f32⟩
  | 59 => ⟨S2048x512, .f32⟩
  | 60 => ⟨S_, .f32⟩
  | 61 => ⟨S2048x768, .f32⟩
  | 62 => ⟨S2048x768, .f32⟩
  | 63 => ⟨S2048x512, .f32⟩
  | 64 => ⟨S2048x512, .bf16⟩
  | 65 => ⟨S2048x256, .f32⟩
  | 66 => ⟨S8x1, .f32⟩
  | 67 => ⟨S8x128, .f32⟩
  | 68 => ⟨S2048x512, .bf16⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_call0_v0 : Ref sig .tc := ⟨.hbm, 72, rfl⟩
abbrev main_v57_1 : Ref sig .tc := ⟨.hbm, 73, rfl⟩
abbrev main_call0_v2 : Ref sig .tc := ⟨.hbm, 74, rfl⟩
abbrev main_v57_0 : Ref sig .tc := ⟨.hbm, 75, rfl⟩
abbrev main_call0_cst : Ref sig .tc := ⟨.hbm, 76, rfl⟩
abbrev main_v57_2 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_20 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_21 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_23 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_call1_cst : Ref sig .tc := ⟨.hbm, 150, rfl⟩
abbrev main_call1_v0 : Ref sig .tc := ⟨.hbm, 151, rfl⟩
abbrev main_v116 : Ref sig .tc := ⟨.hbm, 152, rfl⟩
abbrev main_cst_24 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_25 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_26 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_27 : Ref sig .tc := ⟨.hbm, 181, rfl⟩
abbrev main_v142 : Ref sig .tc := ⟨.hbm, 182, rfl⟩
abbrev main_v143 : Ref sig .tc := ⟨.hbm, 183, rfl⟩
abbrev main_cst_28 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_29 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩

abbrev nD : Nat := 1
abbrev τ : Topo := Topo.v7x

variable {F : FTy → Type} [FloatOps F]
-- ==== Kernel3.lean ====
abbrev S2048x1024 : Shape := ⟨2, ![2048, 1024]⟩
abbrev S31x512 : Shape := ⟨2, ![31, 512]⟩
abbrev S1x512 : Shape := ⟨2, ![1, 512]⟩
abbrev S2048x512 : Shape := ⟨2, ![2048, 512]⟩
abbrev S_ : Shape := ⟨0, ![]⟩
abbrev S8x128 : Shape := ⟨2, ![8, 128]⟩
abbrev S256x1024 : Shape := ⟨2, ![256, 1024]⟩
abbrev S256x512 : Shape := ⟨2, ![256, 512]⟩
abbrev S8x288x512 : Shape := ⟨3, ![8, 288, 512]⟩
abbrev S32x1024 : Shape := ⟨2, ![32, 1024]⟩
abbrev S32x512 : Shape := ⟨2, ![32, 512]⟩
abbrev S1x32x512 : Shape := ⟨3, ![1, 32, 512]⟩
abbrev S1x256x512 : Shape := ⟨3, ![1, 256, 512]⟩
abbrev S1x280x512 : Shape := ⟨3, ![1, 280, 512]⟩
abbrev S280x512 : Shape := ⟨2, ![280, 512]⟩
abbrev S32 : Shape := ⟨1, ![32]⟩
abbrev S32x1 : Shape := ⟨2, ![32, 1]⟩
abbrev S512 : Shape := ⟨1, ![512]⟩

abbrev nBuf : Space → Nat
  | .hbm => 17
  | .vmem => 38
  | .smem => 0
  | _ => 0

abbrev bufTy : (tb : Table) → Fin (tcTables nBuf tb) → BufTy
  | .hbm, ⟨0, _⟩ => ⟨S2048x1024, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S2048x512, .f32⟩
  | .hbm, ⟨6, _⟩ => ⟨S2048x1024, .bf16⟩
  | .hbm, ⟨7, _⟩ => ⟨S_, .f32⟩
  | .hbm, ⟨8, _⟩ => ⟨S8x128, .f32⟩
  | .hbm, ⟨9, _⟩ => ⟨S2048x512, .f32⟩
  | .hbm, ⟨10, _⟩ => ⟨S2048x512, .bf16⟩
  | .hbm, ⟨11, _⟩ => ⟨S2048x512, .bf16⟩
  | .hbm, ⟨12, _⟩ => ⟨S2048x1024, .bf16⟩
  | .hbm, ⟨13, _⟩ => ⟨S31x512, .f32⟩
  | .hbm, ⟨14, _⟩ => ⟨S1x512, .f32⟩
  | .hbm, ⟨15, _⟩ => ⟨S1x512, .f32⟩
  | .hbm, ⟨16, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S8x128, .f32⟩
  | .local _ .vmem, ⟨9, _⟩ => ⟨S256x512, .f32⟩
  | .local _ .vmem, ⟨10, _⟩ => ⟨S256x512, .f32⟩
  | .local _ .vmem, ⟨11, _⟩ => ⟨S256x512, .bf16⟩
  | .local _ .vmem, ⟨12, _⟩ => ⟨S256x512, .bf16⟩
  | .local _ .vmem, ⟨13, _⟩ => ⟨S8x288x512, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S31x512, .f32⟩
  | .local _ .vmem, ⟨27, _⟩ => ⟨S1x512, .f32⟩
  | .local _ .vmem, ⟨28, _⟩ => ⟨S1x512, .f32⟩
  | .local _ .vmem, ⟨29, _⟩ => ⟨S8x128, .f32⟩
  | .local _ .vmem, ⟨30, _⟩ => ⟨S256x1024, .bf16⟩
  | .local _ .vmem, ⟨31, _⟩ => ⟨S256x1024, .bf16⟩
  | .local _ .vmem, ⟨32, _⟩ => ⟨S31x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S8x288x512, .f32⟩
  | .local _ .vmem, ⟨37, _⟩ => ⟨S8x288x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_scratch0 : Ref sig .tc := ⟨.vmem, 36, rfl⟩
abbrev cc1_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem10_1 : DmaSem sig := 30
abbrev cc1_sem11_0 : DmaSem sig := 31
abbrev cc1_sem12_0 : DmaSem sig := 32
abbrev cc1_sem13_0 : DmaSem sig := 33
abbrev cc1_sem14_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S31x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S31x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== Reference3Ideal.lean ====
abbrev S2048x1024 : Shape := ⟨2, ![2048, 1024]⟩
abbrev S31x512 : Shape := ⟨2, ![31, 512]⟩
abbrev S1x512 : Shape := ⟨2, ![1, 512]⟩
abbrev S2048x512 : Shape := ⟨2, ![2048, 512]⟩
abbrev S_ : Shape := ⟨0, ![]⟩
abbrev S30x512 : Shape := ⟨2, ![30, 512]⟩
abbrev S2078x512 : Shape := ⟨2, ![2078, 512]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2048x31x512 : Shape := ⟨3, ![2048, 31, 512]⟩
abbrev S1x31x512 : Shape := ⟨3, ![1, 31, 512]⟩
abbrev S512 : Shape := ⟨1, ![512]⟩

abbrev nBuf : Space → Nat
  | .hbm => 155
  | .vmem => 0
  | .smem => 0
  | _ => 0

abbrev hbmTy0_0 (i : Nat) : BufTy := match i % 128 with
  | 0 => ⟨S2048x1024, .f32⟩
  | 1 => ⟨S31x512, .f32⟩
  | 2 => ⟨S1x512, .f32⟩
  | 3 => ⟨S1x512, .f32⟩
  | 4 => ⟨S1x512, .f32⟩
  | 5 => ⟨S2048x512, .f32⟩
  | 6 => ⟨S2048x512, .f32⟩
  | 7 => ⟨S2048x512, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S2048x512, .f32⟩
  | 21 => ⟨S_, .f32⟩
  | 22 => ⟨S30x512, .f32⟩
  | 23 => ⟨S2078x512, .f32⟩
  | 24 => ⟨S_, .f32⟩
  | 25 => ⟨S30x512, .f32⟩
  | 26 => ⟨S2048, .i32⟩
  | 27 => ⟨S2048x1, .i32⟩
  | 28 => ⟨S31, .i32⟩
  | 29 => ⟨S1x31, .i32⟩
  | 30 => ⟨S2048x31, .i32⟩
  | 31 => ⟨S2048x31, .i32⟩
  | 32 => ⟨S2048x31, .i32⟩
  | 33 => ⟨S_, .i32⟩
  | 34 => ⟨S2048x31, .i32⟩
  | 35 => ⟨S2048x31, .i1⟩
  | 36 => ⟨S_, .i32⟩
  | 37 => ⟨S2048x31, .i32⟩
  | 38 => ⟨S2048x31, .i32⟩
  | 39 => ⟨S2048x31, .i32⟩
  | 40 => ⟨S2048x31x1, .i32⟩
  | 41 => ⟨S2048x31x512, .f32⟩
  | 42 => ⟨S1x31x512, .f32⟩
  | 43 => ⟨S2048x31x512, .f32⟩
  | 44 => ⟨S2048x31x512, .f32⟩
  | 45 => ⟨S_, .f32⟩
  | 46 => ⟨S2048x512, .f32⟩
  | 47 => ⟨S2048x512, .f32⟩
  | 48 => ⟨S2048x512, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S2048x512, .f32⟩
  | 56 => ⟨S2048x512, .f32⟩
  | 57 => ⟨S2048x512, .f32⟩
  | 58 => ⟨S_, .f32⟩
  | 59 => ⟨S2048, .f32⟩
  | 60 => ⟨S2048x1, .f32⟩
  | 61 => ⟨S_, .f32⟩
  | 62 => ⟨S2048x1, .f32⟩
  | 63 => ⟨S2048x1, .f32⟩
  | 64 => ⟨S_, .f32⟩
  | 65 => ⟨S2048x1, .f32⟩
  | 66 => ⟨S2048x1, .f32⟩
  | 67 => ⟨S2048x1, .f32⟩
  | 68 => ⟨S2048x1, .f32⟩
  | 69 => ⟨S_, .f32⟩
  | 70 => ⟨S2048x1, .f32⟩
  | 71 => ⟨S2048x1, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | 80 => ⟨S_, .f32⟩
  | 81 => ⟨S2048x512, .f32⟩
  | 82 => ⟨S2048x512, .f32⟩
  | 83 => ⟨S_, .f32⟩
  | 84 => ⟨S2048x512, .f32⟩
  | 85 => ⟨S2048x512, .f32⟩
  | 86 => ⟨S_, .f32⟩
  | 87 => ⟨S2048x512, .f32⟩
  | 88 => ⟨S2048x512, .f32⟩
  | 89 => ⟨S2048x512, .f32⟩
  | 90 => ⟨S2048x512, .f32⟩
  | 91 => ⟨S2048x512, .f32⟩
  | 92 => ⟨S2048x512, .f32⟩
  | 93 => ⟨S2048x512, .f32⟩
  | 94 => ⟨S2048x512, .f32⟩
  | 95 => ⟨S_, .f32⟩
  | 96 => ⟨S512, .f32⟩
  | 97 => ⟨S1x512, .f32⟩
  | 98 => ⟨S2048x512, .f32⟩
  | 99 => ⟨S_, .f32⟩
  | 100 => ⟨S512, .f32⟩
  | 101 => ⟨S1x512, .f32⟩
  | 102 => ⟨S2048x512, .f32⟩
  | 103 => ⟨S2048x512, .f32⟩
  | 104 => ⟨S2048x512, .f32⟩
  | 105 => ⟨S_, .f32⟩
  | 106 => ⟨S2048, .f32⟩
  | 107 => ⟨S2048x1, .f32⟩
  | 108 => ⟨S2048x512, .f32⟩
  | 109 => ⟨S2048x512, .f32⟩
  | 110 => ⟨S2048x1, .f32⟩
  | 111 => ⟨S_, .f32⟩
  | 112 => ⟨S2048x1, .f32⟩
  | 113 => ⟨S2048x1, .f32⟩
  | 114 => ⟨S_, .f32⟩
  | 115 => ⟨S2048, .f32⟩
  | 116 => ⟨S2048x512, .f32⟩
  | 117 => ⟨S2048x512, .f32⟩
  | 118 => ⟨S2048x512, .f32⟩
  | 119 => ⟨S2048x512, .f32⟩
  | 120 => ⟨S2048x512, .f32⟩
  | 121 => ⟨S2048x512, .f32⟩
  | 122 => ⟨S_, .f32⟩
  | 123 => ⟨S2048, .f32⟩
  | 124 => ⟨S2048x1, .f32⟩
  | 125 => ⟨S_, .f32⟩
  | 126 => ⟨S2048x1, .f32⟩
  | 127 => ⟨S2048x1, .f32⟩
  | _ => ⟨S2048x1024, .f32⟩

abbrev hbmTy0_1 (i : Nat) : BufTy := match i % 128 with
  | 0 => ⟨S_, .f32⟩
  | 1 => ⟨S2048, .f32⟩
  | 2 => ⟨S2048x512, .f32⟩
  | 3 => ⟨S2048x512, .f32⟩
  | 4 => ⟨S_, .f32⟩
  | 5 => ⟨S512, .f32⟩
  | 6 => ⟨S1x512, .f32⟩
  | 7 => ⟨S2048x31x512, .f32⟩
  | 8 => ⟨S2048x31x512, .f32⟩
  | 9 => ⟨S_, .f32⟩
  | 10 => ⟨S31x512, .f32⟩
  | 11 => ⟨S1x31x512, .f32⟩
  | 12 => ⟨S2048x31x512, .f32⟩
  | 13 => ⟨S2048x31x512, .f32⟩
  | 14 => ⟨S_, .f32⟩
  | 15 => ⟨S31x512, .f32⟩
  | 16 => ⟨S_, .f32⟩
  | 17 => ⟨S2078x512, .f32⟩
  | 18 => ⟨S2078x512, .f32⟩
  | 19 => ⟨S30x512, .f32⟩
  | 20 => ⟨S2048x512, .f32⟩
  | 21 => ⟨S2048x512, .f32⟩
  | 22 => ⟨S2048x512, .f32⟩
  | 23 => ⟨S2048x512, .f32⟩
  | 24 => ⟨S2048x1024, .f32⟩
  | 25 => ⟨S2048x1024, .bf16⟩
  | 26 => ⟨S2048x512, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_v58_2 : Ref sig .tc := ⟨.hbm, 85, rfl⟩
abbrev main_call0_cst_1 : Ref sig .tc := ⟨.hbm, 86, rfl⟩
abbrev main_call0_v6 : Ref sig .tc := ⟨.hbm, 87, rfl⟩
abbrev main_call0_v7 : Ref sig .tc := ⟨.hbm, 88, rfl⟩
abbrev main_v58_1 : Ref sig .tc := ⟨.hbm, 89, rfl⟩
abbrev main_v58_0 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_cst_16 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_cst_19 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_22 : Ref sig .tc := ⟨.hbm, 142, rfl⟩
abbrev main_v97 : Ref sig .tc := ⟨.hbm, 143, rfl⟩
abbrev main_cst_23 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x3840 : Shape := ⟨2, ![1024, 3840]⟩
abbrev S1x3840 : Shape := ⟨2, ![1, 3840]⟩
abbrev S2048x512 : Shape := ⟨2, ![2048, 512]⟩
abbrev S2048x256 : Shape := ⟨2, ![2048, 256]⟩
abbrev S2048x2048 : Shape := ⟨2, ![2048, 2048]⟩
abbrev S3840x1024 : Shape := ⟨2, ![3840, 1024]⟩
abbrev S_ : Shape := ⟨0, ![]⟩
abbrev S8x128 : Shape := ⟨2, ![8, 128]⟩
abbrev S512x512 : Shape := ⟨2, ![512, 512]⟩
abbrev S512x256 : Shape := ⟨2, ![512, 256]⟩
abbrev S512x1024 : Shape := ⟨2, ![512, 1024]⟩
abbrev S512x2048 : Shape := ⟨2, ![512, 2048]⟩
abbrev S1x512 : Shape := ⟨2, ![1, 512]⟩
abbrev S512 : Shape := ⟨1, ![512]⟩
abbrev S256x1024 : Shape := ⟨2, ![256, 1024]⟩
abbrev S1x256 : Shape := ⟨2, ![1, 256]⟩
abbrev S256 : Shape := ⟨1, ![256]⟩
abbrev S1024x1024 : Shape := ⟨2, ![1024, 1024]⟩
abbrev S1024 : Shape := ⟨1, ![1024]⟩
abbrev S1x2048 : Shape := ⟨2, ![1, 2048]⟩
abbrev S2048 : Shape := ⟨1, ![2048]⟩
abbrev S512x1 : Shape := ⟨2, ![512, 1]⟩

abbrev nBuf : Space → Nat
  | .hbm => 19
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3840, .f32⟩
  | .hbm, ⟨3, _⟩ => ⟨S1x3840, .f32⟩
  | .hbm, ⟨4, _⟩ => ⟨S2048x512, .f32⟩
  | .hbm, ⟨5, _⟩ => ⟨S2048x256, .f32⟩
  | .hbm, ⟨6, _⟩ => ⟨S2048x1024, .f32⟩
  | .hbm, ⟨7, _⟩ => ⟨S2048x2048, .f32⟩
  | .hbm, ⟨8, _⟩ => ⟨S2048x1024, .f32⟩
  | .hbm, ⟨9, _⟩ => ⟨S2048x512, .bf16⟩
  | .hbm, ⟨10, _⟩ => ⟨S2048x1024, .bf16⟩
  | .hbm, ⟨11, _⟩ => ⟨S2048x2048, .bf16⟩
  | .hbm, ⟨12, _⟩ => ⟨S3840x1024, .f32⟩
  | .hbm, ⟨13, _⟩ => ⟨S3840x1024, .bf16⟩
  | .hbm, ⟨14, _⟩ => ⟨S_, .f32⟩
  | .hbm, ⟨15, _⟩ => ⟨S8x128, .f32⟩
  | .hbm, ⟨16, _⟩ => ⟨S2048x1024, .f32⟩
  | .hbm, ⟨17, _⟩ => ⟨S1x1024, .f32⟩
  | .hbm, ⟨18, _⟩ => ⟨S1x3840, .f32⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S3840x1024, .bf16⟩
  | .local _ .vmem, ⟨14, _⟩ => ⟨S8x128, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x3840, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3840x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3840 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S2048x1024 : Shape := ⟨2, ![2048, 1024]⟩
abbrev S1x1024 : Shape := ⟨2, ![1, 1024]⟩
abbrev S1024x3840 : Shape := ⟨2, ![1024, 3840]⟩
abbrev S1x3840 : Shape := ⟨2, ![1, 3840]⟩
abbrev S2048x512 : Shape := ⟨2, ![2048, 512]⟩
abbrev S2048x256 : Shape := ⟨2, ![2048, 256]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S2048x3840 : Shape := ⟨2, ![2048, 3840]⟩
abbrev S3840 : Shape := ⟨1, ![3840]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3840, .f32⟩
  | .hbm, ⟨3, _⟩ => ⟨S1x3840, .f32⟩
  | .hbm, ⟨4, _⟩ => ⟨S2048x512, .f32⟩
  | .hbm, ⟨5, _⟩ => ⟨S2048x256, .f32⟩
  | .hbm, ⟨6, _⟩ => ⟨S2048x1024, .f32⟩
  | .hbm, ⟨7, _⟩ => ⟨S2048x2048, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x3840, .f32⟩
  | .hbm, ⟨29, _⟩ => ⟨S2048x3840, .f32⟩
  | .hbm, ⟨30, _⟩ => ⟨S2048x3840, .f32⟩
  | .hbm, ⟨31, _⟩ => ⟨S2048x3840, .f32⟩
  | .hbm, ⟨32, _⟩ => ⟨S_, .f32⟩
  | .hbm, ⟨33, _⟩ => ⟨S3840, .f32⟩
  | .hbm, ⟨34, _⟩ => ⟨S1x3840, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel5.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1x1024 : Shape := ⟨2, ![1, 1024]⟩
abbrev S1024x1024 : Shape := ⟨2, ![1024, 1024]⟩
abbrev S512x4x256 : Shape := ⟨3, ![512, 4, 256]⟩
abbrev S4x512x256 : Shape := ⟨3, ![4, 512, 256]⟩
abbrev S_ : Shape := ⟨0, ![]⟩
abbrev S8x128 : Shape := ⟨2, ![8, 128]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S1024 : Shape := ⟨1, ![1024]⟩

abbrev nBuf : Space → Nat
  | .hbm => 36
  | .vmem => 65
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x2048, .f32⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S2048x1024, .f32⟩
  | .hbm, ⟨9, _⟩ => ⟨S2048x512, .bf16⟩
  | .hbm, ⟨10, _⟩ => ⟨S2048x512, .bf16⟩
  | .hbm, ⟨11, _⟩ => ⟨S2048x2048, .bf16⟩
  | .hbm, ⟨12, _⟩ => ⟨S512x1024, .bf16⟩
  | .hbm, ⟨13, _⟩ => ⟨S512x4x256, .bf16⟩
  | .hbm, ⟨14, _⟩ => ⟨S4x512x256, .bf16⟩
  | .hbm, ⟨15, _⟩ => ⟨S512x1024, .bf16⟩
  | .hbm, ⟨16, _⟩ => ⟨S512x4x256, .bf16⟩
  | .hbm, ⟨17, _⟩ => ⟨S4x512x256, .bf16⟩
  | .hbm, ⟨18, _⟩ => ⟨S1024x1024, .bf16⟩
  | .hbm, ⟨19, _⟩ => ⟨S_, .f32⟩
  | .hbm, ⟨20, _⟩ => ⟨S8x128, .f32⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .f32⟩
  | .hbm, ⟨25, _⟩ => ⟨S2048x1024, .bf16⟩
  | .hbm, ⟨26, _⟩ => ⟨S2048x1024, .bf16⟩
  | .hbm, ⟨27, _⟩ => ⟨S2048x1024, .bf16⟩
  | .hbm, ⟨28, _⟩ => ⟨S2048x1024, .f32⟩
  | .hbm, ⟨29, _⟩ => ⟨S2048x1024, .bf16⟩
  | .hbm, ⟨30, _⟩ => ⟨S2048x1024, .bf16⟩
  | .hbm, ⟨31, _⟩ => ⟨S2048x1024, .bf16⟩
  | .hbm, ⟨32, _⟩ => ⟨S2048x2048, .bf16⟩
  | .hbm, ⟨33, _⟩ => ⟨S2048x512, .bf16⟩
  | .hbm, ⟨34, _⟩ => ⟨S2048x512, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S4x512x256, .bf16⟩
  | .local _ .vmem, ⟨9, _⟩ => ⟨S4x512x256, .bf16⟩
  | .local _ .vmem, ⟨10, _⟩ => ⟨S1x1024, .f32⟩
  | .local _ .vmem, ⟨11, _⟩ => ⟨S1024x1024, .bf16⟩
  | .local _ .vmem, ⟨12, _⟩ => ⟨S8x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x2048, .bf16⟩
  | .local _ .vmem, ⟨28, _⟩ => ⟨S512x2048, .bf16⟩
  | .local _ .vmem, ⟨29, _⟩ => ⟨S4x512x256, .bf16⟩
  | .local _ .vmem, ⟨30, _⟩ => ⟨S4x512x256, .bf16⟩
  | .local _ .vmem, ⟨31, _⟩ => ⟨S1x1024, .f32⟩
  | .local _ .vmem, ⟨32, _⟩ => ⟨S1024x1024, .bf16⟩
  | .local _ .vmem, ⟨33, _⟩ => ⟨S8x128, .f32⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .f32⟩
  | .local _ .vmem, ⟨41, _⟩ => ⟨S512x1024, .f32⟩
  | .local _ .vmem, ⟨42, _⟩ => ⟨S512x1024, .bf16⟩
  | .local _ .vmem, ⟨43, _⟩ => ⟨S512x1024, .bf16⟩
  | .local _ .vmem, ⟨44, _⟩ => ⟨S512x2048, .bf16⟩
  | .local _ .vmem, ⟨45, _⟩ => ⟨S512x2048, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S1024x1024, .bf16⟩
  | .local _ .vmem, ⟨51, _⟩ => ⟨S4x512x256, .bf16⟩
  | .local _ .vmem, ⟨52, _⟩ => ⟨S4x512x256, .bf16⟩
  | .local _ .vmem, ⟨53, _⟩ => ⟨S8x128, .f32⟩
  | .local _ .vmem, ⟨54, _⟩ => ⟨S512x1024, .bf16⟩
  | .local _ .vmem, ⟨55, _⟩ => ⟨S512x1024, .bf16⟩
  | .local _ .vmem, ⟨56, _⟩ => ⟨S512x1024, .bf16⟩
  | .local _ .vmem, ⟨57, _⟩ => ⟨S512x1024, .bf16⟩
  | .local _ .vmem, ⟨58, _⟩ => ⟨S512x2048, .bf16⟩
  | .local _ .vmem, ⟨59, _⟩ => ⟨S512x2048, .bf16⟩
  | .local _ .vmem, ⟨60, _⟩ => ⟨S512x512, .bf16⟩
  | .local _ .vmem, ⟨61, _⟩ => ⟨S512x512, .bf16⟩
  | .local _ .vmem, ⟨62, _⟩ => ⟨S512x512, .bf16⟩
  | .local _ .vmem, ⟨63, _⟩ => ⟨S512x512, .bf16⟩
  | .local _ .vmem, ⟨64, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg6_0 : Ref sig .tc := ⟨.vmem, 52, rfl⟩
abbrev cc2_stg7_0 : Ref sig .tc := ⟨.vmem, 53, rfl⟩
abbrev cc2_stg8_0 : Ref sig .tc := ⟨.vmem, 54, rfl⟩
abbrev cc2_stg8_1 : Ref sig .tc := ⟨.vmem, 55, rfl⟩
abbrev cc2_stg9_0 : Ref sig .tc := ⟨.vmem, 56, rfl⟩
abbrev cc2_stg9_1 : Ref sig .tc := ⟨.vmem, 57, rfl⟩
abbrev cc2_stg10_0 : Ref sig .tc := ⟨.vmem, 58, rfl⟩
abbrev cc2_stg10_1 : Ref sig .tc := ⟨.vmem, 59, rfl⟩
abbrev cc2_stg11_0 : Ref sig .tc := ⟨.vmem, 60, rfl⟩
abbrev cc2_stg11_1 : Ref sig .tc := ⟨.vmem, 61, rfl⟩
abbrev cc2_stg12_0 : Ref sig .tc := ⟨.vmem, 62, rfl⟩
abbrev cc2_stg12_1 : Ref sig .tc := ⟨.vmem, 63, rfl⟩
abbrev cc2_stg13_0 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem3_1 : DmaSem sig := 49
abbrev cc2_sem4_0 : DmaSem sig := 50
abbrev cc2_sem5_0 : DmaSem sig := 51
abbrev cc2_sem6_0 : DmaSem sig := 52
abbrev cc2_sem7_0 : DmaSem sig := 53
abbrev cc2_sem8_0 : DmaSem sig := 54
abbrev cc2_sem8_1 : DmaSem sig := 55
abbrev cc2_sem9_0 : DmaSem sig := 56
abbrev cc2_sem9_1 : DmaSem sig := 57
abbrev cc2_sem10_0 : DmaSem sig := 58
abbrev cc2_sem10_1 : DmaSem sig := 59
abbrev cc2_sem11_0 : DmaSem sig := 60
abbrev cc2_sem11_1 : DmaSem sig := 61
abbrev cc2_sem12_0 : DmaSem sig := 62
abbrev cc2_sem12_1 : DmaSem sig := 63
abbrev cc2_sem13_0 : DmaSem sig := 64

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_16 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x512x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x512x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4x512x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x2048 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x512 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S512x512 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 1 → Memref sig .tc .vmem S1x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]
-- ==== Reference5Ideal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1x1024 : Shape := ⟨2, ![1, 1024]⟩
abbrev S1024x1024 : Shape := ⟨2, ![1024, 1024]⟩
abbrev S2048x2x1024 : Shape := ⟨3, ![2048, 2, 1024]⟩
abbrev S_ : Shape := ⟨0, ![]⟩
abbrev S2048x1x1024 : Shape := ⟨3, ![2048, 1, 1024]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x2048, .f32⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x2x1024, .f32⟩
  | .hbm, ⟨14, _⟩ => ⟨S2048x2x1024, .f32⟩
  | .hbm, ⟨15, _⟩ => ⟨S2048x2x1024, .f32⟩
  | .hbm, ⟨16, _⟩ => ⟨S_, .f32⟩
  | .hbm, ⟨17, _⟩ => ⟨S2048x2x1024, .f32⟩
  | .hbm, ⟨18, _⟩ => ⟨S2048x2x1024, .f32⟩
  | .hbm, ⟨19, _⟩ => ⟨S_, .f32⟩
  | .hbm, ⟨20, _⟩ => ⟨S2048x2x1024, .f32⟩
  | .hbm, ⟨21, _⟩ => ⟨S2048x2x1024, .f32⟩
  | .hbm, ⟨22, _⟩ => ⟨S_, .f32⟩
  | .hbm, ⟨23, _⟩ => ⟨S2048x2x1024, .f32⟩
  | .hbm, ⟨24, _⟩ => ⟨S2048x2x1024, .f32⟩
  | .hbm, ⟨25, _⟩ => ⟨S2048x2x1024, .f32⟩
  | .hbm, ⟨26, _⟩ => ⟨S2048x1x1024, .f32⟩
  | .hbm, ⟨27, _⟩ => ⟨S2048x1024, .f32⟩
  | .hbm, ⟨28, _⟩ => ⟨S2048x1024, .f32⟩
  | .hbm, ⟨29, _⟩ => ⟨S2048x1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1x1024, .f32⟩
  | .hbm, ⟨39, _⟩ => ⟨S_, .f32⟩
  | .hbm, ⟨40, _⟩ => ⟨S2048x2x1024, .f32⟩
  | .hbm, ⟨41, _⟩ => ⟨S2048x1024, .f32⟩
  | .hbm, ⟨42, _⟩ => ⟨S2048x1024, .f32⟩
  | .hbm, ⟨43, _⟩ => ⟨S2048x1x1024, .f32⟩
  | .hbm, ⟨44, _⟩ => ⟨S_, .f32⟩
  | .hbm, ⟨45, _⟩ => ⟨S2048x2x1024, .f32⟩
  | .hbm, ⟨46, _⟩ => ⟨S2048x2x1024, .f32⟩
  | .hbm, ⟨47, _⟩ => ⟨S2048x2x1024, .f32⟩
  | .hbm, ⟨48, _⟩ => ⟨S2048x2048, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x512, .f32⟩
  | .hbm, ⟨53, _⟩ => ⟨S2048x512, .f32⟩
  | .hbm, ⟨54, _⟩ => ⟨S2048x1024, .bf16⟩
  | .hbm, ⟨55, _⟩ => ⟨S2048x1024, .bf16⟩
  | .hbm, ⟨56, _⟩ => ⟨S2048x2048, .bf16⟩
  | .hbm, ⟨57, _⟩ => ⟨S2048x512, .bf16⟩
  | .hbm, ⟨58, _⟩ => ⟨S2048x512, .bf16⟩
  | .hbm, ⟨59, _⟩ => ⟨S2048x1024, .bf16⟩
  | .hbm, ⟨60, _⟩ => ⟨S2048x1024, .bf16⟩
  | .hbm, ⟨61, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S_ : Shape := ⟨0, ![]⟩
abbrev S8x128 : Shape := ⟨2, ![8, 128]⟩
abbrev S2048x5632 : Shape := ⟨2, ![2048, 5632]⟩
abbrev S2048x2816 : Shape := ⟨2, ![2048, 2816]⟩
abbrev S512x1024 : Shape := ⟨2, ![512, 1024]⟩
abbrev S1x1024x1408 : Shape := ⟨3, ![1, 1024, 1408]⟩
abbrev S512x2816 : Shape := ⟨2, ![512, 2816]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S256x1024 : Shape := ⟨2, ![256, 1024]⟩
abbrev S256x5632 : Shape := ⟨2, ![256, 5632]⟩
abbrev S1408x1024 : Shape := ⟨2, ![1408, 1024]⟩
abbrev S256x1408 : Shape := ⟨2, ![256, 1408]⟩
abbrev S256 : Shape := ⟨1, ![256]⟩
abbrev S256x1 : Shape := ⟨2, ![256, 1]⟩
abbrev S1024 : Shape := ⟨1, ![1024]⟩

abbrev nBuf : Space → Nat
  | .hbm => 21
  | .vmem => 39
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S_, .f32⟩
  | .hbm, ⟨9, _⟩ => ⟨S8x128, .f32⟩
  | .hbm, ⟨10, _⟩ => ⟨S2048x1024, .bf16⟩
  | .hbm, ⟨11, _⟩ => ⟨S2048x5632, .bf16⟩
  | .hbm, ⟨12, _⟩ => ⟨S2048x2816, .bf16⟩
  | .hbm, ⟨13, _⟩ => ⟨S2048x5632, .bf16⟩
  | .hbm, ⟨14, _⟩ => ⟨S2048x2816, .bf16⟩
  | .hbm, ⟨15, _⟩ => ⟨S2048x1024, .bf16⟩
  | .hbm, ⟨16, _⟩ => ⟨S2816x1024, .bf16⟩
  | .hbm, ⟨17, _⟩ => ⟨S2048x5632, .bf16⟩
  | .hbm, ⟨18, _⟩ => ⟨S2048x1024, .f32⟩
  | .hbm, ⟨19, _⟩ => ⟨S2048x1024, .bf16⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S8x128, .f32⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S8x128, .f32⟩
  | .local _ .vmem, ⟨17, _⟩ => ⟨S512x2816, .bf16⟩
  | .local _ .vmem, ⟨18, _⟩ => ⟨S512x2816, .bf16⟩
  | .local _ .vmem, ⟨19, _⟩ => ⟨S512x1408, .bf16⟩
  | .local _ .vmem, ⟨20, _⟩ => ⟨S512x1408, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x5632, .bf16⟩
  | .local _ .vmem, ⟨26, _⟩ => ⟨S256x5632, .bf16⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S2816x1024, .bf16⟩
  | .local _ .vmem, ⟨31, _⟩ => ⟨S4x1024x1408, .bf16⟩
  | .local _ .vmem, ⟨32, _⟩ => ⟨S256x5632, .bf16⟩
  | .local _ .vmem, ⟨33, _⟩ => ⟨S256x5632, .bf16⟩
  | .local _ .vmem, ⟨34, _⟩ => ⟨S256x1024, .f32⟩
  | .local _ .vmem, ⟨35, _⟩ => ⟨S256x1024, .f32⟩
  | .local _ .vmem, ⟨36, _⟩ => ⟨S256x1024, .bf16⟩
  | .local _ .vmem, ⟨37, _⟩ => ⟨S256x1024, .bf16⟩
  | .local _ .vmem, ⟨38, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc2_stg10_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35
abbrev cc2_sem9_0 : DmaSem sig := 36
abbrev cc2_sem9_1 : DmaSem sig := 37
abbrev cc2_sem10_0 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_2 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_7 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024x1408 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024x1408 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2816x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4x1024x1408 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x5632 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== Reference6Ideal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5632, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S_, .f32⟩
  | .hbm, ⟨50, _⟩ => ⟨S2048x5632, .f32⟩
  | .hbm, ⟨51, _⟩ => ⟨S_, .f32⟩
  | .hbm, ⟨52, _⟩ => ⟨S2048x5632, .f32⟩
  | .hbm, ⟨53, _⟩ => ⟨S2048x5632, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x5632, .bf16⟩
  | .hbm, ⟨80, _⟩ => ⟨S2048x1024, .bf16⟩
  | .hbm, ⟨81, _⟩ => ⟨S2048x1024, .bf16⟩
  | .hbm, ⟨82, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Proof.RmsNorm.lean ====
module

public import Idealize.ShloMosaic.Lib.Pointwise

/-! The gradient of a root-mean-square normalisation, row by row, over the extended reals.

The kernels write the gradient out by hand; the reference gets it from the forward lines by the chain rule. The two are
equal for every row, infinite entries included: the reciprocal root of a mean of squares plus a positive number is a
nonnegative real number, and a nonnegative real number distributes over every sum of extended reals. -/

@[expose] public section

noncomputable section

open Idealize.ShloMosaic

namespace Cert.RmsNorm

/-- A nonnegative real factor goes into a sum of two extended reals. -/
theorem coe_mul_add {c : ℝ} (hc : 0 ≤ c) (a b : EReal) : (c : EReal) * (a + b) = c * a + c * b :=
  EReal.left_distrib_of_nonneg_of_ne_top (by exact_mod_cast hc) (EReal.coe_ne_top c) a b

/-- A nonnegative real factor goes into a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, coe_mul_add hc, ih]

/-- The word of `1024` denotes it. -/
theorem bits_1024 : Ideal.ofBits .f32 0x44800000#32 = ((1024 : ℝ) : EReal) := by
  simp [Ideal.ofBits, Ideal.ieee, ← EReal.coe_mul]; norm_num

/-- The word of `1/1024` denotes it. -/
theorem bits_inv1024 : Ideal.ofBits .f32 0x3A800000#32 = (((1 : ℝ) / 1024 : ℝ) : EReal) := by
  simp [Ideal.ofBits, Ideal.ieee, ← EReal.coe_mul]; norm_num

/-- The word of `2` denotes it. -/
theorem bits_two : Ideal.ofBits .f32 0x40000000#32 = ((2 : ℝ) : EReal) := by
  simp [Ideal.ofBits, Ideal.ieee, ← EReal.coe_mul]; norm_num

/-- The word of `1` denotes it. -/
theorem bits_one : Ideal.ofBits .f32 0x3F800000#32 = ((1 : ℝ) : EReal) := by
  simp [Ideal.ofBits, Ideal.ieee, ← EReal.coe_mul]; norm_num

/-- The word of `1/2` denotes it. -/
theorem bits_half : Ideal.ofBits .f32 0x3F000000#32 = (((1 : ℝ) / 2 : ℝ) : EReal) := by
  simp [Ideal.ofBits, Ideal.ieee, ← EReal.coe_mul]; norm_num

/-- The word of `-1/2` denotes it. -/
theorem bits_neg_half : Ideal.ofBits .f32 0xBF000000#32 = ((-(1 : ℝ) / 2 : ℝ) : EReal) := by
  simp [Ideal.ofBits, Ideal.ieee, ← EReal.coe_mul]; norm_num

/-- The word of the normalisation's `1e-5` denotes a positive real number. -/
theorem bits_eps : ∃ e : ℝ, 0 < e ∧ Ideal.ofBits .f32 0x3727C5AC#32 = (e : EReal) := by
  refine ⟨_, ?_, by simp [Ideal.ofBits, Ideal.ieee]; rfl⟩
  positivity

/-- Division by a nonzero real number is multiplication by its inverse. -/
theorem div_coe (x : EReal) (c : ℝ) (hc : c ≠ 0) : Ideal.div x (c : EReal) = x * ((c⁻¹ : ℝ) : EReal) := by
  unfold Ideal.div
  rw [if_neg (by exact_mod_cast hc), EReal.coe_inv]

/-- The mean of the squares of a row of 1024 entries, plus the normalisation's small number. -/
def meanSq (x : Fin 1024 → EReal) : EReal :=
  Ideal.div (∑ k, x k * x k) (Ideal.ofBits .f32 0x44800000#32) + Ideal.ofBits .f32 0x3727C5AC#32

/-- The row's reciprocal root mean square. -/
def rinv (x : Fin 1024 → EReal) : EReal := Ideal.rsqrt (meanSq x)

/-- A square is nonnegative. -/
theorem mul_self_nonneg (a : EReal) : 0 ≤ a * a := by
  induction a with
  | bot => simp
  | coe r => exact_mod_cast _root_.mul_self_nonneg r
  | top => simp

/-- Either the mean square is infinite and the reciprocal root zero, or both are positive real numbers `v` and `r` with
    `r * r * v = 1`. -/
theorem rinv_cases (x : Fin 1024 → EReal) :
    (meanSq x = ⊤ ∧ rinv x = ((0 : ℝ) : EReal)) ∨
      ∃ v r : ℝ, 0 < v ∧ 0 < r ∧ meanSq x = (v : EReal) ∧ rinv x = (r : EReal) ∧ r * r * v = 1 := by
  obtain ⟨e, he, hb⟩ := bits_eps
  have hs : (0 : EReal) ≤ ∑ k, x k * x k := Finset.sum_nonneg fun k _ => mul_self_nonneg (x k)
  have hm : meanSq x = (∑ k, x k * x k) * (((1024 : ℝ)⁻¹ : ℝ) : EReal) + (e : EReal) := by
    unfold meanSq; rw [hb, bits_1024, div_coe _ _ (by norm_num)]
  generalize (∑ k, x k * x k) = S at hs hm
  induction S with
  | bot => simp at hs
  | top =>
    left
    have : meanSq x = ⊤ := by
      rw [hm, EReal.top_mul_coe_of_pos (by norm_num)]; exact EReal.top_add_coe e
    exact ⟨this, by unfold rinv; rw [this]; rfl⟩
  | coe s =>
    right
    have hs' : 0 ≤ s := by exact_mod_cast hs
    have hv : 0 < s * (1024 : ℝ)⁻¹ + e := by positivity
    have hm' : meanSq x = ((s * (1024 : ℝ)⁻¹ + e : ℝ) : EReal) := by
      rw [hm, ← EReal.coe_mul, ← EReal.coe_add]
    refine ⟨_, (Real.sqrt (s * (1024 : ℝ)⁻¹ + e))⁻¹, hv, by positivity, hm', ?_, ?_⟩
    · unfold rinv; rw [hm']
      show (if _ < (0 : ℝ) then (⊥ : EReal) else if _ = (0 : ℝ) then ⊤ else _) = _
      rw [if_neg (not_lt.mpr hv.le), if_neg hv.ne']
    · have := Real.mul_self_sqrt hv.le
      have h0 : Real.sqrt (s * (1024 : ℝ)⁻¹ + e) ≠ 0 := by positivity
      generalize s * (1024 : ℝ)⁻¹ + e = w at *
      rw [← mul_inv, this, inv_mul_cancel₀ hv.ne']

/-- The gradient of the normalised row `x` for the cotangent `y` of its normalised entries, as the kernels write it. -/
def gradK (x y : Fin 1024 → EReal) (q : Fin 1024) : EReal :=
  rinv x * (y q - x q * rinv x * Ideal.div (∑ k, y k * (x k * rinv x)) (Ideal.ofBits .f32 0x44800000#32))

/-- The chain rule's cotangent of one squared entry, before the factor of the entry. -/
def slope (x y : Fin 1024 → EReal) : EReal :=
  Ideal.div ((∑ k, x k * y k) * (Ideal.ofBits .f32 0xBF000000#32 * Ideal.div (rinv x) (meanSq x)))
    (Ideal.ofBits .f32 0x44800000#32)

/-- The same gradient as the chain rule gives it: through the product with the reciprocal root, and twice through the
    square under the root. -/
def gradR (x y : Fin 1024 → EReal) (q : Fin 1024) : EReal :=
  y q * rinv x + x q * slope x y + slope x y * x q

/-- The two gradients agree on every row. -/
theorem gradK_eq_gradR (x y : Fin 1024 → EReal) (q : Fin 1024) : gradK x y q = gradR x y q := by
  unfold gradK gradR slope
  rw [bits_1024, div_coe _ _ (by norm_num), div_coe _ _ (by norm_num), bits_neg_half]
  rcases rinv_cases x with ⟨hv, hr⟩ | ⟨v, r, hv0, hr0, hv, hr, hrv⟩
  · rw [hv, hr]
    simp [Ideal.div]
  · rw [hv, hr, div_coe _ _ hv0.ne']
    have hS : ∑ k, y k * (x k * (r : EReal)) = (r : EReal) * ∑ k, x k * y k := by
      rw [coe_mul_sum _ r hr0.le]
      exact Finset.sum_congr rfl fun k _ => by rw [mul_comm (x k) (y k), ← mul_assoc, mul_comm]
    rw [hS]
    generalize ∑ k, x k * y k = M
    generalize x q = a
    generalize y q = b
    have h2 : ∀ z : EReal, z + z = ((2 : ℝ) : EReal) * z := fun z => by
      have : ((2 : ℝ) : EReal) = ((1 : ℝ) : EReal) + ((1 : ℝ) : EReal) := by norm_cast
      rw [this, EReal.right_distrib_of_nonneg (by norm_num) (by norm_num)]; simp
    rw [add_assoc, mul_comm (M * _ * _) a, h2, sub_eq_add_neg, coe_mul_add hr0.le, mul_comm b]
    congr 1
    rw [mul_neg, ← neg_mul, ← EReal.coe_neg]
    have hr3 : r * r * r = r * v⁻¹ := by field_simp; linarith
    have e1 : ((-r : ℝ) : EReal) * (a * (r : EReal) * ((r : EReal) * M * (((1024 : ℝ)⁻¹ : ℝ) : EReal)))
        = (((-r) * r * r * (1024 : ℝ)⁻¹ : ℝ) : EReal) * (a * M) := by
      simp only [EReal.coe_mul]; ac_rfl
    have e2 : ((2 : ℝ) : EReal) * (a * (M * (((-1 / 2 : ℝ) : EReal) * ((r : EReal) * ((v⁻¹ : ℝ) : EReal))) * (((1024 : ℝ)⁻¹ : ℝ) : EReal)))
        = ((2 * (-1 / 2) * (r * v⁻¹) * (1024 : ℝ)⁻¹ : ℝ) : EReal) * (a * M) := by
      simp only [EReal.coe_mul]; ac_rfl
    rw [e1, e2, ← hr3]
    congr 2
    ring

end Cert.RmsNorm
-- ==== Proof.LossSpec.lean ====
module

public import proofs.«01_k».proof.Proof.RmsNorm

/-! The last layer's loss and its gradient as functions of the arrays, row by row: what both programs compute. -/

@[expose] public section

noncomputable section

open Idealize.ShloMosaic

namespace Cert.Loss

/-- The error of one entry of the normalised row against its target. -/
def err (x g t : Fin 1024 → EReal) (q : Fin 1024) : EReal := x q * RmsNorm.rinv x * g q - t q

/-- The cotangent of one entry of the output: the error over the row's length. -/
def dy (x g t : Fin 1024 → EReal) (q : Fin 1024) : EReal := err x g t q * Ideal.ofBits .f32 0x3A800000#32

/-- The chain rule's spelling of that cotangent: half the mean's weight times twice the error. -/
theorem dy_eq (x g t : Fin 1024 → EReal) (q : Fin 1024) :
    Ideal.div (Ideal.ofBits .f32 0x3F000000#32 * Ideal.ofBits .f32 0x3F800000#32) (Ideal.ofBits .f32 0x44800000#32)
      * (Ideal.ofBits .f32 0x40000000#32 * err x g t q) = dy x g t q := by
  unfold dy
  rw [RmsNorm.bits_half, RmsNorm.bits_one, RmsNorm.bits_1024, RmsNorm.bits_two, RmsNorm.bits_inv1024,
    RmsNorm.div_coe _ _ (by norm_num), ← mul_assoc, ← EReal.coe_mul, ← EReal.coe_mul, ← EReal.coe_mul, mul_comm]
  congr 2
  norm_num

/-- The gradient of the residual stream at one entry of a row. -/
def dx (x g t : Fin 1024 → EReal) (q : Fin 1024) : EReal := RmsNorm.gradK x (fun k => dy x g t k * g k) q

/-- The mean of a row's squared errors. -/
def rowLoss (x g t : Fin 1024 → EReal) : EReal :=
  Ideal.div (∑ k, err x g t k * err x g t k) (Ideal.ofBits .f32 0x44800000#32)

/-- The gradient of the final gain at one column: the sum over all rows. -/
def dgain (x t : Fin 2048 → Fin 1024 → EReal) (g : Fin 1024 → EReal) (q : Fin 1024) : EReal :=
  ∑ i, dy (x i) g (t i) q * (x i q * RmsNorm.rinv (x i))

/-- The loss: half the sum of the rows' means. -/
def loss (x t : Fin 2048 → Fin 1024 → EReal) (g : Fin 1024 → EReal) : EReal :=
  Ideal.ofBits .f32 0x3F000000#32 * ∑ i, rowLoss (x i) g (t i)

end Cert.Loss
-- ==== Proof.LossReference.lean ====
module

public import proofs.«01_k».proof.Proof.Gen.ReferenceIdeal.Read
public import proofs.«01_k».proof.Proof.LossSpec
public import Idealize.ShloMosaic.Lib.Pipeline.ValueKit

/-! The reference's four results, read entry by entry, are the loss and the gradients of `LossSpec`. -/

@[expose] public section

set_option maxRecDepth 16384

noncomputable section

open Idealize.ShloMosaic Idealize.ShloMosaic.TcCoe

namespace Cert.Loss

open Cert.ReferenceIdeal Cert.ReferenceIdeal.Read Cert.ReferenceIdeal.Value

variable (x : FVec Ideal S2048x1024 .f32) (a : FVec Ideal S2048x2816 .f32) (w : FVec Ideal S2816x1024 .f32)
  (g : FVec Ideal S1024 .f32) (t : FVec Ideal S2048x1024 .f32)

/-- The residual stream after the channel mixer, one row: the stream before it plus the second product's row. -/
def stream (i : Fin 2048) (q : Fin 1024) : EReal := x (ix2 i q) + ∑ k : Fin 2816, a (ix2 i k) * w (ix2 k q)

/-- The gain as a row. -/
def gain (q : Fin 1024) : EReal := g (ix1 q)

/-- The target's rows. -/
def targ (i : Fin 2048) (q : Fin 1024) : EReal := t (ix2 i q)

theorem v1_at (p : Fin 2048) (q : Fin 1024) : val_main_v1 (F := Ideal) x a w (ix2 p q) = stream x a w p q := by
  pointwise [val_main_v1, val_main_v0, stream]

theorem v8_at (p : Fin 2048) (q : Fin 1) :
    val_main_v8 (F := Ideal) x a w (ix2 p q) = RmsNorm.meanSq (stream x a w p) := by
  pointwise [val_main_v8, val_main_v7, val_main_v6, val_main_v5, val_main_v4, val_main_v3, val_main_v2, val_main_cst,
    val_main_cst_0, val_main_cst_1, RmsNorm.meanSq, v1_at]

theorem v9_at (p : Fin 2048) (q : Fin 1) :
    val_main_v9 (F := Ideal) x a w (ix2 p q) = RmsNorm.rinv (stream x a w p) := by
  unfold val_main_v9
  pointwise [v8_at, RmsNorm.rinv]

theorem v12_at (p : Fin 2048) (q : Fin 1) : val_main_v12 (F := Ideal) x a w (ix2 p q)
    = Ideal.ofBits .f32 0xBF000000#32
      * Ideal.div (RmsNorm.rinv (stream x a w p)) (RmsNorm.meanSq (stream x a w p)) := by
  pointwise [val_main_v12, val_main_v11, val_main_v10, v8_at, v9_at, val_main_cst_2]

theorem v18_at (p : Fin 2048) (q : Fin 1024) :
    val_main_v18 (F := Ideal) x a w g t (ix2 p q) = err (stream x a w p) (gain g) (targ t p) q := by
  pointwise [val_main_v18, val_main_v17, val_main_v16, val_main_v15, val_main_v14, val_main_v13, v9_at, v1_at, err, gain,
    targ]

theorem v32_at (p : Fin 2048) (q : Fin 1024) :
    val_main_v32 (F := Ideal) x a w g t (ix2 p q) = dy (stream x a w p) (gain g) (targ t p) q := by
  rw [← dy_eq]
  pointwise [val_main_v32, val_main_v31, val_main_v30, val_main_v29, val_main_v28, val_main_v27, val_main_v21,
    val_main_v20, v18_at, val_main_cst_8, val_main_cst_9, val_main_cst_10, val_main_cst_3]

theorem v37_at (p : Fin 2048) (q : Fin 1024) : val_main_v37 (F := Ideal) x a w g t (ix2 p q)
    = dy (stream x a w p) (gain g) (targ t p) q * gain g q := by
  pointwise [val_main_v37, val_main_v36, val_main_v15, v32_at, gain]

/-- The gradient of the residual stream. -/
theorem v52_at (p : Fin 2048) (q : Fin 1024) :
    val_main_v52 (F := Ideal) x a w g t (ix2 p q) = dx (stream x a w p) (gain g) (targ t p) q := by
  rw [dx, RmsNorm.gradK_eq_gradR]
  pointwise [val_main_v52, val_main_v51, val_main_v50, val_main_v49, val_main_v48, val_main_v47, val_main_v46,
    val_main_v45, val_main_v44, val_main_v43, val_main_v42, val_main_v41, val_main_v40, val_main_v39, v37_at, v1_at,
    v9_at, v12_at, RmsNorm.gradR, RmsNorm.slope, val_main_cst_13, val_main_cst_14, val_main_cst_15]
  rw [Fin.sum_univ_one]

/-- The gradient of the gain. -/
theorem v54_at (p : Fin 1) (q : Fin 1024) :
    val_main_v54 (F := Ideal) x a w g t (ix2 p q) = dgain (stream x a w) (targ t) (gain g) q := by
  pointwise [val_main_v54, val_main_v38, val_main_v35, val_main_v34, val_main_v33, val_main_v14, val_main_v13, v1_at,
    v9_at, v32_at, dgain, val_main_cst_11, val_main_cst_12]
  rw [Fin.sum_univ_one]
  exact Finset.sum_congr rfl fun i _ => mul_comm (_ : EReal) _

/-- The loss. -/
theorem v55_at (p : Fin 1) (q : Fin 128) :
    val_main_v55 (F := Ideal) x a w g t (ix2 p q) = loss (stream x a w) (targ t) (gain g) := by
  pointwise [val_main_v55, val_main_v26, val_main_v25, val_main_v24, val_main_v23, val_main_v22, val_main_v19, v18_at,
    loss, rowLoss, val_main_cst_4, val_main_cst_5, val_main_cst_6, val_main_cst_7]

end Cert.Loss
-- ==== Proof.LossKernel.lean ====
module

public import proofs.«01_k».proof.Proof.Gen.KernelIdeal.Value
public import proofs.«01_k».proof.Proof.LossReference

/-! The kernel's four result arrays after the run are the loss and the gradients of `LossSpec`. -/

@[expose] public section

set_option maxRecDepth 16384

noncomputable section

open Idealize.ShloMosaic Idealize.ShloMosaic.TcCoe

namespace Cert.Loss

open Cert.KernelIdeal Cert.KernelIdeal.Gen
open Idealize.ShloMosaic.Pipeline (Dat)

section Payloads

variable (x : Vec Ideal S256x1024 .f32) (a : Vec Ideal S256x2816 .bf16) (w : Vec Ideal S2816x1024 .bf16)
  (g : Vec Ideal S1x1024 .f32) (t : Vec Ideal S256x1024 .f32)

/-- The body's row of the residual stream. -/
def brow (p : Fin 256) (q : Fin 1024) : EReal := x (ix2 p q) + ∑ k : Fin 2816, a (ix2 p k) * w (ix2 k q)

theorem pay5_at (p : Fin 256) (q : Fin 1024) : k0_pay5 x a w (ix2 p q) = brow x a w p q := by
  pointwise [k0_pay5, brow]

theorem pay6_at (p : Fin 256) (q : Fin 1) : k0_pay6 x a w (ix2 p q) = RmsNorm.rinv (brow x a w p) := by
  pointwise [k0_pay6, RmsNorm.rinv, RmsNorm.meanSq, pay5_at]

theorem pay7_at (p : Fin 256) (q : Fin 1024) :
    k0_pay7 x a w (ix2 p q) = brow x a w p q * RmsNorm.rinv (brow x a w p) := by
  pointwise [k0_pay7, pay6_at, pay5_at]

theorem pay9_at (p : Fin 256) (q : Fin 1024) : k0_pay9 x a w g t (ix2 p q)
    = err (brow x a w p) (fun q => g (ix2 0 q)) (fun q => t (ix2 p q)) q := by
  pointwise [k0_pay9, k0_pay8, pay7_at, err]

theorem pay10_at (p : Fin 256) (q : Fin 1024) : k0_pay10 x a w g t (ix2 p q)
    = dy (brow x a w p) (fun q => g (ix2 0 q)) (fun q => t (ix2 p q)) q := by
  pointwise [k0_pay10, pay9_at, dy]

theorem pay11_at (p : Fin 256) (q : Fin 1024) : k0_pay11 x a w g t (ix2 p q)
    = dx (brow x a w p) (fun q => g (ix2 0 q)) (fun q => t (ix2 p q)) q := by
  pointwise [k0_pay11, k0_pay8, pay10_at, pay7_at, pay6_at, dx, RmsNorm.gradK]

/-- The gain's gradient: what the body adds at one grid point. -/
theorem pay3_at (acc : Vec Ideal S1x1024 .f32) (j : S1x1024.Idx) :
    k0_pay3 (k0_pay7 x a w) (k0_pay10 x a w g t) acc j
      = acc j + ∑ p, dy (brow x a w p) (fun q => g (ix2 0 q)) (fun q => t (ix2 p q)) (j 1)
        * (brow x a w p (j 1) * RmsNorm.rinv (brow x a w p)) := by
  pointwise [k0_pay3, pay7_at, pay10_at]

/-- The loss: what the body adds at one grid point. -/
theorem pay4_at (acc : Vec Ideal S1x128 .f32) (j : S1x128.Idx) :
    k0_pay4 (k0_pay9 x a w g t) acc j
      = acc j + Ideal.ofBits .f32 0x3F000000#32
        * ∑ p, rowLoss (brow x a w p) (fun q => g (ix2 0 q)) (fun q => t (ix2 p q)) := by
  pointwise [k0_pay4, pay9_at, rowLoss]

theorem pay1_at (j : S1x1024.Idx) : k0_pay1 (F := Ideal) j = 0 := by pointwise [k0_pay1]

theorem pay2_at (j : S1x128.Idx) : k0_pay2 (F := Ideal) j = 0 := by pointwise [k0_pay2]

end Payloads

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0] :=
  (by decide +kernel : ∀ t : Fin grid0.N, _)

/-- The kernel's argument arrays, at the reference's names. -/
abbrev aX (c : Dev nD) : FVec Ideal S2048x1024 .f32 := m ((c : Thread nD τ).loc main_arg0)
abbrev aA (c : Dev nD) : FVec Ideal Cert.ReferenceIdeal.S2048x2816 .f32 := m ((c : Thread nD τ).loc main_arg1)
abbrev aW (c : Dev nD) : FVec Ideal Cert.ReferenceIdeal.S2816x1024 .f32 := m ((c : Thread nD τ).loc main_arg2)
abbrev aG (c : Dev nD) : FVec Ideal Cert.ReferenceIdeal.S1024 .f32 := m ((c : Thread nD τ).loc main_arg3)
abbrev aT (c : Dev nD) : FVec Ideal S2048x1024 .f32 := m ((c : Thread nD τ).loc main_arg4)

theorem row_lt (t : Fin cfg0.N) (p : Fin 256) : t.val * 256 + p.val < 2048 := by
  have := lt_of_lt_of_eq t.isLt N_0; omega

/-- Row `p` of the body's stream at grid point `t` is row `256 t + p` of the whole one. -/
theorem brow_eq (c : Dev nD) (t : Fin cfg0.N) (p : Fin 256) :
    brow (iblk m c 0 t) (iblk m c 1 t) (iblk m c 2 t) p
      = stream (aX m c) (aA m c) (aW m c) ⟨t.val * 256 + p.val, row_lt t p⟩ := by
  funext q
  unfold brow stream
  blk_point [iblk, V, idx t]

theorem gain_eq (c : Dev nD) (t : Fin cfg0.N) :
    (fun q => (show FVec Ideal S1x1024 .f32 from iblk m c 3 t) (ix2 0 q)) = gain (aG m c) := by
  funext q
  unfold gain
  blk_point [iblk, V, idx t]

theorem targ_eq (c : Dev nD) (t : Fin cfg0.N) (p : Fin 256) :
    (fun q => (show FVec Ideal S256x1024 .f32 from iblk m c 4 t) (ix2 p q))
      = targ (aT m c) ⟨t.val * 256 + p.val, row_lt t p⟩ := by
  funext q
  unfold targ
  blk_point [iblk, V, idx t]

/-- What every grid point leaves in the first output block, whichever case its accumulators are in. -/
theorem out5 (c : Dev nD) (t : Fin cfg0.N) (y : S256x1024.Idx) : (outsAt0 m c t.val t.isLt).1 y
    = k0_pay11 (iblk m c 0 t) (iblk m c 1 t) (iblk m c 2 t) (iblk m c 3 t) (iblk m c 4 t) y := by
  by_cases h : t.val % 8 = 0
  · rw [outsAt0_A m c t h]; frame_out
  · rw [outsAt0_B m c t h]; frame_out

/-- The second output block holds the first one's entries, rounded. -/
theorem out6 (c : Dev nD) (t : Fin cfg0.N) (y : S256x1024.Idx) : (outsAt0 m c t.val t.isLt).2.1 y
    = k0_pay12 (iblk m c 0 t) (iblk m c 1 t) (iblk m c 2 t) (iblk m c 3 t) (iblk m c 4 t) y := by
  by_cases h : t.val % 8 = 0
  · rw [outsAt0_A m c t h]; frame_out
  · rw [outsAt0_B m c t h]; frame_out

theorem emb5 (t : Fin cfg0.N) (y0 : Fin 256) (y1 : Fin 1024) : ((cfg0.win 5).blk t).view.emb (ix2 y0 y1)
    = (ix2 ⟨t.val * 256 + y0.val, row_lt t y0⟩ y1 : S2048x1024.Idx) := by
  blk_ext [idx t]

theorem emb6 (t : Fin cfg0.N) (y0 : Fin 256) (y1 : Fin 1024) : ((cfg0.win 6).blk t).view.emb (ix2 y0 y1)
    = (ix2 ⟨t.val * 256 + y0.val, row_lt t y0⟩ y1 : S2048x1024.Idx) := by
  blk_ext [idx t]

/-- The first result array: the gradient of the residual stream. -/
theorem final5 (c : Dev nD) : (dats m 0 c).arrAt 5 (cfgs 0).N
    = fun j : S2048x1024.Idx =>
      dx (stream (aX m c) (aA m c) (aW m c) (j 0)) (gain (aG m c)) (targ (aT m c) (j 0)) (j 1) := by
  refine (dats m 0 c).arrAt_eq_of_covers 5 _ (by decide +kernel) fun t _ y => ?_
  blk_simp
  rw [after0_5]
  idx_vars y
  refine (out5 m c t _).trans ((pay11_at _ _ _ _ _ _ _).trans ?_)
  refine Eq.trans ?_ (congrArg (fun j : S2048x1024.Idx =>
    dx (stream (aX m c) (aA m c) (aW m c) (j 0)) (gain (aG m c)) (targ (aT m c) (j 0)) (j 1)) (emb5 t y0 y1).symm)
  rw [brow_eq, gain_eq, targ_eq]
  rfl

/-- The second result array: the same gradient, rounded. -/
theorem final6 (c : Dev nD) : (dats m 0 c).arrAt 6 (cfgs 0).N
    = fun j : S2048x1024.Idx =>
      dx (stream (aX m c) (aA m c) (aW m c) (j 0)) (gain (aG m c)) (targ (aT m c) (j 0)) (j 1) := by
  refine (dats m 0 c).arrAt_eq_of_covers 6 _ (by decide +kernel) fun t _ y => ?_
  blk_simp
  rw [after0_6]
  idx_vars y
  refine (out6 m c t _).trans ((pay11_at _ _ _ _ _ _ _).trans ?_)
  refine Eq.trans ?_ (congrArg (fun j : S2048x1024.Idx =>
    dx (stream (aX m c) (aA m c) (aW m c) (j 0)) (gain (aG m c)) (targ (aT m c) (j 0)) (j 1)) (emb6 t y0 y1).symm)
  rw [brow_eq, gain_eq, targ_eq]
  rfl

/-- The third result array: the gradient of the gain, gathered over the grid. -/
theorem final7 (c : Dev nD) : (dats m 0 c).arrAt 7 (cfgs 0).N
    = fun j : S1x1024.Idx => dgain (stream (aX m c) (aA m c) (aW m c)) (targ (aT m c)) (gain (aG m c)) (j 1) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t j => ∑ p : Fin 256, dy (stream (aX m c) (aA m c) (aW m c) ⟨t.val * 256 + p.val, row_lt t p⟩) (gain (aG m c))
      (targ (aT m c) ⟨t.val * 256 + p.val, row_lt t p⟩) (j 1)
        * (stream (aX m c) (aA m c) (aW m c) ⟨t.val * 256 + p.val, row_lt t p⟩ (j 1)
          * RmsNorm.rinv (stream (aX m c) (aA m c) (aW m c) ⟨t.val * 256 + p.val, row_lt t p⟩)))
    (fun t h j => by
      rw [outsAt0_A m c t h]; frame_out
      refine (pay3_at _ _ _ _ _ _ _).trans ?_
      simp only [pay1_at, brow_eq, gain_eq, targ_eq])
    (fun t h j => by
      rw [outsAt0_B m c t h]; frame_out
      refine (pay3_at _ _ _ _ _ _ _).trans ?_
      simp only [brow_eq, gain_eq, targ_eq])
    (le_of_eq N_0) t0_7 rfl j, zero_add]
  unfold dgain
  exact Fin.sum_mul_add_congr fun s k hl => rfl

/-- The fourth result array: the loss, gathered over the grid. -/
theorem final8 (c : Dev nD) : (dats m 0 c).arrAt 8 (cfgs 0).N
    = fun _ : S1x128.Idx => loss (stream (aX m c) (aA m c) (aW m c)) (targ (aT m c)) (gain (aG m c)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t _ => Ideal.ofBits .f32 0x3F000000#32 * ∑ p : Fin 256,
      rowLoss (stream (aX m c) (aA m c) (aW m c) ⟨t.val * 256 + p.val, row_lt t p⟩) (gain (aG m c))
        (targ (aT m c) ⟨t.val * 256 + p.val, row_lt t p⟩))
    (fun t h j => by
      rw [outsAt0_A m c t h]; frame_out
      refine (pay4_at _ _ _ _ _ _ _).trans ?_
      simp only [pay2_at, brow_eq, gain_eq, targ_eq])
    (fun t h j => by
      rw [outsAt0_B m c t h]; frame_out
      refine (pay4_at _ _ _ _ _ _ _).trans ?_
      simp only [brow_eq, gain_eq, targ_eq])
    (le_of_eq N_0) t0_7 rfl j, zero_add]
  unfold loss
  rw [RmsNorm.bits_half]
  refine (RmsNorm.coe_mul_sum _ _ (by norm_num) _).symm.trans ?_
  refine congrArg (_ * ·) ?_
  exact Fin.sum_mul_add_congr fun s k hl => rfl

end Cert.Loss
-- ==== Proof.Loss.lean ====
module

public import proofs.«01_k».proof.Defs
public import proofs.«01_k».proof.Proof.Gen.ReferenceIdeal.Run
public import proofs.«01_k».proof.Proof.LossKernel
public import Idealize.ShloMosaic.Lib.Claim

/-! The claims about the loss call's reference: its frame, and that on the same arguments it and the kernel leave the
same four arrays. -/

@[expose] public section

set_option maxRecDepth 16384

noncomputable section

open Idealize.ShloMosaic Idealize.SL.Sem

namespace Cert.Loss

open Cert.ReferenceIdeal.Read in
/-- The reference's four result arrays are the functions of `LossSpec`. -/
theorem reference_eq (x : FVec Ideal Cert.ReferenceIdeal.S2048x1024 .f32) (a : FVec Ideal Cert.ReferenceIdeal.S2048x2816 .f32)
    (w : FVec Ideal Cert.ReferenceIdeal.S2816x1024 .f32) (g : FVec Ideal Cert.ReferenceIdeal.S1024 .f32)
    (t : FVec Ideal Cert.ReferenceIdeal.S2048x1024 .f32) :
    (val_main_v52 (F := Ideal) x a w g t = fun j => dx (stream x a w (j 0)) (gain g) (targ t (j 0)) (j 1))
      ∧ (val_main_v53 (F := Ideal) x a w g t = fun j => dx (stream x a w (j 0)) (gain g) (targ t (j 0)) (j 1))
      ∧ (val_main_v54 (F := Ideal) x a w g t = fun j => dgain (stream x a w) (targ t) (gain g) (j 1))
      ∧ (val_main_v55 (F := Ideal) x a w g t = fun _ => loss (stream x a w) (targ t) (gain g)) := by
  refine ⟨?_, ?_, ?_, ?_⟩ <;> funext j <;> idx_vars j
  · exact v52_at x a w g t _ _
  · exact v52_at x a w g t _ _
  · exact v54_at x a w g t _ _
  · exact v55_at x a w g t _ _

/-- The reference's run leaves its arguments and every semaphore counter as launched. -/
theorem frame_reference : Cert.quiescent_ReferenceIdeal := by
  intro m g _
  exact (θ_run Cert.ReferenceIdeal.defs _ _).mono
    (fun r h => ⟨fun c => (h c).2.2.2.2, sem_eq_zero_of_no_sems (by decide) r.2⟩)
    (Cert.ReferenceIdeal.Value.run (F := Ideal) m g)

open Cert.ReferenceIdeal.Read in
/-- The kernel's four results are the reference's, on every argument. -/
theorem algebraic : Cert.algebraic_KernelIdeal_ReferenceIdeal := by
  pair_intro
  · run_from Cert.KernelIdeal.Value.run_blocks m g
  · run_from Cert.ReferenceIdeal.Value.run m' g'
    all_goals have hr := reference_eq (aX m c) (aA m c) (aW m c) (aG m c) (aT m c)
    · refine (val_main_v52_eq m' c).trans ?_
      rw [(hagree c).1, (hagree c).2.1, (hagree c).2.2.1, (hagree c).2.2.2.1, (hagree c).2.2.2.2]
      exact hr.1.trans (final5 m c).symm
    · refine (val_main_v53_eq m' c).trans ?_
      rw [(hagree c).1, (hagree c).2.1, (hagree c).2.2.1, (hagree c).2.2.2.1, (hagree c).2.2.2.2]
      exact hr.2.1.trans (final6 m c).symm
    · exact (val_main_v54_eq _ _ _ _ _).trans (hr.2.2.1.trans (final7 m c).symm)
    · exact (val_main_v55_eq _ _ _ _ _).trans (hr.2.2.2.trans (final8 m c).symm)

end Cert.Loss
-- ==== Proof.InpSpec.lean ====
module

public import proofs.«01_k».proof.Proof.RmsNorm

/-! The backward pass of the input projection, entry by entry: the gradients of the normalised row, of the residual
stream, of the gain and of the bias. The cotangent's row is four rows side by side. -/

@[expose] public section

noncomputable section

open Idealize.ShloMosaic Idealize.ShloMosaic.TcCoe

namespace Cert.Inp

/-- Four rows side by side: 512, 256, 1024 and 2048 entries. -/
def cat (a : Fin 512 → EReal) (b : Fin 256 → EReal) (c : Fin 1024 → EReal) (d : Fin 2048 → EReal) (k : Fin 3840) :
    EReal :=
  if h : k.val < 512 then a ⟨k.val, h⟩
  else if h' : k.val - 512 < 256 then b ⟨k.val - 512, h'⟩
  else if h'' : k.val - 512 - 256 < 1024 then c ⟨k.val - 512 - 256, h''⟩
  else d ⟨k.val - 512 - 256 - 1024, by omega⟩

/-- A sum over the 3840 columns, one part after the other. -/
theorem sum_parts (f : Fin 3840 → EReal) : ∑ k, f k
    = (((∑ k : Fin 512, f ⟨k.val, by omega⟩) + ∑ k : Fin 256, f ⟨512 + k.val, by omega⟩)
      + ∑ k : Fin 1024, f ⟨768 + k.val, by omega⟩) + ∑ k : Fin 2048, f ⟨1792 + k.val, by omega⟩ := by
  refine (Fin.sum_univ_add (a := 1792) (b := 2048) f).trans (congrArg₂ (· + ·) ?_ rfl)
  refine (Fin.sum_univ_add (a := 768) (b := 1024) _).trans (congrArg₂ (· + ·) ?_ rfl)
  exact Fin.sum_univ_add (a := 512) (b := 256) _

variable (a : Fin 512 → EReal) (b : Fin 256 → EReal) (c : Fin 1024 → EReal) (d : Fin 2048 → EReal)
  (w : Fin 1024 → Fin 3840 → EReal)

/-- The gradient of one entry of the normalised row: the cotangent's four parts against the weights, in turn. -/
def dh (q : Fin 1024) : EReal :=
  (((∑ k : Fin 512, a k * w q ⟨k.val, by omega⟩) + ∑ k : Fin 256, b k * w q ⟨512 + k.val, by omega⟩)
    + ∑ k : Fin 1024, c k * w q ⟨768 + k.val, by omega⟩) + ∑ k : Fin 2048, d k * w q ⟨1792 + k.val, by omega⟩

/-- The same as one sum over the cotangent's whole row. -/
theorem sum_cat (q : Fin 1024) : ∑ k, cat a b c d k * w q k = dh a b c d w q := by
  rw [sum_parts]
  unfold dh cat
  refine congrArg₂ (· + ·) (congrArg₂ (· + ·) (congrArg₂ (· + ·) ?_ ?_) ?_) ?_ <;>
    refine Finset.sum_congr rfl fun k _ => congrArg (· * _) ?_
  · rw [dif_pos k.isLt]
  · rw [dif_neg (by dsimp only; omega), dif_pos (by dsimp only; omega)]
    exact congrArg b (Fin.ext (by dsimp only; omega))
  · rw [dif_neg (by dsimp only; omega), dif_neg (by dsimp only; omega), dif_pos (by dsimp only; omega)]
    exact congrArg c (Fin.ext (by dsimp only; omega))
  · rw [dif_neg (by dsimp only; omega), dif_neg (by dsimp only; omega), dif_neg (by dsimp only; omega)]
    exact congrArg d (Fin.ext (by dsimp only; omega))

/-- The gradient of the residual stream at one entry of a row `x` whose normalised row has gradient `y` and whose own
    cotangent is `e`. -/
def dx (x g y e : Fin 1024 → EReal) (q : Fin 1024) : EReal := e q + RmsNorm.gradK x (fun k => y k * g k) q

/-- The gradient of the gain at one column. -/
def dgain (x y : Fin 2048 → Fin 1024 → EReal) (q : Fin 1024) : EReal := ∑ i, y i q * (x i q * RmsNorm.rinv (x i))

end Cert.Inp
-- ==== Proof.InpReference.lean ====
module

public import proofs.«01_k».proof.Proof.Gen.Reference4Ideal.Read
public import proofs.«01_k».proof.Proof.InpSpec
public import Idealize.ShloMosaic.Lib.Pipeline.ValueKit

/-! The reference's three results, read entry by entry, are the gradients of `InpSpec`. -/

@[expose] public section

set_option maxRecDepth 16384

noncomputable section

open Idealize.ShloMosaic Idealize.ShloMosaic.TcCoe

namespace Cert.Inp

open Cert.Reference4Ideal Cert.Reference4Ideal.Read Cert.Reference4Ideal.Value

variable (x : FVec Ideal S2048x1024 .f32) (g : FVec Ideal S1x1024 .f32) (w : FVec Ideal S1024x3840 .f32)
  (dq : FVec Ideal S2048x512 .f32) (dkv : FVec Ideal S2048x256 .f32) (du : FVec Ideal S2048x1024 .f32)
  (dl : FVec Ideal S2048x2048 .f32) (e : FVec Ideal S2048x1024 .f32)

/-- An array's rows. -/
def row {n : ℕ} (x : FVec Ideal ⟨2, ![2048, n]⟩ .f32) (i : Fin 2048) (q : Fin n) : EReal := x (ix2 i q)

/-- The gain as a row. -/
def gain (q : Fin 1024) : EReal := g (ix2 0 q)

/-- The weights. -/
def wt (q : Fin 1024) (k : Fin 3840) : EReal := w (ix2 q k)

/-- The cotangent's rows: the four parts side by side. -/
def dz (i : Fin 2048) : Fin 3840 → EReal := cat (row dq i) (row dkv i) (row du i) (row dl i)

/-- The gradient of the normalised rows. -/
def dn (i : Fin 2048) : Fin 1024 → EReal := dh (row dq i) (row dkv i) (row du i) (row dl i) (wt w)

theorem v18_at (p : Fin 2048) (k : Fin 3840) : val_main_v18 (F := Ideal) dq dkv du dl (ix2 p k) = dz dq dkv du dl p k := by
  pointwise [val_main_v18, dz, cat, row]

theorem v21_at (p : Fin 2048) (q : Fin 1024) :
    val_main_v21 (F := Ideal) w dq dkv du dl (ix2 p q) = dn w dq dkv du dl p q := by
  unfold dn
  rw [← sum_cat]
  pointwise [val_main_v21, v18_at, dz, wt]

theorem v6_at (p : Fin 2048) (q : Fin 1) : val_main_v6 (F := Ideal) x (ix2 p q) = RmsNorm.meanSq (row x p) := by
  pointwise [val_main_v6, val_main_v5, val_main_v4, val_main_v3, val_main_v2, val_main_v1, val_main_v0, val_main_cst,
    val_main_cst_0, val_main_cst_1, RmsNorm.meanSq, row]

theorem v7_at (p : Fin 2048) (q : Fin 1) : val_main_v7 (F := Ideal) x (ix2 p q) = RmsNorm.rinv (row x p) := by
  unfold val_main_v7
  pointwise [v6_at, RmsNorm.rinv]

theorem v10_at (p : Fin 2048) (q : Fin 1) : val_main_v10 (F := Ideal) x (ix2 p q)
    = Ideal.ofBits .f32 0xBF000000#32 * Ideal.div (RmsNorm.rinv (row x p)) (RmsNorm.meanSq (row x p)) := by
  pointwise [val_main_v10, val_main_v9, val_main_v8, v6_at, v7_at, val_main_cst_2]

theorem v26_at (p : Fin 2048) (q : Fin 1024) : val_main_v26 (F := Ideal) g w dq dkv du dl (ix2 p q)
    = dn w dq dkv du dl p q * gain g q := by
  pointwise [val_main_v26, val_main_v25, v21_at, gain]

/-- The gradient of the residual stream. -/
theorem v41_at (p : Fin 2048) (q : Fin 1024) : val_main_v41 (F := Ideal) x g w dq dkv du dl e (ix2 p q)
    = dx (row x p) (gain g) (dn w dq dkv du dl p) (row e p) q := by
  rw [dx, RmsNorm.gradK_eq_gradR, RmsNorm.gradR, ← add_assoc, ← add_assoc]
  pointwise [val_main_v41, val_main_v40, val_main_v39, val_main_v38, val_main_v37, val_main_v36, val_main_v35,
    val_main_v34, val_main_v33, val_main_v32, val_main_v31, val_main_v30, val_main_v29, val_main_v28, val_main_v27,
    v26_at, v7_at, v10_at, RmsNorm.slope, val_main_cst_5, val_main_cst_6, val_main_cst_7, row]
  rw [Fin.sum_univ_one]

/-- The gradient of the gain. -/
theorem v24_at (p : Fin 1) (q : Fin 1024) : val_main_v24 (F := Ideal) x w dq dkv du dl (ix2 p q)
    = dgain (row x) (dn w dq dkv du dl) q := by
  pointwise [val_main_v24, val_main_v23, val_main_v22, val_main_v12, val_main_v11, v7_at, v21_at, val_main_cst_4, dgain,
    row]
  exact Finset.sum_congr rfl fun k _ => mul_comm _ _

/-- The gradient of the bias. -/
theorem v20_at (p : Fin 1) (k : Fin 3840) : val_main_v20 (F := Ideal) dq dkv du dl (ix2 p k)
    = ∑ i, dz dq dkv du dl i k := by
  pointwise [val_main_v20, val_main_v19, v18_at, val_main_cst_3]

end Cert.Inp
-- ==== Proof.InpKernel.lean ====
module

public import proofs.«01_k».proof.Proof.Gen.Kernel4Ideal.Value
public import proofs.«01_k».proof.Proof.InpReference
public import Idealize.ShloMosaic.Lib.Pipeline.ReadBack

/-! The kernel's three result arrays after the run are the gradients of `InpSpec`. -/

@[expose] public section

set_option maxRecDepth 16384

noncomputable section

open Idealize.ShloMosaic Idealize.ShloMosaic.TcCoe

namespace Cert.Inp

open Cert.Kernel4Ideal Cert.Kernel4Ideal.Gen
open Idealize.ShloMosaic.Pipeline (Dat)

section Payloads

variable (a : Vec Ideal S512x512 .bf16) (wa : Vec Ideal S512x1024 .bf16) (b : Vec Ideal S512x256 .f32)
  (wb : Vec Ideal S256x1024 .bf16) (u : Vec Ideal S512x1024 .bf16) (wu : Vec Ideal S1024x1024 .bf16)
  (l : Vec Ideal S512x2048 .bf16) (wl : Vec Ideal S2048x1024 .bf16) (x : Vec Ideal S512x1024 .f32)

/-- The body's row of the normalised row's gradient: four products, added in turn. -/
def bdh (p : Fin 512) (q : Fin 1024) : EReal :=
  (((∑ k : Fin 512, a (ix2 p k) * wa (ix2 k q)) + ∑ k : Fin 256, b (ix2 p k) * wb (ix2 k q))
    + ∑ k : Fin 1024, u (ix2 p k) * wu (ix2 k q)) + ∑ k : Fin 2048, l (ix2 p k) * wl (ix2 k q)

theorem pay7_at (p : Fin 512) (q : Fin 1024) : k0_pay7 a wa b wb (ix2 p q)
    = (∑ k : Fin 512, a (ix2 p k) * wa (ix2 k q)) + ∑ k : Fin 256, b (ix2 p k) * wb (ix2 k q) := by
  pointwise [k0_pay7, k0_pay5]

theorem pay12_at (p : Fin 512) (q : Fin 1024) :
    k0_pay12 (k0_pay7 a wa b wb) (k0_pay9 u) wu l wl (ix2 p q) = bdh a wa b wb u wu l wl p q := by
  pointwise [k0_pay12, k0_pay9, k0_pay11, pay7_at, bdh]

theorem pay14_at (p : Fin 512) (q : Fin 1) : k0_pay14 x (ix2 p q) = RmsNorm.rinv (fun k => x (ix2 p k)) := by
  pointwise [k0_pay14, RmsNorm.rinv, RmsNorm.meanSq]

theorem pay15_at (p : Fin 512) (q : Fin 1024) :
    k0_pay15 x (ix2 p q) = x (ix2 p q) * RmsNorm.rinv (fun k => x (ix2 p k)) := by
  pointwise [k0_pay15, pay14_at]

/-- The gradient of the residual stream at one entry. -/
theorem pay1_at (y : FVec Ideal S512x1024 .f32) (g : Vec Ideal S1x1024 .f32) (e : Vec Ideal S512x1024 .f32) (p : Fin 512)
    (q : Fin 1024) : k0_pay1 y (k0_pay14 x) (k0_pay15 x) g e (ix2 p q)
      = dx (fun k => x (ix2 p k)) (fun k => g (ix2 0 k)) (fun k => y (ix2 p k)) (fun k => e (ix2 p k)) q := by
  pointwise [k0_pay1, pay14_at, pay15_at, dx, RmsNorm.gradK]

/-- The gain's gradient: what the body adds at one grid point. -/
theorem pay2_at (y : FVec Ideal S512x1024 .f32) (acc : Vec Ideal S1x1024 .f32) (j : S1x1024.Idx) :
    k0_pay2 y (k0_pay15 x) acc j
      = acc j + ∑ p : Fin 512, y (ix2 p (j 1)) * (x (ix2 p (j 1)) * RmsNorm.rinv (fun k => x (ix2 p k))) := by
  pointwise [k0_pay2, pay15_at]

theorem pay3_at (j : S1x1024.Idx) : k0_pay3 (F := Ideal) j = 0 := by pointwise [k0_pay3]

theorem pay4_at (j : S1x3840.Idx) : k0_pay4 (F := Ideal) j = 0 := by pointwise [k0_pay4]

/-- The bias' gradient: what the body adds at one grid point, to each of the accumulator's four parts. -/
def badd (k : Fin 3840) : EReal :=
  ∑ p : Fin 512, cat (fun k => a (ix2 p k)) (fun k => b (ix2 p k)) (fun k => u (ix2 p k)) (fun k => l (ix2 p k)) k

/-- The four stores leave the accumulator with that added, whatever was stored before. -/
theorem parts_at (acc : Vec Ideal S1x3840 .f32) (L : List (View.Piece (Elt Ideal) S1x3840 .f32)) (y : S1x3840.Idx) :
    View.canon (⟨Rect.unit ![0, 1792] ![1, 2048] inb_S1x3840_S1x2048_0_1792,
          k0_pay13 l (View.ld acc (Rect.unit ![0, 1792] ![1, 2048] inb_S1x3840_S1x2048_0_1792))⟩ ::
        ⟨Rect.unit ![0, 768] ![1, 1024] inb_S1x3840_S1x1024_0_768,
          k0_pay10 (k0_pay9 u) (View.ld acc (Rect.unit ![0, 768] ![1, 1024] inb_S1x3840_S1x1024_0_768))⟩ ::
        ⟨Rect.unit ![0, 512] ![1, 256] inb_S1x3840_S1x256_0_512,
          k0_pay8 b (View.ld acc (Rect.unit ![0, 512] ![1, 256] inb_S1x3840_S1x256_0_512))⟩ ::
        ⟨Rect.unit ![0, 0] ![1, 512] inb_S1x3840_S1x512_0_0,
          k0_pay6 a (View.ld acc (Rect.unit ![0, 0] ![1, 512] inb_S1x3840_S1x512_0_0))⟩ :: L) y
      = acc y + badd a b u l (y 1) := by
  refine View.canon_append_of_piecesOf (fun y => acc y + badd a b u l (y 1)) L [_, _, _, _] ?_ y ?_
  · refine ⟨fun x => ?_, fun x => ?_, fun x => ?_, fun x => ?_, trivial⟩ <;> idx_vars x
    · refine Eq.trans ?_ (congrArg (fun y : S1x3840.Idx => acc y + badd a b u l (y 1))
        (show (ix2 0 ⟨1792 + x1.val, by omega⟩ : S1x3840.Idx) = _ by blk_ext))
      pointwise [k0_pay13, k0_pay11, badd, cat]
      refine congrArg (_ + ·) (Finset.sum_congr rfl fun k _ => ?_)
      rw [dif_neg (by omega), dif_neg (by omega), dif_neg (by omega)]
      exact congrArg (fun i => l (ix2 k i)) (Fin.ext (by dsimp only; omega))
    · refine Eq.trans ?_ (congrArg (fun y : S1x3840.Idx => acc y + badd a b u l (y 1))
        (show (ix2 0 ⟨768 + x1.val, by omega⟩ : S1x3840.Idx) = _ by blk_ext))
      pointwise [k0_pay10, k0_pay9, badd, cat]
      refine congrArg (_ + ·) (Finset.sum_congr rfl fun k _ => ?_)
      rw [dif_neg (by omega), dif_neg (by omega), dif_pos (by omega)]
      exact congrArg (fun i => u (ix2 k i)) (Fin.ext (by dsimp only; omega))
    · refine Eq.trans ?_ (congrArg (fun y : S1x3840.Idx => acc y + badd a b u l (y 1))
        (show (ix2 0 ⟨512 + x1.val, by omega⟩ : S1x3840.Idx) = _ by blk_ext))
      pointwise [k0_pay8, badd, cat]
    · refine Eq.trans ?_ (congrArg (fun y : S1x3840.Idx => acc y + badd a b u l (y 1))
        (show (ix2 0 ⟨x1.val, by omega⟩ : S1x3840.Idx) = _ by blk_ext))
      pointwise [k0_pay6, k0_pay5, badd, cat]
  · have h0 : (y 0).val = 0 := by have := (y 0).isLt; dsimp at this; omega
    have h1 : (y 1).val < 3840 := (y 1).isLt
    by_cases ha : 1792 ≤ (y 1).val
    · exact ⟨_, .head _, (Rect.mem_set_unit (inb := inb_S1x3840_S1x2048_0_1792)).mpr fun k =>
         by fin_cases k <;> (dsimp; omega)⟩
    by_cases hb : 768 ≤ (y 1).val
    · exact ⟨_, .tail _ (.head _), (Rect.mem_set_unit (inb := inb_S1x3840_S1x1024_0_768)).mpr fun k =>
         by fin_cases k <;> (dsimp; omega)⟩
    by_cases hc : 512 ≤ (y 1).val
    · exact ⟨_, .tail _ (.tail _ (.head _)), (Rect.mem_set_unit (inb := inb_S1x3840_S1x256_0_512)).mpr fun k =>
         by fin_cases k <;> (dsimp; omega)⟩
    · exact ⟨_, .tail _ (.tail _ (.tail _ (.head _))), (Rect.mem_set_unit (inb := inb_S1x3840_S1x512_0_0)).mpr fun k =>
         by fin_cases k <;> (dsimp; omega)⟩

end Payloads

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_9.index t = ![t.val, 0] :=
  (by decide +kernel : ∀ t : Fin grid0.N, _)

/-- The kernel's argument arrays. -/
abbrev aX (c : Dev nD) : FVec Ideal S2048x1024 .f32 := m ((c : Thread nD τ).loc main_arg0)
abbrev aG (c : Dev nD) : FVec Ideal S1x1024 .f32 := m ((c : Thread nD τ).loc main_arg1)
abbrev aW (c : Dev nD) : FVec Ideal S1024x3840 .f32 := m ((c : Thread nD τ).loc main_arg2)
abbrev aQ (c : Dev nD) : FVec Ideal S2048x512 .f32 := m ((c : Thread nD τ).loc main_arg4)
abbrev aK (c : Dev nD) : FVec Ideal S2048x256 .f32 := m ((c : Thread nD τ).loc main_arg5)
abbrev aU (c : Dev nD) : FVec Ideal S2048x1024 .f32 := m ((c : Thread nD τ).loc main_arg6)
abbrev aL (c : Dev nD) : FVec Ideal S2048x2048 .f32 := m ((c : Thread nD τ).loc main_arg7)
abbrev aE (c : Dev nD) : FVec Ideal S2048x1024 .f32 := m ((c : Thread nD τ).loc main_arg8)

theorem row_lt (t : Fin cfg0.N) (p : Fin 512) : t.val * 512 + p.val < 2048 := by
  have := lt_of_lt_of_eq t.isLt N_0; omega

/-- Row `p` of the block at grid point `t` is row `512 t + p` of the whole array. -/
abbrev at' (t : Fin cfg0.N) (p : Fin 512) : Fin 2048 := ⟨t.val * 512 + p.val, row_lt t p⟩

theorem x_eq (c : Dev nD) (t : Fin cfg0.N) (p : Fin 512) :
    (fun q => (show FVec Ideal S512x1024 .f32 from iblk m c 4 t) (ix2 p q)) = row (aX m c) (at' t p) := by
  funext q
  unfold row
  blk_point [iblk, V, idx t]

theorem e_eq (c : Dev nD) (t : Fin cfg0.N) (p : Fin 512) :
    (fun q => (show FVec Ideal S512x1024 .f32 from iblk m c 5 t) (ix2 p q)) = row (aE m c) (at' t p) := by
  funext q
  unfold row
  blk_point [iblk, V, idx t]

theorem gain_eq (c : Dev nD) (t : Fin cfg0.N) :
    (fun q => (show FVec Ideal S1x1024 .f32 from iblk m c 6 t) (ix2 0 q)) = gain (aG m c) := by
  funext q
  unfold gain
  blk_point [iblk, V, idx t]

/-- The cotangent's four parts at one grid point. -/
theorem q_at (c : Dev nD) (t : Fin cfg0.N) (p : Fin 512) (k : Fin 512) :
    (show FVec Ideal S512x512 .bf16 from iblk m c 0 t) (ix2 p k) = row (aQ m c) (at' t p) k := by
  unfold row
  blk_point [iblk, V, idx t]

theorem k_at (c : Dev nD) (t : Fin cfg0.N) (p : Fin 512) (k : Fin 256) :
    (show FVec Ideal S512x256 .f32 from iblk m c 1 t) (ix2 p k) = row (aK m c) (at' t p) k := by
  unfold row
  blk_point [iblk, V, idx t]

theorem u_at (c : Dev nD) (t : Fin cfg0.N) (p : Fin 512) (k : Fin 1024) :
    (show FVec Ideal S512x1024 .bf16 from iblk m c 2 t) (ix2 p k) = row (aU m c) (at' t p) k := by
  unfold row
  blk_point [iblk, V, idx t]

theorem l_at (c : Dev nD) (t : Fin cfg0.N) (p : Fin 512) (k : Fin 2048) :
    (show FVec Ideal S512x2048 .bf16 from iblk m c 3 t) (ix2 p k) = row (aL m c) (at' t p) k := by
  unfold row
  blk_point [iblk, V, idx t]

/-- The transposed weights, whole at every grid point. -/
theorem w_at (c : Dev nD) (t : Fin cfg0.N) (k : Fin 3840) (q : Fin 1024) :
    (show FVec Ideal S3840x1024 .bf16 from iblk m c 7 t) (ix2 k q) = wt (aW m c) q k := by
  unfold wt
  blk_point [iblk, V, idx t]

/-- The normalised row's gradient at grid point `t`, row `p`. -/
theorem dn_eq (c : Dev nD) (t : Fin cfg0.N) (p : Fin 512) (q : Fin 1024) :
    bdh (iblk m c 0 t) (View.ld (iblk m c 7 t) (Rect.unit ![0, 0] ![512, 1024] inb_S3840x1024_S512x1024_0_0))
      (iblk m c 1 t) (View.ld (iblk m c 7 t) (Rect.unit ![512, 0] ![256, 1024] inb_S3840x1024_S256x1024_512_0))
      (iblk m c 2 t) (View.ld (iblk m c 7 t) (Rect.unit ![768, 0] ![1024, 1024] inb_S3840x1024_S1024x1024_768_0))
      (iblk m c 3 t) (View.ld (iblk m c 7 t) (Rect.unit ![1792, 0] ![2048, 1024] inb_S3840x1024_S2048x1024_1792_0)) p q
      = dn (aW m c) (aQ m c) (aK m c) (aU m c) (aL m c) (at' t p) q := by
  pointwise [bdh, dn, dh]
  refine congrArg₂ (· + ·) (congrArg₂ (· + ·) (congrArg₂ (· + ·) ?_ ?_) ?_) ?_ <;>
    refine Finset.sum_congr rfl fun k _ => congrArg₂ (· * ·) ?_ (w_at m c t _ q)
  · exact q_at m c t p k
  · exact k_at m c t p k
  · exact u_at m c t p k
  · exact l_at m c t p k

/-- The normalised row's gradient as the body holds it at grid point `t`. -/
theorem body_dn (c : Dev nD) (t : Fin cfg0.N) (p : Fin 512) (q : Fin 1024) :
    k0_pay12 (k0_pay7 (iblk m c 0 t) (View.ld (iblk m c 7 t) (Rect.unit ![0, 0] ![512, 1024] inb_S3840x1024_S512x1024_0_0))
      (iblk m c 1 t) (View.ld (iblk m c 7 t) (Rect.unit ![512, 0] ![256, 1024] inb_S3840x1024_S256x1024_512_0)))
      (k0_pay9 (iblk m c 2 t))
      (View.ld (iblk m c 7 t) (Rect.unit ![768, 0] ![1024, 1024] inb_S3840x1024_S1024x1024_768_0)) (iblk m c 3 t)
      (View.ld (iblk m c 7 t) (Rect.unit ![1792, 0] ![2048, 1024] inb_S3840x1024_S2048x1024_1792_0)) (ix2 p q)
      = dn (aW m c) (aQ m c) (aK m c) (aU m c) (aL m c) (at' t p) q :=
  (pay12_at _ _ _ _ _ _ _ _ p q).trans (dn_eq m c t p q)

/-- What every grid point leaves in the first output block. -/
theorem out9 (c : Dev nD) (t : Fin cfg0.N) (p : Fin 512) (q : Fin 1024) :
    (outsAt0 m c t.val t.isLt).1 (ix2 p q)
      = dx (row (aX m c) (at' t p)) (gain (aG m c)) (dn (aW m c) (aQ m c) (aK m c) (aU m c) (aL m c) (at' t p))
        (row (aE m c) (at' t p)) q := by
  by_cases h : t.val % 4 = 0
  · rw [outsAt0_A m c t h]; frame_out
    refine (pay1_at _ _ _ _ p q).trans ?_
    rw [x_eq, e_eq, gain_eq]
    exact congrArg (fun f => dx _ _ f _ q) (funext fun k => body_dn m c t p k)
  · rw [outsAt0_B m c t h]; frame_out
    refine (pay1_at _ _ _ _ p q).trans ?_
    rw [x_eq, e_eq, gain_eq]
    exact congrArg (fun f => dx _ _ f _ q) (funext fun k => body_dn m c t p k)

/-- The first point of the grid clears the gain's accumulator and adds its rows' share. -/
theorem out10_A (c : Dev nD) (t : Fin cfg0.N) (h : t.val % 4 = 0) (j : S1x1024.Idx) :
    (outsAt0 m c t.val t.isLt).2.1 j = 0 + ∑ p : Fin 512,
      dn (aW m c) (aQ m c) (aK m c) (aU m c) (aL m c) (at' t p) (j 1)
        * (row (aX m c) (at' t p) (j 1) * RmsNorm.rinv (row (aX m c) (at' t p))) := by
  rw [outsAt0_A m c t h]; frame_out
  refine (pay2_at _ _ _ j).trans ?_
  rw [pay3_at]
  refine congrArg (0 + ·) (Finset.sum_congr rfl fun p _ => ?_)
  exact congrArg₂ (· * ·) (body_dn m c t p (j 1))
    (congrArg₂ (· * ·) (congrFun (x_eq m c t p) (j 1)) (congrArg RmsNorm.rinv (x_eq m c t p)))

/-- Every other point adds its rows' share. -/
theorem out10_B (c : Dev nD) (t : Fin cfg0.N) (h : ¬t.val % 4 = 0) (j : S1x1024.Idx) :
    (outsAt0 m c t.val t.isLt).2.1 j
      = (outsAt0 m c (t.val - 1) (Nat.lt_of_le_of_lt (Nat.sub_le _ _) t.isLt)).2.1 j + ∑ p : Fin 512,
        dn (aW m c) (aQ m c) (aK m c) (aU m c) (aL m c) (at' t p) (j 1)
          * (row (aX m c) (at' t p) (j 1) * RmsNorm.rinv (row (aX m c) (at' t p))) := by
  rw [outsAt0_B m c t h]; frame_out
  refine (pay2_at _ _ _ j).trans ?_
  refine congrArg (_ + ·) (Finset.sum_congr rfl fun p _ => ?_)
  exact congrArg₂ (· * ·) (body_dn m c t p (j 1))
    (congrArg₂ (· * ·) (congrFun (x_eq m c t p) (j 1)) (congrArg RmsNorm.rinv (x_eq m c t p)))

/-- The bias' share of one grid point. -/
theorem badd_eq (c : Dev nD) (t : Fin cfg0.N) (k : Fin 3840) :
    badd (iblk m c 0 t) (iblk m c 1 t) (iblk m c 2 t) (iblk m c 3 t) k
      = ∑ p : Fin 512, dz (aQ m c) (aK m c) (aU m c) (aL m c) (at' t p) k := by
  unfold badd dz
  refine Finset.sum_congr rfl fun p _ => ?_
  rw [← funext (q_at m c t p), ← funext (k_at m c t p), ← funext (u_at m c t p), ← funext (l_at m c t p)]

theorem out11_A (c : Dev nD) (t : Fin cfg0.N) (h : t.val % 4 = 0) (j : S1x3840.Idx) :
    (outsAt0 m c t.val t.isLt).2.2 j = 0 + ∑ p : Fin 512, dz (aQ m c) (aK m c) (aU m c) (aL m c) (at' t p) (j 1) := by
  rw [outsAt0_A m c t h]; frame_out
  simp (disch := decide) only [↓ View.readCov_skip, ↓ View.readCov_cons_toLoadRect, ↓ View.readCov_fill]
  refine (parts_at (iblk m c 0 t) (iblk m c 1 t) (iblk m c 2 t) (iblk m c 3 t) (k0_pay4 (F := Ideal)) _ j).trans ?_
  exact congrArg₂ (· + ·) (pay4_at j) (badd_eq m c t (j 1))

theorem out11_B (c : Dev nD) (t : Fin cfg0.N) (h : ¬t.val % 4 = 0) (j : S1x3840.Idx) :
    (outsAt0 m c t.val t.isLt).2.2 j
      = (outsAt0 m c (t.val - 1) (Nat.lt_of_le_of_lt (Nat.sub_le _ _) t.isLt)).2.2 j
        + ∑ p : Fin 512, dz (aQ m c) (aK m c) (aU m c) (aL m c) (at' t p) (j 1) := by
  rw [outsAt0_B m c t h]; frame_out
  refine (parts_at _ _ _ _ _ _ j).trans ?_
  exact congrArg (_ + ·) (badd_eq m c t (j 1))

theorem emb9 (t : Fin cfg0.N) (y0 : Fin 512) (y1 : Fin 1024) : ((cfg0.win 9).blk t).view.emb (ix2 y0 y1)
    = (ix2 (at' t y0) y1 : S2048x1024.Idx) := by
  blk_ext [idx t]

/-- The first result array: the gradient of the residual stream. -/
theorem final9 (c : Dev nD) : (dats m 0 c).arrAt 9 (cfgs 0).N
    = fun j : S2048x1024.Idx => dx (row (aX m c) (j 0)) (gain (aG m c))
      (dn (aW m c) (aQ m c) (aK m c) (aU m c) (aL m c) (j 0)) (row (aE m c) (j 0)) (j 1) := by
  refine (dats m 0 c).arrAt_eq_of_covers 9 _ (by decide +kernel) fun t _ y => ?_
  blk_simp
  rw [after0_9]
  idx_vars y
  refine (out9 m c t y0 y1).trans ?_
  exact (congrArg (fun j : S2048x1024.Idx => dx (row (aX m c) (j 0)) (gain (aG m c))
    (dn (aW m c) (aQ m c) (aK m c) (aU m c) (aL m c) (j 0)) (row (aE m c) (j 0)) (j 1)) (emb9 t y0 y1).symm)

/-- The second result array: the gradient of the gain, gathered over the grid. -/
theorem final10 (c : Dev nD) : (dats m 0 c).arrAt 10 (cfgs 0).N
    = fun j : S1x1024.Idx => dgain (row (aX m c)) (dn (aW m c) (aQ m c) (aK m c) (aU m c) (aL m c)) (j 1) := by
  refine (dats m 0 c).arrAt_eq_of_after_last 10 t0_3 (by decide +kernel) _ fun j => ?_
  blk_simp
  rw [after0_10, Pipeline.eq_sum_fin_of_reset_step_apply_last (fun n h => (outsAt0 m c n h).2.1) 4 (fun _ => 0) _
    (fun t h j => out10_A m c t h j) (fun t h j => out10_B m c t h j) (le_of_eq N_0) t0_3 rfl j, zero_add]
  unfold dgain
  exact Fin.sum_mul_add_congr fun s k hl => rfl

/-- The third result array: the gradient of the bias, gathered over the grid. -/
theorem final11 (c : Dev nD) : (dats m 0 c).arrAt 11 (cfgs 0).N
    = fun j : S1x3840.Idx => ∑ i, dz (aQ m c) (aK m c) (aU m c) (aL m c) i (j 1) := by
  refine (dats m 0 c).arrAt_eq_of_after_last 11 t0_3 (by decide +kernel) _ fun j => ?_
  blk_simp
  rw [after0_11, Pipeline.eq_sum_fin_of_reset_step_apply_last (fun n h => (outsAt0 m c n h).2.2) 4 (fun _ => 0) _
    (fun t h j => out11_A m c t h j) (fun t h j => out11_B m c t h j) (le_of_eq N_0) t0_3 rfl j, zero_add]
  exact Fin.sum_mul_add_congr fun s k hl => rfl

end Cert.Inp
-- ==== Proof.Inp.lean ====
module

public import proofs.«01_k».proof.Defs
public import proofs.«01_k».proof.Proof.Gen.Reference4Ideal.Run
public import proofs.«01_k».proof.Proof.InpKernel
public import Idealize.ShloMosaic.Lib.Claim

/-! The claims about the input projection's backward call: its reference's frame, and that on the same arguments it and
the kernel leave the same three arrays. -/

@[expose] public section

set_option maxRecDepth 16384

noncomputable section

open Idealize.ShloMosaic Idealize.SL.Sem

namespace Cert.Inp

open Cert.Reference4Ideal.Read Cert.Reference4Ideal in
/-- The reference's three result arrays are the functions of `InpSpec`. -/
theorem reference_eq (x : FVec Ideal S2048x1024 .f32) (g : FVec Ideal S1x1024 .f32) (w : FVec Ideal S1024x3840 .f32)
    (dq : FVec Ideal S2048x512 .f32) (dkv : FVec Ideal S2048x256 .f32) (du : FVec Ideal S2048x1024 .f32)
    (dl : FVec Ideal S2048x2048 .f32) (e : FVec Ideal S2048x1024 .f32) :
    (val_main_v41 (F := Ideal) x g w dq dkv du dl e
        = fun j => dx (row x (j 0)) (gain g) (dn w dq dkv du dl (j 0)) (row e (j 0)) (j 1))
      ∧ (val_main_v24 (F := Ideal) x w dq dkv du dl = fun j => dgain (row x) (dn w dq dkv du dl) (j 1))
      ∧ (val_main_v20 (F := Ideal) dq dkv du dl = fun j => ∑ i, dz dq dkv du dl i (j 1)) := by
  refine ⟨?_, ?_, ?_⟩ <;> funext j <;> idx_vars j
  · exact v41_at x g w dq dkv du dl e _ _
  · exact v24_at x w dq dkv du dl _ _
  · exact v20_at dq dkv du dl _ _

/-- The reference's run leaves its arguments and every semaphore counter as launched. -/
theorem frame_reference : Cert.quiescent_Reference4Ideal := by
  intro m g _
  exact (θ_run Cert.Reference4Ideal.defs _ _).mono
    (fun r h => ⟨fun c => (h c).2.2.2, sem_eq_zero_of_no_sems (by decide) r.2⟩)
    (Cert.Reference4Ideal.Value.run (F := Ideal) m g)

open Cert.Reference4Ideal.Read in
/-- The kernel's three results are the reference's, on every argument. -/
theorem algebraic : Cert.algebraic_Kernel4Ideal_Reference4Ideal := by
  pair_intro
  · run_from Cert.Kernel4Ideal.Value.run_blocks m g
  · refine θ_run_mono (Cert.Reference4Ideal.Value.run m' g') ?_
    intro r hr c
    obtain ⟨h41, h24, h20, hargs⟩ := hr c
    obtain ⟨e0, e1, e2, _, e4, e5, e6, e7, e8⟩ := hagree c
    have he := reference_eq (aX m c) (aG m c) (aW m c) (aQ m c) (aK m c) (aU m c) (aL m c) (aE m c)
    refine ⟨h41.trans ?_, h24.trans ?_, h20.trans ?_, hargs⟩
    · refine (val_main_v41_eq m' c).trans ?_
      rw [e0, e1, e2, e4, e5, e6, e7, e8]
      exact he.1.trans (final9 m c).symm
    · refine (val_main_v24_eq _ _ _ _ _ _).trans ?_
      rw [e0, e2, e4, e5, e6, e7]
      exact he.2.1.trans (final10 m c).symm
    · refine (val_main_v20_eq _ _ _ _).trans ?_
      rw [e4, e5, e6, e7]
      exact he.2.2.trans (final11 m c).symm

end Cert.Inp
-- ==== Proof.MixSpec.lean ====
module

public import Idealize.ShloMosaic.Lib.Pipeline.ValueKit

/-! The gate that mixes the attention's branch and the convolution's into the residual stream, row by row, and its
gradients: two products bring the branches to the stream's width, two sigmoids of a row of logits weigh them, and a
third product brings the sum back to the stream. -/

@[expose] public section

noncomputable section

open Idealize.ShloMosaic Idealize.ShloMosaic.TcCoe

namespace Cert.Mix

/-- An array's rows, -/
def row {n k : ℕ} (x : (⟨2, ![n, k]⟩ : Shape).Idx → EReal) (i : Fin n) (q : Fin k) : EReal := x (ix2 i q)

/-- the weight of a branch, -/
def gate (v : EReal) : EReal := Ideal.div 1 (1 + Ideal.exp (-v))

/-- a branch's product with its matrix, -/
def branch (o : Fin 512 → EReal) (w : Fin 512 → Fin 1024 → EReal) (j : Fin 1024) : EReal := ∑ k, o k * w k j

/-- the weights of the first branch and of the second, -/
def fst (l : Fin 2048 → EReal) (j : Fin 1024) : EReal := gate (l ⟨j.val, by omega⟩)
def snd (l : Fin 2048 → EReal) (j : Fin 1024) : EReal := gate (l ⟨1024 + j.val, by omega⟩)

/-- the weighted sum, -/
def merged (l : Fin 2048 → EReal) (a b : Fin 1024 → EReal) (j : Fin 1024) : EReal := fst l j * a j + snd l j * b j

/-- the stream after it, -/
def stream (x m : Fin 1024 → EReal) (w : Fin 1024 → Fin 1024 → EReal) (j : Fin 1024) : EReal := x j + ∑ k, m k * w k j

/-- the gradient of the weighted sum, -/
def dmerged (d : Fin 1024 → EReal) (w : Fin 1024 → Fin 1024 → EReal) (j : Fin 1024) : EReal := ∑ k, d k * w j k

/-- of the two branches, -/
def dfst (l : Fin 2048 → EReal) (dm : Fin 1024 → EReal) (j : Fin 1024) : EReal := dm j * fst l j
def dsnd (l : Fin 2048 → EReal) (dm : Fin 1024 → EReal) (j : Fin 1024) : EReal := dm j * snd l j

/-- of the logits, -/
def dlogits (l : Fin 2048 → EReal) (dm a b : Fin 1024 → EReal) (k : Fin 2048) : EReal :=
  if h : k.val < 1024 then dfst l dm ⟨k.val, h⟩ * a ⟨k.val, h⟩ * (1 - gate (l k))
  else dsnd l dm ⟨k.val - 1024, by omega⟩ * b ⟨k.val - 1024, by omega⟩ * (1 - gate (l k))

/-- and of what a branch's product takes. -/
def dbranch (d : Fin 1024 → EReal) (w : Fin 512 → Fin 1024 → EReal) (k : Fin 512) : EReal := ∑ j, d j * w k j

section Arrays

variable (x : FVec Ideal ⟨2, ![2048, 1024]⟩ .f32) (o c : FVec Ideal ⟨2, ![2048, 512]⟩ .f32)
  (l : FVec Ideal ⟨2, ![2048, 2048]⟩ .f32) (wa wc : FVec Ideal ⟨2, ![512, 1024]⟩ .f32)
  (b : FVec Ideal ⟨2, ![1, 1024]⟩ .f32) (wo : FVec Ideal ⟨2, ![1024, 1024]⟩ .f32)
  (d : FVec Ideal ⟨2, ![2048, 1024]⟩ .f32)

/-- The same for every row of the arguments: the two branches, -/
def yA (i : Fin 2048) : Fin 1024 → EReal := branch (row o i) (row wa)
def yC (i : Fin 2048) (j : Fin 1024) : EReal := branch (row c i) (row wc) j + row b 0 j

/-- the weighted sum and the stream after it, -/
def mg (i : Fin 2048) : Fin 1024 → EReal := merged (row l i) (yA o wa i) (yC c wc b i)
def x1 (i : Fin 2048) : Fin 1024 → EReal := stream (row x i) (mg o c l wa wc b i) (row wo)

/-- and the gradients. -/
def dmg (i : Fin 2048) : Fin 1024 → EReal := dmerged (row d i) (row wo)
def dA (i : Fin 2048) : Fin 1024 → EReal := dfst (row l i) (dmg wo d i)
def dC (i : Fin 2048) : Fin 1024 → EReal := dsnd (row l i) (dmg wo d i)
def dL (i : Fin 2048) : Fin 2048 → EReal := dlogits (row l i) (dmg wo d i) (yA o wa i) (yC c wc b i)
def dO (i : Fin 2048) : Fin 512 → EReal := dbranch (dA l wo d i) (row wa)
def dU (i : Fin 2048) : Fin 512 → EReal := dbranch (dC l wo d i) (row wc)
def dB (j : Fin 1024) : EReal := ∑ i, dC l wo d i j

end Arrays

end Cert.Mix
end
-- ==== Proof.MixPayload.lean ====
module

public import proofs.«01_k».proof.Proof.Gen.Kernel5Ideal.Frame.Region0
public import proofs.«01_k».proof.Proof.MixSpec
public import Idealize.ShloMosaic.Lib.Pipeline.ReadBack
public import Idealize.ShloMosaic.Lib.Pipeline.ValueKit

/-! What the mixing calls' bodies compute from their blocks, entry by entry. -/

@[expose] public section

set_option maxRecDepth 16384

noncomputable section

open Idealize.ShloMosaic Idealize.ShloMosaic.TcCoe

namespace Cert.Mix

open Cert.Kernel5Ideal Cert.Kernel5Ideal.Gen

/-- Four matrices of 256 columns as one of 1024. -/
def glued (w : Vec Ideal S4x512x256 .bf16) (k : Fin 512) (j : Fin 1024) : EReal :=
  w (ix3 ⟨j.val / 256, by omega⟩ k ⟨j.val % 256, by omega⟩)

/-- A row of four parts of 256 entries, entry by entry. -/
theorem quarters (g : Fin 4 → Fin 256 → EReal) (q : Fin 1024) :
    (if h : q.val < 256 then g 0 ⟨q.val, h⟩
      else if h : q.val - 256 < 256 then g 1 ⟨q.val - 256, h⟩
      else if h : q.val - 256 - 256 < 256 then g 2 ⟨q.val - 256 - 256, h⟩
      else g 3 ⟨q.val - 256 - 256 - 256, by omega⟩) = g ⟨q.val / 256, by omega⟩ ⟨q.val % 256, by omega⟩ := by
  split
  · exact congrArg₂ g (Fin.ext (by dsimp; omega)) (Fin.ext (by dsimp; omega))
  split
  · exact congrArg₂ g (Fin.ext (by dsimp; omega)) (Fin.ext (by dsimp; omega))
  split
  · exact congrArg₂ g (Fin.ext (by dsimp; omega)) (Fin.ext (by dsimp; omega))
  · exact congrArg₂ g (Fin.ext (by dsimp; omega)) (Fin.ext (by dsimp; omega))

section Forward

variable (x : Vec Ideal S512x1024 .f32) (o c : Vec Ideal S512x512 .bf16) (l : Vec Ideal S512x2048 .bf16)
  (wa wc : Vec Ideal S4x512x256 .bf16) (b : Vec Ideal S1x1024 .f32) (wo : Vec Ideal S1024x1024 .bf16)

theorem pay3_at (p : Fin 512) (q : Fin 1024) :
    k0_pay3 o (View.ld wa r0_1) (View.ld wa r0_2) (View.ld wa r0_3) (View.ld wa r0_4) (ix2 p q)
      = branch (row o p) (glued wa) q := by
  refine Eq.trans ?_ (quarters (fun s j => ∑ k, o (ix2 p k) * wa (ix3 s k j)) q)
  pointwise [k0_pay3]

theorem pay7_at (p : Fin 512) (q : Fin 1024) :
    k0_pay7 (k0_pay2 c) (k0_pay4 c (View.ld wc r0_1)) (k0_pay5 c (View.ld wc r0_2)) (k0_pay6 c (View.ld wc r0_3))
      (View.ld wc r0_4) b (ix2 p q) = branch (row c p) (glued wc) q + row b 0 q := by
  refine Eq.trans ?_ (congrArg (· + row b 0 q) (quarters (fun s j => ∑ k, c (ix2 p k) * wc (ix3 s k j)) q))
  pointwise [k0_pay7, k0_pay2, k0_pay4, k0_pay5, k0_pay6, row]

theorem pay8_at (p : Fin 512) (q : Fin 1024) :
    k0_pay8 (k0_pay2 c) (k0_pay3 o (View.ld wa r0_1) (View.ld wa r0_2) (View.ld wa r0_3) (View.ld wa r0_4))
      (k0_pay4 c (View.ld wc r0_1)) (k0_pay5 c (View.ld wc r0_2)) (k0_pay6 c (View.ld wc r0_3)) (View.ld wc r0_4) b
      (View.ld l r0_6) (View.ld l r0_7) (ix2 p q)
      = merged (row l p) (branch (row o p) (glued wa)) (fun q => branch (row c p) (glued wc) q + row b 0 q) q := by
  pointwise [k0_pay8, pay3_at, pay7_at, merged, fst, snd, gate, row]
  rw [zero_sub, zero_sub]

/-- The four blocks the forward body leaves: the two branches, -/
theorem pay9_at (p : Fin 512) (q : Fin 1024) : k0_pay9 (k0_pay3 o (View.ld wa r0_1) (View.ld wa r0_2) (View.ld wa r0_3) (View.ld wa r0_4)) (ix2 p q)
    = branch (row o p) (glued wa) q := by
  pointwise [k0_pay9, pay3_at]

theorem pay10_at (p : Fin 512) (q : Fin 1024) :
    k0_pay10 (k0_pay2 c) (k0_pay4 c (View.ld wc r0_1)) (k0_pay5 c (View.ld wc r0_2)) (k0_pay6 c (View.ld wc r0_3))
      (View.ld wc r0_4) b (ix2 p q) = branch (row c p) (glued wc) q + row b 0 q := by
  pointwise [k0_pay10, pay7_at]

/-- their weighted sum, and the stream after it. -/
theorem pay1_at (p : Fin 512) (q : Fin 1024) : k0_pay1 (k0_pay8 (k0_pay2 c) (k0_pay3 o (View.ld wa r0_1) (View.ld wa r0_2) (View.ld wa r0_3) (View.ld wa r0_4))
      (k0_pay4 c (View.ld wc r0_1)) (k0_pay5 c (View.ld wc r0_2)) (k0_pay6 c (View.ld wc r0_3)) (View.ld wc r0_4) b
      (View.ld l r0_6) (View.ld l r0_7)) x wo (ix2 p q)
    = stream (row x p) (merged (row l p) (branch (row o p) (glued wa))
      (fun q => branch (row c p) (glued wc) q + row b 0 q)) (row wo) q := by
  pointwise [k0_pay1, pay8_at, stream, row]

end Forward

/-- A sum over the 1024 columns, a quarter after the other. -/
theorem sum_quarters (f : Fin 1024 → EReal) : ∑ k, f k
    = (((∑ k : Fin 256, f ⟨k.val, by omega⟩) + ∑ k : Fin 256, f ⟨256 + k.val, by omega⟩)
      + ∑ k : Fin 256, f ⟨512 + k.val, by omega⟩) + ∑ k : Fin 256, f ⟨768 + k.val, by omega⟩ := by
  refine (Fin.sum_univ_add (a := 768) (b := 256) f).trans (congrArg₂ (· + ·) ?_ rfl)
  refine (Fin.sum_univ_add (a := 512) (b := 256) _).trans (congrArg₂ (· + ·) ?_ rfl)
  exact Fin.sum_univ_add (a := 256) (b := 256) _

/-- A branch's product against the four matrices, a quarter after the other. -/
theorem dbranch_glued (f : Fin 1024 → EReal) (w : Vec Ideal S4x512x256 .bf16) (k : Fin 512) : dbranch f (glued w) k
    = (((∑ j : Fin 256, f ⟨j.val, by omega⟩ * w (ix3 0 k j)) + ∑ j : Fin 256, f ⟨256 + j.val, by omega⟩ * w (ix3 1 k j))
      + ∑ j : Fin 256, f ⟨512 + j.val, by omega⟩ * w (ix3 2 k j)) + ∑ j : Fin 256, f ⟨768 + j.val, by omega⟩ * w (ix3 3 k j) := by
  refine (sum_quarters _).trans ?_
  refine congrArg₂ (· + ·) (congrArg₂ (· + ·) (congrArg₂ (· + ·) ?_ ?_) ?_) ?_ <;>
    exact Finset.sum_congr rfl fun j _ => congrArg (_ * ·) (congrArg₂ (fun s j => w (ix3 s k j))
      (Fin.ext (by dsimp; omega)) (Fin.ext (by dsimp; omega)))

section Backward

variable (d : Vec Ideal S512x1024 .bf16) (l : Vec Ideal S512x2048 .bf16) (ya yc : Vec Ideal S512x1024 .bf16)
  (wo : Vec Ideal S1024x1024 .bf16) (wa wc : Vec Ideal S4x512x256 .bf16) (y : FVec Ideal S512x1024 .f32)

theorem bpay2_at (p : Fin 512) (q : Fin 1024) : k2_pay2 d wo (ix2 p q) = dmerged (row d p) (row wo) q := by
  pointwise [k2_pay2, dmerged, row]

theorem bpay4_at (p : Fin 512) (q : Fin 1024) : k2_pay4 (View.ld l r0_6) (ix2 p q) = fst (row l p) q := by
  pointwise [k2_pay4, fst, gate, row]
  rw [zero_sub]

theorem bpay5_at (p : Fin 512) (q : Fin 1024) : k2_pay5 (View.ld l r0_7) (ix2 p q) = snd (row l p) q := by
  pointwise [k2_pay5, snd, gate, row]
  rw [zero_sub]

theorem bpay6_at (p : Fin 512) (q : Fin 1024) : k2_pay6 d wo (View.ld l r0_6) (ix2 p q)
    = dfst (row l p) (dmerged (row d p) (row wo)) q := by
  pointwise [k2_pay6, bpay2_at, bpay4_at, dfst]

theorem bpay7_at (p : Fin 512) (q : Fin 1024) : k2_pay7 d wo (View.ld l r0_7) (ix2 p q)
    = dsnd (row l p) (dmerged (row d p) (row wo)) q := by
  pointwise [k2_pay7, bpay2_at, bpay5_at, dsnd]

theorem bpay8_at (p : Fin 512) (q : Fin 1024) : k2_pay8 d wo ya (View.ld l r0_6) (ix2 p q)
    = dfst (row l p) (dmerged (row d p) (row wo)) q * ya (ix2 p q) * (1 - fst (row l p) q) := by
  pointwise [k2_pay8, bpay6_at, bpay4_at]

theorem bpay9_at (p : Fin 512) (q : Fin 1024) :
    k2_pay9 (k2_pay3 yc) (k2_pay5 (View.ld l r0_7)) (k2_pay7 d wo (View.ld l r0_7)) (ix2 p q)
    = dsnd (row l p) (dmerged (row d p) (row wo)) q * yc (ix2 p q) * (1 - snd (row l p) q) := by
  pointwise [k2_pay9, k2_pay3, bpay7_at, bpay5_at]

theorem bpay16_at (p k : Fin 512) :
    k2_pay16 (k2_pay10 y) (k2_pay13 y (View.ld wa r0_1) (View.ld wa r0_2)) (View.ld wa r0_3) (View.ld wa r0_4) (ix2 p k)
      = dbranch (row y p) (glued wa) k := by
  rw [dbranch_glued]
  pointwise [k2_pay16, k2_pay10, k2_pay13, row]

theorem bpay17_at (p k : Fin 512) :
    k2_pay17 (k2_pay11 y) (k2_pay12 y (View.ld wc r0_1)) (k2_pay14 y) (k2_pay15 (View.ld wc r0_2)) (View.ld wc r0_3)
      (View.ld wc r0_4) (ix2 p k) = dbranch (row y p) (glued wc) k := by
  rw [dbranch_glued]
  pointwise [k2_pay17, k2_pay11, k2_pay12, k2_pay14, k2_pay15, row]

theorem bpay1_at (acc : Vec Ideal S1x1024 .f32) (j : S1x1024.Idx) :
    k2_pay1 y (k2_pay19 acc) j = acc j + ∑ p : Fin 512, row y p (j 1) := by
  pointwise [k2_pay1, k2_pay19, row]

theorem bpay18_at (j : S1x1024.Idx) : k2_pay18 (F := Ideal) j = 0 := by pointwise [k2_pay18]

theorem bpay10_at (p : Fin 512) (q : Fin 1024) : k2_pay10 y (ix2 p q) = y (ix2 p q) := by pointwise [k2_pay10]

theorem bpay11_at (p : Fin 512) (q : Fin 1024) : k2_pay11 y (ix2 p q) = y (ix2 p q) := by pointwise [k2_pay11]

/-- Two halves side by side, -/
def halves (a b : FVec Ideal S512x1024 .bf16) : Vec Ideal S512x2048 .bf16 := fun j =>
  if h : (j 1).val < 1024 then a (ix2 (j 0) ⟨(j 1).val, h⟩)
  else b (ix2 (j 0) ⟨(j 1).val - 1024, by have : (j 1).val < 2048 := (j 1).isLt; omega⟩)

theorem halves_pos (a b : FVec Ideal S512x1024 .bf16) (i : Fin 512) (k : Fin 2048) (h : k.val < 1024) :
    halves a b (ix2 i k) = a (ix2 i ⟨k.val, h⟩) := dif_pos h

theorem halves_neg (a b : FVec Ideal S512x1024 .bf16) (i : Fin 512) (k : Fin 2048) (h : 1024 ≤ k.val) :
    halves a b (ix2 i k) = b (ix2 i ⟨k.val - 1024, by omega⟩) := dif_neg (not_lt.mpr h)

/-- as two stores leave them. -/
theorem halves_at (a b : FVec Ideal S512x1024 .bf16) (j : S512x2048.Idx) :
    View.canon (Val := Elt Ideal) (s := S512x2048) (e := .bf16) [⟨Rect.unit ![0, 1024] ![512, 1024] inb_S512x2048_S512x1024_0_1024, b⟩,
        ⟨Rect.unit ![0, 0] ![512, 1024] inb_S512x2048_S512x1024_0_0, a⟩] j = halves a b j := by
  refine View.canon_append_of_piecesOf (halves a b) [] [_, _] ?_ j ?_
  · refine ⟨fun x => ?_, fun x => ?_, trivial⟩ <;> idx_vars x
    · rw [show Rect.emb (Rect.unit (s := S512x2048) ![0, 1024] ![512, 1024] inb_S512x2048_S512x1024_0_1024) (ix2 x0 x1)
        = (ix2 x0 ⟨1024 + x1.val, by omega⟩ : S512x2048.Idx) by blk_ext]
      refine Eq.trans ?_ (halves_neg a b x0 _ (Nat.le_add_right 1024 x1.val)).symm
      exact congrArg (fun k => b (ix2 x0 k)) (Fin.ext (Nat.add_sub_cancel_left 1024 x1.val).symm)
    · rw [show Rect.emb (Rect.unit (s := S512x2048) ![0, 0] ![512, 1024] inb_S512x2048_S512x1024_0_0) (ix2 x0 x1)
        = (ix2 x0 ⟨x1.val, by omega⟩ : S512x2048.Idx) by blk_ext]
      exact (halves_pos a b x0 ⟨x1.val, by omega⟩ x1.isLt).symm
  · have h0 : (j 0).val < 512 := (j 0).isLt
    have h1 : (j 1).val < 2048 := (j 1).isLt
    by_cases h : 1024 ≤ (j 1).val
    · exact ⟨_, .head _, (Rect.mem_set_unit (inb := inb_S512x2048_S512x1024_0_1024)).mpr fun k =>
        by fin_cases k <;> (dsimp; omega)⟩
    · exact ⟨_, .tail _ (.head _), (Rect.mem_set_unit (inb := inb_S512x2048_S512x1024_0_0)).mpr fun k =>
        by fin_cases k <;> (dsimp; omega)⟩

end Backward

end Cert.Mix
end
-- ==== Proof.MixForwardFirst.lean ====
module

public import proofs.«01_k».proof.Proof.MixPayload
public import proofs.«01_k».proof.Proof.Gen.Kernel5Ideal.Frame.Region0
public import Idealize.ShloMosaic.Lib.Pipeline.ValueKit

/-! The four arrays the first forward call leaves, on their upper half: the rows it writes. -/

@[expose] public section

set_option maxRecDepth 16384

noncomputable section

open Idealize.ShloMosaic Idealize.ShloMosaic.TcCoe
open Idealize.ShloMosaic.Pipeline (Dat)

namespace Cert.Mix

open Cert.Kernel5Ideal Cert.Kernel5Ideal.Gen

variable (V : (c : Dev nD) → (b : Ref sig .tc) → Buf (Elt Ideal) ((c : Thread nD τ).loc b)) (c : Dev nD)

/-- What both calls read. -/
abbrev rX : FVec Ideal S2048x1024 .f32 := V c main_arg0
abbrev rO : FVec Ideal S2048x512 .bf16 := V c main_v0
abbrev rC : FVec Ideal S2048x512 .bf16 := V c main_v1
abbrev rL : FVec Ideal S2048x2048 .bf16 := V c main_v2
abbrev rWa : FVec Ideal S4x512x256 .bf16 := V c main_v5
abbrev rWc : FVec Ideal S4x512x256 .bf16 := V c main_v8
abbrev rB : FVec Ideal S1x1024 .f32 := V c main_arg6
abbrev rWo : FVec Ideal S1024x1024 .bf16 := V c main_v9

/-- A row of each of the four arrays. -/
def fA (i : Fin 2048) : Fin 1024 → EReal := branch (row (rO V c) i) (glued (rWa V c))
def fC (i : Fin 2048) (q : Fin 1024) : EReal := branch (row (rC V c) i) (glued (rWc V c)) q + row (rB V c) 0 q
def fM (i : Fin 2048) : Fin 1024 → EReal := merged (row (rL V c) i) (fA V c i) (fC V c i)
def fX (i : Fin 2048) : Fin 1024 → EReal := stream (row (rX V c) i) (fM V c i) (row (rWo V c))

section First

theorem idx0 : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

theorem lt0 (t : Fin cfg0.N) : t.val < 2 := lt_of_lt_of_eq t.isLt N_0

/-- Row `p` of the block at grid point `t` is row `512 t + p` of the array. -/
def at0 (t : Fin cfg0.N) (p : Fin 512) : Fin 2048 := ⟨t.val * 512 + p.val, by have := lt0 t; omega⟩

variable (t : Fin cfg0.N) (p : Fin 512)

theorem rx_0 : row (show FVec Ideal S512x1024 .f32 from iblk0 V c 0 t) p = row (rX V c) (at0 t p) := by
  funext q; unfold row; blk_point [iblk0, idx0 t, at0]
theorem ro_0 : row (show FVec Ideal S512x512 .bf16 from iblk0 V c 1 t) p = row (rO V c) (at0 t p) := by
  funext q; unfold row; blk_point [iblk0, idx0 t, at0]
theorem rc_0 : row (show FVec Ideal S512x512 .bf16 from iblk0 V c 2 t) p = row (rC V c) (at0 t p) := by
  funext q; unfold row; blk_point [iblk0, idx0 t, at0]
theorem rl_0 : row (show FVec Ideal S512x2048 .bf16 from iblk0 V c 3 t) p = row (rL V c) (at0 t p) := by
  funext q; unfold row; blk_point [iblk0, idx0 t, at0]
theorem rwa_0 : glued (show FVec Ideal S4x512x256 .bf16 from iblk0 V c 4 t) = glued (rWa V c) := by
  funext k q; unfold glued; blk_point [iblk0, idx0 t]
theorem rwc_0 : glued (show FVec Ideal S4x512x256 .bf16 from iblk0 V c 5 t) = glued (rWc V c) := by
  funext k q; unfold glued; blk_point [iblk0, idx0 t]
theorem rb_0 : row (show FVec Ideal S1x1024 .f32 from iblk0 V c 6 t) 0 = row (rB V c) 0 := by
  funext q; unfold row; blk_point [iblk0, idx0 t]
theorem rwo_0 : row (show FVec Ideal S1024x1024 .bf16 from iblk0 V c 7 t) = row (rWo V c) := by
  funext k q; unfold row; blk_point [iblk0, idx0 t]

/-- What the body leaves in its four blocks. -/
theorem o9_0 (q : Fin 1024) : (show FVec Ideal S512x1024 .bf16 from (dat0 V c).after 9 t) (ix2 p q) = fA V c (at0 t p) q := by
  rw [after0_9]; unfold_out out0_9; frame_out; refine (pay9_at _ _ p q).trans ?_; rw [ro_0, rwa_0]; rfl
theorem o10_0 (q : Fin 1024) : (show FVec Ideal S512x1024 .bf16 from (dat0 V c).after 10 t) (ix2 p q) = fC V c (at0 t p) q := by
  rw [after0_10]; unfold_out out0_10; frame_out; refine (pay10_at _ _ _ p q).trans ?_; rw [rc_0, rwc_0, rb_0]; rfl
theorem o11_0 (q : Fin 1024) : (show FVec Ideal S512x1024 .bf16 from (dat0 V c).after 11 t) (ix2 p q) = fM V c (at0 t p) q := by
  rw [after0_11]; unfold_out out0_11; frame_out; refine (pay8_at _ _ _ _ _ _ p q).trans ?_; rw [rl_0, ro_0, rwa_0, rc_0, rwc_0, rb_0]; rfl
theorem o12_0 (q : Fin 1024) : (show FVec Ideal S512x1024 .f32 from (dat0 V c).after 12 t) (ix2 p q) = fX V c (at0 t p) q := by
  rw [after0_12]; unfold_out out0_12; frame_out; refine (pay1_at _ _ _ _ _ _ _ _ p q).trans ?_; rw [rx_0, rl_0, ro_0, rwa_0, rc_0, rwc_0, rb_0, rwo_0]; rfl

theorem emb9_0 (q : Fin 1024) : ((cfg0.win 9).blk t).view.emb (ix2 p q) = (ix2 (at0 t p) q : S2048x1024.Idx) := by
  blk_ext [idx0 t, at0]
theorem emb10_0 (q : Fin 1024) : ((cfg0.win 10).blk t).view.emb (ix2 p q) = (ix2 (at0 t p) q : S2048x1024.Idx) := by
  blk_ext [idx0 t, at0]
theorem emb11_0 (q : Fin 1024) : ((cfg0.win 11).blk t).view.emb (ix2 p q) = (ix2 (at0 t p) q : S2048x1024.Idx) := by
  blk_ext [idx0 t, at0]
theorem emb12_0 (q : Fin 1024) : ((cfg0.win 12).blk t).view.emb (ix2 p q) = (ix2 (at0 t p) q : S2048x1024.Idx) := by
  blk_ext [idx0 t, at0]

/-- The four arrays, on the rows the call writes: the first branch, -/
theorem final9_0 (q : Fin 1024) : (dat0 V c).arrAt 9 cfg0.N (ix2 (at0 t p) q : S2048x1024.Idx) = fA V c (at0 t p) q := by
  refine (dat0 V c).arrAt_apply_of_mem 9 (fun j : S2048x1024.Idx => fA V c (j 0) (j 1)) (fun t _ => ?_) cfg0.N t _ t.isLt
    (flush0_9 t) (by rw [← emb9_0]; exact View.emb_mem_set _ _)
  funext y
  blk_simp
  idx_vars y
  refine (o9_0 V c t y0 y1).trans ?_
  exact (congrArg (fun j : S2048x1024.Idx => fA V c (j 0) (j 1)) (emb9_0 t y0 y1)).symm

/-- the second, -/
theorem final10_0 (q : Fin 1024) : (dat0 V c).arrAt 10 cfg0.N (ix2 (at0 t p) q : S2048x1024.Idx) = fC V c (at0 t p) q := by
  refine (dat0 V c).arrAt_apply_of_mem 10 (fun j : S2048x1024.Idx => fC V c (j 0) (j 1)) (fun t _ => ?_) cfg0.N t _ t.isLt
    (flush0_10 t) (by rw [← emb10_0]; exact View.emb_mem_set _ _)
  funext y
  blk_simp
  idx_vars y
  refine (o10_0 V c t y0 y1).trans ?_
  exact (congrArg (fun j : S2048x1024.Idx => fC V c (j 0) (j 1)) (emb10_0 t y0 y1)).symm

/-- their weighted sum, -/
theorem final11_0 (q : Fin 1024) : (dat0 V c).arrAt 11 cfg0.N (ix2 (at0 t p) q : S2048x1024.Idx) = fM V c (at0 t p) q := by
  refine (dat0 V c).arrAt_apply_of_mem 11 (fun j : S2048x1024.Idx => fM V c (j 0) (j 1)) (fun t _ => ?_) cfg0.N t _ t.isLt
    (flush0_11 t) (by rw [← emb11_0]; exact View.emb_mem_set _ _)
  funext y
  blk_simp
  idx_vars y
  refine (o11_0 V c t y0 y1).trans ?_
  exact (congrArg (fun j : S2048x1024.Idx => fM V c (j 0) (j 1)) (emb11_0 t y0 y1)).symm

/-- and the stream after it. -/
theorem final12_0 (q : Fin 1024) : (dat0 V c).arrAt 12 cfg0.N (ix2 (at0 t p) q : S2048x1024.Idx) = fX V c (at0 t p) q := by
  refine (dat0 V c).arrAt_apply_of_mem 12 (fun j : S2048x1024.Idx => fX V c (j 0) (j 1)) (fun t _ => ?_) cfg0.N t _ t.isLt
    (flush0_12 t) (by rw [← emb12_0]; exact View.emb_mem_set _ _)
  funext y
  blk_simp
  idx_vars y
  refine (o12_0 V c t y0 y1).trans ?_
  exact (congrArg (fun j : S2048x1024.Idx => fX V c (j 0) (j 1)) (emb12_0 t y0 y1)).symm

end First

end Cert.Mix
end
-- ==== Proof.MixForwardSecond.lean ====
module

public import proofs.«01_k».proof.Proof.MixForwardFirst
public import proofs.«01_k».proof.Proof.Gen.Kernel5Ideal.Frame.Region1
public import Idealize.ShloMosaic.Lib.Pipeline.ValueKit

/-! The four arrays the second forward call leaves: the lower half of every array it writes, the upper half it keeps. -/

@[expose] public section

set_option maxRecDepth 16384

noncomputable section

open Idealize.ShloMosaic Idealize.ShloMosaic.TcCoe
open Idealize.ShloMosaic.Pipeline (Dat)

namespace Cert.Mix

open Cert.Kernel5Ideal Cert.Kernel5Ideal.Gen

variable (V : (c : Dev nD) → (b : Ref sig .tc) → Buf (Elt Ideal) ((c : Thread nD τ).loc b)) (c : Dev nD)

/-- The two bodies compute the same. -/
theorem same1 : @k1_pay1 Ideal _ = @k0_pay1 Ideal _ := rfl
theorem same2 : @k1_pay2 Ideal = @k0_pay2 Ideal := rfl
theorem same3 : @k1_pay3 Ideal _ = @k0_pay3 Ideal _ := rfl
theorem same4 : @k1_pay4 Ideal _ = @k0_pay4 Ideal _ := rfl
theorem same5 : @k1_pay5 Ideal _ = @k0_pay5 Ideal _ := rfl
theorem same6 : @k1_pay6 Ideal _ = @k0_pay6 Ideal _ := rfl
theorem same8 : @k1_pay8 Ideal _ = @k0_pay8 Ideal _ := rfl
theorem same9 : @k1_pay9 Ideal _ = @k0_pay9 Ideal _ := rfl
theorem same10 : @k1_pay10 Ideal _ = @k0_pay10 Ideal _ := rfl

section Second

theorem idx1 : ∀ t : Fin cfg1.N, win1_0.index t = ![t.val + 2, 0] ∧ win1_1.index t = ![t.val + 2, 0] ∧ win1_2.index t = ![t.val + 2, 0]
    ∧ win1_3.index t = ![t.val + 2, 0] ∧ win1_4.index t = ![0, 0, 0] ∧ win1_5.index t = ![0, 0, 0] ∧ win1_6.index t = ![0, 0]
    ∧ win1_7.index t = ![0, 0] ∧ win1_9.index t = ![t.val + 2, 0] ∧ win1_10.index t = ![t.val + 2, 0]
    ∧ win1_11.index t = ![t.val + 2, 0] ∧ win1_12.index t = ![t.val + 2, 0] :=
  (by decide +kernel : ∀ t : Fin grid1.N, _)

theorem lt1 (t : Fin cfg1.N) : t.val < 2 := lt_of_lt_of_eq t.isLt N_1

/-- Row `p` of the block at grid point `t` is row `512 (t + 2) + p` of the array. -/
def at1 (t : Fin cfg1.N) (p : Fin 512) : Fin 2048 := ⟨(t.val + 2) * 512 + p.val, by have := lt1 t; omega⟩

variable (t : Fin cfg1.N) (p : Fin 512)

theorem rx_1 : row (show FVec Ideal S512x1024 .f32 from iblk1 V c 0 t) p = row (rX V c) (at1 t p) := by
  funext q; unfold row; blk_point [iblk1, idx1 t, at1]
theorem ro_1 : row (show FVec Ideal S512x512 .bf16 from iblk1 V c 1 t) p = row (rO V c) (at1 t p) := by
  funext q; unfold row; blk_point [iblk1, idx1 t, at1]
theorem rc_1 : row (show FVec Ideal S512x512 .bf16 from iblk1 V c 2 t) p = row (rC V c) (at1 t p) := by
  funext q; unfold row; blk_point [iblk1, idx1 t, at1]
theorem rl_1 : row (show FVec Ideal S512x2048 .bf16 from iblk1 V c 3 t) p = row (rL V c) (at1 t p) := by
  funext q; unfold row; blk_point [iblk1, idx1 t, at1]
theorem rwa_1 : glued (show FVec Ideal S4x512x256 .bf16 from iblk1 V c 4 t) = glued (rWa V c) := by
  funext k q; unfold glued; blk_point [iblk1, idx1 t]
theorem rwc_1 : glued (show FVec Ideal S4x512x256 .bf16 from iblk1 V c 5 t) = glued (rWc V c) := by
  funext k q; unfold glued; blk_point [iblk1, idx1 t]
theorem rb_1 : row (show FVec Ideal S1x1024 .f32 from iblk1 V c 6 t) 0 = row (rB V c) 0 := by
  funext q; unfold row; blk_point [iblk1, idx1 t]
theorem rwo_1 : row (show FVec Ideal S1024x1024 .bf16 from iblk1 V c 7 t) = row (rWo V c) := by
  funext k q; unfold row; blk_point [iblk1, idx1 t]

/-- What the body leaves in its four blocks. -/
theorem o9_1 (q : Fin 1024) : (show FVec Ideal S512x1024 .bf16 from (dat1 V c).after 9 t) (ix2 p q) = fA V c (at1 t p) q := by
  rw [after1_9]; unfold outsAt1; dsimp only; frame_out
  rw [same9, same3]
  refine (pay9_at (iblk1 V c 1 t) (iblk1 V c 4 t) p q).trans ?_
  rw [ro_1, rwa_1]; rfl
theorem o10_1 (q : Fin 1024) : (show FVec Ideal S512x1024 .bf16 from (dat1 V c).after 10 t) (ix2 p q) = fC V c (at1 t p) q := by
  rw [after1_10]; unfold outsAt1; dsimp only; frame_out
  rw [same10, same2, same4, same5, same6]
  refine (pay10_at (iblk1 V c 2 t) (iblk1 V c 5 t) (iblk1 V c 6 t) p q).trans ?_
  rw [rc_1, rwc_1, rb_1]; rfl
theorem o11_1 (q : Fin 1024) : (show FVec Ideal S512x1024 .bf16 from (dat1 V c).after 11 t) (ix2 p q) = fM V c (at1 t p) q := by
  rw [after1_11]; unfold outsAt1; dsimp only; frame_out
  rw [same8, same2, same3, same4, same5, same6]
  refine (pay8_at (iblk1 V c 1 t) (iblk1 V c 2 t) (iblk1 V c 3 t) (iblk1 V c 4 t) (iblk1 V c 5 t) (iblk1 V c 6 t) p q).trans ?_
  rw [rl_1, ro_1, rwa_1, rc_1, rwc_1, rb_1]; rfl
theorem o12_1 (q : Fin 1024) : (show FVec Ideal S512x1024 .f32 from (dat1 V c).after 12 t) (ix2 p q) = fX V c (at1 t p) q := by
  rw [after1_12]; unfold outsAt1; dsimp only; frame_out
  rw [same1, same8, same2, same3, same4, same5, same6]
  refine (pay1_at (iblk1 V c 0 t) (iblk1 V c 1 t) (iblk1 V c 2 t) (iblk1 V c 3 t) (iblk1 V c 4 t) (iblk1 V c 5 t) (iblk1 V c 6 t)
    (iblk1 V c 7 t) p q).trans ?_
  rw [rx_1, rl_1, ro_1, rwa_1, rc_1, rwc_1, rb_1, rwo_1]; rfl

theorem emb9_1 (q : Fin 1024) : ((cfg1.win 9).blk t).view.emb (ix2 p q) = (ix2 (at1 t p) q : S2048x1024.Idx) := by
  blk_ext [idx1 t, at1]
theorem emb10_1 (q : Fin 1024) : ((cfg1.win 10).blk t).view.emb (ix2 p q) = (ix2 (at1 t p) q : S2048x1024.Idx) := by
  blk_ext [idx1 t, at1]
theorem emb11_1 (q : Fin 1024) : ((cfg1.win 11).blk t).view.emb (ix2 p q) = (ix2 (at1 t p) q : S2048x1024.Idx) := by
  blk_ext [idx1 t, at1]
theorem emb12_1 (q : Fin 1024) : ((cfg1.win 12).blk t).view.emb (ix2 p q) = (ix2 (at1 t p) q : S2048x1024.Idx) := by
  blk_ext [idx1 t, at1]

/-- The four arrays, on the rows the call writes: the first branch, -/
theorem final9_1 (q : Fin 1024) : (dat1 V c).arrAt 9 cfg1.N (ix2 (at1 t p) q : S2048x1024.Idx) = fA V c (at1 t p) q := by
  refine (dat1 V c).arrAt_apply_of_mem 9 (fun j : S2048x1024.Idx => fA V c (j 0) (j 1)) (fun t _ => ?_) cfg1.N t _ t.isLt
    (flush1_9 t) (by rw [← emb9_1]; exact View.emb_mem_set _ _)
  funext y
  blk_simp
  idx_vars y
  refine (o9_1 V c t y0 y1).trans ?_
  exact (congrArg (fun j : S2048x1024.Idx => fA V c (j 0) (j 1)) (emb9_1 t y0 y1)).symm

/-- the second, -/
theorem final10_1 (q : Fin 1024) : (dat1 V c).arrAt 10 cfg1.N (ix2 (at1 t p) q : S2048x1024.Idx) = fC V c (at1 t p) q := by
  refine (dat1 V c).arrAt_apply_of_mem 10 (fun j : S2048x1024.Idx => fC V c (j 0) (j 1)) (fun t _ => ?_) cfg1.N t _ t.isLt
    (flush1_10 t) (by rw [← emb10_1]; exact View.emb_mem_set _ _)
  funext y
  blk_simp
  idx_vars y
  refine (o10_1 V c t y0 y1).trans ?_
  exact (congrArg (fun j : S2048x1024.Idx => fC V c (j 0) (j 1)) (emb10_1 t y0 y1)).symm

/-- their weighted sum, -/
theorem final11_1 (q : Fin 1024) : (dat1 V c).arrAt 11 cfg1.N (ix2 (at1 t p) q : S2048x1024.Idx) = fM V c (at1 t p) q := by
  refine (dat1 V c).arrAt_apply_of_mem 11 (fun j : S2048x1024.Idx => fM V c (j 0) (j 1)) (fun t _ => ?_) cfg1.N t _ t.isLt
    (flush1_11 t) (by rw [← emb11_1]; exact View.emb_mem_set _ _)
  funext y
  blk_simp
  idx_vars y
  refine (o11_1 V c t y0 y1).trans ?_
  exact (congrArg (fun j : S2048x1024.Idx => fM V c (j 0) (j 1)) (emb11_1 t y0 y1)).symm

/-- and the stream after it. -/
theorem final12_1 (q : Fin 1024) : (dat1 V c).arrAt 12 cfg1.N (ix2 (at1 t p) q : S2048x1024.Idx) = fX V c (at1 t p) q := by
  refine (dat1 V c).arrAt_apply_of_mem 12 (fun j : S2048x1024.Idx => fX V c (j 0) (j 1)) (fun t _ => ?_) cfg1.N t _ t.isLt
    (flush1_12 t) (by rw [← emb12_1]; exact View.emb_mem_set _ _)
  funext y
  blk_simp
  idx_vars y
  refine (o12_1 V c t y0 y1).trans ?_
  exact (congrArg (fun j : S2048x1024.Idx => fX V c (j 0) (j 1)) (emb12_1 t y0 y1)).symm

/-- The rows above are left as they were. -/
theorem keep9 (i : Fin 2048) (hi : i.val < 1024) (q : Fin 1024) :
    (dat1 V c).arrAt 9 cfg1.N (ix2 i q : S2048x1024.Idx) = (V c main_v12_0 : FVec Ideal S2048x1024 .bf16) (ix2 i q) := by
  refine (dat1 V c).arrAt_apply_of_forall_not_mem 9 cfg1.N _ fun t _ _ h => ?_
  obtain ⟨y, -, hy⟩ := Finset.mem_map.mp h
  idx_vars y
  have := congrArg (fun j : S2048x1024.Idx => (j 0).val) ((emb9_1 t y0 y1).symm.trans hy)
  exact absurd this (by dsimp [at1]; omega)
theorem keep10 (i : Fin 2048) (hi : i.val < 1024) (q : Fin 1024) :
    (dat1 V c).arrAt 10 cfg1.N (ix2 i q : S2048x1024.Idx) = (V c main_v12_1 : FVec Ideal S2048x1024 .bf16) (ix2 i q) := by
  refine (dat1 V c).arrAt_apply_of_forall_not_mem 10 cfg1.N _ fun t _ _ h => ?_
  obtain ⟨y, -, hy⟩ := Finset.mem_map.mp h
  idx_vars y
  have := congrArg (fun j : S2048x1024.Idx => (j 0).val) ((emb10_1 t y0 y1).symm.trans hy)
  exact absurd this (by dsimp [at1]; omega)
theorem keep11 (i : Fin 2048) (hi : i.val < 1024) (q : Fin 1024) :
    (dat1 V c).arrAt 11 cfg1.N (ix2 i q : S2048x1024.Idx) = (V c main_v12_2 : FVec Ideal S2048x1024 .bf16) (ix2 i q) := by
  refine (dat1 V c).arrAt_apply_of_forall_not_mem 11 cfg1.N _ fun t _ _ h => ?_
  obtain ⟨y, -, hy⟩ := Finset.mem_map.mp h
  idx_vars y
  have := congrArg (fun j : S2048x1024.Idx => (j 0).val) ((emb11_1 t y0 y1).symm.trans hy)
  exact absurd this (by dsimp [at1]; omega)
theorem keep12 (i : Fin 2048) (hi : i.val < 1024) (q : Fin 1024) :
    (dat1 V c).arrAt 12 cfg1.N (ix2 i q : S2048x1024.Idx) = (V c main_v12_3 : FVec Ideal S2048x1024 .f32) (ix2 i q) := by
  refine (dat1 V c).arrAt_apply_of_forall_not_mem 12 cfg1.N _ fun t _ _ h => ?_
  obtain ⟨y, -, hy⟩ := Finset.mem_map.mp h
  idx_vars y
  have := congrArg (fun j : S2048x1024.Idx => (j 0).val) ((emb12_1 t y0 y1).symm.trans hy)
  exact absurd this (by dsimp [at1]; omega)

end Second

end Cert.Mix
end
-- ==== Proof.MixBackward.lean ====
module

public import proofs.«01_k».proof.Proof.MixForwardFirst
public import proofs.«01_k».proof.Proof.Gen.Kernel5Ideal.Frame.Region2
public import Idealize.ShloMosaic.Lib.Pipeline.ReadBack

/-! The six arrays the backward call leaves. -/

@[expose] public section

set_option maxRecDepth 16384

noncomputable section

open Idealize.ShloMosaic Idealize.ShloMosaic.TcCoe
open Idealize.ShloMosaic.Pipeline (Dat)

namespace Cert.Mix

open Cert.Kernel5Ideal Cert.Kernel5Ideal.Gen

variable (V : (c : Dev nD) → (b : Ref sig .tc) → Buf (Elt Ideal) ((c : Thread nD τ).loc b)) (c : Dev nD)

/-- What the call reads besides: the cotangent and the two branches the forward calls left. -/
abbrev rD : FVec Ideal S2048x1024 .bf16 := V c main_v13
abbrev rYa : FVec Ideal S2048x1024 .bf16 := V c main_v12_0
abbrev rYc : FVec Ideal S2048x1024 .bf16 := V c main_v12_1

/-- A row of each of its results. -/
def bM (i : Fin 2048) : Fin 1024 → EReal := dmerged (row (rD V c) i) (row (rWo V c))
def bA (i : Fin 2048) : Fin 1024 → EReal := dfst (row (rL V c) i) (bM V c i)
def bC (i : Fin 2048) : Fin 1024 → EReal := dsnd (row (rL V c) i) (bM V c i)
def bL (i : Fin 2048) : Fin 2048 → EReal := dlogits (row (rL V c) i) (bM V c i) (row (rYa V c) i) (row (rYc V c) i)
def bO (i : Fin 2048) : Fin 512 → EReal := dbranch (bA V c i) (glued (rWa V c))
def bU (i : Fin 2048) : Fin 512 → EReal := dbranch (bC V c i) (glued (rWc V c))

theorem idx2 : ∀ t : Fin cfg2.N, win2_0.index t = ![t.val, 0] ∧ win2_1.index t = ![t.val, 0] ∧ win2_2.index t = ![t.val, 0]
    ∧ win2_3.index t = ![t.val, 0] ∧ win2_4.index t = ![0, 0] ∧ win2_5.index t = ![0, 0, 0] ∧ win2_6.index t = ![0, 0, 0]
    ∧ win2_8.index t = ![t.val, 0] ∧ win2_9.index t = ![t.val, 0] ∧ win2_10.index t = ![t.val, 0]
    ∧ win2_11.index t = ![t.val, 0] ∧ win2_12.index t = ![t.val, 0] :=
  (by decide +kernel : ∀ t : Fin grid2.N, _)

variable (t : Fin cfg2.N) (p : Fin 512)

/-- Row `p` of the block at grid point `t` is row `512 t + p` of the array. -/
abbrev at2 : Fin 2048 := ⟨t.val * 512 + p.val, by have := lt_of_lt_of_eq t.isLt N_2; omega⟩

theorem rd_2 : row (show FVec Ideal S512x1024 .bf16 from iblk2 V c 0 t) p = row (rD V c) (at2 t p) := by
  funext q; unfold row; blk_point [iblk2, idx2 t]
theorem rl_2 : row (show FVec Ideal S512x2048 .bf16 from iblk2 V c 1 t) p = row (rL V c) (at2 t p) := by
  funext q; unfold row; blk_point [iblk2, idx2 t]
theorem rya_2 : row (show FVec Ideal S512x1024 .bf16 from iblk2 V c 2 t) p = row (rYa V c) (at2 t p) := by
  funext q; unfold row; blk_point [iblk2, idx2 t]
theorem ryc_2 : row (show FVec Ideal S512x1024 .bf16 from iblk2 V c 3 t) p = row (rYc V c) (at2 t p) := by
  funext q; unfold row; blk_point [iblk2, idx2 t]
theorem rwo_2 : row (show FVec Ideal S1024x1024 .bf16 from iblk2 V c 4 t) = row (rWo V c) := by
  funext k q; unfold row; blk_point [iblk2, idx2 t]
theorem rwa_2 : glued (show FVec Ideal S4x512x256 .bf16 from iblk2 V c 5 t) = glued (rWa V c) := by
  funext k q; unfold glued; blk_point [iblk2, idx2 t]
theorem rwc_2 : glued (show FVec Ideal S4x512x256 .bf16 from iblk2 V c 6 t) = glued (rWc V c) := by
  funext k q; unfold glued; blk_point [iblk2, idx2 t]

/-- The two branches' gradients as the body holds them. -/
abbrev hA : FVec Ideal S512x1024 .f32 :=
  k2_pay6 (iblk2 V c 0 t) (iblk2 V c 4 t) (View.ld (iblk2 V c 1 t) (Rect.unit ![0, 0] ![512, 1024] inb_S512x2048_S512x1024_0_0))
abbrev hC : FVec Ideal S512x1024 .f32 :=
  k2_pay7 (iblk2 V c 0 t) (iblk2 V c 4 t) (View.ld (iblk2 V c 1 t) (Rect.unit ![0, 1024] ![512, 1024] inb_S512x2048_S512x1024_0_1024))

theorem hA_at (q : Fin 1024) : hA V c t (ix2 p q) = bA V c (at2 t p) q := by
  refine (bpay6_at (iblk2 V c 0 t) (iblk2 V c 1 t) (iblk2 V c 4 t) p q).trans ?_
  rw [rl_2, rd_2, rwo_2]; rfl
theorem hC_at (q : Fin 1024) : hC V c t (ix2 p q) = bC V c (at2 t p) q := by
  refine (bpay7_at (iblk2 V c 0 t) (iblk2 V c 1 t) (iblk2 V c 4 t) p q).trans ?_
  rw [rl_2, rd_2, rwo_2]; rfl
theorem hA_row : row (hA V c t) p = bA V c (at2 t p) := funext (hA_at V c t p)
theorem hC_row : row (hC V c t) p = bC V c (at2 t p) := funext (hC_at V c t p)

/-- The logits' gradient as the body holds it, from its two stores. -/
theorem hL_at (k : Fin 2048) :
    View.canon (Val := Elt Ideal) (s := S512x2048) (e := .bf16) [⟨Rect.unit ![0, 1024] ![512, 1024] inb_S512x2048_S512x1024_0_1024, k2_pay9 (k2_pay3 (iblk2 V c 3 t))
          (k2_pay5 (View.ld (iblk2 V c 1 t) (Rect.unit ![0, 1024] ![512, 1024] inb_S512x2048_S512x1024_0_1024))) (hC V c t)⟩,
        ⟨Rect.unit ![0, 0] ![512, 1024] inb_S512x2048_S512x1024_0_0, k2_pay8 (iblk2 V c 0 t) (iblk2 V c 4 t) (iblk2 V c 2 t)
          (View.ld (iblk2 V c 1 t) (Rect.unit ![0, 0] ![512, 1024] inb_S512x2048_S512x1024_0_0))⟩] (ix2 p k)
      = bL V c (at2 t p) k := by
  refine (halves_at _ _ (ix2 p k)).trans ?_
  unfold bL dlogits
  by_cases h : k.val < 1024
  · rw [halves_pos _ _ p k h, dif_pos h]
    refine (bpay8_at (iblk2 V c 0 t) (iblk2 V c 1 t) (iblk2 V c 2 t) (iblk2 V c 4 t) p _).trans ?_
    rw [rl_2, rd_2, rwo_2, ← rya_2]; rfl
  · rw [halves_neg _ _ p k (not_lt.mp h), dif_neg h]
    refine (bpay9_at (iblk2 V c 0 t) (iblk2 V c 1 t) (iblk2 V c 3 t) (iblk2 V c 4 t) p _).trans ?_
    rw [rl_2, rd_2, rwo_2, ← ryc_2]
    have hk : snd (row (rL V c) (at2 t p)) ⟨k.val - 1024, by omega⟩ = gate (row (rL V c) (at2 t p) k) :=
      congrArg (fun i => gate (row (rL V c) (at2 t p) i)) (Fin.ext (by dsimp; omega))
    rw [hk]; rfl

/-- What the body leaves in its blocks: the gradients of the two branches, -/
theorem o8 (q : Fin 1024) : (show FVec Ideal S512x1024 .bf16 from (dat2 V c).after 8 t) (ix2 p q) = bA V c (at2 t p) q := by
  rw [after2_8]
  by_cases h : t.val % 4 = 0
  · rw [outsAt2_A V c t h]; dsimp only; frame_out
    exact (bpay10_at (hA V c t) p q).trans (hA_at V c t p q)
  · rw [outsAt2_B V c t h]; dsimp only; frame_out
    exact (bpay10_at (hA V c t) p q).trans (hA_at V c t p q)

theorem o9 (q : Fin 1024) : (show FVec Ideal S512x1024 .bf16 from (dat2 V c).after 9 t) (ix2 p q) = bC V c (at2 t p) q := by
  rw [after2_9]
  by_cases h : t.val % 4 = 0
  · rw [outsAt2_A V c t h]; dsimp only; frame_out
    exact (bpay11_at (hC V c t) p q).trans (hC_at V c t p q)
  · rw [outsAt2_B V c t h]; dsimp only; frame_out
    exact (bpay11_at (hC V c t) p q).trans (hC_at V c t p q)

/-- of the logits, -/
theorem o10 (k : Fin 2048) : (show FVec Ideal S512x2048 .bf16 from (dat2 V c).after 10 t) (ix2 p k) = bL V c (at2 t p) k := by
  rw [after2_10]
  by_cases h : t.val % 4 = 0
  · rw [outsAt2_A V c t h]; dsimp only; frame_out
    exact hL_at V c t p k
  · rw [outsAt2_B V c t h]; dsimp only; frame_out
    exact hL_at V c t p k

/-- of what the two branches' products take, -/
theorem o11 (k : Fin 512) : (show FVec Ideal S512x512 .bf16 from (dat2 V c).after 11 t) (ix2 p k) = bO V c (at2 t p) k := by
  rw [after2_11]
  by_cases h : t.val % 4 = 0
  · rw [outsAt2_A V c t h]; dsimp only; frame_out
    refine (bpay16_at (iblk2 V c 5 t) (hA V c t) p k).trans ?_; rw [hA_row, rwa_2]; rfl
  · rw [outsAt2_B V c t h]; dsimp only; frame_out
    refine (bpay16_at (iblk2 V c 5 t) (hA V c t) p k).trans ?_; rw [hA_row, rwa_2]; rfl

theorem o12 (k : Fin 512) : (show FVec Ideal S512x512 .bf16 from (dat2 V c).after 12 t) (ix2 p k) = bU V c (at2 t p) k := by
  rw [after2_12]
  by_cases h : t.val % 4 = 0
  · rw [outsAt2_A V c t h]; dsimp only; frame_out
    refine (bpay17_at (iblk2 V c 6 t) (hC V c t) p k).trans ?_; rw [hC_row, rwc_2]; rfl
  · rw [outsAt2_B V c t h]; dsimp only; frame_out
    refine (bpay17_at (iblk2 V c 6 t) (hC V c t) p k).trans ?_; rw [hC_row, rwc_2]; rfl

/-- and of the bias, gathered over the grid. -/
theorem o13_A (h : t.val % 4 = 0) (j : S1x1024.Idx) : (outsAt2 V c t.val t.isLt).2.2.2.2.2 j
    = 0 + ∑ p : Fin 512, bC V c (at2 t p) (j 1) := by
  rw [outsAt2_A V c t h]; dsimp only; frame_out
  refine (bpay1_at (hC V c t) (k2_pay18 (F := Ideal)) j).trans ?_
  rw [bpay18_at]
  exact congrArg (0 + ·) (Finset.sum_congr rfl fun p _ => congrFun (hC_row V c t p) _)

theorem o13_B (h : ¬t.val % 4 = 0) (j : S1x1024.Idx) : (outsAt2 V c t.val t.isLt).2.2.2.2.2 j
    = (outsAt2 V c (t.val - 1) (Nat.lt_of_le_of_lt (Nat.sub_le _ _) t.isLt)).2.2.2.2.2 j
      + ∑ p : Fin 512, bC V c (at2 t p) (j 1) := by
  rw [outsAt2_B V c t h]; dsimp only; frame_out
  refine (bpay1_at (hC V c t) _ j).trans ?_
  exact congrArg (_ + ·) (Finset.sum_congr rfl fun p _ => congrFun (hC_row V c t p) _)

theorem emb8_2 (q : Fin 1024) : ((cfg2.win 8).blk t).view.emb (ix2 p q) = (ix2 (at2 t p) q : S2048x1024.Idx) := by
  blk_ext [idx2 t]
theorem emb9_2 (q : Fin 1024) : ((cfg2.win 9).blk t).view.emb (ix2 p q) = (ix2 (at2 t p) q : S2048x1024.Idx) := by
  blk_ext [idx2 t]
theorem emb10_2 (q : Fin 2048) : ((cfg2.win 10).blk t).view.emb (ix2 p q) = (ix2 (at2 t p) q : S2048x2048.Idx) := by
  blk_ext [idx2 t]
theorem emb11_2 (q : Fin 512) : ((cfg2.win 11).blk t).view.emb (ix2 p q) = (ix2 (at2 t p) q : S2048x512.Idx) := by
  blk_ext [idx2 t]
theorem emb12_2 (q : Fin 512) : ((cfg2.win 12).blk t).view.emb (ix2 p q) = (ix2 (at2 t p) q : S2048x512.Idx) := by
  blk_ext [idx2 t]

/-- The whole arrays: the gradients of the two branches, -/
theorem final8_2 : (dat2 V c).arrAt 8 cfg2.N = fun j : S2048x1024.Idx => bA V c (j 0) (j 1) := by
  refine (dat2 V c).arrAt_eq_of_covers 8 _ (by decide +kernel) fun t _ y => ?_
  blk_simp
  idx_vars y
  refine (o8 V c t y0 y1).trans ?_
  exact (congrArg (fun j : S2048x1024.Idx => bA V c (j 0) (j 1)) (emb8_2 t y0 y1)).symm

theorem final9_2 : (dat2 V c).arrAt 9 cfg2.N = fun j : S2048x1024.Idx => bC V c (j 0) (j 1) := by
  refine (dat2 V c).arrAt_eq_of_covers 9 _ (by decide +kernel) fun t _ y => ?_
  blk_simp
  idx_vars y
  refine (o9 V c t y0 y1).trans ?_
  exact (congrArg (fun j : S2048x1024.Idx => bC V c (j 0) (j 1)) (emb9_2 t y0 y1)).symm

/-- of the logits, -/
theorem final10_2 : (dat2 V c).arrAt 10 cfg2.N = fun j : S2048x2048.Idx => bL V c (j 0) (j 1) := by
  refine (dat2 V c).arrAt_eq_of_covers 10 _ (by decide +kernel) fun t _ y => ?_
  blk_simp
  idx_vars y
  refine (o10 V c t y0 y1).trans ?_
  exact (congrArg (fun j : S2048x2048.Idx => bL V c (j 0) (j 1)) (emb10_2 t y0 y1)).symm

/-- of what the two branches' products take, -/
theorem final11_2 : (dat2 V c).arrAt 11 cfg2.N = fun j : S2048x512.Idx => bO V c (j 0) (j 1) := by
  refine (dat2 V c).arrAt_eq_of_covers 11 _ (by decide +kernel) fun t _ y => ?_
  blk_simp
  idx_vars y
  refine (o11 V c t y0 y1).trans ?_
  exact (congrArg (fun j : S2048x512.Idx => bO V c (j 0) (j 1)) (emb11_2 t y0 y1)).symm

theorem final12_2 : (dat2 V c).arrAt 12 cfg2.N = fun j : S2048x512.Idx => bU V c (j 0) (j 1) := by
  refine (dat2 V c).arrAt_eq_of_covers 12 _ (by decide +kernel) fun t _ y => ?_
  blk_simp
  idx_vars y
  refine (o12 V c t y0 y1).trans ?_
  exact (congrArg (fun j : S2048x512.Idx => bU V c (j 0) (j 1)) (emb12_2 t y0 y1)).symm

/-- and of the bias. -/
theorem final13_2 : (dat2 V c).arrAt 13 cfg2.N = fun j : S1x1024.Idx => ∑ i, bC V c i (j 1) := by
  refine (dat2 V c).arrAt_eq_of_after_last 13 t2_3 (by decide +kernel) _ fun j => ?_
  blk_simp
  rw [after2_13, Pipeline.eq_sum_fin_of_reset_step_apply_last (fun n h => (outsAt2 V c n h).2.2.2.2.2) 4 (fun _ => 0) _
    (fun t h j => o13_A V c t h j) (fun t h j => o13_B V c t h j) (le_of_eq N_2) t2_3 rfl j, zero_add]
  exact Fin.sum_mul_add_congr fun s k hl => rfl

end Cert.Mix
end
-- ==== Proof.MixKernel.lean ====
module

public import proofs.«01_k».proof.Proof.MixForwardSecond
public import proofs.«01_k».proof.Proof.MixBackward
public import proofs.«01_k».proof.Proof.Gen.Kernel5Ideal.Frame.Fold0

/-! The mixing program's ten results, as functions of its arguments. -/

@[expose] public section

set_option maxRecDepth 16384

noncomputable section

open Idealize.ShloMosaic Idealize.ShloMosaic.TcCoe Idealize.ShloMosaic.Tactic

namespace Cert.Mix

open Cert.Kernel5Ideal Cert.Kernel5Ideal.Gen

variable (m : (ℓ : Loc nD τ sig) → Buf (Elt Ideal) ℓ) (ρ : Dev nD → PrngReg) (c : Dev nD)

/-- The arguments. -/
abbrev aX : FVec Ideal S2048x1024 .f32 := m ((c : Thread nD τ).loc main_arg0)
abbrev aO : FVec Ideal S2048x512 .f32 := m ((c : Thread nD τ).loc main_arg1)
abbrev aC : FVec Ideal S2048x512 .f32 := m ((c : Thread nD τ).loc main_arg2)
abbrev aL : FVec Ideal S2048x2048 .f32 := m ((c : Thread nD τ).loc main_arg3)
abbrev aWa : FVec Ideal S512x1024 .f32 := m ((c : Thread nD τ).loc main_arg4)
abbrev aWc : FVec Ideal S512x1024 .f32 := m ((c : Thread nD τ).loc main_arg5)
abbrev aB : FVec Ideal S1x1024 .f32 := m ((c : Thread nD τ).loc main_arg6)
abbrev aWo : FVec Ideal S1024x1024 .f32 := m ((c : Thread nD τ).loc main_arg7)
abbrev aD : FVec Ideal S2048x1024 .f32 := m ((c : Thread nD τ).loc main_arg8)

/-! What the first call finds. -/

theorem o_1 : rO (V1 m ρ) c = aO m c := by
  show StableHlo.after hostOps0 (W0 m ρ c) (Proc.devRef .tc main_v0) = _
  after_results
  rfl
theorem c_1 : rC (V1 m ρ) c = aC m c := by
  show StableHlo.after hostOps0 (W0 m ρ c) (Proc.devRef .tc main_v1) = _
  after_results
  rfl
theorem l_1 : rL (V1 m ρ) c = aL m c := by
  show StableHlo.after hostOps0 (W0 m ρ c) (Proc.devRef .tc main_v2) = _
  after_results
  rfl
theorem wo_1 : rWo (V1 m ρ) c = aWo m c := by
  show StableHlo.after hostOps0 (W0 m ρ c) (Proc.devRef .tc main_v9) = _
  after_results
  rfl
theorem x_1 : rX (V1 m ρ) c = aX m c := W1_args m ρ c main_arg0 (by simp)
theorem b_1 : rB (V1 m ρ) c = aB m c := W1_args m ρ c main_arg6 (by simp)
theorem wa_1 : glued (rWa (V1 m ρ) c) = row (aWa m c) := by
  funext k j
  unfold glued
  show StableHlo.after hostOps0 (W0 m ρ c) (Proc.devRef .tc main_v5) _ = _
  after_results
  pointwise [row]
  exact congrArg (fun j => aWa m c (ix2 k j)) (Fin.ext (Nat.div_add_mod' j.val 256))
theorem wc_1 : glued (rWc (V1 m ρ) c) = row (aWc m c) := by
  funext k j
  unfold glued
  show StableHlo.after hostOps0 (W0 m ρ c) (Proc.devRef .tc main_v8) _ = _
  after_results
  pointwise [row]
  exact congrArg (fun j => aWc m c (ix2 k j)) (Fin.ext (Nat.div_add_mod' j.val 256))

/-! The second call finds the same. -/

theorem x_3 : rX (V3 m ρ) c = aX m c :=
  (W3_of m ρ c main_arg0 (by decide)).trans ((W2_of m ρ c main_arg0 (by decide +kernel)).trans (x_1 m ρ c))
theorem o_3 : rO (V3 m ρ) c = aO m c :=
  (W3_of m ρ c main_v0 (by decide)).trans ((W2_of m ρ c main_v0 (by decide +kernel)).trans (o_1 m ρ c))
theorem c_3 : rC (V3 m ρ) c = aC m c :=
  (W3_of m ρ c main_v1 (by decide)).trans ((W2_of m ρ c main_v1 (by decide +kernel)).trans (c_1 m ρ c))
theorem l_3 : rL (V3 m ρ) c = aL m c :=
  (W3_of m ρ c main_v2 (by decide)).trans ((W2_of m ρ c main_v2 (by decide +kernel)).trans (l_1 m ρ c))
theorem b_3 : rB (V3 m ρ) c = aB m c :=
  (W3_of m ρ c main_arg6 (by decide)).trans ((W2_of m ρ c main_arg6 (by decide +kernel)).trans (b_1 m ρ c))
theorem wo_3 : rWo (V3 m ρ) c = aWo m c :=
  (W3_of m ρ c main_v9 (by decide)).trans ((W2_of m ρ c main_v9 (by decide +kernel)).trans (wo_1 m ρ c))
theorem wa_3 : glued (rWa (V3 m ρ) c) = row (aWa m c) :=
  (congrArg glued ((W3_of m ρ c main_v5 (by decide)).trans (W2_of m ρ c main_v5 (by decide +kernel)))).trans (wa_1 m ρ c)
theorem wc_3 : glued (rWc (V3 m ρ) c) = row (aWc m c) :=
  (congrArg glued ((W3_of m ρ c main_v8 (by decide)).trans (W2_of m ρ c main_v8 (by decide +kernel)))).trans (wc_1 m ρ c)

/-! A row of each of the first four arrays, from the arguments. -/

theorem fA_1 : fA (V1 m ρ) c = yA (aO m c) (aWa m c) := by
  unfold fA yA; rw [o_1, wa_1]
theorem fC_1 : fC (V1 m ρ) c = yC (aC m c) (aWc m c) (aB m c) := by
  unfold fC yC; rw [c_1, wc_1, b_1]
theorem fM_1 : fM (V1 m ρ) c = mg (aO m c) (aC m c) (aL m c) (aWa m c) (aWc m c) (aB m c) := by
  unfold fM mg; rw [l_1, fA_1, fC_1]
theorem fX_1 : fX (V1 m ρ) c = x1 (aX m c) (aO m c) (aC m c) (aL m c) (aWa m c) (aWc m c) (aB m c) (aWo m c) := by
  unfold fX x1; rw [x_1, fM_1, wo_1]
theorem fA_3 : fA (V3 m ρ) c = yA (aO m c) (aWa m c) := by
  unfold fA yA; rw [o_3, wa_3]
theorem fC_3 : fC (V3 m ρ) c = yC (aC m c) (aWc m c) (aB m c) := by
  unfold fC yC; rw [c_3, wc_3, b_3]
theorem fM_3 : fM (V3 m ρ) c = mg (aO m c) (aC m c) (aL m c) (aWa m c) (aWc m c) (aB m c) := by
  unfold fM mg; rw [l_3, fA_3, fC_3]
theorem fX_3 : fX (V3 m ρ) c = x1 (aX m c) (aO m c) (aC m c) (aL m c) (aWa m c) (aWc m c) (aB m c) (aWo m c) := by
  unfold fX x1; rw [x_3, fM_3, wo_3]

/-- A row of the upper half is in one of the first call's two blocks, -/
theorem upper (i : Fin 2048) (h : i.val < 1024) : ∃ t p, i = at0 t p :=
  ⟨⟨i.val / 512, by show _ < grid0.N; rw [N_0]; omega⟩, ⟨i.val % 512, by omega⟩, Fin.ext (by unfold at0; dsimp only; omega)⟩

/-- and one of the lower half in one of the second's. -/
theorem lower (i : Fin 2048) (h : ¬i.val < 1024) : ∃ t p, i = at1 t p :=
  ⟨⟨i.val / 512 - 2, by show _ < grid1.N; rw [N_1]; omega⟩, ⟨i.val % 512, by omega⟩,
    Fin.ext (by unfold at1; dsimp only; omega)⟩

/-! After both calls the first four arrays are whole. -/

theorem ya_4 : W4 m ρ c (Proc.devRef .tc main_v12_0) = fun j : S2048x1024.Idx => yA (aO m c) (aWa m c) (j 0) (j 1) := by
  funext j
  idx_vars j
  refine (congrFun (W4_arr m ρ c 9) _).trans ?_
  by_cases h : j0.val < 1024
  · refine (keep9 (V3 m ρ) c j0 h j1).trans ?_
    refine Eq.trans (b := W2 m ρ c (Proc.devRef .tc main_v11_0) (ix2 j0 j1 : S2048x1024.Idx)) ?_ ?_
    · show StableHlo.after hostOps1 (W2 m ρ c) (Proc.devRef .tc main_v12_0) _ = _
      after_results
      rfl
    · obtain ⟨t, p, rfl⟩ := upper j0 h
      exact (congrFun (W2_arr m ρ c 9) _).trans ((final9_0 (V1 m ρ) c t p j1).trans (by rw [fA_1]))
  · obtain ⟨t, p, rfl⟩ := lower j0 h
    exact (final9_1 (V3 m ρ) c t p j1).trans (by rw [fA_3])
theorem yc_4 : W4 m ρ c (Proc.devRef .tc main_v12_1) = fun j : S2048x1024.Idx => yC (aC m c) (aWc m c) (aB m c) (j 0) (j 1) := by
  funext j
  idx_vars j
  refine (congrFun (W4_arr m ρ c 10) _).trans ?_
  by_cases h : j0.val < 1024
  · refine (keep10 (V3 m ρ) c j0 h j1).trans ?_
    refine Eq.trans (b := W2 m ρ c (Proc.devRef .tc main_v11_1) (ix2 j0 j1 : S2048x1024.Idx)) ?_ ?_
    · show StableHlo.after hostOps1 (W2 m ρ c) (Proc.devRef .tc main_v12_1) _ = _
      after_results
      rfl
    · obtain ⟨t, p, rfl⟩ := upper j0 h
      exact (congrFun (W2_arr m ρ c 10) _).trans ((final10_0 (V1 m ρ) c t p j1).trans (by rw [fC_1]))
  · obtain ⟨t, p, rfl⟩ := lower j0 h
    exact (final10_1 (V3 m ρ) c t p j1).trans (by rw [fC_3])
theorem mg_4 : W4 m ρ c (Proc.devRef .tc main_v12_2) = fun j : S2048x1024.Idx => mg (aO m c) (aC m c) (aL m c) (aWa m c) (aWc m c) (aB m c) (j 0) (j 1) := by
  funext j
  idx_vars j
  refine (congrFun (W4_arr m ρ c 11) _).trans ?_
  by_cases h : j0.val < 1024
  · refine (keep11 (V3 m ρ) c j0 h j1).trans ?_
    refine Eq.trans (b := W2 m ρ c (Proc.devRef .tc main_v11_2) (ix2 j0 j1 : S2048x1024.Idx)) ?_ ?_
    · show StableHlo.after hostOps1 (W2 m ρ c) (Proc.devRef .tc main_v12_2) _ = _
      after_results
      rfl
    · obtain ⟨t, p, rfl⟩ := upper j0 h
      exact (congrFun (W2_arr m ρ c 11) _).trans ((final11_0 (V1 m ρ) c t p j1).trans (by rw [fM_1]))
  · obtain ⟨t, p, rfl⟩ := lower j0 h
    exact (final11_1 (V3 m ρ) c t p j1).trans (by rw [fM_3])
theorem x1_4 : W4 m ρ c (Proc.devRef .tc main_v12_3) = fun j : S2048x1024.Idx => x1 (aX m c) (aO m c) (aC m c) (aL m c) (aWa m c) (aWc m c) (aB m c) (aWo m c) (j 0) (j 1) := by
  funext j
  idx_vars j
  refine (congrFun (W4_arr m ρ c 12) _).trans ?_
  by_cases h : j0.val < 1024
  · refine (keep12 (V3 m ρ) c j0 h j1).trans ?_
    refine Eq.trans (b := W2 m ρ c (Proc.devRef .tc main_v11_3) (ix2 j0 j1 : S2048x1024.Idx)) ?_ ?_
    · show StableHlo.after hostOps1 (W2 m ρ c) (Proc.devRef .tc main_v12_3) _ = _
      after_results
      rfl
    · obtain ⟨t, p, rfl⟩ := upper j0 h
      exact (congrFun (W2_arr m ρ c 12) _).trans ((final12_0 (V1 m ρ) c t p j1).trans (by rw [fX_1]))
  · obtain ⟨t, p, rfl⟩ := lower j0 h
    exact (final12_1 (V3 m ρ) c t p j1).trans (by rw [fX_3])

/-! What the backward call finds. -/

theorem l_5 : rL (V5 m ρ) c = aL m c :=
  (W5_of m ρ c main_v2 (by decide)).trans ((W4_of m ρ c main_v2 (by decide +kernel)).trans (l_3 m ρ c))
theorem wo_5 : rWo (V5 m ρ) c = aWo m c :=
  (W5_of m ρ c main_v9 (by decide)).trans ((W4_of m ρ c main_v9 (by decide +kernel)).trans (wo_3 m ρ c))
theorem wa_5 : glued (rWa (V5 m ρ) c) = row (aWa m c) :=
  (congrArg glued ((W5_of m ρ c main_v5 (by decide)).trans (W4_of m ρ c main_v5 (by decide +kernel)))).trans (wa_3 m ρ c)
theorem wc_5 : glued (rWc (V5 m ρ) c) = row (aWc m c) :=
  (congrArg glued ((W5_of m ρ c main_v8 (by decide)).trans (W4_of m ρ c main_v8 (by decide +kernel)))).trans (wc_3 m ρ c)
theorem d_5 : rD (V5 m ρ) c = aD m c := by
  refine Eq.trans ?_ (W4_args m ρ c main_arg8 (by simp))
  show StableHlo.after hostOps2 (W4 m ρ c) (Proc.devRef .tc main_v13) = _
  after_results
  rfl
theorem ya_5 (i : Fin 2048) : row (rYa (V5 m ρ) c) i = yA (aO m c) (aWa m c) i :=
  congrArg (fun x : S2048x1024.Idx → EReal => row x i) ((W5_of m ρ c main_v12_0 (by decide)).trans (ya_4 m ρ c))
theorem yc_5 (i : Fin 2048) : row (rYc (V5 m ρ) c) i = yC (aC m c) (aWc m c) (aB m c) i :=
  congrArg (fun x : S2048x1024.Idx → EReal => row x i) ((W5_of m ρ c main_v12_1 (by decide)).trans (yc_4 m ρ c))

theorem bM_5 : bM (V5 m ρ) c = dmg (aWo m c) (aD m c) := by
  unfold bM dmg; rw [d_5, wo_5]
theorem bA_5 : bA (V5 m ρ) c = dA (aL m c) (aWo m c) (aD m c) := by
  unfold bA dA; rw [l_5, bM_5]
theorem bC_5 : bC (V5 m ρ) c = dC (aL m c) (aWo m c) (aD m c) := by
  unfold bC dC; rw [l_5, bM_5]
theorem bL_5 : bL (V5 m ρ) c
    = dL (aO m c) (aC m c) (aL m c) (aWa m c) (aWc m c) (aB m c) (aWo m c) (aD m c) := by
  funext i
  unfold bL dL; rw [l_5, bM_5, ya_5, yc_5]
theorem bO_5 : bO (V5 m ρ) c = dO (aL m c) (aWa m c) (aWo m c) (aD m c) := by
  unfold bO dO; rw [bA_5, wa_5]
theorem bU_5 : bU (V5 m ρ) c = dU (aL m c) (aWc m c) (aWo m c) (aD m c) := by
  unfold bU dU; rw [bC_5, wc_5]

/-! The ten results. -/

theorem dA_6 : W6 m ρ c (Proc.devRef .tc main_v14_0)
    = fun j : S2048x1024.Idx => dA (aL m c) (aWo m c) (aD m c) (j 0) (j 1) :=
  (W6_arr m ρ c 8).trans ((final8_2 (V5 m ρ) c).trans (by rw [bA_5]))
theorem dC_6 : W6 m ρ c (Proc.devRef .tc main_v14_1)
    = fun j : S2048x1024.Idx => dC (aL m c) (aWo m c) (aD m c) (j 0) (j 1) :=
  (W6_arr m ρ c 9).trans ((final9_2 (V5 m ρ) c).trans (by rw [bC_5]))
theorem dL_6 : W6 m ρ c (Proc.devRef .tc main_v14_2)
    = fun j : S2048x2048.Idx => dL (aO m c) (aC m c) (aL m c) (aWa m c) (aWc m c) (aB m c) (aWo m c) (aD m c) (j 0) (j 1) :=
  (W6_arr m ρ c 10).trans ((final10_2 (V5 m ρ) c).trans (by rw [bL_5]))
theorem dO_6 : W6 m ρ c (Proc.devRef .tc main_v14_3)
    = fun j : S2048x512.Idx => dO (aL m c) (aWa m c) (aWo m c) (aD m c) (j 0) (j 1) :=
  (W6_arr m ρ c 11).trans ((final11_2 (V5 m ρ) c).trans (by rw [bO_5]))
theorem dU_6 : W6 m ρ c (Proc.devRef .tc main_v14_4)
    = fun j : S2048x512.Idx => dU (aL m c) (aWc m c) (aWo m c) (aD m c) (j 0) (j 1) :=
  (W6_arr m ρ c 12).trans ((final12_2 (V5 m ρ) c).trans (by rw [bU_5]))
theorem dB_6 : W6 m ρ c (Proc.devRef .tc main_v14_5)
    = fun j : S1x1024.Idx => dB (aL m c) (aWo m c) (aD m c) (j 1) :=
  (W6_arr m ρ c 13).trans ((final13_2 (V5 m ρ) c).trans (by rw [bC_5]; rfl))
theorem ya_6 : W6 m ρ c (Proc.devRef .tc main_v12_0) = fun j : S2048x1024.Idx => yA (aO m c) (aWa m c) (j 0) (j 1) :=
  (W6_of m ρ c main_v12_0 (by decide +kernel)).trans ((W5_of m ρ c main_v12_0 (by decide)).trans (ya_4 m ρ c))
theorem yc_6 : W6 m ρ c (Proc.devRef .tc main_v12_1) = fun j : S2048x1024.Idx => yC (aC m c) (aWc m c) (aB m c) (j 0) (j 1) :=
  (W6_of m ρ c main_v12_1 (by decide +kernel)).trans ((W5_of m ρ c main_v12_1 (by decide)).trans (yc_4 m ρ c))
theorem mg_6 : W6 m ρ c (Proc.devRef .tc main_v12_2) = fun j : S2048x1024.Idx => mg (aO m c) (aC m c) (aL m c) (aWa m c) (aWc m c) (aB m c) (j 0) (j 1) :=
  (W6_of m ρ c main_v12_2 (by decide +kernel)).trans ((W5_of m ρ c main_v12_2 (by decide)).trans (mg_4 m ρ c))
theorem x1_6 : W6 m ρ c (Proc.devRef .tc main_v12_3) = fun j : S2048x1024.Idx => x1 (aX m c) (aO m c) (aC m c) (aL m c) (aWa m c) (aWc m c) (aB m c) (aWo m c) (j 0) (j 1) :=
  (W6_of m ρ c main_v12_3 (by decide +kernel)).trans ((W5_of m ρ c main_v12_3 (by decide)).trans (x1_4 m ρ c))

end Cert.Mix
end
-- ==== Proof.MixReference.lean ====
module

public import proofs.«01_k».proof.Proof.Gen.Reference5Ideal.Read
public import proofs.«01_k».proof.Proof.MixSpec

/-! The reference's ten results, read entry by entry, are the functions of `MixSpec`. -/

@[expose] public section

set_option maxRecDepth 16384

noncomputable section

open Idealize.ShloMosaic Idealize.ShloMosaic.TcCoe

namespace Cert.Mix

open Cert.Reference5Ideal Cert.Reference5Ideal.Read Cert.Reference5Ideal.Value

variable (x : FVec Ideal S2048x1024 .f32) (o c : FVec Ideal S2048x512 .f32) (l : FVec Ideal S2048x2048 .f32)
  (wa wc : FVec Ideal S512x1024 .f32) (b : FVec Ideal S1x1024 .f32) (wo : FVec Ideal S1024x1024 .f32)
  (d : FVec Ideal S2048x1024 .f32)

theorem v0_at (p : Fin 2048) (q : Fin 1024) : val_main_v0 (F := Ideal) o wa (ix2 p q) = yA o wa p q := by
  pointwise [val_main_v0, yA, branch, row]

theorem v3_at (p : Fin 2048) (q : Fin 1024) : val_main_v3 (F := Ideal) c wc b (ix2 p q) = yC c wc b p q := by
  pointwise [val_main_v3, val_main_v2, val_main_v1, yC, branch, row]

theorem v10_fst (p : Fin 2048) (q : Fin 1024) : val_main_v10 (F := Ideal) l (ix3 p 0 q) = fst (row l p) q := by
  pointwise [val_main_v10, val_main_v9, val_main_v8, val_main_v7, val_main_v6, val_main_v5, val_main_v4, val_main_cst,
    val_main_cst_0, fst, gate, row]

theorem v10_snd (p : Fin 2048) (q : Fin 1024) : val_main_v10 (F := Ideal) l (ix3 p 1 q) = snd (row l p) q := by
  pointwise [val_main_v10, val_main_v9, val_main_v8, val_main_v7, val_main_v6, val_main_v5, val_main_v4, val_main_cst,
    val_main_cst_0, snd, gate, row]

theorem v15_at (p : Fin 2048) (q : Fin 1024) : val_main_v15 (F := Ideal) l (ix2 p q) = fst (row l p) q := by
  pointwise [val_main_v15, val_main_v14, v10_fst]

theorem v18_at (p : Fin 2048) (q : Fin 1024) : val_main_v18 (F := Ideal) l (ix2 p q) = snd (row l p) q := by
  pointwise [val_main_v18, val_main_v17, v10_snd]

theorem v20_at (p : Fin 2048) (q : Fin 1024) :
    val_main_v20 (F := Ideal) o c l wa wc b (ix2 p q) = mg o c l wa wc b p q := by
  pointwise [val_main_v20, val_main_v19, val_main_v16, v15_at, v18_at, v0_at, v3_at, mg, merged]

theorem v22_at (p : Fin 2048) (q : Fin 1024) :
    val_main_v22 (F := Ideal) x o c l wa wc b wo (ix2 p q) = x1 x o c l wa wc b wo p q := by
  pointwise [val_main_v22, val_main_v21, v20_at, x1, stream, row]

theorem v23_at (p : Fin 2048) (q : Fin 1024) : val_main_v23 (F := Ideal) wo d (ix2 p q) = dmg wo d p q := by
  pointwise [val_main_v23, dmg, dmerged, row]

theorem v24_at (p : Fin 2048) (q : Fin 1024) : val_main_v24 (F := Ideal) l wo d (ix2 p q) = dC l wo d p q := by
  pointwise [val_main_v24, v18_at, v23_at, dC, dsnd]
  exact mul_comm _ _

theorem v28_at (p : Fin 2048) (q : Fin 1024) : val_main_v28 (F := Ideal) l wo d (ix2 p q) = dA l wo d p q := by
  pointwise [val_main_v28, v15_at, v23_at, dA, dfst]
  exact mul_comm _ _

theorem v36_at (p : Fin 1) (q : Fin 1024) : val_main_v36 (F := Ideal) l wo d (ix2 p q) = dB l wo d q := by
  pointwise [val_main_v36, val_main_v35, v24_at, val_main_cst_4, dB]

theorem v37_at (p : Fin 2048) (q : Fin 512) : val_main_v37 (F := Ideal) l wc wo d (ix2 p q) = dU l wc wo d p q := by
  pointwise [val_main_v37, v24_at, dU, dbranch, row]

theorem v38_at (p : Fin 2048) (q : Fin 512) : val_main_v38 (F := Ideal) l wa wo d (ix2 p q) = dO l wa wo d p q := by
  pointwise [val_main_v38, v28_at, dO, dbranch, row]

theorem v32_fst (p : Fin 2048) (q : Fin 1024) :
    val_main_v32 (F := Ideal) o c wa wc b wo d (ix3 p 0 q) = dmg wo d p q * yA o wa p q := by
  pointwise [val_main_v32, val_main_v31, val_main_v30, val_main_v29, val_main_v27, val_main_v26, val_main_v25, v0_at,
    v23_at, val_main_cst_2, val_main_cst_3]

theorem v32_snd (p : Fin 2048) (q : Fin 1024) :
    val_main_v32 (F := Ideal) o c wa wc b wo d (ix3 p 1 q) = dmg wo d p q * yC c wc b p q := by
  pointwise [val_main_v32, val_main_v31, val_main_v30, val_main_v29, val_main_v27, val_main_v26, val_main_v25, v3_at,
    v23_at, val_main_cst_2, val_main_cst_3]

theorem v13_fst (p : Fin 2048) (q : Fin 1024) :
    val_main_v13 (F := Ideal) l (ix3 p 0 q) = fst (row l p) q * (1 - fst (row l p) q) := by
  pointwise [val_main_v13, val_main_v12, val_main_v11, val_main_cst_1, v10_fst]

theorem v13_snd (p : Fin 2048) (q : Fin 1024) :
    val_main_v13 (F := Ideal) l (ix3 p 1 q) = snd (row l p) q * (1 - snd (row l p) q) := by
  pointwise [val_main_v13, val_main_v12, val_main_v11, val_main_cst_1, v10_snd]

theorem v34_at (p : Fin 2048) (k : Fin 2048) :
    val_main_v34 (F := Ideal) o c l wa wc b wo d (ix2 p k) = dL o c l wa wc b wo d p k := by
  pointwise [val_main_v34, val_main_v33]
  by_cases h : k.val < 1024
  · have e : (ix3 p ⟨k.val / 1024, by omega⟩ ⟨k.val % 1024, by omega⟩ : S2048x2x1024.Idx) = ix3 p 0 ⟨k.val, h⟩ :=
      congrArg₂ (ix3 p) (Fin.ext (by dsimp; omega)) (Fin.ext (by dsimp; omega))
    refine (congrArg₂ (· * ·) (congrArg _ e) (congrArg _ e)).trans ?_
    rw [v32_fst, v13_fst, mul_mul_mul_comm, ← mul_assoc]
    unfold dL dlogits
    rw [dif_pos h]
    rfl
  · have e : (ix3 p ⟨k.val / 1024, by omega⟩ ⟨k.val % 1024, by omega⟩ : S2048x2x1024.Idx)
        = ix3 p 1 ⟨k.val - 1024, by omega⟩ :=
      congrArg₂ (ix3 p) (Fin.ext (by dsimp; omega)) (Fin.ext (by dsimp; omega))
    have hk : gate (row l p k) = snd (row l p) ⟨k.val - 1024, by omega⟩ :=
      congrArg (fun k => gate (row l p k)) (Fin.ext (by dsimp; omega))
    refine (congrArg₂ (· * ·) (congrArg _ e) (congrArg _ e)).trans ?_
    rw [v32_snd, v13_snd, mul_mul_mul_comm, ← mul_assoc]
    unfold dL dlogits
    rw [dif_neg h, hk]
    rfl

end Cert.Mix
end
-- ==== Proof.MixRun.lean ====
module

public import proofs.«01_k».proof.Proof.Gen.Kernel5Ideal.Frame

/-! The mixing program's run: what every buffer outside the calls' staging holds at its end. -/

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' staging ends at `W6`, every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.Mix
end
-- ==== Proof.ReferenceFrames.lean ====
/-
The frames of the references of the attention, convolution, mixing and feed-forward calls: each runs to its end from any
memory and leaves its arguments as they were.
-/
module

public import proofs.«01_k».proof.Defs
public import proofs.«01_k».proof.Proof.Gen.Reference2Ideal.Run
public import proofs.«01_k».proof.Proof.Gen.Reference3Ideal.Run
public import proofs.«01_k».proof.Proof.Gen.Reference5Ideal.Run
public import proofs.«01_k».proof.Proof.Gen.Reference6Ideal.Run

@[expose] public section

noncomputable section

namespace Cert.ReferenceFrames

open Idealize.ShloMosaic Idealize.SL.Sem

/-- The frame of the attention call's reference. -/
theorem frame_reference2 : Cert.quiescent_Reference2Ideal := by
  intro m g _
  exact (θ_run Cert.Reference2Ideal.defs _ _).mono
    (fun r h => ⟨fun c => (h c).2.2.2.2, sem_eq_zero_of_no_sems (by decide) r.2⟩)
    (Cert.Reference2Ideal.Value.run (F := Ideal) m g)

/-- The frame of the convolution call's reference. -/
theorem frame_reference3 : Cert.quiescent_Reference3Ideal := by
  intro m g _
  exact (θ_run Cert.Reference3Ideal.defs _ _).mono
    (fun r h => ⟨fun c => (h c).2.2.2.2.2.2.2, sem_eq_zero_of_no_sems (by decide) r.2⟩)
    (Cert.Reference3Ideal.Value.run (F := Ideal) m g)

/-- The frame of the mixing call's reference. -/
theorem frame_reference5 : Cert.quiescent_Reference5Ideal := by
  intro m g _
  exact (θ_run Cert.Reference5Ideal.defs _ _).mono
    (fun r h => ⟨fun c => (h c).2.2.2.2.2.2.2.2.2.2, sem_eq_zero_of_no_sems (by decide) r.2⟩)
    (Cert.Reference5Ideal.Value.run (F := Ideal) m g)

/-- The frame of the feed-forward call's reference. -/
theorem frame_reference6 : Cert.quiescent_Reference6Ideal := by
  intro m g _
  exact (θ_run Cert.Reference6Ideal.defs _ _).mono
    (fun r h => ⟨fun c => (h c).2.2.2.2.2.2, sem_eq_zero_of_no_sems (by decide) r.2⟩)
    (Cert.Reference6Ideal.Value.run (F := Ideal) m g)

end Cert.ReferenceFrames

end
-- ==== Proof.MixValue.lean ====
module

public import proofs.«01_k».proof.Proof.MixKernel
public import proofs.«01_k».proof.Proof.MixReference
public import proofs.«01_k».proof.Proof.MixRun
public import proofs.«01_k».proof.Proof.Gen.Reference5Ideal.Run
public import proofs.«01_k».proof.Proof.ReferenceFrames
public import Idealize.ShloMosaic.Lib.Claim

/-! Each of the mixing program's ten results is the reference's, whatever the arguments: both are the functions of
`MixSpec`. -/

@[expose] public section

set_option maxRecDepth 16384

noncomputable section

open Idealize.ShloMosaic Idealize.ShloMosaic.TcCoe Idealize.ShloMosaic.Tactic Idealize.SL.Sem

namespace Cert.Mix

section Reference

open Cert.Reference5Ideal Cert.Reference5Ideal.Read

variable (x : FVec Ideal S2048x1024 .f32) (o c : FVec Ideal S2048x512 .f32) (l : FVec Ideal S2048x2048 .f32)
  (wa wc : FVec Ideal S512x1024 .f32) (b : FVec Ideal S1x1024 .f32) (wo : FVec Ideal S1024x1024 .f32)
  (d : FVec Ideal S2048x1024 .f32)

/-! The reference's result arrays; a rounding changes nothing. -/

theorem ref_dA : val_main_v39 (F := Ideal) l wo d = fun j : S2048x1024.Idx => dA l wo d (j 0) (j 1) := by
  funext j
  idx_vars j
  exact v28_at l wo d j0 j1
theorem ref_dC : val_main_v40 (F := Ideal) l wo d = fun j : S2048x1024.Idx => dC l wo d (j 0) (j 1) := by
  funext j
  idx_vars j
  exact v24_at l wo d j0 j1
theorem ref_dL : val_main_v41 (F := Ideal) o c l wa wc b wo d = fun j : S2048x2048.Idx => dL o c l wa wc b wo d (j 0) (j 1) := by
  funext j
  idx_vars j
  exact v34_at o c l wa wc b wo d j0 j1
theorem ref_dO : val_main_v42 (F := Ideal) l wa wo d = fun j : S2048x512.Idx => dO l wa wo d (j 0) (j 1) := by
  funext j
  idx_vars j
  exact v38_at l wa wo d j0 j1
theorem ref_dU : val_main_v43 (F := Ideal) l wc wo d = fun j : S2048x512.Idx => dU l wc wo d (j 0) (j 1) := by
  funext j
  idx_vars j
  exact v37_at l wc wo d j0 j1
theorem ref_dB : val_main_v36 (F := Ideal) l wo d = fun j : S1x1024.Idx => dB l wo d (j 1) := by
  funext j
  idx_vars j
  exact v36_at l wo d j0 j1
theorem ref_yA : val_main_v44 (F := Ideal) o wa = fun j : S2048x1024.Idx => yA o wa (j 0) (j 1) := by
  funext j
  idx_vars j
  exact v0_at o wa j0 j1
theorem ref_yC : val_main_v45 (F := Ideal) c wc b = fun j : S2048x1024.Idx => yC c wc b (j 0) (j 1) := by
  funext j
  idx_vars j
  exact v3_at c wc b j0 j1
theorem ref_mg : val_main_v46 (F := Ideal) o c l wa wc b = fun j : S2048x1024.Idx => mg o c l wa wc b (j 0) (j 1) := by
  funext j
  idx_vars j
  exact v20_at o c l wa wc b j0 j1
theorem ref_x1 : val_main_v22 (F := Ideal) x o c l wa wc b wo = fun j : S2048x1024.Idx => x1 x o c l wa wc b wo (j 0) (j 1) := by
  funext j
  idx_vars j
  exact v22_at x o c l wa wc b wo j0 j1

end Reference

open Cert.Reference5Ideal.Read in
/-- The kernel's ten results are the reference's. -/
theorem algebraic : Cert.algebraic_Kernel5Ideal_Reference5Ideal
    (hKernel5Ideal := Cert.Kernel5Ideal.Gen.facts) := by
  intro m g m' g' _ hagree
  refine ⟨fun c => fun j : Cert.Kernel5Ideal.S2048x1024.Idx => dA (aL m c) (aWo m c) (aD m c) (j 0) (j 1),
    fun c => fun j : Cert.Kernel5Ideal.S2048x1024.Idx => dC (aL m c) (aWo m c) (aD m c) (j 0) (j 1),
    fun c => fun j : Cert.Kernel5Ideal.S2048x2048.Idx => dL (aO m c) (aC m c) (aL m c) (aWa m c) (aWc m c) (aB m c) (aWo m c) (aD m c) (j 0) (j 1),
    fun c => fun j : Cert.Kernel5Ideal.S2048x512.Idx => dO (aL m c) (aWa m c) (aWo m c) (aD m c) (j 0) (j 1),
    fun c => fun j : Cert.Kernel5Ideal.S2048x512.Idx => dU (aL m c) (aWc m c) (aWo m c) (aD m c) (j 0) (j 1),
    fun c => fun j : Cert.Kernel5Ideal.S1x1024.Idx => dB (aL m c) (aWo m c) (aD m c) (j 1),
    fun c => fun j : Cert.Kernel5Ideal.S2048x1024.Idx => yA (aO m c) (aWa m c) (j 0) (j 1),
    fun c => fun j : Cert.Kernel5Ideal.S2048x1024.Idx => yC (aC m c) (aWc m c) (aB m c) (j 0) (j 1),
    fun c => fun j : Cert.Kernel5Ideal.S2048x1024.Idx => mg (aO m c) (aC m c) (aL m c) (aWa m c) (aWc m c) (aB m c) (j 0) (j 1),
    fun c => fun j : Cert.Kernel5Ideal.S2048x1024.Idx => x1 (aX m c) (aO m c) (aC m c) (aL m c) (aWa m c) (aWc m c) (aB m c) (aWo m c) (j 0) (j 1), ?_, ?_⟩
  · refine θ_run_mono (run_all m g) ?_
    intro r hr c
    refine ⟨(hr.1 c _ (Cert.Kernel5Ideal.Gen.mem_uc _ (by decide))).trans (dA_6 m g c),
      (hr.1 c _ (Cert.Kernel5Ideal.Gen.mem_uc _ (by decide))).trans (dC_6 m g c),
      (hr.1 c _ (Cert.Kernel5Ideal.Gen.mem_uc _ (by decide))).trans (dL_6 m g c),
      (hr.1 c _ (Cert.Kernel5Ideal.Gen.mem_uc _ (by decide))).trans (dO_6 m g c),
      (hr.1 c _ (Cert.Kernel5Ideal.Gen.mem_uc _ (by decide))).trans (dU_6 m g c),
      (hr.1 c _ (Cert.Kernel5Ideal.Gen.mem_uc _ (by decide))).trans (dB_6 m g c),
      (hr.1 c _ (Cert.Kernel5Ideal.Gen.mem_uc _ (by decide))).trans (ya_6 m g c),
      (hr.1 c _ (Cert.Kernel5Ideal.Gen.mem_uc _ (by decide))).trans (yc_6 m g c),
      (hr.1 c _ (Cert.Kernel5Ideal.Gen.mem_uc _ (by decide))).trans (mg_6 m g c),
      (hr.1 c _ (Cert.Kernel5Ideal.Gen.mem_uc _ (by decide))).trans (x1_6 m g c),
      (hr.1 c _ (Cert.Kernel5Ideal.Gen.mem_uc _ (by decide))).trans (Cert.Kernel5Ideal.Gen.W6_main_arg0 m g c),
      (hr.1 c _ (Cert.Kernel5Ideal.Gen.mem_uc _ (by decide))).trans (Cert.Kernel5Ideal.Gen.W6_main_arg1 m g c),
      (hr.1 c _ (Cert.Kernel5Ideal.Gen.mem_uc _ (by decide))).trans (Cert.Kernel5Ideal.Gen.W6_main_arg2 m g c),
      (hr.1 c _ (Cert.Kernel5Ideal.Gen.mem_uc _ (by decide))).trans (Cert.Kernel5Ideal.Gen.W6_main_arg3 m g c),
      (hr.1 c _ (Cert.Kernel5Ideal.Gen.mem_uc _ (by decide))).trans (Cert.Kernel5Ideal.Gen.W6_main_arg4 m g c),
      (hr.1 c _ (Cert.Kernel5Ideal.Gen.mem_uc _ (by decide))).trans (Cert.Kernel5Ideal.Gen.W6_main_arg5 m g c),
      (hr.1 c _ (Cert.Kernel5Ideal.Gen.mem_uc _ (by decide))).trans (Cert.Kernel5Ideal.Gen.W6_main_arg6 m g c),
      (hr.1 c _ (Cert.Kernel5Ideal.Gen.mem_uc _ (by decide))).trans (Cert.Kernel5Ideal.Gen.W6_main_arg7 m g c),
      (hr.1 c _ (Cert.Kernel5Ideal.Gen.mem_uc _ (by decide))).trans (Cert.Kernel5Ideal.Gen.W6_main_arg8 m g c)⟩
  · refine θ_run_mono (Cert.Reference5Ideal.Value.run m' g') ?_
    intro r hr c
    obtain ⟨h39, h40, h41, h42, h43, h36, h44, h45, h46, h22, hargs⟩ := hr c
    obtain ⟨e0, e1, e2, e3, e4, e5, e6, e7, e8⟩ := hagree c
    refine ⟨h39.trans ?_, h40.trans ?_, h41.trans ?_, h42.trans ?_, h43.trans ?_, h36.trans ?_, h44.trans ?_, h45.trans ?_, h46.trans ?_, h22.trans ?_, hargs⟩
    · exact (val_main_v39_eq _ _ _).trans ((congr (congr (congrArg (val_main_v39 (F := Ideal)) e3) e7) e8).trans (ref_dA _ _ _))
    · exact (val_main_v40_eq _ _ _).trans ((congr (congr (congrArg (val_main_v40 (F := Ideal)) e3) e7) e8).trans (ref_dC _ _ _))
    · exact (val_main_v41_eq _ _ _ _ _ _ _ _).trans ((congr (congr (congr (congr (congr (congr (congr (congrArg (val_main_v41 (F := Ideal)) e1) e2) e3) e4) e5) e6) e7) e8).trans (ref_dL _ _ _ _ _ _ _ _))
    · exact (val_main_v42_eq _ _ _ _).trans ((congr (congr (congr (congrArg (val_main_v42 (F := Ideal)) e3) e4) e7) e8).trans (ref_dO _ _ _ _))
    · exact (val_main_v43_eq _ _ _ _).trans ((congr (congr (congr (congrArg (val_main_v43 (F := Ideal)) e3) e5) e7) e8).trans (ref_dU _ _ _ _))
    · exact (val_main_v36_eq _ _ _).trans ((congr (congr (congrArg (val_main_v36 (F := Ideal)) e3) e7) e8).trans (ref_dB _ _ _))
    · exact (val_main_v44_eq _ _).trans ((congr (congrArg (val_main_v44 (F := Ideal)) e1) e4).trans (ref_yA _ _))
    · exact (val_main_v45_eq _ _ _).trans ((congr (congr (congrArg (val_main_v45 (F := Ideal)) e2) e5) e6).trans (ref_yC _ _ _))
    · exact (val_main_v46_eq _ _ _ _ _ _).trans ((congr (congr (congr (congr (congr (congrArg (val_main_v46 (F := Ideal)) e1) e2) e3) e4) e5) e6).trans (ref_mg _ _ _ _ _ _))
    · exact (val_main_v22_eq _ _ _ _ _ _ _ _).trans ((congr (congr (congr (congr (congr (congr (congr (congrArg (val_main_v22 (F := Ideal)) e0) e1) e2) e3) e4) e5) e6) e7).trans (ref_x1 _ _ _ _ _ _ _ _))

end Cert.Mix
end
-- ==== Proof.AttnForward.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

/-!
# The forward attention call, one grid point

The body of the forward call is run once, at an arbitrary grid point and on arbitrary staging buffers, in any
float semantics.  `run` says: started with the sinks and the whole `qkv` array in its input buffers and anything
at all in its three output buffers and its scratch, the body ends with the inputs unchanged and each output
buffer overwritten by a list of stores, which the run finds.
-/

@[expose] public section

set_option maxRecDepth 16384

noncomputable section

namespace Cert.AttnForward

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body of the forward call from any staging buffers: the pieces it writes to the attention output, to the
    log-sum-exp, to the probabilities and to its scratch, with the triple that says so. -/
noncomputable def run (c : Dev nD) (i : grid0.Coords) (arg1 : Memref sig .tc .smem S1x8 .f32) (harg1 : arg1.IsWhole) (arg2 : Memref sig .tc .vmem S2048x768 .bf16) (harg2 : arg2.IsWhole)
    (arg3 : Memref sig .tc .vmem S256x512 .bf16) (harg3 : arg3.IsWhole) (arg4 : Memref sig .tc .vmem S256x8 .f32) (harg4 : arg4.IsWhole)
    (arg5 : Memref sig .tc .vmem S4x512x256 .bf16) (harg5 : arg5.IsWhole) (arg6 : Memref sig .tc .vmem S4x512x256 .f32) (harg6 : arg6.IsWhole)
    (x0 : Vec F S1x8 .f32) (x1 : Vec F S2048x768 .bf16) :
    Σ' (Lo : List (View.Piece (Elt F) S256x512 .bf16)), Σ' (Ll : List (View.Piece (Elt F) S256x8 .f32)),
    Σ' (Lp : List (View.Piece (Elt F) S4x512x256 .bf16)), { Ls : List (View.Piece (Elt F) S4x512x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f Lo)
                ∗ (∃ f, arg4.view.loc (c : Thread nD τ) ↦[arg4.view.set]{fullShare} arg4.view.writes (Elt F) f Ll)
                ∗ (∃ f, arg5.view.loc (c : Thread nD τ) ↦[arg5.view.set]{fullShare} arg5.view.writes (Elt F) f Lp)
                ∗ (∃ f, arg6.view.loc (c : Thread nD τ) ↦[arg6.view.set]{fullShare} arg6.view.writes (Elt F) f Ls)) -∗ K ⟨⟩))
          ⊢ wp frame (wpE (defs₀ (F := F)) Variants.none c none) E
              (cc0_attn_fwd i arg1 harg1 arg2 harg2 arg3 harg3 arg4 harg4 arg5 harg5 arg6 harg6) K } := by
  refine ⟨?_, ?_, ?_, ?_, fun E K => ?run⟩
  case run =>
    simp only [cc0_attn_fwd_eq_skeleton]; unfold cc0_attn_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

end Cert.AttnForward

end
-- ==== Proof.AttnForwardBody.lean ====
module

public import proofs.«01_k».proof.Proof.AttnForward
public import Idealize.ShloMosaic.Lib.Pipeline.RegionsLoop
public import Idealize.ShloMosaic.Lib.Pipeline.FrameSuffix
public import Idealize.ShloMosaic.Lib.UnfoldOut

/-!
# The forward attention call as a pipeline

The proof data of the forward call's pipeline: what each staging buffer holds after the body at each grid point, and
the obligation that the body leaves it there, from the run of one point.
-/

@[expose] public section

set_option maxRecDepth 16384

noncomputable section

namespace Cert.AttnForward

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, from the arrays `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's staging buffer at grid point `t`, and that it is whole. -/
abbrev ms0 (t : Fin cfg0.N) := win0_0.stage (cfg0.slots t 0)
abbrev hs0 (t : Fin cfg0.N) : (ms0 t).IsWhole := hstage0_0 ((cfg0.slots t 0).cast nbuf0_0)
/-- Window 1's staging buffer at grid point `t`, and that it is whole. -/
abbrev ms1 (t : Fin cfg0.N) := win0_1.stage (cfg0.slots t 1)
abbrev hs1 (t : Fin cfg0.N) : (ms1 t).IsWhole := hstage0_1 ((cfg0.slots t 1).cast nbuf0_1)
/-- Window 2's staging buffer at grid point `t`, and that it is whole. -/
abbrev ms2 (t : Fin cfg0.N) := win0_2.stage (cfg0.slots t 2)
abbrev hs2 (t : Fin cfg0.N) : (ms2 t).IsWhole := hstage0_2 ((cfg0.slots t 2).cast nbuf0_2)
/-- Window 3's staging buffer at grid point `t`, and that it is whole. -/
abbrev ms3 (t : Fin cfg0.N) := win0_3.stage (cfg0.slots t 3)
abbrev hs3 (t : Fin cfg0.N) : (ms3 t).IsWhole := hstage0_3 ((cfg0.slots t 3).cast nbuf0_3)
/-- Window 4's staging buffer at grid point `t`, and that it is whole. -/
abbrev ms4 (t : Fin cfg0.N) := win0_4.stage (cfg0.slots t 4)
abbrev hs4 (t : Fin cfg0.N) : (ms4 t).IsWhole := hstage0_4 ((cfg0.slots t 4).cast nbuf0_4)
/-- The scratch buffer. -/
abbrev sc : Memref sig .tc .vmem S4x512x256 .f32 := Memref.whole cc0_scratch0

/-- The run of the body at grid point `t`. -/
abbrev runAt (c : Dev nD) (t : Fin cfg0.N) := run (F := F) c (grid0.coords t) (ms0 t) (hs0 t) (ms1 t) (hs1 t) (ms2 t) (hs2 t)
  (ms3 t) (hs3 t) (ms4 t) (hs4 t) sc (Memref.isWhole_whole _) (iblk V c 0 t) (iblk V c 1 t)

/-- The stores into the attention output cover its block. -/
theorem cover_o (c : Dev nD) (t : Fin cfg0.N) : ∀ y, ∃ p ∈ (runAt V c t).1, y ∈ p.1.set :=
  View.cover_of_tiledL (runAt V c t).1 ![128, 64] (by sl_kernel_rfl)
/-- The stores into the log-sum-exp cover its block. -/
theorem cover_l (c : Dev nD) (t : Fin cfg0.N) : ∀ y, ∃ p ∈ (runAt V c t).2.1, y ∈ p.1.set :=
  View.cover_of_tiledL (runAt V c t).2.1 ![128, 1] (by sl_kernel_rfl)
/-- The stores into the probabilities cover their block. -/
theorem cover_p (c : Dev nD) (t : Fin cfg0.N) : ∀ y, ∃ p ∈ (runAt V c t).2.2.1, y ∈ p.1.set :=
  View.cover_of_tiledL (runAt V c t).2.2.1 ![1, 512, 256] (by sl_kernel_rfl)

/-- The attention output the body leaves at grid point `t`. -/
def outO (c : Dev nD) (t : Fin cfg0.N) : Vec F S256x512 .bf16 := View.canon (runAt V c t).1
/-- The log-sum-exp the body leaves at grid point `t`. -/
def outL (c : Dev nD) (t : Fin cfg0.N) : Vec F S256x8 .f32 := View.canon (runAt V c t).2.1
/-- The probabilities the body leaves at grid point `t`. -/
def outP (c : Dev nD) (t : Fin cfg0.N) : Vec F S4x512x256 .bf16 := View.canon (runAt V c t).2.2.1

/-- The pipeline's proof data: inputs hold their blocks, outputs what the body leaves; nothing is owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outO V c t
    | ⟨3, _⟩ => outL V c t
    | ⟨4, _⟩ => outP V c t
  Φ _ := Pipeline.ΦA spec0 c
  q _ := fullShare
  owed _ := 0

/-- The proof data's arrays are the arrays the region is entered with. -/
theorem A_eq (c : Dev nD) (w : Fin cfg0.W) : (dat V c).A w = V c (Pipeline.arrRef spec0 w) := by dsimp only [dat]

/-- What the body leaves in window 0's buffer. -/
theorem after_0 (c : Dev nD) (t : Fin cfg0.N) : (dat V c).after 0 t = iblk V c 0 t := by dsimp only [dat]
/-- What the body leaves in window 1's buffer. -/
theorem after_1 (c : Dev nD) (t : Fin cfg0.N) : (dat V c).after 1 t = iblk V c 1 t := by dsimp only [dat]
/-- What the body leaves in window 2's buffer. -/
theorem after_2 (c : Dev nD) (t : Fin cfg0.N) : (dat V c).after 2 t = outO V c t := by dsimp only [dat]
/-- What the body leaves in window 3's buffer. -/
theorem after_3 (c : Dev nD) (t : Fin cfg0.N) : (dat V c).after 3 t = outL V c t := by dsimp only [dat]
/-- What the body leaves in window 4's buffer. -/
theorem after_4 (c : Dev nD) (t : Fin cfg0.N) : (dat V c).after 4 t = outP V c t := by dsimp only [dat]

/-- Input window 0's buffer holds its block when the body starts. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's buffer holds its block when the body starts. -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Everything the region's rest holds besides the scratch buffer, in the order the rest lists it. -/
theorem rest_eq (c : Dev nD) : ∃ Q : sProp 𝕄, (Pipeline.ΦA spec0 c : sProp 𝕄) =
    iprop(((∃ d, owns (c : Thread nD τ) (sc : Memref sig .tc .vmem S4x512x256 .f32) fullShare d) ∗ Q) ∗ (∃ r, prngReg c r)) := by
  refine ⟨bigSepL [cc1_stg1_0, cc1_stg2_0, cc1_stg2_1, cc1_stg3_0, cc1_stg3_1, cc1_stg4_0, cc1_stg4_1, cc1_stg5_0, cc1_stg6_0, cc1_stg7_0,
    cc1_stg7_1, cc1_stg8_0, cc1_stg9_0, cc1_scratch0, cc1_scratch1, cc1_stg0_0]
    fun b => iprop(∃ f : Buf (Elt F) ((c : Thread nD τ).loc b), ((c : Thread nD τ).loc b) ↦{fullShare} f), ?_⟩
  unfold Pipeline.ΦA; rw [scopedRest0_eq]; simp only [sc, owns_whole]; try rfl

/-- What the body at grid point `t` starts from. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d)) ∗ (∃ d, owns (c : Thread nD τ) (ms1 t) fullShare ((dat V c).before 1 t d))
    ∗ (∃ d, owns (c : Thread nD τ) (ms2 t) fullShare ((dat V c).before 2 t d)) ∗ (∃ d, owns (c : Thread nD τ) (ms3 t) fullShare ((dat V c).before 3 t d))
    ∗ (∃ d, owns (c : Thread nD τ) (ms4 t) fullShare ((dat V c).before 4 t d)))
/-- What it ends with. -/
def bodyPost (c : Dev nD) (t : Fin cfg0.N) : sProp 𝕄 :=
  iprop((dat V c).Φ t.succ ∗ (dat V c).owesAt () t.succ
    ∗ owns (c : Thread nD τ) (ms0 t) fullShare ((dat V c).after 0 t) ∗ owns (c : Thread nD τ) (ms1 t) fullShare ((dat V c).after 1 t)
    ∗ owns (c : Thread nD τ) (ms2 t) fullShare ((dat V c).after 2 t) ∗ owns (c : Thread nD τ) (ms3 t) fullShare ((dat V c).after 3 t)
    ∗ owns (c : Thread nD τ) (ms4 t) fullShare ((dat V c).after 4 t))

set_option maxHeartbeats 3200000 in
/-- The body takes the one to the other. -/
theorem sound_body (c : Dev nD) (t : Fin cfg0.N) :
    bodyPre V c t ⊢ wp frame (wpE (defs₀ (F := F)) Variants.none c none) Set.univ (bodyAt0 t) (fun _ => bodyPost V c t) := by
  obtain ⟨Q, hQ⟩ := rest_eq (F := F) c
  unfold bodyPre bodyPost bodyAt0
  simp only [before_0, before_1]
  rw [show (dat V c).Φ t.succ = (dat V c).Φ t.castSucc from rfl,
    show (dat V c).owesAt () t.succ = (dat V c).owesAt () t.castSucc from rfl, after_0, after_1, after_2, after_3, after_4,
    show (dat V c).Φ t.castSucc = Pipeline.ΦA spec0 c from rfl, hQ]
  iintro ⟨⟨⟨HS0, HR1⟩, Hg⟩, Ho, ⟨%d0, H0⟩, ⟨%d1, H1⟩, ⟨%d2, H2⟩, ⟨%d3, H3⟩, ⟨%d4, H4⟩⟩
  iapply ((runAt V c t).2.2.2.2 Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  iintro ⟨H0, H1, ⟨%f2, H2⟩, ⟨%f3, H3⟩, ⟨%f4, H4⟩, ⟨%fs, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]
  · unfold owns; iexists _; isplitr
    swap; · iexact H2
    ipureintro; exact View.read_writes_eq_canon _ _ _ (cover_o V c t)
  isplitl [H3]
  · unfold owns; iexists _; isplitr
    swap; · iexact H3
    ipureintro; exact View.read_writes_eq_canon _ _ _ (cover_l V c t)
  unfold owns; iexists _; isplitr
  swap; · iexact H4
  ipureintro; exact View.read_writes_eq_canon _ _ _ (cover_p V c t)

/-- The table of bodies at this pipeline is the body at the point's buffers. -/
theorem defs_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dat (F := F) V c) (defs₀ (F := F)) Variants.none () Set.univ := fun t => by
  rw [bigSep_W0, bigSep_W0, defs_row]
  exact triple_restated (sound_body V c t) rfl .rfl fun _ => .rfl

end Cert.AttnForward

end
-- ==== Proof.AttnBackward.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

/-!
# The backward attention call, one grid point

The body of the backward call is run twice, in any float semantics: at the first grid point, where it clears the
gradient of the keys and values and the gradient of the sinks before it adds into them (`runFirst`), and at a later
point, where it adds into what the points before left there (`runLater`).  Each says that the body ends with its
inputs unchanged and each output buffer overwritten by a list of stores, which the run finds.
-/

@[expose] public section

set_option maxRecDepth 16384

noncomputable section

namespace Cert.AttnBackward

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The word arithmetic of a window's first row: `128·max(n−1, 0)` for a grid point `n`. -/
theorem prevRow : ∀ n : Fin 16, (Scalar.indexCast (Scalar.muli (Scalar.maxsi (Scalar.subi (Scalar.addi
    (Scalar.muli (BitVec.ofNat 32 n.val) 1#32) 0#32) 1#32) 0#32) 128#32)).toNat = (n.val - 1) * 128 := by decide

/-- The window the body adds into at columns 0 begins at row `128·(i−1)`, at row 0 for the first point. -/
theorem off8 (i : grid1.Coords) : k1_off8 i = ![((i 0).val - 1) * 128, 0] := by
  unfold k1_off8; exact congrArg (![·, 0]) (prevRow (i 0))
/-- The window the body adds into at columns 128 begins at row `128·(i−1)`, at row 0 for the first point. -/
theorem off9 (i : grid1.Coords) : k1_off9 i = ![((i 0).val - 1) * 128, 128] := by
  unfold k1_off9; exact congrArg (![·, 128]) (prevRow (i 0))
/-- The window the body adds into at columns 64 begins at row `128·(i−1)`, at row 0 for the first point. -/
theorem off15 (i : grid1.Coords) : k1_off15 i = ![((i 0).val - 1) * 128, 64] := by
  unfold k1_off15; exact congrArg (![·, 64]) (prevRow (i 0))
/-- The window the body adds into at columns 192 begins at row `128·(i−1)`, at row 0 for the first point. -/
theorem off16 (i : grid1.Coords) : k1_off16 i = ![((i 0).val - 1) * 128, 192] := by
  unfold k1_off16; exact congrArg (![·, 192]) (prevRow (i 0))

/-- The body's branch at the first grid point, as it computes it. -/
abbrev First (i : grid1.Coords) : Prop :=
  (Scalar.cmpi .ne (Scalar.extui (Scalar.cmpi .eq (BitVec.ofNat 32 (i 0).val) 0#32)) 0#32) = 1#1

/-- That branch is taken at grid point 0 and at no other. -/
theorem first_iff (i : grid1.Coords) : First i ↔ (i 0).val = 0 :=
  (by decide : ∀ n : Fin 16, (Scalar.cmpi .ne (Scalar.extui (Scalar.cmpi .eq (BitVec.ofNat 32 n.val) 0#32)) 0#32) = 1#1
    ↔ n.val = 0) (i 0)

set_option maxHeartbeats 6000000 in
/-- The body at the first grid point, from any contents of its output and scratch buffers: the pieces it writes to the
    gradients of the queries, of the keys and values, and of the sinks, and to its two scratch buffers. -/
noncomputable def runFirst (c : Dev nD) (i : grid1.Coords) (arg1 : Memref sig .tc .smem S1x8 .f32) (harg1 : arg1.IsWhole) (arg2 : Memref sig .tc .vmem S2048x768 .bf16) (harg2 : arg2.IsWhole)
    (arg3 : Memref sig .tc .vmem S128x512 .bf16) (harg3 : arg3.IsWhole) (arg4 : Memref sig .tc .vmem S128x8 .f32) (harg4 : arg4.IsWhole)
    (arg5 : Memref sig .tc .vmem S2x512x256 .bf16) (harg5 : arg5.IsWhole) (arg6 : Memref sig .tc .vmem S8x128 .f32) (harg6 : arg6.IsWhole)
    (arg7 : Memref sig .tc .vmem S8x128 .f32) (harg7 : arg7.IsWhole) (arg8 : Memref sig .tc .vmem S128x512 .bf16) (harg8 : arg8.IsWhole)
    (arg9 : Memref sig .tc .vmem S2048x256 .f32) (harg9 : arg9.IsWhole) (arg10 : Memref sig .tc .vmem S8x128 .f32) (harg10 : arg10.IsWhole)
    (arg11 : Memref sig .tc .vmem S2x512x256 .f32) (harg11 : arg11.IsWhole) (arg12 : Memref sig .tc .vmem S2x512x256 .bf16) (harg12 : arg12.IsWhole) (hc : First i)
    (x0 : Vec F S1x8 .f32) (x1 : Vec F S2048x768 .bf16) (x2 : Vec F S128x512 .bf16) (x3 : Vec F S128x8 .f32)
    (x4 : Vec F S2x512x256 .bf16) (x5 x6 : Vec F S8x128 .f32) :
    Σ' (Lq : List (View.Piece (Elt F) S128x512 .bf16)), Σ' (Lk : List (View.Piece (Elt F) S2048x256 .f32)),
    Σ' (Ls : List (View.Piece (Elt F) S8x128 .f32)), Σ' (Lt : List (View.Piece (Elt F) S2x512x256 .f32)),
    { Lu : List (View.Piece (Elt F) S2x512x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗ owns (c : Thread nD τ) arg7 fullShare x6 ∗
            (∃ d, owns (c : Thread nD τ) arg8 fullShare d) ∗ (∃ d, owns (c : Thread nD τ) arg9 fullShare d) ∗ (∃ d, owns (c : Thread nD τ) arg10 fullShare d) ∗
            (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗
                owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f Lq)
                ∗ (∃ f, arg9.view.loc (c : Thread nD τ) ↦[arg9.view.set]{fullShare} arg9.view.writes (Elt F) f Lk)
                ∗ (∃ f, arg10.view.loc (c : Thread nD τ) ↦[arg10.view.set]{fullShare} arg10.view.writes (Elt F) f Ls)
                ∗ (∃ f, arg11.view.loc (c : Thread nD τ) ↦[arg11.view.set]{fullShare} arg11.view.writes (Elt F) f Lt)
                ∗ (∃ f, arg12.view.loc (c : Thread nD τ) ↦[arg12.view.set]{fullShare} arg12.view.writes (Elt F) f Lu)) -∗ K ⟨⟩))
          ⊢ wp frame (wpE (defs₀ (F := F)) Variants.none c none) E
              (cc1_attn_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_attn_bwd_eq_skeleton]; unfold cc1_attn_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    letI : ClosedOff (k1_off8 i) := ⟨_, off8 i⟩
    letI : ClosedOff (k1_off9 i) := ⟨_, off9 i⟩
    letI : ClosedOff (k1_off15 i) := ⟨_, off15 i⟩
    letI : ClosedOff (k1_off16 i) := ⟨_, off16 i⟩
    have hi : (i 0).val < 16 := (i 0).isLt
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact H11

set_option maxHeartbeats 6000000 in
/-- The body at a later grid point, from the contents `y8` and `y9` the points before left of the gradients of the keys and
    values and of the sinks: the pieces it writes, those of the keys and values over `y8`. -/
noncomputable def runLater (c : Dev nD) (i : grid1.Coords) (arg1 : Memref sig .tc .smem S1x8 .f32) (harg1 : arg1.IsWhole) (arg2 : Memref sig .tc .vmem S2048x768 .bf16) (harg2 : arg2.IsWhole)
    (arg3 : Memref sig .tc .vmem S128x512 .bf16) (harg3 : arg3.IsWhole) (arg4 : Memref sig .tc .vmem S128x8 .f32) (harg4 : arg4.IsWhole)
    (arg5 : Memref sig .tc .vmem S2x512x256 .bf16) (harg5 : arg5.IsWhole) (arg6 : Memref sig .tc .vmem S8x128 .f32) (harg6 : arg6.IsWhole)
    (arg7 : Memref sig .tc .vmem S8x128 .f32) (harg7 : arg7.IsWhole) (arg8 : Memref sig .tc .vmem S128x512 .bf16) (harg8 : arg8.IsWhole)
    (arg9 : Memref sig .tc .vmem S2048x256 .f32) (harg9 : arg9.IsWhole) (arg10 : Memref sig .tc .vmem S8x128 .f32) (harg10 : arg10.IsWhole)
    (arg11 : Memref sig .tc .vmem S2x512x256 .f32) (harg11 : arg11.IsWhole) (arg12 : Memref sig .tc .vmem S2x512x256 .bf16) (harg12 : arg12.IsWhole) (hc : ¬ First i)
    (x0 : Vec F S1x8 .f32) (x1 : Vec F S2048x768 .bf16) (x2 : Vec F S128x512 .bf16) (x3 : Vec F S128x8 .f32)
    (x4 : Vec F S2x512x256 .bf16) (x5 x6 : Vec F S8x128 .f32)
    (y8 : Vec F S2048x256 .f32) (y9 : Vec F S8x128 .f32) :
    Σ' (Lq : List (View.Piece (Elt F) S128x512 .bf16)), Σ' (Lk : List (View.Piece (Elt F) S2048x256 .f32)),
    Σ' (Ls : List (View.Piece (Elt F) S8x128 .f32)), Σ' (Lt : List (View.Piece (Elt F) S2x512x256 .f32)),
    { Lu : List (View.Piece (Elt F) S2x512x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗ owns (c : Thread nD τ) arg7 fullShare x6 ∗
            (∃ d, owns (c : Thread nD τ) arg8 fullShare d) ∗ owns (c : Thread nD τ) arg9 fullShare y8 ∗ owns (c : Thread nD τ) arg10 fullShare y9 ∗
            (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗
                owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f Lq)
                ∗ (arg9.view.loc (c : Thread nD τ) ↦[arg9.view.set]{fullShare} arg9.view.writes (Elt F) (harg9.unread y8) Lk)
                ∗ (∃ f, arg10.view.loc (c : Thread nD τ) ↦[arg10.view.set]{fullShare} arg10.view.writes (Elt F) f Ls)
                ∗ (∃ f, arg11.view.loc (c : Thread nD τ) ↦[arg11.view.set]{fullShare} arg11.view.writes (Elt F) f Lt)
                ∗ (∃ f, arg12.view.loc (c : Thread nD τ) ↦[arg12.view.set]{fullShare} arg12.view.writes (Elt F) f Lu)) -∗ K ⟨⟩))
          ⊢ wp frame (wpE (defs₀ (F := F)) Variants.none c none) E
              (cc1_attn_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_attn_bwd_eq_skeleton]; unfold cc1_attn_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%d7, %f7, -, H7⟩, ⟨%f8, %hf8, H8⟩, ⟨%f9, %hf9, H9⟩, ⟨%d10, %f10, -, H10⟩, ⟨%d11, %f11, -, H11⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg9.eq_unread hf8; obtain rfl := harg10.eq_unread hf9
    letI : ClosedOff (k1_off8 i) := ⟨_, off8 i⟩
    letI : ClosedOff (k1_off9 i) := ⟨_, off9 i⟩
    letI : ClosedOff (k1_off15 i) := ⟨_, off15 i⟩
    letI : ClosedOff (k1_off16 i) := ⟨_, off16 i⟩
    have hi : (i 0).val < 16 := (i 0).isLt
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexact H8
    isplitl [H9]; · iexists _; iexact H9
    isplitl [H10]; · iexists _; iexact H10
    iexists _; iexact H11

end Cert.AttnBackward

end
-- ==== Proof.AttnBackwardBody.lean ====
module

public import proofs.«01_k».proof.Proof.AttnBackward
public import Idealize.ShloMosaic.Lib.Pipeline.RegionsLoop
public import Idealize.ShloMosaic.Lib.Pipeline.FrameSuffix
public import Idealize.ShloMosaic.Lib.UnfoldOut

/-!
# The backward attention call as a pipeline

The proof data of the backward call's pipeline: what each staging buffer holds after the body at each grid point, the
gradient of the keys and values and the gradient of the sinks being carried from a point to the next, and the
obligation that the body leaves it there.
-/

@[expose] public section

set_option maxRecDepth 16384

noncomputable section

namespace Cert.AttnBackward

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, from the arrays `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer at grid point `t`, and that it is whole. -/
abbrev ms0 (t : Fin cfg1.N) := win1_0.stage (cfg1.slots t 0)
abbrev hs0 (t : Fin cfg1.N) : (ms0 t).IsWhole := hstage1_0 ((cfg1.slots t 0).cast nbuf1_0)
/-- Window 1's staging buffer at grid point `t`, and that it is whole. -/
abbrev ms1 (t : Fin cfg1.N) := win1_1.stage (cfg1.slots t 1)
abbrev hs1 (t : Fin cfg1.N) : (ms1 t).IsWhole := hstage1_1 ((cfg1.slots t 1).cast nbuf1_1)
/-- Window 2's staging buffer at grid point `t`, and that it is whole. -/
abbrev ms2 (t : Fin cfg1.N) := win1_2.stage (cfg1.slots t 2)
abbrev hs2 (t : Fin cfg1.N) : (ms2 t).IsWhole := hstage1_2 ((cfg1.slots t 2).cast nbuf1_2)
/-- Window 3's staging buffer at grid point `t`, and that it is whole. -/
abbrev ms3 (t : Fin cfg1.N) := win1_3.stage (cfg1.slots t 3)
abbrev hs3 (t : Fin cfg1.N) : (ms3 t).IsWhole := hstage1_3 ((cfg1.slots t 3).cast nbuf1_3)
/-- Window 4's staging buffer at grid point `t`, and that it is whole. -/
abbrev ms4 (t : Fin cfg1.N) := win1_4.stage (cfg1.slots t 4)
abbrev hs4 (t : Fin cfg1.N) : (ms4 t).IsWhole := hstage1_4 ((cfg1.slots t 4).cast nbuf1_4)
/-- Window 5's staging buffer at grid point `t`, and that it is whole. -/
abbrev ms5 (t : Fin cfg1.N) := win1_5.stage (cfg1.slots t 5)
abbrev hs5 (t : Fin cfg1.N) : (ms5 t).IsWhole := hstage1_5 ((cfg1.slots t 5).cast nbuf1_5)
/-- Window 6's staging buffer at grid point `t`, and that it is whole. -/
abbrev ms6 (t : Fin cfg1.N) := win1_6.stage (cfg1.slots t 6)
abbrev hs6 (t : Fin cfg1.N) : (ms6 t).IsWhole := hstage1_6 ((cfg1.slots t 6).cast nbuf1_6)
/-- Window 7's staging buffer at grid point `t`, and that it is whole. -/
abbrev ms7 (t : Fin cfg1.N) := win1_7.stage (cfg1.slots t 7)
abbrev hs7 (t : Fin cfg1.N) : (ms7 t).IsWhole := hstage1_7 ((cfg1.slots t 7).cast nbuf1_7)
/-- Window 8's staging buffer at grid point `t`, and that it is whole. -/
abbrev ms8 (t : Fin cfg1.N) := win1_8.stage (cfg1.slots t 8)
abbrev hs8 (t : Fin cfg1.N) : (ms8 t).IsWhole := hstage1_8 ((cfg1.slots t 8).cast nbuf1_8)
/-- Window 9's staging buffer at grid point `t`, and that it is whole. -/
abbrev ms9 (t : Fin cfg1.N) := win1_9.stage (cfg1.slots t 9)
abbrev hs9 (t : Fin cfg1.N) : (ms9 t).IsWhole := hstage1_9 ((cfg1.slots t 9).cast nbuf1_9)
/-- The scratch buffer of the gradients of the probabilities. -/
abbrev sc0 : Memref sig .tc .vmem S2x512x256 .f32 := Memref.whole cc1_scratch0
/-- The scratch buffer of the gradients of the scores. -/
abbrev sc1 : Memref sig .tc .vmem S2x512x256 .bf16 := Memref.whole cc1_scratch1

/-- Grid point `t`'s coordinate is `t`. -/
theorem coord (t : Fin cfg1.N) : (grid1.coords t 0).val = t.val := by
  have e0 : (grid1.coords t 0).val = t.val / 1 % 16 := Pipeline.Grid.coords_val t 0 (by decide) rfl
  have hN : t.val < 16 := lt_of_lt_of_eq t.isLt (show cfg1.N = 16 from N_1)
  omega
/-- At grid point 0 the body takes its first branch. -/
theorem first_of (t : Fin cfg1.N) (h : t.val = 0) : First (grid1.coords t) := (first_iff _).mpr ((coord t).trans h)
/-- At a later grid point it does not. -/
theorem not_first_of (t : Fin cfg1.N) (h : ¬ t.val = 0) : ¬ First (grid1.coords t) := fun hc => h ((coord t).symm.trans ((first_iff _).mp hc))

/-- The run of the body at the first grid point. -/
abbrev firstAt (c : Dev nD) (t : Fin cfg1.N) (h : t.val = 0) := runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
  sc0 (Memref.isWhole_whole _) sc1 (Memref.isWhole_whole _) (first_of t h) (iblk V c 0 t) (iblk V c 1 t) (iblk V c 2 t) (iblk V c 3 t) (iblk V c 4 t) (iblk V c 5 t) (iblk V c 6 t)
/-- The run of the body at a later grid point, over what the point before left in the gradients it adds into. -/
abbrev laterAt (c : Dev nD) (t : Fin cfg1.N) (h : ¬ t.val = 0) (y8 : Vec F S2048x256 .f32) (y9 : Vec F S8x128 .f32) :=
  runLater (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
  sc0 (Memref.isWhole_whole _) sc1 (Memref.isWhole_whole _) (not_first_of t h) (iblk V c 0 t) (iblk V c 1 t) (iblk V c 2 t) (iblk V c 3 t) (iblk V c 4 t) (iblk V c 5 t) (iblk V c 6 t) y8 y9

/-- The stores into the gradient of the queries cover its block, at the first point … -/
theorem cover_q_first (c : Dev nD) (t : Fin cfg1.N) (h : t.val = 0) : ∀ y, ∃ p ∈ (firstAt V c t h).1, y ∈ p.1.set :=
  View.cover_of_tiledL (firstAt V c t h).1 ![128, 64] (by sl_kernel_rfl)
/-- … and at a later one. -/
theorem cover_q_later (c : Dev nD) (t : Fin cfg1.N) (h : ¬ t.val = 0) (y8 : Vec F S2048x256 .f32) (y9 : Vec F S8x128 .f32) :
    ∀ y, ∃ p ∈ (laterAt V c t h y8 y9).1, y ∈ p.1.set :=
  View.cover_of_tiledL (laterAt V c t h y8 y9).1 ![128, 64] (by sl_kernel_rfl)
/-- The stores into the gradient of the sinks cover it, at a later point. -/
theorem cover_s_later (c : Dev nD) (t : Fin cfg1.N) (h : ¬ t.val = 0) (y8 : Vec F S2048x256 .f32) (y9 : Vec F S8x128 .f32) :
    ∀ y, ∃ p ∈ (laterAt V c t h y8 y9).2.2.1, y ∈ p.1.set :=
  View.cover_of_tiledL (laterAt V c t h y8 y9).2.2.1 ![1, 128] (by sl_kernel_rfl)

/-- Does the store at the end of the list, the first one made, fill the whole window? -/
def fills {s : Shape} {e : EltTy} (L : List (View.Piece (Elt F) s e)) : Bool :=
  match L.getLast? with
  | some p => decide (∀ a, p.1.off a = 0 ∧ p.1.size a = s.size a ∧ p.1.stride a = 1)
  | none => false

/-- A list of stores whose first one fills the whole window covers it. -/
theorem cover_of_fills {s : Shape} {e : EltTy} (L : List (View.Piece (Elt F) s e)) (h : fills L = true) : ∀ y, ∃ q ∈ L, y ∈ q.1.set := by
  intro y
  unfold fills at h
  cases hL : L.getLast? with
  | none => rw [hL] at h; exact absurd h (by simp)
  | some p =>
    rw [hL] at h
    have h' := of_decide_eq_true h
    refine ⟨p, List.mem_of_getLast? hL, (LoadRect.mem_set _).mpr fun a => ⟨(y a).val, ?_, ?_⟩⟩
    · rw [(h' a).2.1]; exact (y a).isLt
    · rw [(h' a).1, (h' a).2.2]; omega

/-- The stores into the gradient of the keys and values cover it, at the first point. -/
theorem cover_k_first (c : Dev nD) (t : Fin cfg1.N) (h : t.val = 0) : ∀ y, ∃ p ∈ (firstAt V c t h).2.1, y ∈ p.1.set :=
  cover_of_fills _ (by sl_kernel_rfl)
/-- The stores into the gradient of the sinks cover it, at the first point. -/
theorem cover_s_first (c : Dev nD) (t : Fin cfg1.N) (h : t.val = 0) : ∀ y, ∃ p ∈ (firstAt V c t h).2.2.1, y ∈ p.1.set :=
  cover_of_fills _ (by sl_kernel_rfl)

/-- The gradient of the keys and values after a later point, over what was there before. -/
def laterK (c : Dev nD) (t : Fin cfg1.N) (h : ¬ t.val = 0) (y8 : Vec F S2048x256 .f32) (y9 : Vec F S8x128 .f32) : Vec F S2048x256 .f32 :=
  (ms8 t).view.read (Elt F) ((ms8 t).view.writes (Elt F) ((hs8 t).unread y8) (laterAt V c t h y8 y9).2.1)

/-- What the body leaves in its three outputs at grid point `n`: the gradient of the queries, of the keys and values,
    and of the sinks. -/
def outsAt (c : Dev nD) : (n : ℕ) → n < cfg1.N → Vec F S128x512 .bf16 × Vec F S2048x256 .f32 × Vec F S8x128 .f32
  | 0, hn => (View.canon (firstAt V c ⟨0, hn⟩ rfl).1, View.canon (firstAt V c ⟨0, hn⟩ rfl).2.1, View.canon (firstAt V c ⟨0, hn⟩ rfl).2.2.1)
  | n + 1, hn =>
    let prev := outsAt c n (Nat.lt_of_succ_lt hn)
    (View.canon (laterAt V c ⟨n + 1, hn⟩ (Nat.succ_ne_zero n) prev.2.1 prev.2.2).1,
      laterK V c ⟨n + 1, hn⟩ (Nat.succ_ne_zero n) prev.2.1 prev.2.2,
      View.canon (laterAt V c ⟨n + 1, hn⟩ (Nat.succ_ne_zero n) prev.2.1 prev.2.2).2.2.1)

/-- The outputs at the first point. -/
theorem outsAt_first (c : Dev nD) (t : Fin cfg1.N) (h : t.val = 0) : outsAt V c t.val t.isLt =
    (View.canon (firstAt V c t h).1, View.canon (firstAt V c t h).2.1, View.canon (firstAt V c t h).2.2.1) := by
  obtain ⟨n, hn⟩ := t
  obtain rfl : n = 0 := h
  rfl

/-- The outputs the point before `t` leaves. -/
abbrev prevAt (c : Dev nD) (t : Fin cfg1.N) := outsAt V c (t.val - 1) (Nat.lt_of_le_of_lt (Nat.sub_le _ _) t.isLt)

/-- The outputs at a later point, over what the point before left. -/
theorem outsAt_later (c : Dev nD) (t : Fin cfg1.N) (h : ¬ t.val = 0) : outsAt V c t.val t.isLt =
    (View.canon (laterAt V c t h (prevAt V c t).2.1 (prevAt V c t).2.2).1,
      laterK V c t h (prevAt V c t).2.1 (prevAt V c t).2.2,
      View.canon (laterAt V c t h (prevAt V c t).2.1 (prevAt V c t).2.2).2.2.1) := by
  obtain ⟨n, hn⟩ := t
  cases n with
  | zero => exact absurd rfl h
  | succ n => rfl

/-- The pipeline's proof data: inputs hold their blocks, outputs what the body leaves; nothing is owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
    | ⟨8, _⟩ => (outsAt V c t.val t.isLt).2.1
    | ⟨9, _⟩ => (outsAt V c t.val t.isLt).2.2
  Φ _ := Pipeline.ΦA spec1 c
  q w := Pipeline.shareOf spec1 w
  owed _ := 0

/-- The proof data's arrays are the arrays the region is entered with. -/
theorem A_eq (c : Dev nD) (w : Fin cfg1.W) : (dat V c).A w = V c (Pipeline.arrRef spec1 w) := by dsimp only [dat]

/-- What the body leaves in window 0's buffer. -/
theorem after_0 (c : Dev nD) (t : Fin cfg1.N) : (dat V c).after 0 t = iblk V c 0 t := by dsimp only [dat]
/-- What the body leaves in window 1's buffer. -/
theorem after_1 (c : Dev nD) (t : Fin cfg1.N) : (dat V c).after 1 t = iblk V c 1 t := by dsimp only [dat]
/-- What the body leaves in window 2's buffer. -/
theorem after_2 (c : Dev nD) (t : Fin cfg1.N) : (dat V c).after 2 t = iblk V c 2 t := by dsimp only [dat]
/-- What the body leaves in window 3's buffer. -/
theorem after_3 (c : Dev nD) (t : Fin cfg1.N) : (dat V c).after 3 t = iblk V c 3 t := by dsimp only [dat]
/-- What the body leaves in window 4's buffer. -/
theorem after_4 (c : Dev nD) (t : Fin cfg1.N) : (dat V c).after 4 t = iblk V c 4 t := by dsimp only [dat]
/-- What the body leaves in window 5's buffer. -/
theorem after_5 (c : Dev nD) (t : Fin cfg1.N) : (dat V c).after 5 t = iblk V c 5 t := by dsimp only [dat]
/-- What the body leaves in window 6's buffer. -/
theorem after_6 (c : Dev nD) (t : Fin cfg1.N) : (dat V c).after 6 t = iblk V c 6 t := by dsimp only [dat]
/-- What the body leaves in window 7's buffer. -/
theorem after_7 (c : Dev nD) (t : Fin cfg1.N) : (dat V c).after 7 t = (outsAt V c t.val t.isLt).1 := by dsimp only [dat]
/-- What the body leaves in window 8's buffer. -/
theorem after_8 (c : Dev nD) (t : Fin cfg1.N) : (dat V c).after 8 t = (outsAt V c t.val t.isLt).2.1 := by dsimp only [dat]
/-- What the body leaves in window 9's buffer. -/
theorem after_9 (c : Dev nD) (t : Fin cfg1.N) : (dat V c).after 9 t = (outsAt V c t.val t.isLt).2.2 := by dsimp only [dat]

/-- Input window 0's buffer holds its block when the body starts. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's buffer holds its block when the body starts. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's buffer holds its block when the body starts. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's buffer holds its block when the body starts. -/
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Input window 4's buffer holds its block when the body starts. -/
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Input window 5's buffer holds its block when the body starts. -/
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
/-- Input window 6's buffer holds its block when the body starts. -/
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
/-- At a later point the buffer of the gradient of the keys and values holds what the point before left. -/
theorem before_8 (c : Dev nD) (t : Fin cfg1.N) (h0 : ¬ t.val = 0) (d) : (dat V c).before 8 t d = (prevAt V c t).2.1 := by
  have hN : t.val < 16 := lt_of_lt_of_eq t.isLt (show cfg1.N = 16 from N_1)
  rw [Dat.before_out_kept _ 8 rfl t (by omega) (Bool.eq_false_iff.mpr fun h => by have := (flush1_8 _).mp h; dsimp only at this; omega)
    (fun _ => rfl) (fun _ _ => rfl)]
  dsimp only [dat]
/-- At a later point the buffer of the gradient of the sinks holds what the point before left. -/
theorem before_9 (c : Dev nD) (t : Fin cfg1.N) (h0 : ¬ t.val = 0) (d) : (dat V c).before 9 t d = (prevAt V c t).2.2 := by
  have hN : t.val < 16 := lt_of_lt_of_eq t.isLt (show cfg1.N = 16 from N_1)
  rw [Dat.before_out_kept _ 9 rfl t (by omega) (Bool.eq_false_iff.mpr fun h => by have := (flush1_9 _).mp h; dsimp only at this; omega)
    (fun _ => rfl) (fun _ _ => rfl)]
  dsimp only [dat]

/-- Everything the region's rest holds besides the two scratch buffers. -/
theorem rest_eq (c : Dev nD) : ∃ Q : sProp 𝕄, (Pipeline.ΦA spec1 c : sProp 𝕄) =
    iprop(((∃ d, owns (c : Thread nD τ) (sc0 : Memref sig .tc .vmem S2x512x256 .f32) fullShare d)
      ∗ (∃ d, owns (c : Thread nD τ) (sc1 : Memref sig .tc .vmem S2x512x256 .bf16) fullShare d) ∗ Q) ∗ (∃ r, prngReg c r)) := by
  refine ⟨bigSepL [cc0_stg1_0, cc0_stg2_0, cc0_stg2_1, cc0_stg3_0, cc0_stg3_1, cc0_stg4_0, cc0_stg4_1, cc0_scratch0, cc0_stg0_0]
    fun b => iprop(∃ f : Buf (Elt F) ((c : Thread nD τ).loc b), ((c : Thread nD τ).loc b) ↦{fullShare} f), ?_⟩
  unfold Pipeline.ΦA
  rw [Pipeline.scopedRest_eq_of_list spec1 c [cc1_scratch0, cc1_scratch1, cc0_stg1_0, cc0_stg2_0, cc0_stg2_1, cc0_stg3_0, cc0_stg3_1,
    cc0_stg4_0, cc0_stg4_1, cc0_scratch0, cc0_stg0_0] (by decide) (by decide)]
  simp only [sc0, sc1, owns_whole]; try rfl

/-- What the body at grid point `t` starts from. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d)) ∗ (∃ d, owns (c : Thread nD τ) (ms1 t) fullShare ((dat V c).before 1 t d)) ∗ (∃ d, owns (c : Thread nD τ) (ms2 t) fullShare ((dat V c).before 2 t d)) ∗ (∃ d, owns (c : Thread nD τ) (ms3 t) fullShare ((dat V c).before 3 t d)) ∗ (∃ d, owns (c : Thread nD τ) (ms4 t) fullShare ((dat V c).before 4 t d)) ∗ (∃ d, owns (c : Thread nD τ) (ms5 t) fullShare ((dat V c).before 5 t d)) ∗ (∃ d, owns (c : Thread nD τ) (ms6 t) fullShare ((dat V c).before 6 t d)) ∗ (∃ d, owns (c : Thread nD τ) (ms7 t) fullShare ((dat V c).before 7 t d)) ∗ (∃ d, owns (c : Thread nD τ) (ms8 t) fullShare ((dat V c).before 8 t d)) ∗ (∃ d, owns (c : Thread nD τ) (ms9 t) fullShare ((dat V c).before 9 t d)))
/-- What it ends with. -/
def bodyPost (c : Dev nD) (t : Fin cfg1.N) : sProp 𝕄 :=
  iprop((dat V c).Φ t.succ ∗ (dat V c).owesAt () t.succ
    ∗ owns (c : Thread nD τ) (ms0 t) fullShare ((dat V c).after 0 t) ∗ owns (c : Thread nD τ) (ms1 t) fullShare ((dat V c).after 1 t) ∗ owns (c : Thread nD τ) (ms2 t) fullShare ((dat V c).after 2 t) ∗ owns (c : Thread nD τ) (ms3 t) fullShare ((dat V c).after 3 t) ∗ owns (c : Thread nD τ) (ms4 t) fullShare ((dat V c).after 4 t) ∗ owns (c : Thread nD τ) (ms5 t) fullShare ((dat V c).after 5 t) ∗ owns (c : Thread nD τ) (ms6 t) fullShare ((dat V c).after 6 t) ∗ owns (c : Thread nD τ) (ms7 t) fullShare ((dat V c).after 7 t) ∗ owns (c : Thread nD τ) (ms8 t) fullShare ((dat V c).after 8 t) ∗ owns (c : Thread nD τ) (ms9 t) fullShare ((dat V c).after 9 t))

set_option maxHeartbeats 6400000 in
/-- The body takes the one to the other. -/
theorem sound_body (c : Dev nD) (t : Fin cfg1.N) :
    bodyPre V c t ⊢ wp frame (wpE (defs₀ (F := F)) Variants.none c none) Set.univ (bodyAt1 t) (fun _ => bodyPost V c t) := by
  obtain ⟨Q, hQ⟩ := rest_eq (F := F) c
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl, after_0, after_1, after_2, after_3, after_4, after_5, after_6, after_7, after_8, after_9,
    show (dat V c).Φ t.castSucc = Pipeline.ΦA spec1 c from rfl, hQ]
  by_cases h0 : t.val = 0
  · rw [outsAt_first V c t h0]; dsimp only
    iintro ⟨⟨⟨HS0, HS1, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((firstAt V c t h0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%f7, H7⟩, ⟨%f8, H8⟩, ⟨%f9, H9⟩, ⟨%g0, HS0⟩, ⟨%g1, HS1⟩⟩
    isplitl [HS0 HS1 HR1 Hg]
    · isplitl [HS0 HS1 HR1]
      · isplitl [HS0]
        · iexists _; unfold owns; iexists _; isplitr
          swap; · iexact HS0
          ipureintro; rfl
        isplitl [HS1]
        · iexists _; unfold owns; iexists _; isplitr
          swap; · iexact HS1
          ipureintro; rfl
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (cover_q_first V c t h0)
    isplitl [H8]
    · unfold owns; iexists _; isplitr
      swap; · iexact H8
      ipureintro; exact View.read_writes_eq_canon _ _ _ (cover_k_first V c t h0)
    unfold owns; iexists _; isplitr
    swap; · iexact H9
    ipureintro; exact View.read_writes_eq_canon _ _ _ (cover_s_first V c t h0)
  · rw [outsAt_later V c t h0]; dsimp only
    simp only [before_8 V c t h0, before_9 V c t h0]
    iintro ⟨⟨⟨HS0, HS1, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((laterAt V c t h0 (prevAt V c t).2.1 (prevAt V c t).2.2).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, ⟨%f7, H7⟩, H8, ⟨%f9, H9⟩, ⟨%g0, HS0⟩, ⟨%g1, HS1⟩⟩
    isplitl [HS0 HS1 HR1 Hg]
    · isplitl [HS0 HS1 HR1]
      · isplitl [HS0]
        · iexists _; unfold owns; iexists _; isplitr
          swap; · iexact HS0
          ipureintro; rfl
        isplitl [HS1]
        · iexists _; unfold owns; iexists _; isplitr
          swap; · iexact HS1
          ipureintro; rfl
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (cover_q_later V c t h0 _ _)
    isplitl [H8]
    · unfold owns; iexists _; isplitr
      swap; · iexact H8
      ipureintro; rfl
    unfold owns; iexists _; isplitr
    swap; · iexact H9
    ipureintro; exact View.read_writes_eq_canon _ _ _ (cover_s_later V c t h0 _ _)

/-- The table of bodies at this pipeline is the body at the point's buffers. -/
theorem defs_row (t : Fin cfg1.N) : defs₀ (F := F) .tc cfg1.body (cfg1.bodyArgs t (cfg1.slots t)) = bodyAt1 t := by
  unfold defs₀; rw [Defs.onTc_tc]

/-- The pipeline's body obligation, at every point. -/
theorem body_obligation (c : Dev nD) : BodyObligation (dat (F := F) V c) (defs₀ (F := F)) Variants.none () Set.univ := fun t => by
  rw [bigSep_W1, bigSep_W1, defs_row]
  exact triple_restated (sound_body V c t) rfl .rfl fun _ => .rfl

end Cert.AttnBackward

end
-- ==== Proof.AttnFrame.lean ====
module

public import proofs.«01_k».proof.Proof.AttnForwardBody
public import proofs.«01_k».proof.Proof.AttnBackwardBody
public import Idealize.ShloMosaic.PureOps.Ideal
public import Idealize.ShloMosaic.PureOps.BitExact

/-!
# The attention program from launch to return

The program of the two attention calls, forward then backward, run once in any float semantics: every execution ends,
nothing faults, and every buffer outside the calls' staging ends at the contents `W3`, which follow the host operations
and the two pipelines (`run_all`).  The frame claims of both readings of the program follow from it, since at the
machine's floats the two programs are the same text.
-/

@[expose] public section

set_option maxRecDepth 16384

noncomputable section

namespace Cert.AttnFrame

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2]
/-- No host operation allocates a buffer. -/
theorem hostOps0_fresh : (hostOps0 : List (HloOp τ sig (Elt F))).Forall fun op => op.fresh = ∅ := by
  simp only [List.Forall]; repeat' constructor
/-- What the host operations write, in order. -/
abbrev hostOps0_W : List (Ref sig .tc) := [main_v0, main_v1, main_cst, main_v2]
/-- They write nothing else. -/
theorem hostOps0_writes : (hostOps0 : List (HloOp τ sig (Elt F))).Forall fun op => op.writes ⊆ (hostOps0_W.map (Proc.devRef (τ := τ) .tc)).toFinset :=
  StableHlo.forall_writes_sub_of_map rfl
/-- They write no argument. -/
theorem hostOps0_args : ∀ a ∈ argRefs, a ∉ hostOps0_W := ListAll.forall_mem_of_all_decide (by decide +kernel)

/-- The buffers at launch. -/
abbrev W0 : Dev nD → Valuation τ sig (Elt F) := fun c b => (s₀ m ρ).mem ((c : Dev nD), b)
/-- The buffers after the host operations. -/
abbrev W1 : Dev nD → Valuation τ sig (Elt F) := fun c => StableHlo.after hostOps0 (W0 m ρ c)
/-- A buffer the host operations do not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are unchanged by then. -/
theorem W1_args (c : Dev nD) : ∀ a ∈ argRefs, W1 m ρ c (Proc.devRef .tc a) = m ((c : Thread nD τ).loc a) :=
  fun a ha => (W1_of m ρ c a (hostOps0_args a ha)).trans rfl
/-- The same buffers by TensorCore reference. -/
abbrev V1 : (c : Dev nD) → (b : Ref sig .tc) → Buf (Elt F) ((c : Thread nD τ).loc b) := fun c b => W1 m ρ c b

/-- The buffers when pipeline 0 is left: its arrays at what its write-backs leave, every other as it was. -/
def W2 (c : Dev nD) : Valuation τ sig (Elt F) :=
  Pipeline.withArrays spec0 c (W1 m ρ c) fun w => (AttnForward.dat (V1 m ρ) c).arrAt w cfg0.N
/-- At an array of the pipeline they are those. -/
theorem W2_arr (c : Dev nD) (w : Fin cfg0.W) :
    W2 m ρ c (Proc.devRef .tc (Pipeline.arrRef spec0 w)) = (AttnForward.dat (V1 m ρ) c).arrAt w cfg0.N := by
  unfold W2; exact Pipeline.withArrays_arr spec0 launch0.win.arr_inj c _ _ w
/-- At any other buffer they are the ones it was entered with. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of the pipeline keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((AttnForward.dat (V1 m ρ) c).arrAt_in w (h w rfl) _).trans (AttnForward.A_eq (V1 m ρ) c w))
  · exact W2_of_ne m ρ c r fun w e => hw ⟨w, e⟩
/-- No argument is an output of the pipeline. -/
theorem argsIn0 : ∀ a ∈ argRefs, ∀ w : Fin cfg0.W, Pipeline.arrRef spec0 w = a → (cfg0.win w).isOut = false :=
  ListAll.forall_mem_of_all_decide (by decide +kernel)
/-- The arguments are unchanged by then. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same buffers by TensorCore reference. -/
abbrev V2 : (c : Dev nD) → (b : Ref sig .tc) → Buf (Elt F) ((c : Thread nD τ).loc b) := fun c b => W2 m ρ c b
/-- The pipeline's arrays at its exit. -/
theorem hF0 (c : Dev nD) (w : Fin cfg0.W) : (AttnForward.dat (V1 m ρ) c).arrAt w cfg0.N = V2 m ρ c (Pipeline.arrRef spec0 w) :=
  (W2_arr m ρ c w).symm
/-- Every other buffer at its exit. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when pipeline 1 is left: its arrays at what its write-backs leave, every other as it was. -/
def W3 (c : Dev nD) : Valuation τ sig (Elt F) :=
  Pipeline.withArrays spec1 c (W2 m ρ c) fun w => (AttnBackward.dat (V2 m ρ) c).arrAt w cfg1.N
/-- At an array of the pipeline they are those. -/
theorem W3_arr (c : Dev nD) (w : Fin cfg1.W) :
    W3 m ρ c (Proc.devRef .tc (Pipeline.arrRef spec1 w)) = (AttnBackward.dat (V2 m ρ) c).arrAt w cfg1.N := by
  unfold W3; exact (AttnBackward.dat (V2 m ρ) c).withArrays_arrAt launch₀1.sharedIn _ (AttnBackward.A_eq (V2 m ρ) c) w
/-- At any other buffer they are the ones it was entered with. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output of the pipeline keeps its contents. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((AttnBackward.dat (V2 m ρ) c).arrAt_in w (h w rfl) _).trans (AttnBackward.A_eq (V2 m ρ) c w))
  · exact W3_of_ne m ρ c r fun w e => hw ⟨w, e⟩
/-- No argument is an output of the pipeline. -/
theorem argsIn1 : ∀ a ∈ argRefs, ∀ w : Fin cfg1.W, Pipeline.arrRef spec1 w = a → (cfg1.win w).isOut = false :=
  ListAll.forall_mem_of_all_decide (by decide +kernel)
/-- The arguments are unchanged by then. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same buffers by TensorCore reference. -/
abbrev V3 : (c : Dev nD) → (b : Ref sig .tc) → Buf (Elt F) ((c : Thread nD τ).loc b) := fun c b => W3 m ρ c b
/-- The pipeline's arrays at its exit. -/
theorem hF1 (c : Dev nD) (w : Fin cfg1.W) : (AttnBackward.dat (V2 m ρ) c).arrAt w cfg1.N = V3 m ρ c (Pipeline.arrRef spec1 w) :=
  (W3_arr m ρ c w).symm
/-- Every other buffer at its exit. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The prefetched tables' contents: there is none. -/
abbrev adm : (p : Fin 2) → (pcfgs (F := F) p).Adm := fun p => (cfgs p).toPCfg_adm
/-- Both pipelines' proof data, each from the buffers it is entered with. -/
def pdats : (p : Fin 2) → (c : Dev nD) → Dat τ (Elt F) Unit ℕ (UR sig nD τ) ℕ (Pipeline.pin (pcfgs (F := F)) adm p) c
  | ⟨0, _⟩ => fun c => AttnForward.dat (V1 m ρ) c
  | ⟨1, _⟩ => fun c => AttnBackward.dat (V2 m ρ) c
/-- No variant is counted down. -/
abbrev 𝒱₀ : Variants := Variants.none
/-- No core owes another anything. -/
abbrev L : GSem nD τ sig → Finset Unit := fun _ => ∅
/-- So no level is needed. -/
abbrev lv : GSem nD τ sig → Unit → ℕ := fun _ _ => 0
/-- What rides beside the buffers: the generator register, and that nothing is owed. -/
abbrev R (c : Dev nD) : sProp 𝕄 := iprop((∃ r, prngReg c r) ∗ ∃ W, owes (c : Thread nD τ) (0 : CellTallies nD τ sig Unit) W)
/-- The host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A buffer outside the calls' staging is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Pipeline 0 as a segment of the program: entered from the buffers `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (AttnForward.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (AttnForward.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment of the program: entered from the buffers `W2`, left at `W3`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (AttnBackward.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (AttnBackward.A_eq (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub hostOps0_fresh (W0 m ρ)), .region (reg0 m ρ), .region (reg1 m ρ) ]
/-- The program is the run of its segments. -/
theorem main_run (c : Dev nD) : main (F := F) c = Pipeline.Seg.run (segs m ρ) := (main_chain c).trans (by chain_rfl)
/-- Every semaphore belongs to a call. -/
theorem no_unscoped : ∀ sm : SemLoc sig, sm.isScoped .tc = true := by decide

set_option backward.isDefEq.respectTransparency.types false in
/-- The whole run: every buffer outside the calls' staging ends at `W3`, every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments end as they were launched and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (mem_uc main_arg0 (by decide))).trans (W3_args m ρ c main_arg0 (by decide)),
     (h.1 c _ (mem_uc main_arg1 (by decide))).trans (W3_args m ρ c main_arg1 (by decide)),
     (h.1 c _ (mem_uc main_arg2 (by decide))).trans (W3_args m ρ c main_arg2 (by decide))⟩, h.2⟩) (run_all m ρ)

end Cert.AttnFrame

end
-- ==== Proof.AttnClaims.lean ====
module

public import proofs.«01_k».proof.Defs
public import proofs.«01_k».proof.Proof.AttnFrame
public import proofs.«01_k».proof.Proof.Gen.Kernel2
public import Idealize.ShloMosaic.Lib.Tactic

/-!
# The frames of the attention program

The attention program, as the machine runs it and as the claims of its values read it, ends with its arguments
unchanged and every semaphore at zero.  Both follow from the one run of `AttnFrame`: at the machine's floats a named
constant is read as the bits it is printed with, and then the two programs are the same text.
-/

@[expose] public section

set_option maxRecDepth 65536

noncomputable section

namespace Cert.AttnClaims

open Idealize.ShloMosaic Idealize.ShloMosaic.TcCoe Idealize.SL.Sem

/-- At the machine's floats a named constant is the bits printed beside its name. -/
local instance namedBits : Named Bits := ⟨fun _ _ {φ} bits => FloatOps.ofBits φ bits⟩

set_option maxHeartbeats 4000000 in
/-- At the machine's floats the two programs have the same table of bodies … -/
theorem defs_eq : Cert.Kernel2.defs (F := Bits) = Cert.Kernel2Ideal.defs (F := Bits) := by sl_kernel_rfl

set_option maxHeartbeats 4000000 in
/-- … and the same main. -/
theorem main_eq : Cert.Kernel2.main (F := Bits) = Cert.Kernel2Ideal.main (F := Bits) := by sl_kernel_rfl

/-- The frame of the program as the machine runs it. -/
theorem frame_kernel : Cert.quiescent_Kernel2 (hKernel2 := Cert.Kernel2.Gen.facts) := fun m ρ _ => by
  have h := Cert.AttnFrame.frame (F := Bits) m ρ
  rw [← defs_eq, ← main_eq] at h
  exact h

/-- The frame of the program over the extended reals. -/
theorem frame_ideal : Cert.quiescent_Kernel2Ideal (hKernel2Ideal := Cert.Kernel2Ideal.Gen.facts) :=
  fun m ρ _ => Cert.AttnFrame.frame (F := Ideal) m ρ

/-- The masking constant is read as `-∞`. -/
theorem preserves : Cert.preserves_Kernel2_Kernel2Ideal :=
  IdealRules.named_const.statement Cert.Kernel2Ideal.κ "mask" .f32 0xF149F2CA#32 ⊥ rfl

end Cert.AttnClaims

end
-- ==== Proof.AttnSpec.lean ====
module

public import Idealize.ShloMosaic.Lib.Pointwise

/-! Windowed attention with one sink logit per head, and its gradient, over the real numbers.

Row `r` of head `h` looks at the keys `j` with `j ≤ r < j + 128`. Queries, keys and values are columns of one array `X`:
the queries of head `h` at `64 h`, the keys and the values of its group `h / 4` at `512 + 64 (h / 4)` and
`640 + 64 (h / 4)`. `sk h` is the sink logit, `G` the gradient of the attention's output. -/

@[expose] public section

noncomputable section

open Idealize.ShloMosaic

namespace Cert.Attn

section Reals

variable (X : ℕ → ℕ → ℝ) (sk : ℕ → ℝ) (G : ℕ → ℕ → ℝ)

/-- Key `j` lies in the window of row `r`. -/
abbrev Valid (r j : ℕ) : Prop := j ≤ r ∧ r < j + 128

/-- The scaled logit. -/
def score (r h j : ℕ) : ℝ := (∑ d : Fin 64, X r (64 * h + d) * X j (512 + 64 * (h / 4) + d)) * (1 / 8)

/-- The exponential of the masked logit. -/
def expo (r h j : ℕ) : ℝ := if Valid r j then Real.exp (score X r h j) else 0

/-- The softmax' denominator, the sink's term included. -/
def tot (r h : ℕ) : ℝ := ∑ j ∈ Finset.range 2048, expo X r h j + Real.exp (sk h)

/-- The weight of key `j`. -/
def prob (r h j : ℕ) : ℝ := expo X r h j / tot X sk r h

/-- The attention's output at column `c`. -/
def out (r c : ℕ) : ℝ := ∑ j ∈ Finset.range 2048, prob X sk r (c / 64) j * X j (640 + 64 * (c / 64 / 4) + c % 64)

/-- The gradient of the weight of key `j`. -/
def dprob (r h j : ℕ) : ℝ := ∑ d : Fin 64, G r (64 * h + d) * X j (640 + 64 * (h / 4) + d)

/-- The row's inner product of the weights with their gradients. -/
def inner (r h : ℕ) : ℝ := ∑ j ∈ Finset.range 2048, prob X sk r h j * dprob X G r h j

/-- The gradient of the masked logit. -/
def dscore (r h j : ℕ) : ℝ := prob X sk r h j * (dprob X G r h j - inner X sk G r h)

/-- The queries' gradient. -/
def dq (r c : ℕ) : ℝ :=
  (∑ j ∈ Finset.range 2048, dscore X sk G r (c / 64) j * X j (512 + 64 * (c / 64 / 4) + c % 64)) * (1 / 8)

/-- What the rows below `n` add to the keys' gradient, before the logits' scale. -/
def dk (n j c : ℕ) : ℝ :=
  ∑ e : Fin 4, ∑ r ∈ Finset.range n, dscore X sk G r (4 * (c / 64) + e) j * X r (64 * (4 * (c / 64) + e) + c % 64)

/-- What the rows below `n` add to the values' gradient. -/
def dv (n j c : ℕ) : ℝ :=
  ∑ e : Fin 4, ∑ r ∈ Finset.range n, prob X sk r (4 * (c / 64) + e) j * G r (64 * (4 * (c / 64) + e) + c % 64)

/-- The gradient of the keys, in the first 128 columns, and of the values, from the rows below `n`. -/
def dkv (n j c : ℕ) : ℝ := if c < 128 then dk X sk G n j c * (1 / 8) else dv X sk G n j (c - 128)

/-- The gradient of the sink logit from the rows below `n`. -/
def dsink (n h : ℕ) : ℝ :=
  ∑ r ∈ Finset.range n, -(Real.exp (sk h) / tot X sk r h * inner X sk G r h)

theorem expo_of_not {r h j : ℕ} (hv : ¬ Valid r j) : expo X r h j = 0 := if_neg hv

theorem prob_of_not {r h j : ℕ} (hv : ¬ Valid r j) : prob X sk r h j = 0 := by
  rw [prob, expo_of_not X hv, zero_div]

theorem dscore_of_not {r h j : ℕ} (hv : ¬ Valid r j) : dscore X sk G r h j = 0 := by
  rw [dscore, prob_of_not X sk hv, zero_mul]

theorem tot_pos (r h : ℕ) : 0 < tot X sk r h := by
  refine add_pos_of_nonneg_of_pos (Finset.sum_nonneg fun j _ => ?_) (Real.exp_pos _)
  unfold expo
  split
  · exact (Real.exp_pos _).le
  · exact le_rfl

/-- The first key of the band of 256 keys that the kernel reads for the rows of block `n`. -/
abbrev base (n : ℕ) : ℕ := (n - 1) * 128

/-- The rows of block `n` see no key outside the block's band: a sum over the band is the sum over all keys. -/
theorem band_sum {n a : ℕ} (hn : n < 16) (ha : a < 128) (f : ℕ → ℝ) (hf : ∀ j, ¬ Valid (n * 128 + a) j → f j = 0) :
    ∑ k : Fin 256, f (base n + k) = ∑ j ∈ Finset.range 2048, f j := by
  rw [Fin.sum_univ_eq_sum_range (fun k => f (base n + k)) 256]
  have h := Finset.sum_Ico_eq_sum_range f (base n) (base n + 256)
  rw [Nat.add_sub_cancel_left] at h
  rw [← h]
  refine Finset.sum_subset (fun j hj => ?_) fun j _ hj => hf j ?_ <;> dsimp only [base] at hj
  · rw [Finset.mem_Ico] at hj
    exact Finset.mem_range.mpr (by omega)
  · rw [Finset.mem_Ico] at hj
    omega

/-- The same for a band that starts one block below the rows' block, with zeros below the first key. -/
theorem padded_band_sum {n a : ℕ} (hn : n < 16) (ha : a < 128) (f : ℕ → ℝ)
    (hf : ∀ j, ¬ Valid (n * 128 + a) j → f j = 0) :
    ∑ k : Fin 256, (if 128 ≤ n * 128 + k.val then f (n * 128 + k - 128) else 0) = ∑ j ∈ Finset.range 2048, f j := by
  rcases Nat.eq_zero_or_pos n with rfl | h
  · rw [Fin.sum_univ_eq_sum_range (fun k => if 128 ≤ 0 * 128 + k then f (0 * 128 + k - 128) else 0) 256,
      Finset.sum_range_add (n := 128) (m := 128),
      Finset.sum_eq_zero fun k hk => if_neg (by have := Finset.mem_range.mp hk; omega), zero_add]
    refine Eq.trans (Finset.sum_congr rfl fun k _ => ?_)
      (Finset.sum_subset (s₁ := Finset.range 128) (fun j hj => ?_) fun j _ hj => hf j ?_)
    · rw [if_pos (by omega)]
      exact congrArg f (by omega)
    · have := Finset.mem_range.mp hj
      exact Finset.mem_range.mpr (by omega)
    · have := mt Finset.mem_range.mpr hj
      omega
  · rw [← band_sum hn ha f hf]
    refine Finset.sum_congr rfl fun k _ => ?_
    rw [if_pos (by omega)]
    exact congrArg f (by unfold base; omega)

/-- Sums over the rows, one block of 128 rows at a time. -/
theorem range_block (f : ℕ → ℝ) (n : ℕ) :
    ∑ r ∈ Finset.range ((n + 1) * 128), f r = ∑ r ∈ Finset.range (n * 128), f r + ∑ a : Fin 128, f (n * 128 + a) := by
  rw [Nat.succ_mul, Finset.sum_range_add, Fin.sum_univ_eq_sum_range (fun a => f (n * 128 + a)) 128]

end Reals

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers is a real number. -/
theorem sum_mul_eq {n : ℕ} {a b : Fin n → EReal} {a' b' : Fin n → ℝ} (ha : ∀ k, a k = (a' k : EReal))
    (hb : ∀ k, b k = (b' k : EReal)) : ∑ k, a k * b k = ((∑ k, a' k * b' k : ℝ) : EReal) := by
  rw [coe_sum]
  exact Finset.sum_congr rfl fun k _ => by rw [ha, hb, EReal.coe_mul]

section Row

variable {n : ℕ} (v : Fin n → Prop) [DecidablePred v] (S : Fin n → ℝ) (σ : ℝ)

/-- A masked row of logits. -/
def masked (k : Fin n) : EReal := if v k then (S k : EReal) else ⊥

/-- The exponential of a masked logit. -/
def eRow (k : Fin n) : ℝ := if v k then Real.exp (S k) else 0

/-- The row's softmax denominator. -/
def zRow : ℝ := ∑ k, eRow v S k + Real.exp σ

/-- The row's maximum, joined with a real number, is a real number. -/
theorem row_max (s : Fin n → EReal) (hs : ∀ k, s k ≠ ⊤) :
    ∃ M : ℝ, max (Finset.fold max (Ideal.ofBits .f32 4286578688#32) s Finset.univ) (σ : EReal) = (M : EReal) := by
  have hb : Ideal.ofBits .f32 4286578688#32 = ⊥ := by simp [Ideal.ofBits, Ideal.ieee]
  refine ⟨_, (EReal.coe_toReal (ne_of_lt (max_lt ?_ (EReal.coe_lt_top σ))) (ne_of_gt (lt_of_lt_of_le (EReal.bot_lt_coe σ)
    (le_max_right _ _)))).symm⟩
  rw [hb, Finset.fold_max_lt]
  exact ⟨bot_lt_top, fun k _ => lt_top_iff_ne_top.mpr (hs k)⟩

theorem masked_ne_top (k : Fin n) : masked v S k ≠ ⊤ := by
  unfold masked
  split
  · exact EReal.coe_ne_top _
  · exact bot_ne_top

theorem zRow_pos : 0 < zRow v S σ := by
  refine add_pos_of_nonneg_of_pos (Finset.sum_nonneg fun k _ => ?_) (Real.exp_pos _)
  unfold eRow
  split
  · exact (Real.exp_pos _).le
  · exact le_rfl

/-- The exponential of a masked logit less the maximum. -/
theorem exp_masked (M : ℝ) (k : Fin n) :
    Ideal.exp (masked v S k - (M : EReal)) = ((eRow v S k * Real.exp (-M) : ℝ) : EReal) := by
  unfold masked eRow
  split
  · rw [← EReal.coe_sub, Ideal.exp_coe, sub_eq_add_neg, Real.exp_add]
  · rw [EReal.bot_sub, Ideal.exp_bot, zero_mul, EReal.coe_zero]

theorem exp_sink (M : ℝ) : Ideal.exp ((σ : EReal) - (M : EReal)) = ((Real.exp σ * Real.exp (-M) : ℝ) : EReal) := by
  rw [← EReal.coe_sub, Ideal.exp_coe, sub_eq_add_neg, Real.exp_add]

/-- The denominator the program has. -/
theorem den_eq (M : ℝ) : ∑ k, Ideal.exp (masked v S k - (M : EReal)) + Ideal.exp ((σ : EReal) - (M : EReal))
    = ((zRow v S σ * Real.exp (-M) : ℝ) : EReal) := by
  rw [exp_sink, Finset.sum_congr rfl fun k _ => exp_masked v S M k, ← coe_sum, ← EReal.coe_add, zRow, add_mul,
    Finset.sum_mul]

/-- The weight the program has. -/
theorem prob_eq (M : ℝ) (k : Fin n) : Ideal.exp (masked v S k - (M : EReal))
      * Ideal.div 1 (∑ k, Ideal.exp (masked v S k - (M : EReal)) + Ideal.exp ((σ : EReal) - (M : EReal)))
    = ((eRow v S k / zRow v S σ : ℝ) : EReal) := by
  have hz : zRow v S σ * Real.exp (-M) ≠ 0 := (mul_pos (zRow_pos v S σ) (Real.exp_pos _)).ne'
  rw [den_eq, exp_masked, Ideal.div_coe hz, one_mul, ← EReal.coe_mul]
  congr 1
  have := (zRow_pos v S σ).ne'
  have := (Real.exp_pos (-M)).ne'
  field_simp

/-- The logarithm of the denominator the program has. -/
theorem lse_eq (M : ℝ) : (M : EReal)
      + Ideal.log (∑ k, Ideal.exp (masked v S k - (M : EReal)) + Ideal.exp ((σ : EReal) - (M : EReal)))
    = ((Real.log (zRow v S σ) : ℝ) : EReal) := by
  have hz : 0 < zRow v S σ * Real.exp (-M) := mul_pos (zRow_pos v S σ) (Real.exp_pos _)
  rw [den_eq, Ideal.log_coe, if_neg (not_le.mpr hz), ← EReal.coe_add,
    Real.log_mul (zRow_pos v S σ).ne' (Real.exp_pos _).ne', Real.log_exp]
  congr 1
  ring

end Row

/-- An order of two small naturals, compared as signed words. -/
theorem sle_ofNat {a b : ℕ} (ha : a < 4096) (hb : b < 4096) :
    (BitVec.ofNat 32 a).sle (BitVec.ofNat 32 b) = decide (a ≤ b) := by
  rw [BitVec.sle_eq_decide]
  refine decide_eq_decide.mpr ?_
  rw [BitVec.toInt_ofNat', BitVec.toInt_ofNat', Int.bmod_def, Int.bmod_def]
  omega

/-- The lower bound of the window, compared as signed words. -/
theorem slt_ofNat_sub {a b : ℕ} (ha : a < 4096) (hb : b < 4096) :
    (BitVec.ofNat 32 a - 128#32).slt (BitVec.ofNat 32 b) = decide (a < b + 128) := by
  rw [BitVec.slt_eq_decide]
  refine decide_eq_decide.mpr ?_
  have h (x : ℕ) (hx : x < 4096) : (BitVec.ofNat 32 x).toInt = x := by
    rw [BitVec.toInt_ofNat', Int.bmod_def]
    omega
  rw [BitVec.toInt_sub, h a ha, h b hb, show (128#32 : BitVec 32).toInt = 128 from rfl, Int.bmod_def]
  omega

end Cert.Attn
end
-- ==== Proof.AttnFinite.lean ====
module

public import proofs.«01_k».proof.Defs
public import proofs.«01_k».proof.Proof.Gen.Kernel2Ideal
public import proofs.«01_k».proof.Proof.AttnSpec

/-! The precondition of the attention's claim, read: every element of the three arguments is a real number. -/

@[expose] public section

noncomputable section

open Idealize.ShloMosaic Idealize.ShloMosaic.TcCoe Idealize.ShloMosaic.Tactic

namespace Cert.AttnFinite

instance facts : Cert.Pre_finite2.Facts where
  bcast_S1x8_S2048x8_0_1 := by decide
  concatenates_S2048x768_S2048x512_S2048x8_S2048x1288_d1 := by decide
  bcast_S_S2048x1288 := by decide

/-- An extended real whose absolute value lies below `⊤` is a real number. -/
theorem real_of_abs {x : EReal}
    (h : BitVec.ofBool (decide (FloatOps.absf (F := Ideal) (φ := .f32) x < Ideal.ofBits .f32 2139095040#32)) = 1#1) :
    x = (x.toReal : EReal) := by
  have ht : Ideal.ofBits .f32 2139095040#32 = ⊤ := by simp [Ideal.ofBits, Ideal.ieee]
  rw [ht] at h
  have hlt : max x (-x) < ⊤ := by
    by_contra hn
    rw [show FloatOps.absf (F := Ideal) (φ := .f32) x = max x (-x) from rfl, decide_eq_false hn] at h
    exact absurd h (by decide)
  obtain ⟨h1, h2⟩ := max_lt_iff.mp hlt
  refine (EReal.coe_toReal h1.ne fun hb => ?_).symm
  rw [hb, EReal.neg_bot] at h2
  exact lt_irrefl _ h2

/-- Where the precondition holds, every element of the three arguments is a real number. -/
theorem real (x0 : FVec Ideal Cert.Pre_finite2.S2048x768 .f32) (x1 : FVec Ideal Cert.Pre_finite2.S1x8 .f32)
    (x2 : FVec Ideal Cert.Pre_finite2.S2048x512 .f32) (hp : Cert.Pre_finite2.fn (F := Ideal) x0 x1 x2 = fun _ => 1#1) :
    (∀ (r : Fin 2048) (d : Fin 768), x0 (ix2 r d) = (EReal.toReal (x0 (ix2 r d)) : EReal))
      ∧ (∀ h : Fin 8, x1 (ix2 0 h) = (EReal.toReal (x1 (ix2 0 h)) : EReal))
      ∧ ∀ (r : Fin 2048) (d : Fin 512), x2 (ix2 r d) = (EReal.toReal (x2 (ix2 r d)) : EReal) := by
  have key (r : Fin 2048) (c : Fin 1288) := congrFun hp (ix2 r c)
  unfold Cert.Pre_finite2.fn at key
  refine ⟨fun r d => real_of_abs (Eq.trans ?_ (key r ⟨d, by omega⟩)),
    fun h => real_of_abs (Eq.trans ?_ (key 0 ⟨1280 + h, by omega⟩)),
    fun r d => real_of_abs (Eq.trans ?_ (key r ⟨768 + d, by omega⟩))⟩
  · pointwise []
  · pointwise []
    refine congrArg (fun y : EReal => BitVec.ofBool (decide (FloatOps.absf (F := Ideal) (φ := .f32) y < _))) ?_
    refine ((dif_neg (show ¬ 1280 + h.val < 768 by omega)).trans
      ((dif_neg (show ¬ 1280 + h.val - 768 < 512 by omega)).trans ?_)).symm
    exact congrArg x1 (congrArg (ix2 0) (Fin.ext (by dsimp only; omega)))
  · pointwise []

end Cert.AttnFinite
end
-- ==== Proof.AttnPayload.lean ====
module

public import proofs.«01_k».proof.Proof.AttnSpec
public import proofs.«01_k».proof.Proof.Gen.Kernel2Ideal.Skeleton

/-! What the two attention bodies compute from the vectors they load, entry by entry, where every loaded entry is a real
number. One lemma for each kind of vector operation chain; the bodies repeat each chain for every head. -/

@[expose] public section

set_option maxRecDepth 16384

noncomputable section

open Idealize.ShloMosaic Idealize.ShloMosaic.TcCoe

namespace Cert.Attn

open Cert.Kernel2Ideal Cert.Kernel2Ideal.Gen

theorem ofBits_eighth : Ideal.ofBits .f32 1040187392#32 = ((1 / 8 : ℝ) : EReal) := by
  simp [Ideal.ofBits, Ideal.ieee, ← EReal.coe_mul]
  norm_num

/-- A block of queries against a band of keys. -/
theorem tile_at {q : Vec Ideal S128x64 .bf16} {k : Vec Ideal S256x64 .bf16} {Q : Fin 128 → Fin 64 → ℝ}
    {K : Fin 256 → Fin 64 → ℝ} (hq : ∀ a d, q (ix2 a d) = (Q a d : EReal)) (hk : ∀ j d, k (ix2 j d) = (K j d : EReal))
    (z : Fin 1) (a : Fin 128) (j : Fin 256) : k0_pay9 k q (ix3 z a j) = ((∑ d, Q a d * K j d : ℝ) : EReal) := by
  rw [← sum_mul_eq (fun d => hq a d) (fun d => hk j d)]
  pointwise [k0_pay9, k0_pay8]

/-- A block of weights against a band of values. -/
theorem weighted_at {p : Vec Ideal S1x128x256 .bf16} {v : FVec Ideal S256x64 .bf16} {P : Fin 128 → Fin 256 → ℝ}
    {W : Fin 256 → Fin 64 → ℝ} (hp : ∀ a j, p (ix3 0 a j) = (P a j : EReal)) (hv : ∀ j d, v (ix2 j d) = (W j d : EReal))
    (a : Fin 128) (d : Fin 64) : k0_pay2 v p (ix2 a d) = ((∑ j, P a j * W j d : ℝ) : EReal) := by
  rw [← sum_mul_eq (fun j => hp a j) (fun j => hv j d)]
  pointwise [k0_pay2]

section Softmax

variable (X : ℕ → ℕ → ℝ) (sk : ℕ → ℝ) (n g : ℕ)

/-- The row of the whole array that row `ρ` of a group's slab holds, and its head. -/
abbrev rowOf (ρ : ℕ) : ℕ := n * 128 + ρ % 128
abbrev headOf (ρ : ℕ) : ℕ := 4 * g + ρ / 128

/-- A group's logits before the scale. -/
def raw (ρ k : ℕ) : ℝ := ∑ d : Fin 64, X (rowOf n ρ) (64 * headOf g ρ + d) * X (base n + k) (512 + 64 * g + d)

/-- A word mask is the window of block `n`. -/
def IsWindow (m : IVec S512x256 1) : Prop :=
  ∀ (ρ : Fin 512) (k : Fin 256) (x y : EReal),
    Scalar.select (m (ix2 ρ k)) x y = if Valid (rowOf n ρ) (base n + k) then x else y

variable {X sk n g} {m : IVec S512x256 1} {s : Vec Ideal S1x512x256 .f32} {s0 s1 s2 s3 : Elt Ideal .f32}

theorem raw_eq {ρ : ℕ} (hρ : ρ < 512) (k : ℕ) :
    raw X n g ρ k * (1 / 8) = score X (rowOf n ρ) (headOf g ρ) (base n + k) := by
  rw [score, raw, show headOf g ρ / 4 = g by dsimp only [headOf]; omega]

theorem masked_at (hm : IsWindow n m) (hs : ∀ (ρ : Fin 512) (k : Fin 256), s (ix3 0 ρ k) = (raw X n g ρ k : EReal))
    (ρ : Fin 512) (k : Fin 256) : k0_pay31 m s (ix2 ρ k)
      = masked (fun k : Fin 256 => Valid (rowOf n ρ) (base n + k))
          (fun k : Fin 256 => score X (rowOf n ρ) (headOf g ρ) (base n + k)) k := by
  pointwise [k0_pay31]
  rw [hs, hm, ofBits_eighth, ← EReal.coe_mul, raw_eq ρ.isLt]
  rfl

theorem sink_at (h0 : s0 = (sk (4 * g) : EReal)) (h1 : s1 = (sk (4 * g + 1) : EReal)) (h2 : s2 = (sk (4 * g + 2) : EReal))
    (h3 : s3 = (sk (4 * g + 3) : EReal)) (ρ : Fin 512) (z : Fin 1) :
    k0_pay32 s0 s1 s2 s3 (ix2 ρ z) = (sk (headOf g ρ) : EReal) := by
  pointwise [k0_pay32]
  have hw : IntOp.shrui ArithUnit.vector (BitVec.ofNat 32 ρ) 7#32 = BitVec.ofNat 32 (ρ / 128) := by
    revert ρ; decide +kernel
  have hr : ρ.val / 128 < 4 := by omega
  rw [hw, headOf]
  generalize ρ.val / 128 = e at hr
  interval_cases e
  · exact h0
  · exact h1
  · exact h2
  · exact h3

variable (hn : n < 16) (hm : IsWindow n m)
  (hs : ∀ (ρ : Fin 512) (k : Fin 256), s (ix3 0 ρ k) = (raw X n g ρ k : EReal))
  (h0 : s0 = (sk (4 * g) : EReal)) (h1 : s1 = (sk (4 * g + 1) : EReal)) (h2 : s2 = (sk (4 * g + 2) : EReal))
  (h3 : s3 = (sk (4 * g + 3) : EReal))
include hm hs h0 h1 h2 h3

theorem max_at (ρ : Fin 512) : ∃ M : ℝ, k0_pay33 m s s0 s1 s2 s3 (ix2 ρ 0) = (M : EReal) := by
  obtain ⟨M, hM⟩ := row_max (sk (headOf g ρ)) (masked (fun k : Fin 256 => Valid (rowOf n ρ) (base n + k))
    (fun k : Fin 256 => score X (rowOf n ρ) (headOf g ρ) (base n + k))) (masked_ne_top _ _)
  refine ⟨M, hM ▸ ?_⟩
  pointwise [k0_pay33]
  simp only [masked_at hm hs, sink_at h0 h1 h2 h3]

include hn

theorem zRow_eq (ρ : Fin 512) : zRow (fun k : Fin 256 => Valid (rowOf n ρ) (base n + k))
      (fun k : Fin 256 => score X (rowOf n ρ) (headOf g ρ) (base n + k)) (sk (headOf g ρ))
    = tot X sk (rowOf n ρ) (headOf g ρ) := by
  rw [zRow, tot, ← band_sum hn (Nat.mod_lt ρ (by decide)) (expo X (rowOf n ρ) (headOf g ρ)) fun j hj => expo_of_not X hj]
  rfl

/-- A group's weights. -/
theorem probs_at (z : Fin 1) (ρ : Fin 512) (k : Fin 256) :
    k0_pay36 (k0_pay32 s0 s1 s2 s3) (k0_pay33 m s s0 s1 s2 s3) (k0_pay34 m s s0 s1 s2 s3) (ix3 z ρ k)
      = (prob X sk (rowOf n ρ) (headOf g ρ) (base n + k) : EReal) := by
  obtain ⟨M, hM⟩ := max_at hm hs h0 h1 h2 h3 ρ
  pointwise [k0_pay36, k0_pay35, k0_pay34]
  simp only [masked_at hm hs, sink_at h0 h1 h2 h3, hM, prob_eq, zRow_eq hn hm hs h0 h1 h2 h3]
  rfl

/-- A group's logarithms of the denominators. -/
theorem lse_at (ρ : Fin 512) (z : Fin 1) :
    k0_pay37 (k0_pay32 s0 s1 s2 s3) (k0_pay33 m s s0 s1 s2 s3) (k0_pay34 m s s0 s1 s2 s3) (ix2 ρ z)
      = ((Real.log (tot X sk (rowOf n ρ) (headOf g ρ)) : ℝ) : EReal) := by
  obtain ⟨M, hM⟩ := max_at hm hs h0 h1 h2 h3 ρ
  obtain rfl : z = 0 := Subsingleton.elim _ _
  pointwise [k0_pay37, k0_pay35, k0_pay34]
  simp only [masked_at hm hs, sink_at h0 h1 h2 h3, hM, lse_eq, zRow_eq hn hm hs h0 h1 h2 h3]

end Softmax

/-- The window's two comparisons, on words, are the window. -/
theorem window_select {b r ρ k : ℕ} (hb : b < 2048) (hr : r < 2048) (hρ : ρ < 512) (hk : k < 256) (x y : EReal) :
    Scalar.select (IntOp.andi
        (IntOp.cmpi .sle (IntOp.addi (BitVec.ofNat 32 b) (BitVec.ofNat 32 k))
          (IntOp.addi (BitVec.ofNat 32 r) (IntOp.andi (BitVec.ofNat 32 ρ) 127#32)))
        (IntOp.cmpi .sgt (IntOp.addi (BitVec.ofNat 32 b) (BitVec.ofNat 32 k))
          (IntOp.subi (IntOp.addi (BitVec.ofNat 32 r) (IntOp.andi (BitVec.ofNat 32 ρ) 127#32)) 128#32))) x y
      = if Valid (r + ρ % 128) (b + k) then x else y := by
  have ha : IntOp.andi (BitVec.ofNat 32 ρ) 127#32 = BitVec.ofNat 32 (ρ % 128) :=
    (by decide +kernel : ∀ ρ : Fin 512, IntOp.andi (BitVec.ofNat 32 ρ) 127#32 = BitVec.ofNat 32 (ρ % 128)) ⟨ρ, hρ⟩
  have hs (u v : ℕ) : IntOp.addi (BitVec.ofNat 32 u) (BitVec.ofNat 32 v) = BitVec.ofNat 32 (u + v) :=
    (BitVec.ofNat_add u v).symm
  rw [ha, hs, hs]
  unfold IntOp.cmpi IntOp.subi
  dsimp only
  rw [sle_ofNat (by omega) (by omega), slt_ofNat_sub (by omega) (by omega)]
  by_cases h1 : b + k ≤ r + ρ % 128 <;> by_cases h2 : r + ρ % 128 < b + k + 128 <;> simp only [h1, h2, Valid, decide_true,
    decide_false, and_self, and_true, true_and, and_false, false_and, if_true, if_false] <;> rfl

/-- The two masks of a grid point are the windows of its two blocks. -/
theorem window_first (i : grid0.Coords) : IsWindow (2 * (i 0).val) (k0_pay6 i) := by
  intro ρ k x y
  have hi : (i 0).val < 8 := (i 0).isLt
  pointwise [k0_pay6]
  have hb : Scalar.muli (Scalar.maxsi (Scalar.subi (Scalar.addi (Scalar.muli (BitVec.ofNat 32 (i 0).val) 2#32) 0#32) 1#32)
      0#32) 128#32 = BitVec.ofNat 32 (base (2 * (i 0).val)) := by
    generalize (i 0).val = e at hi
    interval_cases e <;> rfl
  have hr : Scalar.muli (Scalar.addi (Scalar.muli (BitVec.ofNat 32 (i 0).val) 2#32) 0#32) 128#32
      = BitVec.ofNat 32 (2 * (i 0).val * 128) := by
    generalize (i 0).val = e at hi
    interval_cases e <;> rfl
  rw [hb, hr]
  exact window_select (by dsimp only [base]; omega) (by omega) ρ.isLt k.isLt x y

theorem window_second (i : grid0.Coords) : IsWindow (2 * (i 0).val + 1) (k0_pay7 i) := by
  intro ρ k x y
  have hi : (i 0).val < 8 := (i 0).isLt
  pointwise [k0_pay7]
  have hb : Scalar.muli (Scalar.maxsi (Scalar.subi (Scalar.addi (Scalar.muli (BitVec.ofNat 32 (i 0).val) 2#32) 1#32) 1#32)
      0#32) 128#32 = BitVec.ofNat 32 (base (2 * (i 0).val + 1)) := by
    generalize (i 0).val = e at hi
    interval_cases e <;> rfl
  have hr : Scalar.muli (Scalar.addi (Scalar.muli (BitVec.ofNat 32 (i 0).val) 2#32) 1#32) 128#32
      = BitVec.ofNat 32 ((2 * (i 0).val + 1) * 128) := by
    generalize (i 0).val = e at hi
    interval_cases e <;> rfl
  rw [hb, hr]
  exact window_select (by dsimp only [base]; omega) (by omega) ρ.isLt k.isLt x y

section Gradient

variable (X : ℕ → ℕ → ℝ) (sk : ℕ → ℝ) (G : ℕ → ℕ → ℝ) {n g : ℕ}
  {p : Vec Ideal S1x512x256 .bf16} {e : Vec Ideal S1x512x256 .f32}
  {lse : FVec Ideal S512x1 .f32} {s0 s1 s2 s3 : Elt Ideal .f32} (hn : n < 16)
  (hp : ∀ (ρ : Fin 512) (k : Fin 256), p (ix3 0 ρ k) = (prob X sk (rowOf n ρ) (headOf g ρ) (base n + k) : EReal))
  (he : ∀ (ρ : Fin 512) (k : Fin 256), e (ix3 0 ρ k) = (dprob X G (rowOf n ρ) (headOf g ρ) (base n + k) : EReal))
include hn hp he

/-- The rows' inner products of the weights with their gradients. -/
theorem inner_at (ρ : Fin 512) (z : Fin 1) :
    k1_pay20 (k1_pay18 p) e (ix2 ρ z) = (inner X sk G (rowOf n ρ) (headOf g ρ) : EReal) := by
  rw [inner, ← band_sum hn (Nat.mod_lt ρ (by decide)) (fun j => prob X sk (rowOf n ρ) (headOf g ρ) j
    * dprob X G (rowOf n ρ) (headOf g ρ) j) fun j hj => by rw [prob_of_not X sk hj, zero_mul],
    ← sum_mul_eq (fun k => hp ρ k) (fun k => he ρ k)]
  pointwise [k1_pay20, k1_pay19, k1_pay18]

/-- The logits' gradients. -/
theorem dscore_at (z : Fin 1) (ρ : Fin 512) (k : Fin 256) :
    k1_pay21 (k1_pay18 p) e (ix3 z ρ k) = (dscore X sk G (rowOf n ρ) (headOf g ρ) (base n + k) : EReal) := by
  rw [dscore, EReal.coe_mul, EReal.coe_sub, ← hp, ← he, ← inner_at X sk G hn hp he ρ 0]
  pointwise [k1_pay21, k1_pay19, k1_pay18]

/-- What a row adds to the gradient of its head's sink logit. -/
theorem dsink_at (hl : ∀ ρ : Fin 512, lse (ix2 ρ 0) = ((Real.log (tot X sk (rowOf n ρ) (headOf g ρ)) : ℝ) : EReal))
    (h0 : s0 = (sk (4 * g) : EReal)) (h1 : s1 = (sk (4 * g + 1) : EReal)) (h2 : s2 = (sk (4 * g + 2) : EReal))
    (h3 : s3 = (sk (4 * g + 3) : EReal)) (ρ : Fin 512) (z : Fin 1) :
    k1_pay22 lse (k1_pay18 p) e s0 s1 s2 s3 (ix2 ρ z)
      = ((-(Real.exp (sk (headOf g ρ)) / tot X sk (rowOf n ρ) (headOf g ρ) * inner X sk G (rowOf n ρ) (headOf g ρ)) : ℝ)
          : EReal) := by
  obtain rfl : z = 0 := Subsingleton.elim _ _
  have hs : k1_pay22 lse (k1_pay18 p) e s0 s1 s2 s3 (ix2 ρ 0)
      = 0 - Ideal.exp (k0_pay32 s0 s1 s2 s3 (ix2 ρ 0) - lse (ix2 ρ 0)) * k1_pay20 (k1_pay18 p) e (ix2 ρ 0) := by
    pointwise [k1_pay22, k0_pay32]
  have ht := tot_pos X sk (rowOf n ρ) (headOf g ρ)
  rw [hs, sink_at h0 h1 h2 h3, hl, inner_at X sk G hn hp he, ← EReal.coe_sub, Ideal.exp_coe, ← EReal.coe_mul,
    Real.exp_sub, Real.exp_log ht, zero_sub, ← EReal.coe_neg]

end Gradient

/-- A product over the rows of a block: the transposed left operand against the right one. -/
theorem rows_at {s : Vec Ideal S1x128x256 .bf16} {q : Vec Ideal S128x64 .bf16} {P : Fin 128 → Fin 256 → ℝ}
    {Q : Fin 128 → Fin 64 → ℝ} (hs : ∀ a j, s (ix3 0 a j) = (P a j : EReal)) (hq : ∀ a d, q (ix2 a d) = (Q a d : EReal))
    (j : Fin 256) (d : Fin 64) : k1_pay31 s q (ix2 j d) = ((∑ a, P a j * Q a d : ℝ) : EReal) := by
  rw [← sum_mul_eq (fun a => hs a j) (fun a => hq a d)]
  pointwise [k1_pay31]

theorem rows_at' {s : Vec Ideal S1x128x256 .bf16} {q : Vec Ideal S128x64 .bf16} {P : Fin 128 → Fin 256 → ℝ}
    {Q : Fin 128 → Fin 64 → ℝ} (hs : ∀ a j, s (ix3 0 a j) = (P a j : EReal)) (hq : ∀ a d, q (ix2 a d) = (Q a d : EReal))
    (j : Fin 256) (d : Fin 64) : k1_pay32 s q (ix2 j d) = ((∑ a, P a j * Q a d : ℝ) : EReal) := by
  rw [← sum_mul_eq (fun a => hs a j) (fun a => hq a d)]
  pointwise [k1_pay32]

end Cert.Attn
end
-- ==== Proof.AttnForwardValue.lean ====
module

public import proofs.«01_k».proof.Proof.AttnPayload
public import proofs.«01_k».proof.Proof.AttnForwardBody
public import Idealize.ShloMosaic.Lib.Pipeline.ReadBack
public import Idealize.ShloMosaic.Lib.WholeRead

/-! What the forward attention body leaves at one grid point, where its two inputs hold real numbers: the scratch array holds
the logits, and its three results the weights, the logarithms of the denominators, and the attention's output. -/

@[expose] public section

set_option maxRecDepth 16384

noncomputable section

open Idealize.ShloMosaic Idealize.ShloMosaic.TcCoe

namespace Cert.Attn

open Cert.Kernel2Ideal Cert.Kernel2Ideal.Gen Cert.AttnForward

/-- A load from stores that are blocks of one function, and cover what is loaded, reads that function. -/
theorem readCov_of {s : Shape} {e : EltTy} {sp : Space} (v : View sig .tc sp s e)
    {G : s.Idx → Elt Ideal e} {L : List (View.Piece (Elt Ideal) s e)} (hL : View.PiecesOf G L) (B : LoadRect s)
    (hc : ∀ y, ∃ p ∈ L, y ∈ p.1.set) (j : B.shape.Idx) : v.readCov L B j = G (B.idx j) := by
  rw [View.readCov_eq_canon']
  exact (congrFun (congrArg View.canon (List.append_nil L).symm) _).trans
    (View.canon_append_of_piecesOf G [] L hL (B.idx j) (hc _))

/-- A load of a block of 64 columns from an array of real numbers. -/
theorem load_at {R C A : ℕ} {m : Memref sig .tc .vmem ⟨2, ![R, C]⟩ .bf16} (hm : m.IsWhole)
    {x : Vec Ideal ⟨2, ![R, C]⟩ .bf16} {X : ℕ → ℕ → ℝ} (hx : ∀ (r : Fin R) (d : Fin C), x (ix2 r d) = (X r d : EReal))
    {off : Fin 2 → ℕ} {inb} {b q : ℕ} (ho : off = ![b, q]) (a : Fin A) (d : Fin 64) :
    View.readAt (Elt Ideal) m.view (Rect.unit (s := ⟨2, ![R, C]⟩) off ![A, 64] inb).toLoadRect (hm.unread x) (ix2 a d)
      = (X (b + a) (q + d) : EReal) := by
  subst ho
  refine (hm.readAt_unread x _ _).trans ((congrArg x (eq_ix2 _)).trans ((hx _ _).trans ?_))
  congr 2 <;> (dsimp; omega)

/-- The places of the blocks the forward body loads: the bands of keys, the queries of the eight heads, the bands of values. -/
theorem offs : ∀ (t : Fin cfg0.N) (s : Fin 2),
    k0_off1 (grid0.coords t) (BitVec.ofNat 32 s) = ![base (2 * t.val + s), 512]
    ∧ k0_off6 (grid0.coords t) (BitVec.ofNat 32 s) = ![base (2 * t.val + s), 576]
    ∧ k0_off11 (grid0.coords t) (BitVec.ofNat 32 s) = ![base (2 * t.val + s), 640]
    ∧ k0_off12 (grid0.coords t) (BitVec.ofNat 32 s) = ![base (2 * t.val + s), 704]
    ∧ k0_off2 (grid0.coords t) (BitVec.ofNat 32 s) = ![(2 * t.val + s) * 128, 0]
    ∧ k0_off3 (grid0.coords t) (BitVec.ofNat 32 s) = ![(2 * t.val + s) * 128, 64]
    ∧ k0_off4 (grid0.coords t) (BitVec.ofNat 32 s) = ![(2 * t.val + s) * 128, 128]
    ∧ k0_off5 (grid0.coords t) (BitVec.ofNat 32 s) = ![(2 * t.val + s) * 128, 192]
    ∧ k0_off7 (grid0.coords t) (BitVec.ofNat 32 s) = ![(2 * t.val + s) * 128, 256]
    ∧ k0_off8 (grid0.coords t) (BitVec.ofNat 32 s) = ![(2 * t.val + s) * 128, 320]
    ∧ k0_off9 (grid0.coords t) (BitVec.ofNat 32 s) = ![(2 * t.val + s) * 128, 384]
    ∧ k0_off10 (grid0.coords t) (BitVec.ofNat 32 s) = ![(2 * t.val + s) * 128, 448] := by
  decide +kernel

/-- A head's tile and a group's slab lie in the arrays of four slabs. -/
theorem inb_tile {s g e : ℕ} (hs : s < 2) (hg : g < 2) (he : e < 4) :
    ∀ a, ![2 * s + g, 128 * e, 0] a + S1x128x256.size a ≤ S4x512x256.size a := by
  intro a
  fin_cases a <;> (dsimp; omega)

theorem inb_slab {s g : ℕ} (hs : s < 2) (hg : g < 2) :
    ∀ a, ![2 * s + g, 0, 0] a + S1x512x256.size a ≤ S4x512x256.size a := by
  intro a
  fin_cases a <;> (dsimp; omega)

theorem inb_out {s e : ℕ} (hs : s < 2) (he : e < 8) :
    ∀ a, ![128 * s, 64 * e] a + S128x64.size a ≤ S256x512.size a := by
  intro a
  fin_cases a <;> (dsimp; omega)

theorem inb_lse {s e : ℕ} (hs : s < 2) (he : e < 8) :
    ∀ a, ![128 * s, e] a + S128x1.size a ≤ S256x8.size a := by
  intro a
  fin_cases a <;> (dsimp; omega)

theorem coords_val : ∀ t : Fin cfg0.N, (grid0.coords t 0).val = t.val := by decide +kernel

section Forward

variable (c : Dev nD) (t : Fin cfg0.N) {x0 : Vec Ideal S1x8 .f32} {x1 : Vec Ideal S2048x768 .bf16} (X : ℕ → ℕ → ℝ)
  (sk : ℕ → ℝ)

/-- The logits of the grid point: slab `2 s + g` holds block `s` of group `g`. -/
def rawSlab (y : S4x512x256.Idx) : EReal := (raw X (2 * t.val + (y 0).val / 2) ((y 0).val % 2) (y 1).val (y 2).val : EReal)

/-- The weights of the grid point. -/
def probSlab (y : S4x512x256.Idx) : EReal :=
  (prob X sk (rowOf (2 * t.val + (y 0).val / 2) (y 1).val) (headOf ((y 0).val % 2) (y 1).val)
    (base (2 * t.val + (y 0).val / 2) + (y 2).val) : EReal)

theorem raw_block (n g e a : ℕ) (ha : a < 128) (k : ℕ) : raw X n g (128 * e + a) k
    = ∑ d : Fin 64, X (n * 128 + a) (64 * (4 * g + e) + d) * X (base n + k) (512 + 64 * g + d) := by
  rw [raw, show rowOf n (128 * e + a) = n * 128 + a by dsimp only [rowOf]; omega,
    show headOf g (128 * e + a) = 4 * g + e by dsimp only [headOf]; omega]

variable (hx : ∀ (r : Fin 2048) (d : Fin 768), x1 (ix2 r d) = (X r d : EReal))
  (hk : ∀ h : Fin 8, x0 (ix2 0 h) = (sk h : EReal))
include hx

/-- One head's block of logits. -/
theorem tile_piece {kb qb : Fin 2 → ℕ} {ik iq} {s g e : ℕ} (hs : s < 2) (hg : g < 2) (he : e < 4)
    (hkb : kb = ![base (2 * t.val + s), 512 + 64 * g]) (hqb : qb = ![(2 * t.val + s) * 128, 64 * (4 * g + e)])
    (y : S1x128x256.Idx) :
    k0_pay9 (View.readAt (Elt Ideal) (ms1 t).view (Rect.unit (s := S2048x768) kb S256x64.size ik).toLoadRect ((hs1 t).unread x1))
        (View.readAt (Elt Ideal) (ms1 t).view (Rect.unit (s := S2048x768) qb S128x64.size iq).toLoadRect ((hs1 t).unread x1)) y
      = rawSlab t X ((Rect.unit (s := S4x512x256) ![2 * s + g, 128 * e, 0] S1x128x256.size (inb_tile hs hg he)).emb y) := by
  idx_vars y
  rw [tile_at (fun a d => load_at (hs1 t) hx hqb a d) (fun j d => load_at (hs1 t) hx hkb j d)]
  refine congrArg Real.toEReal ((raw_block _ _ _ _ _ y1.isLt y2.val).symm.trans ?_)
  congr 1 <;> (dsimp; omega)

/-- The scratch array after the first sixteen stores: every store is a block of the logits. -/
theorem pieces_s : View.PiecesOf (rawSlab t X) (run.sl.H5_16 c (grid0.coords t) (ms1 t) (hs1 t) x1) := by
  obtain ⟨k0, k1, -, -, q0, q1, q2, q3, q4, q5, q6, q7⟩ := offs t 0
  obtain ⟨k0', k1', -, -, q0', q1', q2', q3', q4', q5', q6', q7'⟩ := offs t 1
  exact ⟨tile_piece t X hx (s := 1) (g := 1) (e := 3) (by decide) (by decide) (by decide) k1' q7',
    tile_piece t X hx (s := 1) (g := 1) (e := 2) (by decide) (by decide) (by decide) k1' q6',
    tile_piece t X hx (s := 1) (g := 1) (e := 1) (by decide) (by decide) (by decide) k1' q5',
    tile_piece t X hx (s := 1) (g := 1) (e := 0) (by decide) (by decide) (by decide) k1' q4',
    tile_piece t X hx (s := 1) (g := 0) (e := 3) (by decide) (by decide) (by decide) k0' q3',
    tile_piece t X hx (s := 1) (g := 0) (e := 2) (by decide) (by decide) (by decide) k0' q2',
    tile_piece t X hx (s := 1) (g := 0) (e := 1) (by decide) (by decide) (by decide) k0' q1',
    tile_piece t X hx (s := 1) (g := 0) (e := 0) (by decide) (by decide) (by decide) k0' q0',
    tile_piece t X hx (s := 0) (g := 1) (e := 3) (by decide) (by decide) (by decide) k1 q7,
    tile_piece t X hx (s := 0) (g := 1) (e := 2) (by decide) (by decide) (by decide) k1 q6,
    tile_piece t X hx (s := 0) (g := 1) (e := 1) (by decide) (by decide) (by decide) k1 q5,
    tile_piece t X hx (s := 0) (g := 1) (e := 0) (by decide) (by decide) (by decide) k1 q4,
    tile_piece t X hx (s := 0) (g := 0) (e := 3) (by decide) (by decide) (by decide) k0 q3,
    tile_piece t X hx (s := 0) (g := 0) (e := 2) (by decide) (by decide) (by decide) k0 q2,
    tile_piece t X hx (s := 0) (g := 0) (e := 1) (by decide) (by decide) (by decide) k0 q1,
    tile_piece t X hx (s := 0) (g := 0) (e := 0) (by decide) (by decide) (by decide) k0 q0, trivial⟩

omit hx in
theorem cover_scr : ∀ y, ∃ p ∈ run.sl.H5_16 (F := Ideal) c (grid0.coords t) (ms1 t) (hs1 t) x1, y ∈ p.1.set :=
  View.cover_of_tiledL _ ![1, 128, 256] (by sl_kernel_rfl)

/-- A slab read back from the scratch array. -/
theorem slab_at {s g : ℕ} (hs : s < 2) (hg : g < 2) (ρ : Fin 512) (k : Fin 256) :
    (sc : Memref sig .tc .vmem S4x512x256 .f32).view.readCov (run.sl.H5_16 c (grid0.coords t) (ms1 t) (hs1 t) x1)
        (Rect.unit (s := S4x512x256) ![2 * s + g, 0, 0] S1x512x256.size (inb_slab hs hg)).toLoadRect (ix3 0 ρ k)
      = (raw X (2 * t.val + s) g ρ k : EReal) := by
  rw [readCov_of _ (pieces_s c t X hx) _ (cover_scr c t)]
  refine congrArg Real.toEReal ?_
  congr 1 <;> (dsimp; omega)

include hk

omit hx in
/-- A head's sink logit, loaded. -/
theorem sink_load {h : ℕ} (hh : h < 8) {inb} {pf} :
    View.readAt (Elt Ideal) (ms0 t).view (Rect.unit (s := S1x8) ![0, h] S1x1.size inb).toLoadRect ((hs0 t).unread x0)
      (Shape.Idx.first pf) = (sk h : EReal) := by
  refine ((hs0 t).readAt_unread x0 _ _).trans ((congrArg x0 ?_).trans (hk ⟨h, hh⟩))
  funext a
  fin_cases a <;> rfl

/-- The weights of one slab, as the body computes them from the scratch array. -/
abbrev probsOf (m : IVec S512x256 1) (s : Vec Ideal S1x512x256 .f32) (s0 s1 s2 s3 : Elt Ideal .f32) :=
  k0_pay36 (k0_pay32 s0 s1 s2 s3) (k0_pay33 m s s0 s1 s2 s3) (k0_pay34 m s s0 s1 s2 s3)

omit hk in
/-- One slab's store. -/
theorem prob_piece {s g : ℕ} (hs : s < 2) (hg : g < 2) {m : IVec S512x256 1} (hm : IsWindow (2 * t.val + s) m)
    {sl : Vec Ideal S1x512x256 .f32} (hsl : ∀ (ρ : Fin 512) (k : Fin 256), sl (ix3 0 ρ k) = (raw X (2 * t.val + s) g ρ k : EReal))
    {s0 s1 s2 s3 : Elt Ideal .f32} (h0 : s0 = (sk (4 * g) : EReal)) (h1 : s1 = (sk (4 * g + 1) : EReal))
    (h2 : s2 = (sk (4 * g + 2) : EReal)) (h3 : s3 = (sk (4 * g + 3) : EReal)) (y : S1x512x256.Idx) :
    probsOf m sl s0 s1 s2 s3 y
      = probSlab t X sk ((Rect.unit (s := S4x512x256) ![2 * s + g, 0, 0] S1x512x256.size (inb_slab hs hg)).emb y) := by
  idx_vars y
  have ht : t.val < 8 := t.isLt
  refine (probs_at (by omega) hm hsl h0 h1 h2 h3 y0 y1 y2).trans (congrArg Real.toEReal ?_)
  congr 1 <;> (dsimp [rowOf, headOf, base]; omega)

omit hx hk in
theorem window (s : Fin 2) : IsWindow (2 * t.val + s) (if s = 0 then k0_pay6 (grid0.coords t) else k0_pay7 (grid0.coords t)) := by
  have h := coords_val t
  fin_cases s
  · exact h ▸ window_first (grid0.coords t)
  · exact h ▸ window_second (grid0.coords t)

/-- The weights' staging buffer after its four stores: every store is a block of the weights. -/
theorem pieces_p : View.PiecesOf (probSlab t X sk)
    (run.sl.H4_4 c (grid0.coords t) (ms0 t) (hs0 t) (ms1 t) (hs1 t) sc x0 x1) := by
  exact ⟨prob_piece t X sk hx (s := 1) (g := 1) (by decide) (by decide) (window t 1) (slab_at c t X hx (by decide) (by decide))
      (sink_load t sk hk (by decide)) (sink_load t sk hk (by decide)) (sink_load t sk hk (by decide)) (sink_load t sk hk (by decide)),
    prob_piece t X sk hx (s := 1) (g := 0) (by decide) (by decide) (window t 1) (slab_at c t X hx (by decide) (by decide))
      (sink_load t sk hk (by decide)) (sink_load t sk hk (by decide)) (sink_load t sk hk (by decide)) (sink_load t sk hk (by decide)),
    prob_piece t X sk hx (s := 0) (g := 1) (by decide) (by decide) (window t 0) (slab_at c t X hx (by decide) (by decide))
      (sink_load t sk hk (by decide)) (sink_load t sk hk (by decide)) (sink_load t sk hk (by decide)) (sink_load t sk hk (by decide)),
    prob_piece t X sk hx (s := 0) (g := 0) (by decide) (by decide) (window t 0) (slab_at c t X hx (by decide) (by decide))
      (sink_load t sk hk (by decide)) (sink_load t sk hk (by decide)) (sink_load t sk hk (by decide)) (sink_load t sk hk (by decide)),
    trivial⟩

omit hx hk in
theorem cover_prob : ∀ y, ∃ p ∈ run.sl.H4_4 (F := Ideal) c (grid0.coords t) (ms0 t) (hs0 t) (ms1 t) (hs1 t) sc x0 x1,
    y ∈ p.1.set :=
  View.cover_of_tiledL _ ![1, 512, 256] (by sl_kernel_rfl)

/-- A head's tile of weights, read back. -/
theorem ptile_at {s g e : ℕ} (hs : s < 2) (hg : g < 2) (he : e < 4) (a : Fin 128) (k : Fin 256) :
    (ms4 t).view.readCov (run.sl.H4_4 c (grid0.coords t) (ms0 t) (hs0 t) (ms1 t) (hs1 t) sc x0 x1)
        (Rect.unit (s := S4x512x256) ![2 * s + g, 128 * e, 0] S1x128x256.size (inb_tile hs hg he)).toLoadRect (ix3 0 a k)
      = (prob X sk ((2 * t.val + s) * 128 + a) (4 * g + e) (base (2 * t.val + s) + k) : EReal) := by
  refine (readCov_of _ (pieces_p c t X sk hx hk) _ (cover_prob c t) _).trans (congrArg Real.toEReal ?_)
  congr 1 <;> (dsimp [rowOf, headOf, base]; omega)

/-- The attention's output at the grid point. -/
def outBlock (y : S256x512.Idx) : EReal := (out X sk (2 * t.val * 128 + (y 0).val) (y 1).val : EReal)

/-- The logarithms of the denominators at the grid point. -/
def lseBlock (y : S256x8.Idx) : EReal := ((Real.log (tot X sk (2 * t.val * 128 + (y 0).val) (y 1).val) : ℝ) : EReal)

omit hx hk in
theorem out_tile {n g e a : ℕ} (hn : n < 16) (ha : a < 128) (he : e < 4) (d : Fin 64) :
    ∑ k : Fin 256, prob X sk (n * 128 + a) (4 * g + e) (base n + k) * X (base n + k) (640 + 64 * g + d)
      = out X sk (n * 128 + a) (64 * (4 * g + e) + d) := by
  rw [out, show (64 * (4 * g + e) + d.val) / 64 = 4 * g + e by omega, show (64 * (4 * g + e) + d.val) % 64 = d by omega,
    show (4 * g + e) / 4 = g by omega, ← band_sum hn ha _ fun j hj => by rw [prob_of_not X sk hj, zero_mul]]

omit hx hk in
theorem band_at (w : Vec Ideal S256x64 .bf16) (j : Fin 256) (d : Fin 64) : k0_pay66 w (ix2 j d) = w (ix2 j d) := by
  pointwise [k0_pay66]

omit hk in
/-- One head's store of the output. -/
theorem out_piece {s g e : ℕ} (hs : s < 2) (hg : g < 2) (he : e < 4) {vb : Fin 2 → ℕ} {iv}
    (hvb : vb = ![base (2 * t.val + s), 640 + 64 * g]) {p : Vec Ideal S1x128x256 .bf16}
    (hp : ∀ (a : Fin 128) (k : Fin 256), p (ix3 0 a k)
      = (prob X sk ((2 * t.val + s) * 128 + a) (4 * g + e) (base (2 * t.val + s) + k) : EReal)) (y : S128x64.Idx) :
    k0_pay2 (k0_pay66 (View.readAt (Elt Ideal) (ms1 t).view (Rect.unit (s := S2048x768) vb S256x64.size iv).toLoadRect
        ((hs1 t).unread x1))) p y
      = outBlock t X sk ((Rect.unit (s := S256x512) ![128 * s, 64 * (4 * g + e)] S128x64.size
          (inb_out hs (by omega))).emb y) := by
  idx_vars y
  have ht : t.val < 8 := t.isLt
  refine (weighted_at (W := fun j d => X (base (2 * t.val + s) + j) (640 + 64 * g + d)) hp (fun j d => ?_) y0 y1).trans (congrArg Real.toEReal
    ((out_tile X sk (n := 2 * t.val + s) (g := g) (by omega) y0.isLt he y1).trans ?_))
  · exact (band_at _ j d).trans (load_at (hs1 t) hx hvb j d)
  · congr 1 <;> (dsimp; omega)

omit hx hk in
/-- One head's store of the logarithms. -/
theorem lse_piece {s g e : ℕ} (hs : s < 2) (hg : g < 2) (he : e < 4) {l : FVec Ideal S512x1 .f32}
    (hl : ∀ (ρ : Fin 512) (z : Fin 1), l (ix2 ρ z)
      = ((Real.log (tot X sk (rowOf (2 * t.val + s) ρ) (headOf g ρ)) : ℝ) : EReal)) {off : Fin 2 → ℕ}
    (ho : off = ![128 * e, 0]) {sl} (y : S128x1.Idx) :
    extractStridedSlice (s := S512x1) S128x1 off l sl y
      = lseBlock t X sk ((Rect.unit (s := S256x8) ![128 * s, 4 * g + e] S128x1.size (inb_lse hs (by omega))).emb y) := by
  subst ho
  idx_vars y
  have h1 : 128 * e + y0.val < 512 := by omega
  have h := hl ⟨128 * e + y0.val, h1⟩ 0
  refine Eq.trans ?_ (h.trans (congrArg (fun x : ℝ => ((Real.log x : ℝ) : EReal)) ?_))
  · exact congrArg l (by funext a; fin_cases a <;> (apply Fin.ext; dsimp <;> omega))
  · congr 1 <;> (dsimp [rowOf, headOf]; omega)

set_option maxHeartbeats 1600000 in
/-- The output's staging buffer after its sixteen stores. -/
theorem pieces_o : View.PiecesOf (outBlock t X sk) (run (F := Ideal) c (grid0.coords t) (ms0 t) (hs0 t) (ms1 t) (hs1 t) (ms2 t)
    (hs2 t) (ms3 t) (hs3 t) (ms4 t) (hs4 t) sc (Memref.isWhole_whole _) x0 x1).1 := by
  obtain ⟨-, -, v0, v1, -⟩ := offs t 0
  obtain ⟨-, -, v0', v1', -⟩ := offs t 1
  exact ⟨out_piece t X sk hx (s := 1) (g := 1) (e := 3) (by decide) (by decide) (by decide)
      v1' (ptile_at c t X sk hx hk (s := 1) (g := 1) (e := 3) (by decide) (by decide) (by decide)),
    out_piece t X sk hx (s := 1) (g := 1) (e := 2) (by decide) (by decide) (by decide)
      v1' (ptile_at c t X sk hx hk (s := 1) (g := 1) (e := 2) (by decide) (by decide) (by decide)),
    out_piece t X sk hx (s := 1) (g := 1) (e := 1) (by decide) (by decide) (by decide)
      v1' (ptile_at c t X sk hx hk (s := 1) (g := 1) (e := 1) (by decide) (by decide) (by decide)),
    out_piece t X sk hx (s := 1) (g := 1) (e := 0) (by decide) (by decide) (by decide)
      v1' (ptile_at c t X sk hx hk (s := 1) (g := 1) (e := 0) (by decide) (by decide) (by decide)),
    out_piece t X sk hx (s := 1) (g := 0) (e := 3) (by decide) (by decide) (by decide)
      v0' (ptile_at c t X sk hx hk (s := 1) (g := 0) (e := 3) (by decide) (by decide) (by decide)),
    out_piece t X sk hx (s := 1) (g := 0) (e := 2) (by decide) (by decide) (by decide)
      v0' (ptile_at c t X sk hx hk (s := 1) (g := 0) (e := 2) (by decide) (by decide) (by decide)),
    out_piece t X sk hx (s := 1) (g := 0) (e := 1) (by decide) (by decide) (by decide)
      v0' (ptile_at c t X sk hx hk (s := 1) (g := 0) (e := 1) (by decide) (by decide) (by decide)),
    out_piece t X sk hx (s := 1) (g := 0) (e := 0) (by decide) (by decide) (by decide)
      v0' (ptile_at c t X sk hx hk (s := 1) (g := 0) (e := 0) (by decide) (by decide) (by decide)),
    out_piece t X sk hx (s := 0) (g := 1) (e := 3) (by decide) (by decide) (by decide)
      v1 (ptile_at c t X sk hx hk (s := 0) (g := 1) (e := 3) (by decide) (by decide) (by decide)),
    out_piece t X sk hx (s := 0) (g := 1) (e := 2) (by decide) (by decide) (by decide)
      v1 (ptile_at c t X sk hx hk (s := 0) (g := 1) (e := 2) (by decide) (by decide) (by decide)),
    out_piece t X sk hx (s := 0) (g := 1) (e := 1) (by decide) (by decide) (by decide)
      v1 (ptile_at c t X sk hx hk (s := 0) (g := 1) (e := 1) (by decide) (by decide) (by decide)),
    out_piece t X sk hx (s := 0) (g := 1) (e := 0) (by decide) (by decide) (by decide)
      v1 (ptile_at c t X sk hx hk (s := 0) (g := 1) (e := 0) (by decide) (by decide) (by decide)),
    out_piece t X sk hx (s := 0) (g := 0) (e := 3) (by decide) (by decide) (by decide)
      v0 (ptile_at c t X sk hx hk (s := 0) (g := 0) (e := 3) (by decide) (by decide) (by decide)),
    out_piece t X sk hx (s := 0) (g := 0) (e := 2) (by decide) (by decide) (by decide)
      v0 (ptile_at c t X sk hx hk (s := 0) (g := 0) (e := 2) (by decide) (by decide) (by decide)),
    out_piece t X sk hx (s := 0) (g := 0) (e := 1) (by decide) (by decide) (by decide)
      v0 (ptile_at c t X sk hx hk (s := 0) (g := 0) (e := 1) (by decide) (by decide) (by decide)),
    out_piece t X sk hx (s := 0) (g := 0) (e := 0) (by decide) (by decide) (by decide)
      v0 (ptile_at c t X sk hx hk (s := 0) (g := 0) (e := 0) (by decide) (by decide) (by decide)), trivial⟩

omit hx hk in
/-- One head's store of a slab's logarithms. -/
theorem lse_store {s g e : ℕ} (hs : s < 2) (hg : g < 2) (he : e < 4) {m : IVec S512x256 1} (hm : IsWindow (2 * t.val + s) m)
    {sl : Vec Ideal S1x512x256 .f32} (hsl : ∀ (ρ : Fin 512) (k : Fin 256), sl (ix3 0 ρ k) = (raw X (2 * t.val + s) g ρ k : EReal))
    {s0 s1 s2 s3 : Elt Ideal .f32} (h0 : s0 = (sk (4 * g) : EReal)) (h1 : s1 = (sk (4 * g + 1) : EReal))
    (h2 : s2 = (sk (4 * g + 2) : EReal)) (h3 : s3 = (sk (4 * g + 3) : EReal)) {off : Fin 2 → ℕ}
    (ho : off = ![128 * e, 0]) {iv} (y : S128x1.Idx) :
    extractStridedSlice (s := S512x1) S128x1 off
        (k0_pay37 (k0_pay32 s0 s1 s2 s3) (k0_pay33 m sl s0 s1 s2 s3) (k0_pay34 m sl s0 s1 s2 s3)) iv y
      = lseBlock t X sk ((Rect.unit (s := S256x8) ![128 * s, 4 * g + e] S128x1.size (inb_lse hs (by omega))).emb y) :=
  have ht : t.val < 8 := t.isLt
  lse_piece t X sk hs hg he (lse_at (by omega) hm hsl h0 h1 h2 h3) ho y

set_option maxHeartbeats 1600000 in
/-- The logarithms' staging buffer after its sixteen stores. -/
theorem pieces_l : View.PiecesOf (lseBlock t X sk) (run (F := Ideal) c (grid0.coords t) (ms0 t) (hs0 t) (ms1 t) (hs1 t) (ms2 t)
    (hs2 t) (ms3 t) (hs3 t) (ms4 t) (hs4 t) sc (Memref.isWhole_whole _) x0 x1).2.1 := by
  exact ⟨lse_store t X sk (s := 1) (g := 1) (e := 3) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 1) (g := 1) (e := 2) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 1) (g := 1) (e := 1) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 1) (g := 1) (e := 0) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 1) (g := 0) (e := 3) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 1) (g := 0) (e := 2) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 1) (g := 0) (e := 1) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 1) (g := 0) (e := 0) (by decide) (by decide) (by decide) (window t 1)
      (slab_at c t X hx (by decide) (by decide)) (sink_load t sk hk (by decide)) (sink_load t sk hk (by decide))
      (sink_load t sk hk (by decide)) (sink_load t sk hk (by decide)) rfl (iv := by decide),
    lse_store t X sk (s := 0) (g := 1) (e := 3) (by decide) (by decide) (by decide) (window t 0)
      (slab_at c t X hx (by decide) (by decide)) (sink_load t sk hk (by decide)) (sink_load t sk hk (by decide))
      (sink_load t sk hk (by decide)) (sink_load t sk hk (by decide)) rfl (iv := by decide),
    lse_store t X sk (s := 0) (g := 1) (e := 2) (by decide) (by decide) (by decide) (window t 0)
      (slab_at c t X hx (by decide) (by decide)) (sink_load t sk hk (by decide)) (sink_load t sk hk (by decide))
      (sink_load t sk hk (by decide)) (sink_load t sk hk (by decide)) rfl (iv := by decide),
    lse_store t X sk (s := 0) (g := 1) (e := 1) (by decide) (by decide) (by decide) (window t 0)
      (slab_at c t X hx (by decide) (by decide)) (sink_load t sk hk (by decide)) (sink_load t sk hk (by decide))
      (sink_load t sk hk (by decide)) (sink_load t sk hk (by decide)) rfl (iv := by decide),
    lse_store t X sk (s := 0) (g := 1) (e := 0) (by decide) (by decide) (by decide) (window t 0)
      (slab_at c t X hx (by decide) (by decide)) (sink_load t sk hk (by decide)) (sink_load t sk hk (by decide))
      (sink_load t sk hk (by decide)) (sink_load t sk hk (by decide)) rfl (iv := by decide),
    lse_store t X sk (s := 0) (g := 0) (e := 3) (by decide) (by decide) (by decide) (window t 0)
      (slab_at c t X hx (by decide) (by decide)) (sink_load t sk hk (by decide)) (sink_load t sk hk (by decide))
      (sink_load t sk hk (by decide)) (sink_load t sk hk (by decide)) rfl (iv := by decide),
    lse_store t X sk (s := 0) (g := 0) (e := 2) (by decide) (by decide) (by decide) (window t 0)
      (slab_at c t X hx (by decide) (by decide)) (sink_load t sk hk (by decide)) (sink_load t sk hk (by decide))
      (sink_load t sk hk (by decide)) (sink_load t sk hk (by decide)) rfl (iv := by decide),
    lse_store t X sk (s := 0) (g := 0) (e := 1) (by decide) (by decide) (by decide) (window t 0)
      (slab_at c t X hx (by decide) (by decide)) (sink_load t sk hk (by decide)) (sink_load t sk hk (by decide))
      (sink_load t sk hk (by decide)) (sink_load t sk hk (by decide)) rfl (iv := by decide),
    lse_store t X sk (s := 0) (g := 0) (e := 0) (by decide) (by decide) (by decide) (window t 0)
      (slab_at c t X hx (by decide) (by decide)) (sink_load t sk hk (by decide)) (sink_load t sk hk (by decide))
      (sink_load t sk hk (by decide)) (sink_load t sk hk (by decide)) rfl (iv := by decide), trivial⟩

end Forward

end Cert.Attn
end
-- ==== Proof.AttnForwardArrays.lean ====
module

public import proofs.«01_k».proof.Proof.AttnForwardValue
public import Idealize.ShloMosaic.PureOps.Ideal
public import Idealize.ShloMosaic.Lib.Pipeline.ValueKit

/-! The three arrays the forward attention call leaves, where its two inputs hold real numbers. -/

@[expose] public section

set_option maxRecDepth 16384

noncomputable section

open Idealize.ShloMosaic Idealize.ShloMosaic.TcCoe
open Idealize.ShloMosaic.Pipeline (Dat)

namespace Cert.Attn

open Cert.Kernel2Ideal Cert.Kernel2Ideal.Gen Cert.AttnForward

/-- Stores that are blocks of one function and cover the buffer leave that function. -/
theorem canon_of {s : Shape} {e : EltTy} {G : s.Idx → Elt Ideal e} {L : List (View.Piece (Elt Ideal) s e)}
    (hL : View.PiecesOf G L) (hc : ∀ y, ∃ p ∈ L, y ∈ p.1.set) (y : s.Idx) : View.canon L y = G y :=
  (congrFun (congrArg View.canon (List.append_nil L).symm) _).trans (View.canon_append_of_piecesOf G [] L hL y (hc _))

theorem idx0 : ∀ t : Fin cfg0.N, win0_0.index t = ![0, 0] ∧ win0_1.index t = ![0, 0] ∧ win0_2.index t = ![t.val, 0]
    ∧ win0_3.index t = ![t.val, 0] ∧ win0_4.index t = ![t.val, 0, 0] :=
  (by decide +kernel : ∀ t : Fin grid0.N, _)

section Arrays

variable (V : (c : Dev nD) → (b : Ref sig .tc) → Buf (Elt Ideal) ((c : Thread nD τ).loc b)) (c : Dev nD)
  (X : ℕ → ℕ → ℝ) (sk : ℕ → ℝ)
  (hx : ∀ (r : Fin 2048) (d : Fin 768), (show FVec Ideal S2048x768 .bf16 from V c main_v0) (ix2 r d) = (X r d : EReal))
  (hk : ∀ h : Fin 8, (show FVec Ideal S1x8 .f32 from V c main_arg1) (ix2 0 h) = (sk h : EReal))

/-- The whole arrays. -/
def outArr (j : S2048x512.Idx) : EReal := (out X sk (j 0) (j 1) : EReal)
def lseArr (j : S2048x8.Idx) : EReal := ((Real.log (tot X sk (j 0) (j 1)) : ℝ) : EReal)
def probArr (j : S32x512x256.Idx) : EReal :=
  (prob X sk (rowOf ((j 0).val / 2) (j 1)) (headOf ((j 0).val % 2) (j 1)) (base ((j 0).val / 2) + (j 2).val) : EReal)

include hx in
theorem x_blk (t : Fin cfg0.N) (r : Fin 2048) (d : Fin 768) :
    (show FVec Ideal S2048x768 .bf16 from iblk V c 1 t) (ix2 r d) = (X r d : EReal) := by
  refine Eq.trans ?_ (hx r d)
  blk_point [iblk, idx0 t]

include hk in
theorem sk_blk (t : Fin cfg0.N) (h : Fin 8) : (show FVec Ideal S1x8 .f32 from iblk V c 0 t) (ix2 0 h) = (sk h : EReal) := by
  refine Eq.trans ?_ (hk h)
  blk_point [iblk, idx0 t]

include hx hk

theorem outO_at (t : Fin cfg0.N) (y) : outO V c t y = outBlock t X sk y :=
  canon_of (pieces_o c t X sk (x_blk V c X hx t) (sk_blk V c sk hk t)) (cover_o V c t) y

theorem outL_at (t : Fin cfg0.N) (y) : outL V c t y = lseBlock t X sk y :=
  canon_of (pieces_l c t X sk (x_blk V c X hx t) (sk_blk V c sk hk t)) (cover_l V c t) y

theorem outP_at (t : Fin cfg0.N) (y) : outP V c t y = probSlab t X sk y :=
  canon_of (pieces_p c t X sk (x_blk V c X hx t) (sk_blk V c sk hk t)) (cover_p V c t) y

omit hx hk in
theorem emb2 (t : Fin cfg0.N) (y0 : Fin 256) (y1 : Fin 512) (h : 2 * t.val * 128 + y0.val < 2048) :
    ((cfg0.win 2).blk t).view.emb (ix2 y0 y1) = (ix2 ⟨2 * t.val * 128 + y0.val, h⟩ y1 : S2048x512.Idx) := by
  blk_ext [idx0 t]

omit hx hk in
theorem emb3 (t : Fin cfg0.N) (y0 : Fin 256) (y1 : Fin 8) (h : 2 * t.val * 128 + y0.val < 2048) :
    ((cfg0.win 3).blk t).view.emb (ix2 y0 y1) = (ix2 ⟨2 * t.val * 128 + y0.val, h⟩ y1 : S2048x8.Idx) := by
  blk_ext [idx0 t]

omit hx hk in
theorem emb4 (t : Fin cfg0.N) (y0 : Fin 4) (y1 : Fin 512) (y2 : Fin 256) (h : 4 * t.val + y0.val < 32) :
    ((cfg0.win 4).blk t).view.emb (ix3 y0 y1 y2) = (ix3 ⟨4 * t.val + y0.val, h⟩ y1 y2 : S32x512x256.Idx) := by
  blk_ext [idx0 t]

/-- The attention's output. -/
theorem finalO : (dat V c).arrAt 2 cfg0.N = outArr X sk := by
  refine (dat V c).arrAt_eq_of_covers 2 _ (by decide +kernel) fun t _ y => ?_
  blk_simp
  rw [after_2]
  idx_vars y
  have ht : t.val < 8 := t.isLt
  exact (outO_at V c X sk hx hk t _).trans (congrArg (outArr X sk) (emb2 t y0 y1 (by omega))).symm

/-- The logarithms of the denominators. -/
theorem finalL : (dat V c).arrAt 3 cfg0.N = lseArr X sk := by
  refine (dat V c).arrAt_eq_of_covers 3 _ (by decide +kernel) fun t _ y => ?_
  blk_simp
  rw [after_3]
  idx_vars y
  have ht : t.val < 8 := t.isLt
  exact (outL_at V c X sk hx hk t _).trans (congrArg (lseArr X sk) (emb3 t y0 y1 (by omega))).symm

/-- The weights. -/
theorem finalP : (dat V c).arrAt 4 cfg0.N = probArr X sk := by
  refine (dat V c).arrAt_eq_of_covers 4 _ (by decide +kernel) fun t _ y => ?_
  blk_simp
  rw [after_4]
  idx_vars y
  have ht : t.val < 8 := t.isLt
  refine (outP_at V c X sk hx hk t _).trans (Eq.trans ?_ (congrArg (probArr X sk) (emb4 t y0 y1 y2 (by omega))).symm)
  have e1 : (4 * t.val + y0.val) / 2 = 2 * t.val + y0.val / 2 := by omega
  have e2 : (4 * t.val + y0.val) % 2 = y0.val % 2 := by omega
  unfold probArr probSlab
  dsimp only [ix3_0, ix3_1, ix3_2]
  rw [e1, e2]

end Arrays

end Cert.Attn
end
-- ==== Proof.AttnBackwardPayload.lean ====
module

public import proofs.«01_k».proof.Proof.AttnPayload

/-! The backward attention body's own sums, where their operands hold real numbers: the queries' gradient, a window of the
keys' and of the values' gradient, the four heads' columns of logarithms, and a row of the sinks' gradient. -/

@[expose] public section

set_option maxRecDepth 16384

noncomputable section

open Idealize.ShloMosaic Idealize.ShloMosaic.TcCoe

namespace Cert.Attn

open Cert.Kernel2Ideal Cert.Kernel2Ideal.Gen

/-- A band of values, or of keys, passes through its cast. -/
theorem band_cast (w : Vec Ideal S256x64 .bf16) (j : Fin 256) (d : Fin 64) : k1_pay29 w (ix2 j d) = w (ix2 j d) := by
  pointwise [k1_pay29]

/-- A block of logits' gradients against a band of keys, at the logits' scale. -/
theorem dq_at {s : Vec Ideal S1x128x256 .bf16} {k : Vec Ideal S256x64 .bf16} {P : Fin 128 → Fin 256 → ℝ}
    {W : Fin 256 → Fin 64 → ℝ} (hs : ∀ a j, s (ix3 0 a j) = (P a j : EReal)) (hk : ∀ j d, k (ix2 j d) = (W j d : EReal))
    (a : Fin 128) (d : Fin 64) : k1_pay30 k s (ix2 a d) = (((∑ j, P a j * W j d) * (1 / 8) : ℝ) : EReal) := by
  rw [EReal.coe_mul, ← ofBits_eighth, ← sum_mul_eq (fun j => hs a j) (fun j => hk j d)]
  pointwise [k1_pay30, k1_pay29]

section Rows

variable {s0 s1 s2 s3 : Vec Ideal S1x128x256 .bf16} {q0 q1 q2 q3 : Vec Ideal S128x64 .bf16}
  {P : Fin 4 → Fin 128 → Fin 256 → ℝ} {Q : Fin 4 → Fin 128 → Fin 64 → ℝ}
  (hs0 : ∀ a j, s0 (ix3 0 a j) = (P 0 a j : EReal)) (hq0 : ∀ a d, q0 (ix2 a d) = (Q 0 a d : EReal))
  (hs1 : ∀ a j, s1 (ix3 0 a j) = (P 1 a j : EReal)) (hq1 : ∀ a d, q1 (ix2 a d) = (Q 1 a d : EReal))
  (hs2 : ∀ a j, s2 (ix3 0 a j) = (P 2 a j : EReal)) (hq2 : ∀ a d, q2 (ix2 a d) = (Q 2 a d : EReal))
  (hs3 : ∀ a j, s3 (ix3 0 a j) = (P 3 a j : EReal)) (hq3 : ∀ a d, q3 (ix2 a d) = (Q 3 a d : EReal))
  (old : Vec Ideal S256x64 .f32)

include hs0 hq0 hs1 hq1 hs2 hq2 hs3 hq3 in
/-- A window of the keys' gradient: what was there, and the four heads' sums over the rows at the logits' scale. -/
theorem keys_at (j : Fin 256) (d : Fin 64) :
    k1_pay45 (k1_pay40 (k1_pay35 (k1_pay31 s0 q0) s1 q1) s2 q2) s3 q3 old (ix2 j d)
      = old (ix2 j d) + (((∑ e : Fin 4, ∑ a, P e a j * Q e a d) * (1 / 8) : ℝ) : EReal) := by
  rw [Fin.sum_univ_four, EReal.coe_mul, ← ofBits_eighth, EReal.coe_add, EReal.coe_add, EReal.coe_add,
    ← sum_mul_eq (fun a => hs0 a j) (fun a => hq0 a d), ← sum_mul_eq (fun a => hs1 a j) (fun a => hq1 a d),
    ← sum_mul_eq (fun a => hs2 a j) (fun a => hq2 a d), ← sum_mul_eq (fun a => hs3 a j) (fun a => hq3 a d)]
  pointwise [k1_pay45, k1_pay40, k1_pay35, k1_pay31]

include hs0 hq0 hs1 hq1 hs2 hq2 hs3 hq3 in
/-- A window of the values' gradient: what was there, and the four heads' sums over the rows. -/
theorem values_at (j : Fin 256) (d : Fin 64) :
    k1_pay46 (k1_pay41 (k1_pay36 (k1_pay32 s0 q0) s1 q1) s2 q2) s3 q3 old (ix2 j d)
      = old (ix2 j d) + ((∑ e : Fin 4, ∑ a, P e a j * Q e a d : ℝ) : EReal) := by
  rw [Fin.sum_univ_four, EReal.coe_add, EReal.coe_add, EReal.coe_add,
    ← sum_mul_eq (fun a => hs0 a j) (fun a => hq0 a d), ← sum_mul_eq (fun a => hs1 a j) (fun a => hq1 a d),
    ← sum_mul_eq (fun a => hs2 a j) (fun a => hq2 a d), ← sum_mul_eq (fun a => hs3 a j) (fun a => hq3 a d)]
  pointwise [k1_pay46, k1_pay41, k1_pay36, k1_pay32]

end Rows

/-- Four columns of 128 rows, one under the other. -/
theorem columns_at {l0 l1 l2 l3 : Vec Ideal S128x1 .f32} {f : ℕ → ℝ}
    (h0 : ∀ a : Fin 128, l0 (ix2 a 0) = (f a : EReal)) (h1 : ∀ a : Fin 128, l1 (ix2 a 0) = (f (128 + a) : EReal))
    (h2 : ∀ a : Fin 128, l2 (ix2 a 0) = (f (256 + a) : EReal)) (h3 : ∀ a : Fin 128, l3 (ix2 a 0) = (f (384 + a) : EReal))
    (ρ : Fin 512) : k1_pay10 (k1_pay6 l0) l1 l2 l3 (ix2 ρ 0) = (f ρ : EReal) := by
  pointwise [k1_pay10, k1_pay6]
  by_cases c0 : ρ.val < 128
  · rw [dif_pos c0]
    exact h0 _
  rw [dif_neg c0]
  by_cases c1 : ρ.val - 128 < 128
  · rw [dif_pos c1]
    exact (h1 _).trans (congrArg (fun i => (f i : EReal)) (by dsimp only; omega))
  rw [dif_neg c1]
  by_cases c2 : ρ.val - 128 - 128 < 128
  · rw [dif_pos c2]
    exact (h2 _).trans (congrArg (fun i => (f i : EReal)) (by dsimp only; omega))
  rw [dif_neg c2]
  exact (h3 _).trans (congrArg (fun i => (f i : EReal)) (by dsimp only; omega))

section SinkRows

variable {col : FVec Ideal S512x1 .f32} {f : ℕ → ℝ} (hc : ∀ ρ : Fin 512, col (ix2 ρ 0) = (f ρ : EReal))
  (old : Vec Ideal S1x128 .f32) (z : Fin 1) (l : Fin 128)
include hc

/-- A row of the sinks' gradient: what was there, and the sum of a head's 128 rows of the column. -/
theorem row0_at : k1_pay33 col old (ix2 z l) = old (ix2 z l) + ((∑ a : Fin 128, f (0 + a) : ℝ) : EReal) := by
  rw [coe_sum]
  pointwise [k1_pay33]
  exact congrArg (_ + ·) (Finset.sum_congr rfl fun a _ => hc _)

theorem row1_at : k1_pay37 col old (ix2 z l) = old (ix2 z l) + ((∑ a : Fin 128, f (128 + a) : ℝ) : EReal) := by
  rw [coe_sum]
  pointwise [k1_pay37]
  exact congrArg (_ + ·) (Finset.sum_congr rfl fun a _ => hc _)

theorem row2_at : k1_pay42 col old (ix2 z l) = old (ix2 z l) + ((∑ a : Fin 128, f (256 + a) : ℝ) : EReal) := by
  rw [coe_sum]
  pointwise [k1_pay42]
  exact congrArg (_ + ·) (Finset.sum_congr rfl fun a _ => hc _)

theorem row3_at : k1_pay44 col old (ix2 z l) = old (ix2 z l) + ((∑ a : Fin 128, f (384 + a) : ℝ) : EReal) := by
  rw [coe_sum]
  pointwise [k1_pay44]
  exact congrArg (_ + ·) (Finset.sum_congr rfl fun a _ => hc _)

end SinkRows

end Cert.Attn
end
-- ==== Proof.AttnBackwardValue.lean ====
module

public import proofs.«01_k».proof.Proof.AttnBackwardPayload
public import proofs.«01_k».proof.Proof.AttnForwardValue
public import proofs.«01_k».proof.Proof.AttnBackwardBody

/-! What the backward attention body leaves at one grid point, where its inputs hold real numbers: one scratch array holds the
gradients of the weights, the other those of the logits, and its results are the queries' gradient of one block of rows and
what that block adds to the gradients of the keys, the values and the sinks. -/

@[expose] public section

set_option maxRecDepth 16384

noncomputable section

open Idealize.ShloMosaic Idealize.ShloMosaic.TcCoe

namespace Cert.Attn

open Cert.Kernel2Ideal Cert.Kernel2Ideal.Gen Cert.AttnBackward

/-- The places of the blocks the backward body loads. -/
theorem places : ∀ t : Fin cfg1.N,
    k1_off1 (grid1.coords t) = ![base t, 640] ∧ k1_off2 (grid1.coords t) = ![base t, 704]
    ∧ k1_off3 (grid1.coords t) = ![base t, 512] ∧ k1_off10 (grid1.coords t) = ![base t, 576]
    ∧ k1_off4 (grid1.coords t) = ![t.val * 128, 0] ∧ k1_off5 (grid1.coords t) = ![t.val * 128, 64]
    ∧ k1_off6 (grid1.coords t) = ![t.val * 128, 128] ∧ k1_off7 (grid1.coords t) = ![t.val * 128, 192]
    ∧ k1_off11 (grid1.coords t) = ![t.val * 128, 256] ∧ k1_off12 (grid1.coords t) = ![t.val * 128, 320]
    ∧ k1_off13 (grid1.coords t) = ![t.val * 128, 384] ∧ k1_off14 (grid1.coords t) = ![t.val * 128, 448]
    ∧ k1_off8 (grid1.coords t) = ![base t, 0] ∧ k1_off9 (grid1.coords t) = ![base t, 128]
    ∧ k1_off15 (grid1.coords t) = ![base t, 64] ∧ k1_off16 (grid1.coords t) = ![base t, 192] := by
  decide +kernel

theorem inb_pair {g e : ℕ} (hg : g < 2) (he : e < 4) :
    ∀ a, ![g, 128 * e, 0] a + S1x128x256.size a ≤ S2x512x256.size a := by
  intro a
  fin_cases a <;> (dsimp; omega)

theorem inb_half {g : ℕ} (hg : g < 2) : ∀ a, ![g, 0, 0] a + S1x512x256.size a ≤ S2x512x256.size a := by
  intro a
  fin_cases a <;> (dsimp; omega)

theorem inb_dq {h : ℕ} (hh : h < 8) : ∀ a, ![0, 64 * h] a + S128x64.size a ≤ S128x512.size a := by
  intro a
  fin_cases a <;> (dsimp; omega)

section Backward

variable (c : Dev nD) (t : Fin cfg1.N) {x0 : Vec Ideal S1x8 .f32} {x1 : Vec Ideal S2048x768 .bf16} {x2 : Vec Ideal S128x512 .bf16}
  {x3 : Vec Ideal S128x8 .f32} {x4 : Vec Ideal S2x512x256 .bf16} (X : ℕ → ℕ → ℝ) (sk : ℕ → ℝ) (G : ℕ → ℕ → ℝ)
  (hk : ∀ h : Fin 8, x0 (ix2 0 h) = (sk h : EReal))
  (hx : ∀ (r : Fin 2048) (d : Fin 768), x1 (ix2 r d) = (X r d : EReal))
  (hg : ∀ (a : Fin 128) (d : Fin 512), x2 (ix2 a d) = (G (t.val * 128 + a) d : EReal))
  (hl : ∀ (a : Fin 128) (h : Fin 8), x3 (ix2 a h) = ((Real.log (tot X sk (t.val * 128 + a) h) : ℝ) : EReal))
  (hp : ∀ (g : Fin 2) (ρ : Fin 512) (k : Fin 256),
    x4 (ix3 g ρ k) = (prob X sk (rowOf t ρ) (headOf g ρ) (base t + k) : EReal))

/-- The gradients of the weights, both groups' slabs. -/
def dprobSlab (y : S2x512x256.Idx) : EReal := (dprob X G (rowOf t (y 1)) (headOf (y 0) (y 1)) (base t + (y 2).val) : EReal)

/-- The gradients of the logits, both groups' slabs. -/
def dscoreSlab (y : S2x512x256.Idx) : EReal :=
  (dscore X sk G (rowOf t (y 1)) (headOf (y 0) (y 1)) (base t + (y 2).val) : EReal)

/-- The queries' gradient at the grid point. -/
def dqBlock (y : S128x512.Idx) : EReal := (dq X sk G (t.val * 128 + (y 0).val) (y 1).val : EReal)

theorem block_lt (t : Fin cfg1.N) : t.val < 16 := t.isLt

/-- A head's columns of the output's gradient, loaded. -/
theorem do_load (hg : ∀ (a : Fin 128) (d : Fin 512), x2 (ix2 a d) = (G (t.val * 128 + a) d : EReal)) {q : ℕ} {inb} (a : Fin 128) (d : Fin 64) :
    View.readAt (Elt Ideal) (ms2 t).view (Rect.unit (s := S128x512) ![0, q] S128x64.size inb).toLoadRect ((hs2 t).unread x2)
      (ix2 a d) = (G (t.val * 128 + a) (q + d) : EReal) :=
  (load_at (X := fun r d => G (t.val * 128 + r) d) (hs2 t) hg rfl a d).trans
    (congrArg (fun i => (G (t.val * 128 + i) (q + d) : EReal)) (Nat.zero_add _))

/-- One head's store of the gradients of the weights. -/
theorem dprob_piece {x1 : Vec Ideal S2048x768 .bf16} (hx : ∀ (r : Fin 2048) (d : Fin 768), x1 (ix2 r d) = (X r d : EReal))
    (hg : ∀ (a : Fin 128) (d : Fin 512), x2 (ix2 a d) = (G (t.val * 128 + a) d : EReal)) {g e : ℕ} (hg2 : g < 2) (he : e < 4)
    {vb : Fin 2 → ℕ} {iv} (hvb : vb = ![base t, 640 + 64 * g]) {iq} (y : S1x128x256.Idx) :
    k0_pay9 (View.readAt (Elt Ideal) (ms1 t).view (Rect.unit (s := S2048x768) vb S256x64.size iv).toLoadRect ((hs1 t).unread x1))
        (View.readAt (Elt Ideal) (ms2 t).view (Rect.unit (s := S128x512) ![0, 64 * (4 * g + e)] S128x64.size iq).toLoadRect
          ((hs2 t).unread x2)) y
      = dprobSlab t X G ((Rect.unit (s := S2x512x256) ![g, 128 * e, 0] S1x128x256.size (inb_pair hg2 he)).emb y) := by
  idx_vars y
  refine (tile_at (Q := fun a d => G (t.val * 128 + a) (64 * (4 * g + e) + d)) (K := fun j d => X (base t + j) (640 + 64 * g + d))
    (fun a d => do_load t G hg a d) (fun j d => load_at (hs1 t) hx hvb j d) y0 y1 y2).trans (congrArg Real.toEReal ?_)
  have e1 : headOf ((Rect.unit (s := S2x512x256) ![g, 128 * e, 0] S1x128x256.size (inb_pair hg2 he)).emb (ix3 y0 y1 y2) 0)
      ((Rect.unit (s := S2x512x256) ![g, 128 * e, 0] S1x128x256.size (inb_pair hg2 he)).emb (ix3 y0 y1 y2) 1) = 4 * g + e := by
    dsimp [headOf]; omega
  have e2 : rowOf t ((Rect.unit (s := S2x512x256) ![g, 128 * e, 0] S1x128x256.size (inb_pair hg2 he)).emb (ix3 y0 y1 y2) 1)
      = t.val * 128 + y1.val := by
    dsimp [rowOf]; omega
  rw [e1, e2, dprob, show (4 * g + e) / 4 = g by omega]
  refine Finset.sum_congr rfl fun d _ => ?_
  congr 2
  dsimp; omega

include hx hg

/-- The first scratch array after its eight stores. -/
theorem pieces_e : View.PiecesOf (dprobSlab t X G)
    (runLater.sl.H10_8 c (grid1.coords t) (ms1 t) (hs1 t) (ms2 t) (hs2 t) x1 x2) := by
  obtain ⟨v0, v1, -⟩ := places t
  exact ⟨dprob_piece t X G hx hg (g := 1) (e := 3) (by decide) (by decide) v1,
    dprob_piece t X G hx hg (g := 1) (e := 2) (by decide) (by decide) v1,
    dprob_piece t X G hx hg (g := 1) (e := 1) (by decide) (by decide) v1,
    dprob_piece t X G hx hg (g := 1) (e := 0) (by decide) (by decide) v1,
    dprob_piece t X G hx hg (g := 0) (e := 3) (by decide) (by decide) v0,
    dprob_piece t X G hx hg (g := 0) (e := 2) (by decide) (by decide) v0,
    dprob_piece t X G hx hg (g := 0) (e := 1) (by decide) (by decide) v0,
    dprob_piece t X G hx hg (g := 0) (e := 0) (by decide) (by decide) v0, trivial⟩

omit hx hg in
theorem cover_e : ∀ y, ∃ p ∈ runLater.sl.H10_8 (F := Ideal) c (grid1.coords t) (ms1 t) (hs1 t) (ms2 t) (hs2 t) x1 x2, y ∈ p.1.set :=
  View.cover_of_tiledL _ ![1, 128, 256] (by sl_kernel_rfl)

/-- A group's slab of it, read back. -/
theorem e_slab {g : ℕ} (hg2 : g < 2) (ρ : Fin 512) (k : Fin 256) :
    (sc0 : Memref sig .tc .vmem S2x512x256 .f32).view.readCov
        (runLater.sl.H10_8 c (grid1.coords t) (ms1 t) (hs1 t) (ms2 t) (hs2 t) x1 x2)
        (Rect.unit (s := S2x512x256) ![g, 0, 0] S1x512x256.size (inb_half hg2)).toLoadRect (ix3 0 ρ k)
      = (dprob X G (rowOf t ρ) (headOf g ρ) (base t + k) : EReal) := by
  refine (readCov_of _ (pieces_e c t X G hx hg) _ (cover_e c t) _).trans (congrArg Real.toEReal ?_)
  congr 1 <;> (dsimp [rowOf, headOf, base]; omega)

omit hx hg in
/-- A group's slab of weights, loaded. -/
theorem p_slab (hp : ∀ (g : Fin 2) (ρ : Fin 512) (k : Fin 256),
    x4 (ix3 g ρ k) = (prob X sk (rowOf t ρ) (headOf g ρ) (base t + k) : EReal)) {g : ℕ} (hg2 : g < 2) (ρ : Fin 512) (k : Fin 256) :
    View.readAt (Elt Ideal) (ms4 t).view (Rect.unit (s := S2x512x256) ![g, 0, 0] S1x512x256.size (inb_half hg2)).toLoadRect
        ((hs4 t).unread x4) (ix3 0 ρ k)
      = (prob X sk (rowOf t ρ) (headOf g ρ) (base t + k) : EReal) := by
  refine ((hs4 t).readAt_unread x4 _ _).trans ((congrArg x4 (eq_ix3 _)).trans ((hp ⟨g, hg2⟩ ρ k).symm.trans ?_).symm)
  refine congrArg x4 ?_
  funext a
  fin_cases a <;> (apply Fin.ext; dsimp <;> omega)

omit hx hg in
/-- A head's tile of weights, loaded. -/
theorem p_tile (hp : ∀ (g : Fin 2) (ρ : Fin 512) (k : Fin 256),
    x4 (ix3 g ρ k) = (prob X sk (rowOf t ρ) (headOf g ρ) (base t + k) : EReal)) {g e : ℕ} (hg2 : g < 2) (he : e < 4)
    (a : Fin 128) (k : Fin 256) :
    View.readAt (Elt Ideal) (ms4 t).view (Rect.unit (s := S2x512x256) ![g, 128 * e, 0] S1x128x256.size (inb_pair hg2 he)).toLoadRect
        ((hs4 t).unread x4) (ix3 0 a k)
      = (prob X sk (t.val * 128 + a) (4 * g + e) (base t + k) : EReal) := by
  have h1 : 128 * e + a.val < 512 := by omega
  refine ((hs4 t).readAt_unread x4 _ _).trans (Eq.trans (congrArg x4 ?_) ((hp ⟨g, hg2⟩ ⟨128 * e + a, h1⟩ k).trans (congrArg Real.toEReal ?_)))
  · funext b
    fin_cases b <;> first | rfl | (apply Fin.ext; simp <;> omega)
  · congr 1 <;> (dsimp [rowOf, headOf, base]; omega)

include hp

/-- A group's store of the logits' gradients. -/
theorem ds_piece {g : ℕ} (hg2 : g < 2) (y : S1x512x256.Idx) :
    k1_pay21 (k1_pay18 (View.readAt (Elt Ideal) (ms4 t).view
          (Rect.unit (s := S2x512x256) ![g, 0, 0] S1x512x256.size (inb_half hg2)).toLoadRect ((hs4 t).unread x4)))
        ((sc0 : Memref sig .tc .vmem S2x512x256 .f32).view.readCov
          (runLater.sl.H10_8 c (grid1.coords t) (ms1 t) (hs1 t) (ms2 t) (hs2 t) x1 x2)
          (Rect.unit (s := S2x512x256) ![g, 0, 0] S1x512x256.size (inb_half hg2)).toLoadRect) y
      = dscoreSlab t X sk G ((Rect.unit (s := S2x512x256) ![g, 0, 0] S1x512x256.size (inb_half hg2)).emb y) := by
  idx_vars y
  refine (dscore_at X sk G (n := t.val) (g := g) (block_lt t) (p_slab t X sk hp hg2) (e_slab c t X G hx hg hg2) y0 y1 y2).trans
    (congrArg Real.toEReal ?_)
  congr 1 <;> (dsimp [rowOf, headOf, base]; omega)

/-- The second scratch array after its two stores. -/
theorem pieces_u : View.PiecesOf (dscoreSlab t X sk G)
    (runLater.sl.H11_2 c (grid1.coords t) (ms1 t) (hs1 t) (ms2 t) (hs2 t) (ms4 t) (hs4 t) sc0 x1 x2 x4) :=
  ⟨ds_piece c t X sk G hx hg hp (g := 1) (by decide), ds_piece c t X sk G hx hg hp (g := 0) (by decide), trivial⟩

omit hx hg hp in
theorem cover_u : ∀ y, ∃ p ∈ runLater.sl.H11_2 (F := Ideal) c (grid1.coords t) (ms1 t) (hs1 t) (ms2 t) (hs2 t) (ms4 t) (hs4 t) sc0
    x1 x2 x4, y ∈ p.1.set :=
  View.cover_of_tiledL _ ![1, 512, 256] (by sl_kernel_rfl)

/-- A head's tile of it, read back. -/
theorem ds_tile {g e : ℕ} (hg2 : g < 2) (he : e < 4) (a : Fin 128) (k : Fin 256) :
    (sc1 : Memref sig .tc .vmem S2x512x256 .bf16).view.readCov
        (runLater.sl.H11_2 c (grid1.coords t) (ms1 t) (hs1 t) (ms2 t) (hs2 t) (ms4 t) (hs4 t) sc0 x1 x2 x4)
        (Rect.unit (s := S2x512x256) ![g, 128 * e, 0] S1x128x256.size (inb_pair hg2 he)).toLoadRect (ix3 0 a k)
      = (dscore X sk G (t.val * 128 + a) (4 * g + e) (base t + k) : EReal) := by
  refine (readCov_of _ (pieces_u c t X sk G hx hg hp) _ (cover_u c t) _).trans (congrArg Real.toEReal ?_)
  congr 1 <;> (dsimp [rowOf, headOf, base]; omega)

omit hg hp in
/-- One head's store of the queries' gradient. -/
theorem dq_piece {g e : ℕ} (hg2 : g < 2) (he : e < 4) {kb : Fin 2 → ℕ} {iv} (hkb : kb = ![base t, 512 + 64 * g])
    {s : Vec Ideal S1x128x256 .bf16}
    (hs : ∀ (a : Fin 128) (k : Fin 256), s (ix3 0 a k) = (dscore X sk G (t.val * 128 + a) (4 * g + e) (base t + k) : EReal))
    (y : S128x64.Idx) :
    k1_pay30 (View.readAt (Elt Ideal) (ms1 t).view (Rect.unit (s := S2048x768) kb S256x64.size iv).toLoadRect ((hs1 t).unread x1)) s y
      = dqBlock t X sk G ((Rect.unit (s := S128x512) ![0, 64 * (4 * g + e)] S128x64.size (inb_dq (by omega))).emb y) := by
  idx_vars y
  refine (dq_at (W := fun j d => X (base t + j) (512 + 64 * g + d)) hs (fun j d => load_at (hs1 t) hx hkb j d) y0 y1).trans
    (congrArg Real.toEReal ?_)
  have e0 : ((Rect.unit (s := S128x512) ![0, 64 * (4 * g + e)] S128x64.size (inb_dq (by omega))).emb (ix2 y0 y1) 0).val = y0.val := by
    dsimp; omega
  have e1 : ((Rect.unit (s := S128x512) ![0, 64 * (4 * g + e)] S128x64.size (inb_dq (by omega))).emb (ix2 y0 y1) 1).val
      = 64 * (4 * g + e) + y1.val := by
    dsimp; omega
  rw [e0, e1, dq, show (64 * (4 * g + e) + y1.val) / 64 = 4 * g + e by omega,
    show (64 * (4 * g + e) + y1.val) % 64 = y1.val by omega, show (4 * g + e) / 4 = g by omega,
    ← band_sum (block_lt t) y0.isLt _ fun j hj => by rw [dscore_of_not X sk G hj, zero_mul]]

end Backward

/-- What the rows of block `n` add to the gradients of the keys and values. -/
def dkvAdd (X : ℕ → ℕ → ℝ) (sk : ℕ → ℝ) (G : ℕ → ℕ → ℝ) (n j c : ℕ) : ℝ :=
  if c < 128 then (∑ e : Fin 4, ∑ a : Fin 128, dscore X sk G (n * 128 + a) (4 * (c / 64) + e) j
      * X (n * 128 + a) (64 * (4 * (c / 64) + e) + c % 64)) * (1 / 8)
  else ∑ e : Fin 4, ∑ a : Fin 128, prob X sk (n * 128 + a) (4 * ((c - 128) / 64) + e) j
      * G (n * 128 + a) (64 * (4 * ((c - 128) / 64) + e) + (c - 128) % 64)

/-- The gradients gather the blocks of rows. -/
theorem dkv_step (X : ℕ → ℕ → ℝ) (sk : ℕ → ℝ) (G : ℕ → ℕ → ℝ) (n j c : ℕ) :
    dkv X sk G ((n + 1) * 128) j c = dkv X sk G (n * 128) j c + dkvAdd X sk G n j c := by
  unfold dkv dkvAdd dk dv
  split_ifs
  · rw [← add_mul, ← Finset.sum_add_distrib]
    exact congrArg (· * _) (Finset.sum_congr rfl fun e _ => range_block _ n)
  · rw [← Finset.sum_add_distrib]
    exact Finset.sum_congr rfl fun e _ => range_block _ n

/-- A block of rows adds nothing outside its band. -/
theorem dkvAdd_of_not (X : ℕ → ℕ → ℝ) (sk : ℕ → ℝ) (G : ℕ → ℕ → ℝ) {n j : ℕ} (c : ℕ) (h : j < base n ∨ base n + 256 ≤ j) :
    dkvAdd X sk G n j c = 0 := by
  have hv (a : Fin 128) : ¬ Valid (n * 128 + a) j := by
    dsimp only [base] at h
    omega
  unfold dkvAdd
  split_ifs
  · rw [Finset.sum_eq_zero fun e _ => Finset.sum_eq_zero fun a _ => by rw [dscore_of_not X sk G (hv a), zero_mul], zero_mul]
  · exact Finset.sum_eq_zero fun e _ => Finset.sum_eq_zero fun a _ => by rw [prob_of_not X sk (hv a), zero_mul]

/-- What the rows of block `n` add to the gradient of a sink logit. -/
def dsinkAdd (X : ℕ → ℕ → ℝ) (sk : ℕ → ℝ) (G : ℕ → ℕ → ℝ) (n h : ℕ) : ℝ :=
  ∑ a : Fin 128, -(Real.exp (sk h) / tot X sk (n * 128 + a) h * inner X sk G (n * 128 + a) h)

theorem dsink_step (X : ℕ → ℕ → ℝ) (sk : ℕ → ℝ) (G : ℕ → ℕ → ℝ) (n h : ℕ) :
    dsink X sk G ((n + 1) * 128) h = dsink X sk G (n * 128) h + dsinkAdd X sk G n h := range_block _ n

end Cert.Attn
end
-- ==== Proof.AttnBackwardRuns.lean ====
module

public import proofs.«01_k».proof.Proof.AttnBackwardValue

/-! The backward attention body's run at the first grid point and at a later one, by short names. -/

@[expose] public section

set_option maxRecDepth 16384

noncomputable section

open Idealize.ShloMosaic Idealize.ShloMosaic.TcCoe

namespace Cert.Attn

open Cert.Kernel2Ideal Cert.Kernel2Ideal.Gen Cert.AttnBackward

/-- The run of the body at a later grid point, and at the first, from any inputs. -/
abbrev later (c : Dev nD) (t : Fin cfg1.N) (h : ¬ t.val = 0) (x0 : Vec Ideal S1x8 .f32) (x1 : Vec Ideal S2048x768 .bf16)
    (x2 : Vec Ideal S128x512 .bf16) (x3 : Vec Ideal S128x8 .f32) (x4 : Vec Ideal S2x512x256 .bf16) (x5 x6 : Vec Ideal S8x128 .f32)
    (y8 : Vec Ideal S2048x256 .f32) (y9 : Vec Ideal S8x128 .f32) :=
  runLater (F := Ideal) c (grid1.coords t) (ms0 t) (hs0 t) (ms1 t) (hs1 t) (ms2 t) (hs2 t) (ms3 t) (hs3 t) (ms4 t) (hs4 t)
    (ms5 t) (hs5 t) (ms6 t) (hs6 t) (ms7 t) (hs7 t) (ms8 t) (hs8 t) (ms9 t) (hs9 t) sc0 (Memref.isWhole_whole _) sc1
    (Memref.isWhole_whole _) (not_first_of t h) x0 x1 x2 x3 x4 x5 x6 y8 y9
abbrev first (c : Dev nD) (t : Fin cfg1.N) (h : t.val = 0) (x0 : Vec Ideal S1x8 .f32) (x1 : Vec Ideal S2048x768 .bf16)
    (x2 : Vec Ideal S128x512 .bf16) (x3 : Vec Ideal S128x8 .f32) (x4 : Vec Ideal S2x512x256 .bf16) (x5 x6 : Vec Ideal S8x128 .f32) :=
  runFirst (F := Ideal) c (grid1.coords t) (ms0 t) (hs0 t) (ms1 t) (hs1 t) (ms2 t) (hs2 t) (ms3 t) (hs3 t) (ms4 t) (hs4 t)
    (ms5 t) (hs5 t) (ms6 t) (hs6 t) (ms7 t) (hs7 t) (ms8 t) (hs8 t) (ms9 t) (hs9 t) sc0 (Memref.isWhole_whole _) sc1
    (Memref.isWhole_whole _) (first_of t h) x0 x1 x2 x3 x4 x5 x6

/-- A point outside the last stores' rectangle, along one axis, keeps what the earlier stores left. -/
theorem canon_skip {s : Shape} {e : EltTy} {p : View.Piece (Elt Ideal) s e} {L : List (View.Piece (Elt Ideal) s e)} {y : s.Idx}
    {z : Elt Ideal e} (hL : View.canon L y = z) (a : Fin s.rank) (o n : ℕ) (ho : p.1.off a = o) (hst : p.1.stride a = 1)
    (hn : p.1.size a = n) (h : (y a).val < o ∨ o + n ≤ (y a).val) : View.canon (p :: L) y = z :=
  (View.canon_cons_of_not_mem p L (p.1.not_mem_set_of_axis y a o n ho hst hn h)).trans hL

section Forms

/-! The body writes the same few computations several times over: each is one of them. -/

variable (k : Vec Ideal S256x64 .bf16) (s s0 s1 s2 s3 : Vec Ideal S1x128x256 .bf16) (q0 q1 q2 q3 : Vec Ideal S128x64 .bf16)
  (w : Vec Ideal S256x64 .f32) (col : FVec Ideal S512x1 .f32) (row : Vec Ideal S1x128 .f32)
  (l0 l1 l2 l3 : Vec Ideal S128x1 .f32) (p : Vec Ideal S1x512x256 .bf16) (e : Vec Ideal S1x512x256 .f32) (a0 a1 a2 a3 : Elt Ideal .f32)

theorem dq_form1 : k1_pay34 (k1_pay29 k) s = k1_pay30 k s := rfl
theorem dq_form2 : k1_pay39 (k1_pay29 k) (k1_pay38 s) = k1_pay30 k s := rfl
theorem dq_form3 : k1_pay43 (k1_pay29 k) s = k1_pay30 k s := rfl
theorem dq_form4 : k1_pay48 k s = k1_pay30 k s := rfl
theorem dq_form5 : k1_pay54 (k1_pay47 k) s = k1_pay30 k s := rfl
theorem dq_form6 : k1_pay58 (k1_pay47 k) s = k1_pay30 k s := rfl
theorem dq_form7 : k1_pay63 (k1_pay47 k) (k1_pay62 s) (constant S128x64 .f32 0#32) = k1_pay30 k s := rfl

theorem keys_form : k1_pay66 (k1_pay59 (k1_pay55 (k1_pay49 s0 q0) s1 q1) s2 q2) s3 q3 w
    = k1_pay45 (k1_pay40 (k1_pay35 (k1_pay31 s0 q0) s1 q1) s2 q2) s3 q3 w := rfl
theorem values_form : k1_pay1 (k1_pay64 (k1_pay60 (k1_pay56 (k1_pay50 s0 q0) s1 q1) s2 q2) s3 q3) w
    = k1_pay46 (k1_pay41 (k1_pay36 (k1_pay32 s0 q0) s1 q1) s2 q2) s3 q3 w := rfl

theorem row_form0 : k1_pay53 (k1_pay51 row) (k1_pay52 col) = k1_pay33 col row := rfl
theorem row_form1 : k1_pay57 col row = k1_pay37 col row := rfl
theorem row_form2 : k1_pay61 col row = k1_pay42 col row := rfl
theorem row_form3 : k1_pay65 col row = k1_pay44 col row := rfl
theorem col_form : k1_pay28 (k1_pay17 (k1_pay13 l0) l1 l2 l3) (k1_pay23 p) e a0 a1 a2 a3
    = k1_pay22 (k1_pay10 (k1_pay6 l0) l1 l2 l3) (k1_pay18 p) e a0 a1 a2 a3 := rfl

end Forms

end Cert.Attn
end
-- ==== Proof.AttnBackwardQuery.lean ====
module

public import proofs.«01_k».proof.Proof.AttnBackwardRuns

/-! The queries' gradient: the eight stores of the backward attention body. -/

@[expose] public section

set_option maxRecDepth 16384

noncomputable section

open Idealize.ShloMosaic Idealize.ShloMosaic.TcCoe

namespace Cert.Attn

open Cert.Kernel2Ideal Cert.Kernel2Ideal.Gen Cert.AttnBackward

section Steps

variable (c : Dev nD) (t : Fin cfg1.N) {x0 : Vec Ideal S1x8 .f32} {x1 : Vec Ideal S2048x768 .bf16} {x2 : Vec Ideal S128x512 .bf16}
  {x3 : Vec Ideal S128x8 .f32} {x4 : Vec Ideal S2x512x256 .bf16} (x5 x6 : Vec Ideal S8x128 .f32)
  (y8 : Vec Ideal S2048x256 .f32) (y9 : Vec Ideal S8x128 .f32) (X : ℕ → ℕ → ℝ) (sk : ℕ → ℝ) (G : ℕ → ℕ → ℝ)
  (hk : ∀ h : Fin 8, x0 (ix2 0 h) = (sk h : EReal))
  (hx : ∀ (r : Fin 2048) (d : Fin 768), x1 (ix2 r d) = (X r d : EReal))
  (hg : ∀ (a : Fin 128) (d : Fin 512), x2 (ix2 a d) = (G (t.val * 128 + a) d : EReal))
  (hl : ∀ (a : Fin 128) (h : Fin 8), x3 (ix2 a h) = ((Real.log (tot X sk (t.val * 128 + a) h) : ℝ) : EReal))
  (hp : ∀ (g : Fin 2) (ρ : Fin 512) (k : Fin 256),
    x4 (ix3 g ρ k) = (prob X sk (rowOf t ρ) (headOf g ρ) (base t + k) : EReal))

include hx hg hp in
/-- One head's store of the queries' gradient, from the scratch array the body fills. -/
theorem dq_store {g e : ℕ} (hg2 : g < 2) (he : e < 4) {kb : Fin 2 → ℕ} (iv) (hkb : kb = ![base t, 512 + 64 * g])
    {w : Vec Ideal S128x64 .bf16}
    (hw : w = k1_pay30 (View.readAt (Elt Ideal) (ms1 t).view (Rect.unit (s := S2048x768) kb S256x64.size iv).toLoadRect ((hs1 t).unread x1))
      ((sc1 : Memref sig .tc .vmem S2x512x256 .bf16).view.readCov
        (runLater.sl.H11_2 c (grid1.coords t) (ms1 t) (hs1 t) (ms2 t) (hs2 t) (ms4 t) (hs4 t) sc0 x1 x2 x4)
        (Rect.unit (s := S2x512x256) ![g, 128 * e, 0] S1x128x256.size (inb_pair hg2 he)).toLoadRect)) (y : S128x64.Idx) :
    w y = dqBlock t X sk G ((Rect.unit (s := S128x512) ![0, 64 * (4 * g + e)] S128x64.size (inb_dq (by omega))).emb y) :=
  (congrFun hw y).trans (dq_piece t X sk G hx hg2 he hkb (ds_tile c t X sk G hx hg hp hg2 he) y)

omit hk hx hg hl hp in
theorem inb_keys {kb : Fin 2 → ℕ} {q : ℕ} (hkb : kb = ![base t, q]) (hq : q + 64 ≤ 768) :
    ∀ a, kb a + S256x64.size a ≤ S2048x768.size a := by
  have ht : t.val < 16 := t.isLt
  subst hkb
  intro a
  fin_cases a
  · show base t + 256 ≤ 2048
    dsimp only [base]
    omega
  · exact hq

include hx hg hp in
/-- The queries' gradient's staging buffer after its eight stores, at a later grid point, -/
theorem pieces_q_later (h : ¬ t.val = 0) : View.PiecesOf (dqBlock t X sk G) (later c t h x0 x1 x2 x3 x4 x5 x6 y8 y9).1 := by
  obtain ⟨-, -, k0, k1, -⟩ := places t
  have i0 := inb_keys t k0 (by decide)
  have i1 := inb_keys t k1 (by decide)
  exact ⟨dq_store c t X sk G hx hg hp (g := 1) (e := 3) (by decide) (by decide) i1 k1 (dq_form7 _ _),
    dq_store c t X sk G hx hg hp (g := 1) (e := 2) (by decide) (by decide) i1 k1 (dq_form6 _ _),
    dq_store c t X sk G hx hg hp (g := 1) (e := 1) (by decide) (by decide) i1 k1 (dq_form5 _ _),
    dq_store c t X sk G hx hg hp (g := 1) (e := 0) (by decide) (by decide) i1 k1 (dq_form4 _ _),
    dq_store c t X sk G hx hg hp (g := 0) (e := 3) (by decide) (by decide) i0 k0 (dq_form3 _ _),
    dq_store c t X sk G hx hg hp (g := 0) (e := 2) (by decide) (by decide) i0 k0 (dq_form2 _ _),
    dq_store c t X sk G hx hg hp (g := 0) (e := 1) (by decide) (by decide) i0 k0 (dq_form1 _ _),
    dq_store c t X sk G hx hg hp (g := 0) (e := 0) (by decide) (by decide) i0 k0 (rfl), trivial⟩

include hx hg hp in
/-- and at the first. -/
theorem pieces_q_first (h : t.val = 0) : View.PiecesOf (dqBlock t X sk G) (first c t h x0 x1 x2 x3 x4 x5 x6).1 := by
  obtain ⟨-, -, k0, k1, -⟩ := places t
  have i0 := inb_keys t k0 (by decide)
  have i1 := inb_keys t k1 (by decide)
  exact ⟨dq_store c t X sk G hx hg hp (g := 1) (e := 3) (by decide) (by decide) i1 k1 (dq_form7 _ _),
    dq_store c t X sk G hx hg hp (g := 1) (e := 2) (by decide) (by decide) i1 k1 (dq_form6 _ _),
    dq_store c t X sk G hx hg hp (g := 1) (e := 1) (by decide) (by decide) i1 k1 (dq_form5 _ _),
    dq_store c t X sk G hx hg hp (g := 1) (e := 0) (by decide) (by decide) i1 k1 (dq_form4 _ _),
    dq_store c t X sk G hx hg hp (g := 0) (e := 3) (by decide) (by decide) i0 k0 (dq_form3 _ _),
    dq_store c t X sk G hx hg hp (g := 0) (e := 2) (by decide) (by decide) i0 k0 (dq_form2 _ _),
    dq_store c t X sk G hx hg hp (g := 0) (e := 1) (by decide) (by decide) i0 k0 (dq_form1 _ _),
    dq_store c t X sk G hx hg hp (g := 0) (e := 0) (by decide) (by decide) i0 k0 (rfl), trivial⟩

end Steps

end Cert.Attn
end
-- ==== Proof.AttnBackwardKeys.lean ====
module

public import proofs.«01_k».proof.Proof.AttnBackwardRuns

/-! The keys' and values' gradient: the four windows the backward attention body adds to at a grid point. -/

@[expose] public section

set_option maxRecDepth 16384

noncomputable section

open Idealize.ShloMosaic Idealize.ShloMosaic.TcCoe

namespace Cert.Attn

open Cert.Kernel2Ideal Cert.Kernel2Ideal.Gen Cert.AttnBackward

/-- The window of rows a grid point adds to. -/
theorem inb_window (t : Fin cfg1.N) {q : ℕ} (hq : q + 64 ≤ 256) : ∀ a, (![base t, q] : Fin 2 → ℕ) a + S256x64.size a ≤ S2048x256.size a := by
  have ht : t.val < 16 := t.isLt
  intro a
  fin_cases a
  · show base t + 256 ≤ 2048
    dsimp only [base]
    omega
  · exact hq

/-- The keys' and values' gradient after a grid point, over what it held before. -/
def windowNext (t : ℕ) (X : ℕ → ℕ → ℝ) (sk : ℕ → ℝ) (G : ℕ → ℕ → ℝ) (Y : Vec Ideal S2048x256 .f32) : Vec Ideal S2048x256 .f32 :=
  fun y => Y y + (dkvAdd X sk G t (y 0) (y 1) : EReal)

section Steps

variable (c : Dev nD) (t : Fin cfg1.N) {x0 : Vec Ideal S1x8 .f32} {x1 : Vec Ideal S2048x768 .bf16} {x2 : Vec Ideal S128x512 .bf16}
  {x3 : Vec Ideal S128x8 .f32} {x4 : Vec Ideal S2x512x256 .bf16} (x5 x6 : Vec Ideal S8x128 .f32)
  (y8 : Vec Ideal S2048x256 .f32) (y9 : Vec Ideal S8x128 .f32) (X : ℕ → ℕ → ℝ) (sk : ℕ → ℝ) (G : ℕ → ℕ → ℝ)
  (hk : ∀ h : Fin 8, x0 (ix2 0 h) = (sk h : EReal))
  (hx : ∀ (r : Fin 2048) (d : Fin 768), x1 (ix2 r d) = (X r d : EReal))
  (hg : ∀ (a : Fin 128) (d : Fin 512), x2 (ix2 a d) = (G (t.val * 128 + a) d : EReal))
  (hl : ∀ (a : Fin 128) (h : Fin 8), x3 (ix2 a h) = ((Real.log (tot X sk (t.val * 128 + a) h) : ℝ) : EReal))
  (hp : ∀ (g : Fin 2) (ρ : Fin 512) (k : Fin 256),
    x4 (ix3 g ρ k) = (prob X sk (rowOf t ρ) (headOf g ρ) (base t + k) : EReal))

omit hk hx hg hl hp in
theorem rect_congr {off off' size : Fin 2 → ℕ} (h : off = off') (i') :
    Rect.unit (s := S2048x256) off size (by subst h; exact i') = Rect.unit (s := S2048x256) off' size i' := by
  subst h
  rfl

section Pieces

variable {s0 s1 s2 s3 : Vec Ideal S1x128x256 .bf16} {vb : Fin 2 → ℕ} (iv : ∀ a, vb a + S256x64.size a ≤ S2048x256.size a)
  {old : Vec Ideal S256x64 .f32} {Y : Vec Ideal S2048x256 .f32}

omit hk hg hl hp in
include hx in
/-- A window of the keys' gradient. -/
theorem key_piece {g : ℕ} (hg2 : g < 2) (hvb : vb = ![base t, 64 * g])
    (h0 : ∀ (a : Fin 128) (k : Fin 256), s0 (ix3 0 a k) = (dscore X sk G (t.val * 128 + a) (4 * g + 0) (base t + k) : EReal))
    (h1 : ∀ (a : Fin 128) (k : Fin 256), s1 (ix3 0 a k) = (dscore X sk G (t.val * 128 + a) (4 * g + 1) (base t + k) : EReal))
    (h2 : ∀ (a : Fin 128) (k : Fin 256), s2 (ix3 0 a k) = (dscore X sk G (t.val * 128 + a) (4 * g + 2) (base t + k) : EReal))
    (h3 : ∀ (a : Fin 128) (k : Fin 256), s3 (ix3 0 a k) = (dscore X sk G (t.val * 128 + a) (4 * g + 3) (base t + k) : EReal))
    {b0 b1 b2 b3 : Fin 2 → ℕ} {i0 i1 i2 i3} (e0 : b0 = ![t.val * 128, 64 * (4 * g + 0)]) (e1 : b1 = ![t.val * 128, 64 * (4 * g + 1)])
    (e2 : b2 = ![t.val * 128, 64 * (4 * g + 2)]) (e3 : b3 = ![t.val * 128, 64 * (4 * g + 3)])
    (hold : ∀ y, old y = Y ((Rect.unit (s := S2048x256) vb S256x64.size iv).emb y)) {w : Vec Ideal S256x64 .f32}
    (hw : w = k1_pay45 (k1_pay40 (k1_pay35 (k1_pay31 s0
        (View.readAt (Elt Ideal) (ms1 t).view (Rect.unit (s := S2048x768) b0 S128x64.size i0).toLoadRect ((hs1 t).unread x1))) s1
        (View.readAt (Elt Ideal) (ms1 t).view (Rect.unit (s := S2048x768) b1 S128x64.size i1).toLoadRect ((hs1 t).unread x1))) s2
        (View.readAt (Elt Ideal) (ms1 t).view (Rect.unit (s := S2048x768) b2 S128x64.size i2).toLoadRect ((hs1 t).unread x1))) s3
        (View.readAt (Elt Ideal) (ms1 t).view (Rect.unit (s := S2048x768) b3 S128x64.size i3).toLoadRect ((hs1 t).unread x1)) old)
    (y : S256x64.Idx) : w y = windowNext t X sk G Y ((Rect.unit (s := S2048x256) vb S256x64.size iv).emb y) := by
  idx_vars y
  rw [hw]
  refine (keys_at (P := fun e a j => dscore X sk G (t.val * 128 + a) (4 * g + e) (base t + j))
    (Q := fun e a d => X (t.val * 128 + a) (64 * (4 * g + e) + d)) h0 (fun a d => load_at (hs1 t) hx e0 a d) h1
    (fun a d => load_at (hs1 t) hx e1 a d) h2 (fun a d => load_at (hs1 t) hx e2 a d) h3 (fun a d => load_at (hs1 t) hx e3 a d)
    old y0 y1).trans ?_
  rw [hold]
  refine congrArg (_ + ·) (congrArg Real.toEReal ?_)
  subst hvb
  have k0 : ((Rect.unit (s := S2048x256) ![base t, 64 * g] S256x64.size iv).emb (ix2 y0 y1) 0).val = base t + y0 := by simp
  have k1 : ((Rect.unit (s := S2048x256) ![base t, 64 * g] S256x64.size iv).emb (ix2 y0 y1) 1).val = 64 * g + y1 := by simp
  have d1 : (64 * g + y1.val) / 64 = g := by omega
  have d2 : (64 * g + y1.val) % 64 = y1.val := by omega
  rw [k0, k1, dkvAdd, if_pos (by omega), d1, d2]

omit hk hx hl hp in
include hg in
/-- A window of the values' gradient. -/
theorem value_piece {g : ℕ} (hg2 : g < 2) (hvb : vb = ![base t, 128 + 64 * g])
    (h0 : ∀ (a : Fin 128) (k : Fin 256), s0 (ix3 0 a k) = (prob X sk (t.val * 128 + a) (4 * g + 0) (base t + k) : EReal))
    (h1 : ∀ (a : Fin 128) (k : Fin 256), s1 (ix3 0 a k) = (prob X sk (t.val * 128 + a) (4 * g + 1) (base t + k) : EReal))
    (h2 : ∀ (a : Fin 128) (k : Fin 256), s2 (ix3 0 a k) = (prob X sk (t.val * 128 + a) (4 * g + 2) (base t + k) : EReal))
    (h3 : ∀ (a : Fin 128) (k : Fin 256), s3 (ix3 0 a k) = (prob X sk (t.val * 128 + a) (4 * g + 3) (base t + k) : EReal))
    {i0 i1 i2 i3}
    (hold : ∀ y, old y = Y ((Rect.unit (s := S2048x256) vb S256x64.size iv).emb y)) {w : Vec Ideal S256x64 .f32}
    (hw : w = k1_pay46 (k1_pay41 (k1_pay36 (k1_pay32 s0
        (View.readAt (Elt Ideal) (ms2 t).view (Rect.unit (s := S128x512) ![0, 64 * (4 * g + 0)] S128x64.size i0).toLoadRect ((hs2 t).unread x2))) s1
        (View.readAt (Elt Ideal) (ms2 t).view (Rect.unit (s := S128x512) ![0, 64 * (4 * g + 1)] S128x64.size i1).toLoadRect ((hs2 t).unread x2))) s2
        (View.readAt (Elt Ideal) (ms2 t).view (Rect.unit (s := S128x512) ![0, 64 * (4 * g + 2)] S128x64.size i2).toLoadRect ((hs2 t).unread x2))) s3
        (View.readAt (Elt Ideal) (ms2 t).view (Rect.unit (s := S128x512) ![0, 64 * (4 * g + 3)] S128x64.size i3).toLoadRect ((hs2 t).unread x2)) old)
    (y : S256x64.Idx) : w y = windowNext t X sk G Y ((Rect.unit (s := S2048x256) vb S256x64.size iv).emb y) := by
  idx_vars y
  rw [hw]
  refine (values_at (P := fun e a j => prob X sk (t.val * 128 + a) (4 * g + e) (base t + j))
    (Q := fun e a d => G (t.val * 128 + a) (64 * (4 * g + e) + d)) h0 (fun a d => do_load t G hg a d) h1
    (fun a d => do_load t G hg a d) h2 (fun a d => do_load t G hg a d) h3 (fun a d => do_load t G hg a d) old y0 y1).trans ?_
  rw [hold]
  refine congrArg (_ + ·) (congrArg Real.toEReal ?_)
  subst hvb
  have k0 : ((Rect.unit (s := S2048x256) ![base t, 128 + 64 * g] S256x64.size iv).emb (ix2 y0 y1) 0).val = base t + y0 := by simp
  have k1 : ((Rect.unit (s := S2048x256) ![base t, 128 + 64 * g] S256x64.size iv).emb (ix2 y0 y1) 1).val = 128 + 64 * g + y1 := by simp
  have d0 : 128 + 64 * g + y1.val - 128 = 64 * g + y1 := by omega
  have d1 : (64 * g + y1.val) / 64 = g := by omega
  have d2 : (64 * g + y1.val) % 64 = y1.val := by omega
  rw [k0, k1, dkvAdd, if_neg (by omega), d0, d1, d2]

end Pieces

omit hk hx hg hl hp in
theorem inb_at {vb : Fin 2 → ℕ} {q : ℕ} (hvb : vb = ![base t, q]) (hq : q + 64 ≤ 256) :
    ∀ a, vb a + S256x64.size a ≤ S2048x256.size a := by
  subst hvb
  exact inb_window t hq

omit hk hx hg hl hp in
theorem inb_queries {b : Fin 2 → ℕ} {q : ℕ} (hb : b = ![t.val * 128, q]) (hq : q + 64 ≤ 768) :
    ∀ a, b a + S128x64.size a ≤ S2048x768.size a := by
  have ht : t.val < 16 := t.isLt
  subst hb
  intro a
  fin_cases a
  · show t.val * 128 + 128 ≤ 2048
    omega
  · exact hq

omit hk hx hg hl hp in
theorem window_old {vb : Fin 2 → ℕ} {inb} (y : S256x64.Idx) :
    View.readAt (Elt Ideal) (ms8 t).view (Rect.unit (s := S2048x256) vb S256x64.size inb).toLoadRect ((hs8 t).unread y8) y
      = y8 ((Rect.unit (s := S2048x256) vb S256x64.size inb).emb y) :=
  (hs8 t).readAt_unread y8 (Rect.unit (s := S2048x256) vb S256x64.size inb).toLoadRect y

include hx hg hp in
/-- The stores of a later grid point: four windows of 64 columns, each the sum with what was there. -/
theorem pieces_k_later (h : ¬ t.val = 0) : ∃ p3 p2 p1 p0, (later c t h x0 x1 x2 x3 x4 x5 x6 y8 y9).2.1 = [p3, p2, p1, p0]
    ∧ (p3.1 = Rect.unit (s := S2048x256) ![base t, 192] S256x64.size (inb_window t (by decide))
      ∧ p2.1 = Rect.unit (s := S2048x256) ![base t, 64] S256x64.size (inb_window t (by decide))
      ∧ p1.1 = Rect.unit (s := S2048x256) ![base t, 128] S256x64.size (inb_window t (by decide))
      ∧ p0.1 = Rect.unit (s := S2048x256) ![base t, 0] S256x64.size (inb_window t (by decide)))
    ∧ View.PiecesOf (windowNext t X sk G y8) [p3, p2, p1, p0] := by
  obtain ⟨-, -, -, -, q0, q1, q2, q3, q4, q5, q6, q7, w0, w1, w2, w3⟩ := places t
  have i0 := inb_at t w0 (by decide)
  have i1 := inb_at t w1 (by decide)
  have i2 := inb_at t w2 (by decide)
  have i3 := inb_at t w3 (by decide)
  have j0 := inb_queries t q0 (by decide)
  have j1 := inb_queries t q1 (by decide)
  have j2 := inb_queries t q2 (by decide)
  have j3 := inb_queries t q3 (by decide)
  have j4 := inb_queries t q4 (by decide)
  have j5 := inb_queries t q5 (by decide)
  have j6 := inb_queries t q6 (by decide)
  have j7 := inb_queries t q7 (by decide)
  refine ⟨_, _, _, _, rfl, ⟨rect_congr w3 (inb_window t (by decide)), rect_congr w2 (inb_window t (by decide)),
    rect_congr w1 (inb_window t (by decide)), rect_congr w0 (inb_window t (by decide))⟩, ?_⟩
  exact ⟨value_piece t X sk G hg i3 (g := 1) (by decide) w3
      (p_tile t X sk hp (g := 1) (e := 0) (by decide) (by decide)) (p_tile t X sk hp (g := 1) (e := 1) (by decide) (by decide)) (p_tile t X sk hp (g := 1) (e := 2) (by decide) (by decide)) (p_tile t X sk hp (g := 1) (e := 3) (by decide) (by decide))
      (window_old t y8) (values_form _ _ _ _ _ _ _ _ _),
    key_piece t X sk G hx i2 (g := 1) (by decide) w2 (i0 := j4) (i1 := j5) (i2 := j6) (i3 := j7)
      (ds_tile c t X sk G hx hg hp (g := 1) (e := 0) (by decide) (by decide)) (ds_tile c t X sk G hx hg hp (g := 1) (e := 1) (by decide) (by decide)) (ds_tile c t X sk G hx hg hp (g := 1) (e := 2) (by decide) (by decide)) (ds_tile c t X sk G hx hg hp (g := 1) (e := 3) (by decide) (by decide)) q4 q5 q6 q7
      (window_old t y8) (keys_form _ _ _ _ _ _ _ _ _),
    value_piece t X sk G hg i1 (g := 0) (by decide) w1
      (p_tile t X sk hp (g := 0) (e := 0) (by decide) (by decide)) (p_tile t X sk hp (g := 0) (e := 1) (by decide) (by decide)) (p_tile t X sk hp (g := 0) (e := 2) (by decide) (by decide)) (p_tile t X sk hp (g := 0) (e := 3) (by decide) (by decide))
      (window_old t y8) rfl,
    key_piece t X sk G hx i0 (g := 0) (by decide) w0 (i0 := j0) (i1 := j1) (i2 := j2) (i3 := j3)
      (ds_tile c t X sk G hx hg hp (g := 0) (e := 0) (by decide) (by decide)) (ds_tile c t X sk G hx hg hp (g := 0) (e := 1) (by decide) (by decide)) (ds_tile c t X sk G hx hg hp (g := 0) (e := 2) (by decide) (by decide)) (ds_tile c t X sk G hx hg hp (g := 0) (e := 3) (by decide) (by decide)) q0 q1 q2 q3
      (window_old t y8) rfl, trivial⟩

omit hk hx hg hl hp in
/-- The fill the first grid point starts from. -/
theorem fill_k (y : S2048x256.Idx) : View.canon (runFirst.sl.H8_1 (F := Ideal)) y = 0 := by
  refine (congrFun (View.canon_cons_unit_lit (Val := Elt Ideal) (e := .f32) inb_S2048x256_S2048x256_0_0 (k1_pay2 (F := Ideal)) [] (by decide)) y).trans ?_
  idx_vars y
  pointwise [k1_pay2]

omit hk hx hg hl hp in
theorem col_apart {vb : Fin 2 → ℕ} {q : ℕ} (hvb : vb = ![base t, q]) {inb} (y : S256x64.Idx) {o : ℕ} (ho : q + 64 ≤ o ∨ o + 64 ≤ q) :
    (((Rect.unit (s := S2048x256) vb S256x64.size inb).toLoadRect.idx y 1).val < o
      ∨ o + 64 ≤ ((Rect.unit (s := S2048x256) vb S256x64.size inb).toLoadRect.idx y 1).val) := by
  subst hvb
  have h1 : ((Rect.unit (s := S2048x256) ![base t, q] S256x64.size inb).toLoadRect.idx y 1).val = q + 1 * (y 1).val := rfl
  have h2 : (y 1).val < 64 := (y 1).isLt
  omega

omit hk hx hg hl hp in
theorem h8_2 (y : S2048x256.Idx) (h0 : (y 1).val < 0 ∨ 0 + 64 ≤ (y 1).val) :
    View.canon (runFirst.sl.H8_2 c (grid1.coords t) (ms1 t) (hs1 t) (ms2 t) (hs2 t) (ms4 t) (hs4 t) (ms8 t) sc0 sc1 x1 x2 x4) y = 0 := by
  obtain ⟨-, -, -, -, -, -, -, -, -, -, -, -, w0, w1, w2, w3⟩ := places t
  exact canon_skip (fill_k y) 1 0 64 (congrFun w0 1) rfl rfl h0

omit hk hx hg hl hp in
theorem h8_3 (y : S2048x256.Idx) (h0 : (y 1).val < 0 ∨ 0 + 64 ≤ (y 1).val) (h1 : (y 1).val < 128 ∨ 128 + 64 ≤ (y 1).val) :
    View.canon (runFirst.sl.H8_3 c (grid1.coords t) (ms1 t) (hs1 t) (ms2 t) (hs2 t) (ms4 t) (hs4 t) (ms8 t) sc0 sc1 x1 x2 x4) y = 0 := by
  obtain ⟨-, -, -, -, -, -, -, -, -, -, -, -, w0, w1, w2, w3⟩ := places t
  exact canon_skip (h8_2 c t y h0) 1 128 64 (congrFun w1 1) rfl rfl h1

omit hk hx hg hl hp in
theorem h8_4 (y : S2048x256.Idx) (h0 : (y 1).val < 0 ∨ 0 + 64 ≤ (y 1).val) (h1 : (y 1).val < 128 ∨ 128 + 64 ≤ (y 1).val) (h2 : (y 1).val < 64 ∨ 64 + 64 ≤ (y 1).val) :
    View.canon (runFirst.sl.H8_4 c (grid1.coords t) (ms1 t) (hs1 t) (ms2 t) (hs2 t) (ms4 t) (hs4 t) (ms8 t) sc0 sc1 x1 x2 x4) y = 0 := by
  obtain ⟨-, -, -, -, -, -, -, -, -, -, -, -, w0, w1, w2, w3⟩ := places t
  exact canon_skip (h8_3 c t y h0 h1) 1 64 64 (congrFun w2 1) rfl rfl h2

include hx hg hp in
/-- The stores of the first grid point: a fill with zero, then the four windows over it. -/
theorem pieces_k_first (h : t.val = 0) : ∃ p3 p2 p1 p0, (first c t h x0 x1 x2 x3 x4 x5 x6).2.1
      = [p3, p2, p1, p0] ++ runFirst.sl.H8_1 (F := Ideal)
    ∧ (p3.1 = Rect.unit (s := S2048x256) ![base t, 192] S256x64.size (inb_window t (by decide))
      ∧ p2.1 = Rect.unit (s := S2048x256) ![base t, 64] S256x64.size (inb_window t (by decide))
      ∧ p1.1 = Rect.unit (s := S2048x256) ![base t, 128] S256x64.size (inb_window t (by decide))
      ∧ p0.1 = Rect.unit (s := S2048x256) ![base t, 0] S256x64.size (inb_window t (by decide)))
    ∧ View.PiecesOf (windowNext t X sk G fun _ => 0) [p3, p2, p1, p0] := by
  obtain ⟨-, -, -, -, q0, q1, q2, q3, q4, q5, q6, q7, w0, w1, w2, w3⟩ := places t
  have i0 := inb_at t w0 (by decide)
  have i1 := inb_at t w1 (by decide)
  have i2 := inb_at t w2 (by decide)
  have i3 := inb_at t w3 (by decide)
  have j0 := inb_queries t q0 (by decide)
  have j1 := inb_queries t q1 (by decide)
  have j2 := inb_queries t q2 (by decide)
  have j3 := inb_queries t q3 (by decide)
  have j4 := inb_queries t q4 (by decide)
  have j5 := inb_queries t q5 (by decide)
  have j6 := inb_queries t q6 (by decide)
  have j7 := inb_queries t q7 (by decide)
  refine ⟨_, _, _, _, rfl, ⟨rect_congr w3 (inb_window t (by decide)), rect_congr w2 (inb_window t (by decide)),
    rect_congr w1 (inb_window t (by decide)), rect_congr w0 (inb_window t (by decide))⟩, ?_⟩
  exact ⟨value_piece t X sk G hg i3 (g := 1) (by decide) w3
      (p_tile t X sk hp (g := 1) (e := 0) (by decide) (by decide)) (p_tile t X sk hp (g := 1) (e := 1) (by decide) (by decide)) (p_tile t X sk hp (g := 1) (e := 2) (by decide) (by decide)) (p_tile t X sk hp (g := 1) (e := 3) (by decide) (by decide))
      (fun y => (congrFun (View.readAt_writes_junk_eq_canon (ms8 t).view _ (Rect.unit (s := S2048x256) _ S256x64.size i3).toLoadRect) y).trans (h8_4 c t _ (col_apart t w3 _ (by decide)) (col_apart t w3 _ (by decide)) (col_apart t w3 _ (by decide)))) (values_form _ _ _ _ _ _ _ _ _),
    key_piece t X sk G hx i2 (g := 1) (by decide) w2 (i0 := j4) (i1 := j5) (i2 := j6) (i3 := j7)
      (ds_tile c t X sk G hx hg hp (g := 1) (e := 0) (by decide) (by decide)) (ds_tile c t X sk G hx hg hp (g := 1) (e := 1) (by decide) (by decide)) (ds_tile c t X sk G hx hg hp (g := 1) (e := 2) (by decide) (by decide)) (ds_tile c t X sk G hx hg hp (g := 1) (e := 3) (by decide) (by decide)) q4 q5 q6 q7
      (fun y => (congrFun (View.readAt_writes_junk_eq_canon (ms8 t).view _ (Rect.unit (s := S2048x256) _ S256x64.size i2).toLoadRect) y).trans (h8_3 c t _ (col_apart t w2 _ (by decide)) (col_apart t w2 _ (by decide)))) (keys_form _ _ _ _ _ _ _ _ _),
    value_piece t X sk G hg i1 (g := 0) (by decide) w1
      (p_tile t X sk hp (g := 0) (e := 0) (by decide) (by decide)) (p_tile t X sk hp (g := 0) (e := 1) (by decide) (by decide)) (p_tile t X sk hp (g := 0) (e := 2) (by decide) (by decide)) (p_tile t X sk hp (g := 0) (e := 3) (by decide) (by decide))
      (fun y => (congrFun (View.readAt_writes_junk_eq_canon (ms8 t).view _ (Rect.unit (s := S2048x256) _ S256x64.size i1).toLoadRect) y).trans (h8_2 c t _ (col_apart t w1 _ (by decide)))) rfl,
    key_piece t X sk G hx i0 (g := 0) (by decide) w0 (i0 := j0) (i1 := j1) (i2 := j2) (i3 := j3)
      (ds_tile c t X sk G hx hg hp (g := 0) (e := 0) (by decide) (by decide)) (ds_tile c t X sk G hx hg hp (g := 0) (e := 1) (by decide) (by decide)) (ds_tile c t X sk G hx hg hp (g := 0) (e := 2) (by decide) (by decide)) (ds_tile c t X sk G hx hg hp (g := 0) (e := 3) (by decide) (by decide)) q0 q1 q2 q3
      (fun y => (congrFun (View.readAt_writes_junk_eq_canon (ms8 t).view _ (Rect.unit (s := S2048x256) _ S256x64.size i0).toLoadRect) y).trans (fill_k _)) rfl, trivial⟩

end Steps

end Cert.Attn
end
-- ==== Proof.AttnBackwardSink.lean ====
module

public import proofs.«01_k».proof.Proof.AttnBackwardRuns

/-! The sinks' gradient: what the backward attention body adds to it at a grid point. -/

@[expose] public section

set_option maxRecDepth 16384

noncomputable section

open Idealize.ShloMosaic Idealize.ShloMosaic.TcCoe

namespace Cert.Attn

open Cert.Kernel2Ideal Cert.Kernel2Ideal.Gen Cert.AttnBackward

/-- A row of the sinks' gradient. -/
theorem inb_row {h : ℕ} (hh : h < 8) : ∀ a, (![h, 0] : Fin 2 → ℕ) a + S1x128.size a ≤ S8x128.size a := by
  intro a
  fin_cases a
  · show h + 1 ≤ 8
    omega
  · show 0 + 128 ≤ 128
    omega

/-- The sinks' gradient after a grid point, over what it held before. -/
def sinkNext (t : ℕ) (X : ℕ → ℕ → ℝ) (sk : ℕ → ℝ) (G : ℕ → ℕ → ℝ) (Y : Vec Ideal S8x128 .f32) : Vec Ideal S8x128 .f32 :=
  fun y => Y y + (dsinkAdd X sk G t (y 0) : EReal)

section Steps

variable (c : Dev nD) (t : Fin cfg1.N) {x0 : Vec Ideal S1x8 .f32} {x1 : Vec Ideal S2048x768 .bf16} {x2 : Vec Ideal S128x512 .bf16}
  {x3 : Vec Ideal S128x8 .f32} {x4 : Vec Ideal S2x512x256 .bf16} (x5 x6 : Vec Ideal S8x128 .f32)
  (y8 : Vec Ideal S2048x256 .f32) (y9 : Vec Ideal S8x128 .f32) (X : ℕ → ℕ → ℝ) (sk : ℕ → ℝ) (G : ℕ → ℕ → ℝ)
  (hk : ∀ h : Fin 8, x0 (ix2 0 h) = (sk h : EReal))
  (hx : ∀ (r : Fin 2048) (d : Fin 768), x1 (ix2 r d) = (X r d : EReal))
  (hg : ∀ (a : Fin 128) (d : Fin 512), x2 (ix2 a d) = (G (t.val * 128 + a) d : EReal))
  (hl : ∀ (a : Fin 128) (h : Fin 8), x3 (ix2 a h) = ((Real.log (tot X sk (t.val * 128 + a) h) : ℝ) : EReal))
  (hp : ∀ (g : Fin 2) (ρ : Fin 512) (k : Fin 256),
    x4 (ix3 g ρ k) = (prob X sk (rowOf t ρ) (headOf g ρ) (base t + k) : EReal))

omit hx hg hl hp in
include hk in
/-- A sink logit, loaded. -/
theorem sink_load' {h : ℕ} (hh : h < 8) {inb} {pf} :
    View.readAt (Elt Ideal) (ms0 t).view (Rect.unit (s := S1x8) ![0, h] S1x1.size inb).toLoadRect ((hs0 t).unread x0)
      (Shape.Idx.first pf) = (sk h : EReal) := by
  refine ((hs0 t).readAt_unread x0 _ _).trans ((congrArg x0 ?_).trans (hk ⟨h, hh⟩))
  funext a
  fin_cases a <;> rfl

omit hk hx hg hp in
include hl in
/-- A column of logarithms, loaded. -/
theorem log_load {h : ℕ} (hh : h < 8) {inb} (a : Fin 128) :
    View.readAt (Elt Ideal) (ms3 t).view (Rect.unit (s := S128x8) ![0, h] S128x1.size inb).toLoadRect ((hs3 t).unread x3)
      (ix2 a 0) = ((Real.log (tot X sk (t.val * 128 + a) h) : ℝ) : EReal) := by
  refine ((hs3 t).readAt_unread x3 _ _).trans ((congrArg x3 ?_).trans (hl a ⟨h, hh⟩))
  funext b
  fin_cases b <;> (apply Fin.ext; simp)

/-- What a row and head of the block add to the gradient of the head's sink logit. -/
abbrev sinkTerm (g ρ : ℕ) : ℝ :=
  -(Real.exp (sk (headOf g ρ)) / tot X sk (rowOf t ρ) (headOf g ρ) * inner X sk G (rowOf t ρ) (headOf g ρ))

include hk hx hg hl hp

omit hk hx hg hp in
/-- A group's column of logarithms. -/
theorem logs_at {g : ℕ} (hg2 : g < 2) {i0 i1 i2 i3} (ρ : Fin 512) :
    k1_pay10 (k1_pay6 (View.readAt (Elt Ideal) (ms3 t).view (Rect.unit (s := S128x8) ![0, 4 * g] S128x1.size i0).toLoadRect ((hs3 t).unread x3)))
      (View.readAt (Elt Ideal) (ms3 t).view (Rect.unit (s := S128x8) ![0, 4 * g + 1] S128x1.size i1).toLoadRect ((hs3 t).unread x3))
      (View.readAt (Elt Ideal) (ms3 t).view (Rect.unit (s := S128x8) ![0, 4 * g + 2] S128x1.size i2).toLoadRect ((hs3 t).unread x3))
      (View.readAt (Elt Ideal) (ms3 t).view (Rect.unit (s := S128x8) ![0, 4 * g + 3] S128x1.size i3).toLoadRect ((hs3 t).unread x3)) (ix2 ρ 0)
      = ((Real.log (tot X sk (rowOf t ρ) (headOf g ρ)) : ℝ) : EReal) := by
  refine columns_at (f := fun ρ => Real.log (tot X sk (rowOf t ρ) (headOf g ρ))) (fun a => ?_) (fun a => ?_) (fun a => ?_) (fun a => ?_) ρ <;>
    refine (log_load t X sk hl (by omega) a).trans (congrArg (fun x : ℝ => ((Real.log x : ℝ) : EReal)) ?_) <;>
    (congr 1 <;> (dsimp [rowOf, headOf]; omega))

/-- A group's column of what its rows add to the sinks' gradient. -/
theorem sink_col {g : ℕ} (hg2 : g < 2) {i0 i1 i2 i3 j0 j1 j2 j3} {pf0 pf1 pf2 pf3} {col : FVec Ideal S512x1 .f32}
    (hc : col = k1_pay22 (k1_pay10 (k1_pay6 (View.readAt (Elt Ideal) (ms3 t).view (Rect.unit (s := S128x8) ![0, 4 * g] S128x1.size i0).toLoadRect ((hs3 t).unread x3)))
      (View.readAt (Elt Ideal) (ms3 t).view (Rect.unit (s := S128x8) ![0, 4 * g + 1] S128x1.size i1).toLoadRect ((hs3 t).unread x3))
      (View.readAt (Elt Ideal) (ms3 t).view (Rect.unit (s := S128x8) ![0, 4 * g + 2] S128x1.size i2).toLoadRect ((hs3 t).unread x3))
      (View.readAt (Elt Ideal) (ms3 t).view (Rect.unit (s := S128x8) ![0, 4 * g + 3] S128x1.size i3).toLoadRect ((hs3 t).unread x3)))
      (k1_pay18 (View.readAt (Elt Ideal) (ms4 t).view
          (Rect.unit (s := S2x512x256) ![g, 0, 0] S1x512x256.size (inb_half hg2)).toLoadRect ((hs4 t).unread x4)))
      ((sc0 : Memref sig .tc .vmem S2x512x256 .f32).view.readCov
          (runLater.sl.H10_8 c (grid1.coords t) (ms1 t) (hs1 t) (ms2 t) (hs2 t) x1 x2)
          (Rect.unit (s := S2x512x256) ![g, 0, 0] S1x512x256.size (inb_half hg2)).toLoadRect)
      (View.readAt (Elt Ideal) (ms0 t).view (Rect.unit (s := S1x8) ![0, 4 * g] S1x1.size j0).toLoadRect ((hs0 t).unread x0) (Shape.Idx.first pf0))
      (View.readAt (Elt Ideal) (ms0 t).view (Rect.unit (s := S1x8) ![0, 4 * g + 1] S1x1.size j1).toLoadRect ((hs0 t).unread x0) (Shape.Idx.first pf1))
      (View.readAt (Elt Ideal) (ms0 t).view (Rect.unit (s := S1x8) ![0, 4 * g + 2] S1x1.size j2).toLoadRect ((hs0 t).unread x0) (Shape.Idx.first pf2))
      (View.readAt (Elt Ideal) (ms0 t).view (Rect.unit (s := S1x8) ![0, 4 * g + 3] S1x1.size j3).toLoadRect ((hs0 t).unread x0) (Shape.Idx.first pf3)))
    (ρ : Fin 512) : col (ix2 ρ 0) = (sinkTerm t X sk G g ρ : EReal) :=
  (congrFun hc _).trans (dsink_at X sk G (n := t.val) (g := g) (block_lt t) (p_slab t X sk hp hg2) (e_slab c t X G hx hg hg2)
    (logs_at t X sk hl hg2) (sink_load' t sk hk (by omega)) (sink_load' t sk hk (by omega)) (sink_load' t sk hk (by omega))
    (sink_load' t sk hk (by omega)) ρ 0)

omit hk hx hg hl hp in
/-- A row's store of the sinks' gradient. -/
theorem sink_row {g e : ℕ} (hg2 : g < 2) (he : e < 4) {w w' old : Vec Ideal S1x128 .f32} {Y : Vec Ideal S8x128 .f32}
    (hww : w = w') (hw : ∀ (z : Fin 1) (l : Fin 128), w' (ix2 z l) = old (ix2 z l) + ((∑ a : Fin 128, sinkTerm t X sk G g (128 * e + a) : ℝ) : EReal))
    (hold : ∀ y, old y = Y ((Rect.unit (s := S8x128) ![4 * g + e, 0] S1x128.size (inb_row (by omega))).emb y)) (y : S1x128.Idx) :
    w y = sinkNext t X sk G Y ((Rect.unit (s := S8x128) ![4 * g + e, 0] S1x128.size (inb_row (by omega))).emb y) := by
  idx_vars y
  obtain rfl : y0 = 0 := Subsingleton.elim _ _
  rw [hww, hw, hold]
  refine congrArg (_ + ·) (congrArg Real.toEReal ?_)
  unfold dsinkAdd sinkTerm
  have e0 : ((Rect.unit (s := S8x128) ![4 * g + e, 0] S1x128.size (inb_row (by omega))).emb (ix2 0 y1) 0).val = 4 * g + e := by
    simp
  rw [e0]
  refine Finset.sum_congr rfl fun a _ => ?_
  have h1 : rowOf t (128 * e + a) = t.val * 128 + a := by
    dsimp [rowOf]
    omega
  have h2 : headOf g (128 * e + a) = 4 * g + e := by
    dsimp [headOf]
    omega
  rw [h1, h2]

omit hk hx hg hl hp in
theorem row_old {h : ℕ} {inb} (y : S1x128.Idx) :
    View.readAt (Elt Ideal) (ms9 t).view (Rect.unit (s := S8x128) ![h, 0] S1x128.size inb).toLoadRect ((hs9 t).unread y9) y
      = y9 ((Rect.unit (s := S8x128) ![h, 0] S1x128.size inb).emb y) :=
  (hs9 t).readAt_unread y9 (Rect.unit (s := S8x128) ![h, 0] S1x128.size inb).toLoadRect y

/-- The sinks' gradient after the stores of a later grid point. -/
theorem pieces_s_later (h : ¬ t.val = 0) :
    View.PiecesOf (sinkNext t X sk G y9) (later c t h x0 x1 x2 x3 x4 x5 x6 y8 y9).2.2.1 := by
  exact ⟨sink_row t X sk G (g := 1) (e := 3) (by decide) (by decide) (row_form3 _ _)
      (row3_at (sink_col c t X sk G hk hx hg hl hp (g := 1) (by decide) (col_form _ _ _ _ _ _ _ _ _ _)) _) (row_old t y9),
    sink_row t X sk G (g := 1) (e := 2) (by decide) (by decide) (row_form2 _ _)
      (row2_at (sink_col c t X sk G hk hx hg hl hp (g := 1) (by decide) (col_form _ _ _ _ _ _ _ _ _ _)) _) (row_old t y9),
    sink_row t X sk G (g := 1) (e := 1) (by decide) (by decide) (row_form1 _ _)
      (row1_at (sink_col c t X sk G hk hx hg hl hp (g := 1) (by decide) (col_form _ _ _ _ _ _ _ _ _ _)) _) (row_old t y9),
    sink_row t X sk G (g := 1) (e := 0) (by decide) (by decide) (row_form0 _ _)
      (row0_at (sink_col c t X sk G hk hx hg hl hp (g := 1) (by decide) (col_form _ _ _ _ _ _ _ _ _ _)) _) (row_old t y9),
    sink_row t X sk G (g := 0) (e := 3) (by decide) (by decide) rfl
      (row3_at (sink_col c t X sk G hk hx hg hl hp (g := 0) (by decide) rfl) _) (row_old t y9),
    sink_row t X sk G (g := 0) (e := 2) (by decide) (by decide) rfl
      (row2_at (sink_col c t X sk G hk hx hg hl hp (g := 0) (by decide) rfl) _) (row_old t y9),
    sink_row t X sk G (g := 0) (e := 1) (by decide) (by decide) rfl
      (row1_at (sink_col c t X sk G hk hx hg hl hp (g := 0) (by decide) rfl) _) (row_old t y9),
    sink_row t X sk G (g := 0) (e := 0) (by decide) (by decide) rfl
      (row0_at (sink_col c t X sk G hk hx hg hl hp (g := 0) (by decide) rfl) _) (row_old t y9), trivial⟩

omit hk hx hg hl hp in
/-- The fill the first grid point starts from. -/
theorem fill_s (y : S8x128.Idx) : View.canon (runFirst.sl.H9_1 (F := Ideal)) y = 0 := by
  refine (congrFun (View.canon_cons_unit_lit (Val := Elt Ideal) (e := .f32) inb_S8x128_S8x128_0_0 (k1_pay3 (F := Ideal)) [] (by decide)) y).trans ?_
  idx_vars y
  pointwise [k1_pay3]

omit hk hx hg hl hp in
theorem row_below {h : ℕ} {inb} (y : S1x128.Idx) : h ≤ ((Rect.unit (s := S8x128) ![h, 0] S1x128.size inb).toLoadRect.idx y 0).val :=
  Nat.le_add_right _ _

omit hk hx hg hl hp in
theorem h9_2 (y : S8x128.Idx) (h : 1 ≤ (y 0).val) :
    View.canon (runFirst.sl.H9_2 c (grid1.coords t) (ms0 t) (hs0 t) (ms1 t) (hs1 t) (ms2 t) (hs2 t) (ms3 t) (hs3 t) (ms4 t) (hs4 t) (ms9 t) sc0 x0 x1 x2 x3 x4) y = 0 :=
  canon_skip (fill_s y) 0 0 1 rfl rfl rfl (Or.inr h)

omit hk hx hg hl hp in
theorem h9_3 (y : S8x128.Idx) (h : 2 ≤ (y 0).val) :
    View.canon (runFirst.sl.H9_3 c (grid1.coords t) (ms0 t) (hs0 t) (ms1 t) (hs1 t) (ms2 t) (hs2 t) (ms3 t) (hs3 t) (ms4 t) (hs4 t) (ms9 t) sc0 x0 x1 x2 x3 x4) y = 0 :=
  canon_skip (h9_2 c t y (Nat.le_of_succ_le h)) 0 1 1 rfl rfl rfl (Or.inr h)

omit hk hx hg hl hp in
theorem h9_4 (y : S8x128.Idx) (h : 3 ≤ (y 0).val) :
    View.canon (runFirst.sl.H9_4 c (grid1.coords t) (ms0 t) (hs0 t) (ms1 t) (hs1 t) (ms2 t) (hs2 t) (ms3 t) (hs3 t) (ms4 t) (hs4 t) (ms9 t) sc0 x0 x1 x2 x3 x4) y = 0 :=
  canon_skip (h9_3 c t y (Nat.le_of_succ_le h)) 0 2 1 rfl rfl rfl (Or.inr h)

omit hk hx hg hl hp in
theorem h9_5 (y : S8x128.Idx) (h : 4 ≤ (y 0).val) :
    View.canon (runFirst.sl.H9_5 c (grid1.coords t) (ms0 t) (hs0 t) (ms1 t) (hs1 t) (ms2 t) (hs2 t) (ms3 t) (hs3 t) (ms4 t) (hs4 t) (ms9 t) sc0 x0 x1 x2 x3 x4) y = 0 :=
  canon_skip (h9_4 c t y (Nat.le_of_succ_le h)) 0 3 1 rfl rfl rfl (Or.inr h)

omit hk hx hg hl hp in
theorem h9_6 (y : S8x128.Idx) (h : 5 ≤ (y 0).val) :
    View.canon (runFirst.sl.H9_6 c (grid1.coords t) (ms0 t) (hs0 t) (ms1 t) (hs1 t) (ms2 t) (hs2 t) (ms3 t) (hs3 t) (ms4 t) (hs4 t) (ms9 t) sc0 x0 x1 x2 x3 x4) y = 0 :=
  canon_skip (h9_5 c t y (Nat.le_of_succ_le h)) 0 4 1 rfl rfl rfl (Or.inr h)

omit hk hx hg hl hp in
theorem h9_7 (y : S8x128.Idx) (h : 6 ≤ (y 0).val) :
    View.canon (runFirst.sl.H9_7 c (grid1.coords t) (ms0 t) (hs0 t) (ms1 t) (hs1 t) (ms2 t) (hs2 t) (ms3 t) (hs3 t) (ms4 t) (hs4 t) (ms9 t) sc0 x0 x1 x2 x3 x4) y = 0 :=
  canon_skip (h9_6 c t y (Nat.le_of_succ_le h)) 0 5 1 rfl rfl rfl (Or.inr h)

omit hk hx hg hl hp in
theorem h9_8 (y : S8x128.Idx) (h : 7 ≤ (y 0).val) :
    View.canon (runFirst.sl.H9_8 c (grid1.coords t) (ms0 t) (hs0 t) (ms1 t) (hs1 t) (ms2 t) (hs2 t) (ms3 t) (hs3 t) (ms4 t) (hs4 t) (ms9 t) sc0 x0 x1 x2 x3 x4) y = 0 :=
  canon_skip (h9_7 c t y (Nat.le_of_succ_le h)) 0 6 1 rfl rfl rfl (Or.inr h)

/-- The sinks' gradient after the stores of the first grid point: the eight rows over a fill with zero. -/
theorem pieces_s_first (h : t.val = 0) : ∃ L, (first c t h x0 x1 x2 x3 x4 x5 x6).2.2.1 = L ++ runFirst.sl.H9_1 (F := Ideal)
    ∧ (∀ y, ∃ p ∈ L, y ∈ p.1.set) ∧ View.PiecesOf (sinkNext t X sk G fun _ => 0) L := by
  refine ⟨[_, _, _, _, _, _, _, _], rfl, View.cover_of_tiledL _ ![1, 128] (by sl_kernel_rfl), ?_⟩
  exact ⟨sink_row t X sk G (g := 1) (e := 3) (by decide) (by decide) (row_form3 _ _)
      (row3_at (sink_col c t X sk G hk hx hg hl hp (g := 1) (by decide) (col_form _ _ _ _ _ _ _ _ _ _)) _)
      (fun y => (congrFun (View.readCov_eq_canon' (ms9 t).view _ (Rect.unit (s := S8x128) ![7, 0] S1x128.size (inb_row (by decide))).toLoadRect) y).trans (h9_8 c t _ (row_below (h := 7) y))),
    sink_row t X sk G (g := 1) (e := 2) (by decide) (by decide) (row_form2 _ _)
      (row2_at (sink_col c t X sk G hk hx hg hl hp (g := 1) (by decide) (col_form _ _ _ _ _ _ _ _ _ _)) _)
      (fun y => (congrFun (View.readCov_eq_canon' (ms9 t).view _ (Rect.unit (s := S8x128) ![6, 0] S1x128.size (inb_row (by decide))).toLoadRect) y).trans (h9_7 c t _ (row_below (h := 6) y))),
    sink_row t X sk G (g := 1) (e := 1) (by decide) (by decide) (row_form1 _ _)
      (row1_at (sink_col c t X sk G hk hx hg hl hp (g := 1) (by decide) (col_form _ _ _ _ _ _ _ _ _ _)) _)
      (fun y => (congrFun (View.readCov_eq_canon' (ms9 t).view _ (Rect.unit (s := S8x128) ![5, 0] S1x128.size (inb_row (by decide))).toLoadRect) y).trans (h9_6 c t _ (row_below (h := 5) y))),
    sink_row t X sk G (g := 1) (e := 0) (by decide) (by decide) (row_form0 _ _)
      (row0_at (sink_col c t X sk G hk hx hg hl hp (g := 1) (by decide) (col_form _ _ _ _ _ _ _ _ _ _)) _)
      (fun y => (congrFun (View.readCov_eq_canon' (ms9 t).view _ (Rect.unit (s := S8x128) ![4, 0] S1x128.size (inb_row (by decide))).toLoadRect) y).trans (h9_5 c t _ (row_below (h := 4) y))),
    sink_row t X sk G (g := 0) (e := 3) (by decide) (by decide) rfl
      (row3_at (sink_col c t X sk G hk hx hg hl hp (g := 0) (by decide) rfl) _)
      (fun y => (congrFun (View.readCov_eq_canon' (ms9 t).view _ (Rect.unit (s := S8x128) ![3, 0] S1x128.size (inb_row (by decide))).toLoadRect) y).trans (h9_4 c t _ (row_below (h := 3) y))),
    sink_row t X sk G (g := 0) (e := 2) (by decide) (by decide) rfl
      (row2_at (sink_col c t X sk G hk hx hg hl hp (g := 0) (by decide) rfl) _)
      (fun y => (congrFun (View.readCov_eq_canon' (ms9 t).view _ (Rect.unit (s := S8x128) ![2, 0] S1x128.size (inb_row (by decide))).toLoadRect) y).trans (h9_3 c t _ (row_below (h := 2) y))),
    sink_row t X sk G (g := 0) (e := 1) (by decide) (by decide) rfl
      (row1_at (sink_col c t X sk G hk hx hg hl hp (g := 0) (by decide) rfl) _)
      (fun y => (congrFun (View.readCov_eq_canon' (ms9 t).view _ (Rect.unit (s := S8x128) ![1, 0] S1x128.size (inb_row (by decide))).toLoadRect) y).trans (h9_2 c t _ (row_below (h := 1) y))),
    sink_row t X sk G (g := 0) (e := 0) (by decide) (by decide) rfl
      (row0_at (sink_col c t X sk G hk hx hg hl hp (g := 0) (by decide) rfl) _)
      (fun y => (congrFun (View.readCov_eq_canon' (ms9 t).view _ (Rect.unit (s := S8x128) ![0, 0] S1x128.size (inb_row (by decide))).toLoadRect) y).trans (fill_s _)), trivial⟩

end Steps

end Cert.Attn
end
-- ==== Proof.AttnBackwardArrays.lean ====
module

public import proofs.«01_k».proof.Proof.AttnForwardArrays
public import proofs.«01_k».proof.Proof.AttnBackwardQuery
public import proofs.«01_k».proof.Proof.AttnBackwardKeys
public import proofs.«01_k».proof.Proof.AttnBackwardSink

/-!
# The arrays the backward attention call leaves

The gradient of the queries is written back block by block; the gradients of the keys and values and of the sinks
gather over the whole grid, and hold after grid point `n` the sums over the first `(n + 1) * 128` rows.
-/

@[expose] public section

set_option maxRecDepth 16384

noncomputable section

open Idealize.ShloMosaic Idealize.ShloMosaic.TcCoe

namespace Cert.Attn

open Cert.Kernel2Ideal Cert.Kernel2Ideal.Gen Cert.AttnBackward

theorem idx1 : ∀ t : Fin cfg1.N, win1_0.index t = ![0, 0] ∧ win1_1.index t = ![0, 0] ∧ win1_2.index t = ![t.val, 0]
    ∧ win1_3.index t = ![t.val, 0] ∧ win1_4.index t = ![t.val, 0, 0] ∧ win1_7.index t = ![t.val, 0]
    ∧ win1_8.index t = ![0, 0] ∧ win1_9.index t = ![0, 0] :=
  (by decide +kernel : ∀ t : Fin grid1.N, _)

section Windows

variable (t : Fin cfg1.N) {p3 p2 p1 p0 : View.Piece (Elt Ideal) S2048x256 .f32}
  (hr : p3.1 = Rect.unit (s := S2048x256) ![base t, 192] S256x64.size (inb_window t (by decide))
    ∧ p2.1 = Rect.unit (s := S2048x256) ![base t, 64] S256x64.size (inb_window t (by decide))
    ∧ p1.1 = Rect.unit (s := S2048x256) ![base t, 128] S256x64.size (inb_window t (by decide))
    ∧ p0.1 = Rect.unit (s := S2048x256) ![base t, 0] S256x64.size (inb_window t (by decide)))
  (y : S2048x256.Idx)

theorem mem_window {q : ℕ} {iv} {y : S2048x256.Idx} (h0 : base t ≤ (y 0).val) (h1 : (y 0).val < base t + 256) (h2 : q ≤ (y 1).val)
    (h3 : (y 1).val < q + 64) : y ∈ (Rect.unit (s := S2048x256) ![base t, q] S256x64.size iv).set :=
  Rect.mem_set_unit.mpr fun a => by
    fin_cases a
    · exact ⟨h0, h1⟩
    · exact ⟨h2, h3⟩

theorem not_mem_window {q : ℕ} {iv} {y : S2048x256.Idx} (h : (y 0).val < base t ∨ base t + 256 ≤ (y 0).val) :
    y ∉ (Rect.unit (s := S2048x256) ![base t, q] S256x64.size iv).set :=
  Rect.not_mem_set_of_axis _ y 0 (base t) 256 rfl rfl rfl h

include hr in
/-- The four windows cover the band of rows, -/
theorem windows_cover (h0 : base t ≤ (y 0).val) (h1 : (y 0).val < base t + 256) : ∃ p ∈ [p3, p2, p1, p0], y ∈ p.1.set := by
  obtain ⟨e3, e2, e1, e0⟩ := hr
  have hy : (y 1).val < 256 := (y 1).isLt
  by_cases c0 : (y 1).val < 64
  · exact ⟨p0, by simp, e0 ▸ mem_window t h0 h1 (by omega) (by omega)⟩
  by_cases c1 : (y 1).val < 128
  · exact ⟨p2, by simp, e2 ▸ mem_window t h0 h1 (by omega) (by omega)⟩
  by_cases c2 : (y 1).val < 192
  · exact ⟨p1, by simp, e1 ▸ mem_window t h0 h1 (by omega) (by omega)⟩
  · exact ⟨p3, by simp, e3 ▸ mem_window t h0 h1 (by omega) (by omega)⟩

include hr in
/-- and nothing else. -/
theorem windows_miss (h : (y 0).val < base t ∨ base t + 256 ≤ (y 0).val) : ∀ p ∈ [p3, p2, p1, p0], y ∉ p.1.set := by
  obtain ⟨e3, e2, e1, e0⟩ := hr
  intro p hp
  simp only [List.mem_cons, List.not_mem_nil, or_false] at hp
  rcases hp with rfl | rfl | rfl | rfl
  · exact e3 ▸ not_mem_window t h
  · exact e2 ▸ not_mem_window t h
  · exact e1 ▸ not_mem_window t h
  · exact e0 ▸ not_mem_window t h

variable (X : ℕ → ℕ → ℝ) (sk : ℕ → ℝ) (G : ℕ → ℕ → ℝ)

/-- Outside the band a grid point adds nothing. -/
theorem windowNext_of_not (Y : Vec Ideal S2048x256 .f32) (h : (y 0).val < base t ∨ base t + 256 ≤ (y 0).val) :
    windowNext t X sk G Y y = Y y := by
  unfold windowNext
  rw [dkvAdd_of_not X sk G _ h, EReal.coe_zero, add_zero]

include hr in
/-- The windows over a fill with zero. -/
theorem windows_first {L' : List (View.Piece (Elt Ideal) S2048x256 .f32)} (hz : View.canon L' y = 0)
    (hL : View.PiecesOf (windowNext t X sk G fun _ => 0) [p3, p2, p1, p0]) :
    View.canon ([p3, p2, p1, p0] ++ L') y = windowNext t X sk G (fun _ => 0) y := by
  by_cases h : (y 0).val < base t ∨ base t + 256 ≤ (y 0).val
  · rw [windowNext_of_not t y X sk G _ h]
    have hm := windows_miss t hr y h
    exact (View.canon_cons_of_not_mem p3 _ (hm p3 (by simp))).trans ((View.canon_cons_of_not_mem p2 _ (hm p2 (by simp))).trans
      ((View.canon_cons_of_not_mem p1 _ (hm p1 (by simp))).trans ((View.canon_cons_of_not_mem p0 _ (hm p0 (by simp))).trans hz)))
  · exact View.canon_append_of_piecesOf _ L' _ hL y (windows_cover t hr y (by omega) (by omega))

include hr in
/-- The windows over what was there. -/
theorem windows_later (Y : Vec Ideal S2048x256 .f32) (hL : View.PiecesOf (windowNext t X sk G Y) [p3, p2, p1, p0]) :
    (ms8 t).view.read (Elt Ideal) ((ms8 t).view.writes (Elt Ideal) ((hs8 t).unread Y) [p3, p2, p1, p0]) y
      = windowNext t X sk G Y y := by
  by_cases h : (y 0).val < base t ∨ base t + 256 ≤ (y 0).val
  · rw [windowNext_of_not t y X sk G _ h, View.read_writes_apply_of_forall_not_mem _ _ y _ (windows_miss t hr y h)]
    exact congrFun ((hs8 t).read_unread Y) y
  · exact View.read_writes_apply_of_pieces _ _ _ _ hL.mem y (windows_cover t hr y (by omega) (by omega))

end Windows

section Arrays

variable (V : (c : Dev nD) → (b : Ref sig .tc) → Buf (Elt Ideal) ((c : Thread nD τ).loc b)) (c : Dev nD)
  (X : ℕ → ℕ → ℝ) (sk : ℕ → ℝ) (G : ℕ → ℕ → ℝ)
  (hk : ∀ h : Fin 8, (show FVec Ideal S1x8 .f32 from V c main_arg1) (ix2 0 h) = (sk h : EReal))
  (hx : ∀ (r : Fin 2048) (d : Fin 768), (show FVec Ideal S2048x768 .bf16 from V c main_v0) (ix2 r d) = (X r d : EReal))
  (hg : ∀ (r : Fin 2048) (d : Fin 512), (show FVec Ideal S2048x512 .bf16 from V c main_v1) (ix2 r d) = (G r d : EReal))
  (hl : (show FVec Ideal S2048x8 .f32 from V c main_v3_1) = lseArr X sk)
  (hp : (show FVec Ideal S32x512x256 .bf16 from V c main_v3_2) = probArr X sk)

/-- The whole arrays. -/
def dqArr (j : S2048x512.Idx) : EReal := (dq X sk G (j 0) (j 1) : EReal)
def dkvArr (n : ℕ) (j : S2048x256.Idx) : EReal := (dkv X sk G (n * 128) (j 0) (j 1) : EReal)
def dsinkArr (n : ℕ) (j : S8x128.Idx) : EReal := (dsink X sk G (n * 128) (j 0) : EReal)

theorem dkvArr_zero : dkvArr X sk G 0 = fun _ => 0 := by
  funext j
  simp [dkvArr, dkv, dk, dv]

theorem dsinkArr_zero : dsinkArr X sk G 0 = fun _ => 0 := by
  funext j
  simp [dsinkArr, dsink]

theorem dkvArr_succ (n : ℕ) : dkvArr X sk G (n + 1) = windowNext n X sk G (dkvArr X sk G n) := by
  funext j
  unfold dkvArr windowNext
  rw [dkv_step, EReal.coe_add]

theorem dsinkArr_succ (n : ℕ) : dsinkArr X sk G (n + 1) = sinkNext n X sk G (dsinkArr X sk G n) := by
  funext j
  unfold dsinkArr sinkNext
  rw [dsink_step, EReal.coe_add]

include hk in
theorem k_blk (t : Fin cfg1.N) (h : Fin 8) : (show FVec Ideal S1x8 .f32 from iblk V c 0 t) (ix2 0 h) = (sk h : EReal) := by
  refine Eq.trans ?_ (hk h)
  blk_point [iblk, idx1 t]

include hx in
theorem qkv_blk (t : Fin cfg1.N) (r : Fin 2048) (d : Fin 768) :
    (show FVec Ideal S2048x768 .bf16 from iblk V c 1 t) (ix2 r d) = (X r d : EReal) := by
  refine Eq.trans ?_ (hx r d)
  blk_point [iblk, idx1 t]

include hg in
theorem g_blk (t : Fin cfg1.N) (a : Fin 128) (d : Fin 512) :
    (show FVec Ideal S128x512 .bf16 from iblk V c 2 t) (ix2 a d) = (G (t.val * 128 + a) d : EReal) := by
  have ht := block_lt t
  refine Eq.trans ?_ (hg ⟨t.val * 128 + a, by omega⟩ d)
  blk_point [iblk, idx1 t]

include hl in
theorem l_blk (t : Fin cfg1.N) (a : Fin 128) (h : Fin 8) :
    (show FVec Ideal S128x8 .f32 from iblk V c 3 t) (ix2 a h) = ((Real.log (tot X sk (t.val * 128 + a) h) : ℝ) : EReal) := by
  have ht := block_lt t
  refine Eq.trans ?_ (congrFun hl (ix2 ⟨t.val * 128 + a, by omega⟩ h))
  blk_point [iblk, idx1 t]

include hp in
theorem p_blk (t : Fin cfg1.N) (g : Fin 2) (ρ : Fin 512) (k : Fin 256) :
    (show FVec Ideal S2x512x256 .bf16 from iblk V c 4 t) (ix3 g ρ k) = (prob X sk (rowOf t ρ) (headOf g ρ) (base t + k) : EReal) := by
  have ht := block_lt t
  have e : probArr X sk (ix3 ⟨t.val * 2 + g, by omega⟩ ρ k) = (prob X sk (rowOf t ρ) (headOf g ρ) (base t + k) : EReal) := by
    have e1 : (t.val * 2 + g.val) / 2 = t := by omega
    have e2 : (t.val * 2 + g.val) % 2 = g := by omega
    unfold probArr
    dsimp only [ix3_0, ix3_1, ix3_2]
    rw [e1, e2]
  refine Eq.trans ?_ ((congrFun hp (ix3 ⟨t.val * 2 + g, by omega⟩ ρ k)).trans e)
  blk_point [iblk, idx1 t]

include hk hx hg hl hp

omit hk hl in
theorem kv_first (t : Fin cfg1.N) (h : t.val = 0) (y : S2048x256.Idx) :
    (outsAt V c t.val t.isLt).2.1 y = windowNext t X sk G (fun _ => 0) y := by
  obtain ⟨p3, p2, p1, p0, eL, hr, hL⟩ := pieces_k_first c t (iblk V c 5 t) (iblk V c 6 t) X sk G
    (qkv_blk V c X hx t) (g_blk V c G hg t) (p_blk V c X sk hp t) (x0 := iblk V c 0 t) (x3 := iblk V c 3 t) h
  refine (congrFun (congrArg (fun o => o.2.1) (outsAt_first V c t h)) y).trans ?_
  refine (congrFun (congrArg View.canon eL) y).trans ?_
  exact windows_first t hr y X sk G (fill_k y) hL

omit hk hl in
theorem kv_later (t : Fin cfg1.N) (h : ¬ t.val = 0) (y : S2048x256.Idx) :
    (outsAt V c t.val t.isLt).2.1 y = windowNext t X sk G (prevAt V c t).2.1 y := by
  obtain ⟨p3, p2, p1, p0, eL, hr, hL⟩ := pieces_k_later c t (iblk V c 5 t) (iblk V c 6 t) (prevAt V c t).2.1 (prevAt V c t).2.2
    X sk G (qkv_blk V c X hx t) (g_blk V c G hg t) (p_blk V c X sk hp t) (x0 := iblk V c 0 t) (x3 := iblk V c 3 t) h
  refine (congrFun (congrArg (fun o => o.2.1) (outsAt_later V c t h)) y).trans ?_
  refine (congrArg (fun L => (ms8 t).view.read (Elt Ideal) ((ms8 t).view.writes (Elt Ideal)
    ((hs8 t).unread (prevAt V c t).2.1) L) y) eL).trans ?_
  exact windows_later t hr y X sk G _ hL

theorem s_first (t : Fin cfg1.N) (h : t.val = 0) (y : S8x128.Idx) :
    (outsAt V c t.val t.isLt).2.2 y = sinkNext t X sk G (fun _ => 0) y := by
  obtain ⟨L, eS, hcS, hS⟩ := pieces_s_first c t (iblk V c 5 t) (iblk V c 6 t) X sk G (k_blk V c sk hk t) (qkv_blk V c X hx t)
    (g_blk V c G hg t) (l_blk V c X sk hl t) (p_blk V c X sk hp t) h
  refine (congrFun (congrArg (fun o => o.2.2) (outsAt_first V c t h)) y).trans ?_
  refine (congrFun (congrArg View.canon eS) y).trans ?_
  exact View.canon_append_of_piecesOf _ _ L hS y (hcS y)

theorem s_later (t : Fin cfg1.N) (h : ¬ t.val = 0) (y : S8x128.Idx) :
    (outsAt V c t.val t.isLt).2.2 y = sinkNext t X sk G (prevAt V c t).2.2 y := by
  have hS := pieces_s_later c t (iblk V c 5 t) (iblk V c 6 t) (prevAt V c t).2.1 (prevAt V c t).2.2 X sk G (k_blk V c sk hk t)
    (qkv_blk V c X hx t) (g_blk V c G hg t) (l_blk V c X sk hl t) (p_blk V c X sk hp t) h
  refine (congrFun (congrArg (fun o => o.2.2) (outsAt_later V c t h)) y).trans ?_
  exact canon_of hS (cover_s_later V c t h _ _) y

/-- What the body leaves in the gathered gradients. -/
theorem state : ∀ (n : ℕ) (hn : n < cfg1.N),
    (outsAt V c n hn).2.1 = dkvArr X sk G (n + 1) ∧ (outsAt V c n hn).2.2 = dsinkArr X sk G (n + 1)
  | 0, hn => by
    rw [dkvArr_succ, dkvArr_zero, dsinkArr_succ, dsinkArr_zero]
    exact ⟨funext (kv_first V c X sk G hx hg hp ⟨0, hn⟩ rfl), funext (s_first V c X sk G hk hx hg hl hp ⟨0, hn⟩ rfl)⟩
  | n + 1, hn => by
    obtain ⟨ih1, ih2⟩ := state n (Nat.lt_of_succ_lt hn)
    rw [dkvArr_succ, dsinkArr_succ, ← ih1, ← ih2]
    exact ⟨funext (kv_later V c X sk G hx hg hp ⟨n + 1, hn⟩ (Nat.succ_ne_zero n)),
      funext (s_later V c X sk G hk hx hg hl hp ⟨n + 1, hn⟩ (Nat.succ_ne_zero n))⟩

/-- What it leaves in the queries' gradient. -/
theorem dq_out (t : Fin cfg1.N) (y : S128x512.Idx) : (outsAt V c t.val t.isLt).1 y = dqBlock t X sk G y := by
  by_cases h : t.val = 0
  · refine (congrFun (congrArg (fun o => o.1) (outsAt_first V c t h)) y).trans ?_
    exact canon_of (pieces_q_first c t (iblk V c 5 t) (iblk V c 6 t) X sk G (qkv_blk V c X hx t) (g_blk V c G hg t)
      (p_blk V c X sk hp t) (x0 := iblk V c 0 t) (x3 := iblk V c 3 t) h) (cover_q_first V c t h) y
  · refine (congrFun (congrArg (fun o => o.1) (outsAt_later V c t h)) y).trans ?_
    exact canon_of (pieces_q_later c t (iblk V c 5 t) (iblk V c 6 t) (prevAt V c t).2.1 (prevAt V c t).2.2 X sk G (qkv_blk V c X hx t) (g_blk V c G hg t)
      (p_blk V c X sk hp t) (x0 := iblk V c 0 t) (x3 := iblk V c 3 t) h) (cover_q_later V c t h _ _) y

omit hk hx hg hl hp in
theorem emb7 (t : Fin cfg1.N) (y0 : Fin 128) (y1 : Fin 512) (h : t.val * 128 + y0.val < 2048) :
    ((cfg1.win 7).blk t).view.emb (ix2 y0 y1) = (ix2 ⟨t.val * 128 + y0.val, h⟩ y1 : S2048x512.Idx) := by
  blk_ext [idx1 t]

/-- The gradient of the queries. -/
theorem finalQ : (dat V c).arrAt 7 cfg1.N = dqArr X sk G := by
  refine (dat V c).arrAt_eq_of_covers 7 _ (by decide +kernel) fun t _ y => ?_
  blk_simp
  rw [after_7]
  idx_vars y
  have ht := block_lt t
  exact (dq_out V c X sk G hk hx hg hl hp t _).trans (congrArg (dqArr X sk G) (emb7 t y0 y1 (by omega))).symm

/-- The gradients of the keys and values. -/
theorem finalKV : (dat V c).arrAt 8 cfg1.N = dkvArr X sk G 16 := by
  refine (dat V c).arrAt_eq_of_after_last 8 t1_15 (by decide +kernel) _ fun j => ?_
  blk_simp
  rw [after_8]
  exact congrFun (state V c X sk G hk hx hg hl hp 15 (by decide)).1 j

/-- The gradient of the sinks. -/
theorem finalS : (dat V c).arrAt 9 cfg1.N = dsinkArr X sk G 16 := by
  refine (dat V c).arrAt_eq_of_after_last 9 t1_15 (by decide +kernel) _ fun j => ?_
  blk_simp
  rw [after_9]
  exact congrFun (state V c X sk G hk hx hg hl hp 15 (by decide)).2 j

end Arrays

end Cert.Attn
end
-- ==== Proof.AttnKernel.lean ====
module

public import proofs.«01_k».proof.Proof.AttnFrame
public import proofs.«01_k».proof.Proof.AttnBackwardArrays

/-! The attention program's four results, as functions of its arguments. -/

@[expose] public section

set_option maxRecDepth 16384

noncomputable section

open Idealize.ShloMosaic Idealize.ShloMosaic.TcCoe Idealize.ShloMosaic.Tactic

namespace Cert.Attn

open Cert.Kernel2Ideal Cert.Kernel2Ideal.Gen Cert.AttnFrame

section Results

variable (m : (ℓ : Loc nD τ sig) → Buf (Elt Ideal) ℓ) (ρ : Dev nD → PrngReg) (c : Dev nD)

/-- The arguments. -/
abbrev aX : FVec Ideal S2048x768 .f32 := m ((c : Thread nD τ).loc main_arg0)
abbrev aS : FVec Ideal S1x8 .f32 := m ((c : Thread nD τ).loc main_arg1)
abbrev aG : FVec Ideal S2048x512 .f32 := m ((c : Thread nD τ).loc main_arg2)

theorem v0_eq : (show FVec Ideal S2048x768 .bf16 from V1 m ρ c main_v0) = aX m c := by
  show StableHlo.after hostOps0 (W0 m ρ c) (Proc.devRef .tc main_v0) = _
  after_results
  rfl

theorem v1_eq : (show FVec Ideal S2048x512 .bf16 from V1 m ρ c main_v1) = aG m c := by
  show StableHlo.after hostOps0 (W0 m ρ c) (Proc.devRef .tc main_v1) = _
  after_results
  rfl

variable (X : ℕ → ℕ → ℝ) (sk : ℕ → ℝ) (G : ℕ → ℕ → ℝ)
  (hx : ∀ (r : Fin 2048) (d : Fin 768), aX m c (ix2 r d) = (X r d : EReal))
  (hk : ∀ h : Fin 8, aS m c (ix2 0 h) = (sk h : EReal))
  (hg : ∀ (r : Fin 2048) (d : Fin 512), aG m c (ix2 r d) = (G r d : EReal))

include hx in
theorem x_at (r : Fin 2048) (d : Fin 768) : (show FVec Ideal S2048x768 .bf16 from V1 m ρ c main_v0) (ix2 r d) = (X r d : EReal) :=
  (congrFun (v0_eq m ρ c) _).trans (hx r d)

include hk in
theorem k_at (h : Fin 8) : (show FVec Ideal S1x8 .f32 from V1 m ρ c main_arg1) (ix2 0 h) = (sk h : EReal) :=
  (congrFun (W1_args m ρ c main_arg1 (by simp)) _).trans (hk h)

include hx hk

theorem o_eq : W2 m ρ c (Proc.devRef .tc main_v3_0) = outArr X sk :=
  (W2_arr m ρ c 2).trans (finalO (V1 m ρ) c X sk (x_at m ρ c X hx) (k_at m ρ c sk hk))

theorem l_eq : W2 m ρ c (Proc.devRef .tc main_v3_1) = lseArr X sk :=
  (W2_arr m ρ c 3).trans (finalL (V1 m ρ) c X sk (x_at m ρ c X hx) (k_at m ρ c sk hk))

theorem p_eq : W2 m ρ c (Proc.devRef .tc main_v3_2) = probArr X sk :=
  (W2_arr m ρ c 4).trans (finalP (V1 m ρ) c X sk (x_at m ρ c X hx) (k_at m ρ c sk hk))

omit hx in
theorem k_at' (h : Fin 8) : (show FVec Ideal S1x8 .f32 from V2 m ρ c main_arg1) (ix2 0 h) = (sk h : EReal) :=
  (congrFun (W2_args m ρ c main_arg1 (by simp)) _).trans (hk h)

omit hk in
theorem x_at' (r : Fin 2048) (d : Fin 768) : (show FVec Ideal S2048x768 .bf16 from V2 m ρ c main_v0) (ix2 r d) = (X r d : EReal) :=
  (congrFun (W2_of m ρ c main_v0 (by decide +kernel)) _).trans (x_at m ρ c X hx r d)

omit hx hk in
include hg in
theorem g_at' (r : Fin 2048) (d : Fin 512) : (show FVec Ideal S2048x512 .bf16 from V2 m ρ c main_v1) (ix2 r d) = (G r d : EReal) :=
  (congrFun (W2_of m ρ c main_v1 (by decide +kernel)) _).trans ((congrFun (v1_eq m ρ c) _).trans (hg r d))

include hg

/-- The gradient of the queries, -/
theorem dq_eq : W3 m ρ c (Proc.devRef .tc main_v4_0) = dqArr X sk G :=
  (W3_arr m ρ c 7).trans (finalQ (V2 m ρ) c X sk G (k_at' m ρ c sk hk) (x_at' m ρ c X hx) (g_at' m ρ c G hg)
    (l_eq m ρ c X sk hx hk) (p_eq m ρ c X sk hx hk))

/-- of the keys and values, -/
theorem dkv_eq : W3 m ρ c (Proc.devRef .tc main_v4_1) = dkvArr X sk G 16 :=
  (W3_arr m ρ c 8).trans (finalKV (V2 m ρ) c X sk G (k_at' m ρ c sk hk) (x_at' m ρ c X hx) (g_at' m ρ c G hg)
    (l_eq m ρ c X sk hx hk) (p_eq m ρ c X sk hx hk))

/-- of the sinks, -/
theorem ds_eq : W3 m ρ c (Proc.devRef .tc main_v4_2) = dsinkArr X sk G 16 :=
  (W3_arr m ρ c 9).trans (finalS (V2 m ρ) c X sk G (k_at' m ρ c sk hk) (x_at' m ρ c X hx) (g_at' m ρ c G hg)
    (l_eq m ρ c X sk hx hk) (p_eq m ρ c X sk hx hk))

omit hg in
/-- and the forward call's output. -/
theorem out_eq : W3 m ρ c (Proc.devRef .tc main_v3_0) = outArr X sk :=
  (W3_of m ρ c main_v3_0 (by decide +kernel)).trans (o_eq m ρ c X sk hx hk)

end Results

end Cert.Attn
end
-- ==== Proof.AttnReferenceForward.lean ====
module

public import proofs.«01_k».proof.Proof.Gen.Reference2Ideal.Read
public import proofs.«01_k».proof.Proof.AttnSpec

/-! The attention's plain text, its forward half: what its arrays hold where the arguments are real numbers.

The text gives every block of 128 rows a band of 256 keys, the block before it and the block itself, with zeros before the
first block. An array over bands holds a function of the key there, and zero where the band runs off the front. -/

@[expose] public section

noncomputable section

open Idealize.ShloMosaic Idealize.ShloMosaic.TcCoe Idealize.ShloMosaic.Tactic

namespace Cert.AttnRef

open Cert.Attn Cert.Reference2Ideal Cert.Reference2Ideal.Read

/-- A function of the key, read at place `k` of block `n`'s band. -/
def band (f : ℕ → ℝ) (n k : ℕ) : ℝ := if 128 ≤ n * 128 + k then f (n * 128 + k - 128) else 0

/-- Place `k` of block `n`'s band is a key in the window of the block's row `a`. -/
abbrev Seen (n a k : ℕ) : Prop := 128 ≤ n * 128 + k ∧ Valid (n * 128 + a) (n * 128 + k - 128)

theorem band_mul (f g : ℕ → ℝ) (n k : ℕ) : band f n k * band g n k = band (fun j => f j * g j) n k := by
  unfold band
  split <;> simp

theorem band_of_not {f : ℕ → ℝ} {n a k : ℕ} (hf : ∀ j, ¬ Valid (n * 128 + a) j → f j = 0) (h : ¬ Seen n a k) :
    band f n k = 0 := by
  unfold band
  split
  · exact hf _ fun hv => h ⟨by assumption, hv⟩
  · rfl

theorem band_sum_eq {n a : ℕ} (hn : n < 16) (ha : a < 128) (f : ℕ → ℝ) (hf : ∀ j, ¬ Valid (n * 128 + a) j → f j = 0) :
    ∑ k : Fin 256, band f n k = ∑ j ∈ Finset.range 2048, f j := padded_band_sum hn ha f hf

theorem band_sum_fin {d : ℕ} (f : Fin d → ℕ → ℝ) (n k : ℕ) :
    ∑ x, band (f x) n k = band (fun j => ∑ x, f x j) n k := by
  unfold band
  split <;> simp

theorem band_mul_left (c : ℝ) (f : ℕ → ℝ) (n k : ℕ) : c * band f n k = band (fun j => c * f j) n k := by
  unfold band
  split <;> simp

theorem ofBits_eighth : Ideal.ofBits .f32 1040187392#32 = ((1 / 8 : ℝ) : EReal) := by
  simp [Ideal.ofBits, Ideal.ieee, ← EReal.coe_mul]
  norm_num

section

variable {x0 : FVec Ideal S2048x768 .f32} {x1 : FVec Ideal S1x8 .f32} {x2 : FVec Ideal S2048x512 .f32}
  {X : ℕ → ℕ → ℝ} {sk : ℕ → ℝ} {G : ℕ → ℕ → ℝ}
  (hx : ∀ (r : Fin 2048) (d : Fin 768), x0 (ix2 r d) = (X r d : EReal))
  (hk : ∀ h : Fin 8, x1 (ix2 0 h) = (sk h : EReal))

include hx

/-- The queries. -/
theorem query_at (n : Fin 16) (a : Fin 128) (g : Fin 2) (e : Fin 4) (d : Fin 64) :
    val_main_v6 (F := Ideal) x0 (ix5 n a g e d) = (X (n * 128 + a) (64 * (4 * g + e) + d) : EReal) := by
  pointwise [val_main_v6, val_main_v1, val_main_v0]
  rw [hx]
  exact congrArg (fun c => (X (n * 128 + a) c : EReal)) (by dsimp only; omega)

/-- The bands of keys. -/
theorem key_at (n : Fin 16) (k : Fin 256) (g : Fin 2) (d : Fin 64) :
    val_main_v13 (F := Ideal) x0 (ix4 n k g d) = (band (fun j => X j (512 + 64 * g + d)) n k : EReal) := by
  pointwise [val_main_v13, val_main_v11, val_main_v12, val_main_v10, val_main_v8, val_main_v7, val_main_cst, val_main_v3,
    val_main_v2]
  unfold band
  by_cases hf : n.val * 128 + k.val < 128
  · refine (dif_pos (by omega)).trans ((dif_pos hf).trans ?_)
    rw [if_neg (by omega), EReal.coe_zero]
  · refine Eq.trans ?_ (congrArg Real.toEReal (if_pos (by omega)).symm)
    by_cases hb : k.val < 128
    · refine (dif_pos hb).trans ((dif_neg hf).trans ((hx _ _).trans ?_))
      exact congrArg (fun c => (X (n.val * 128 + k.val - 128) c : EReal)) (by dsimp only; omega)
    · refine (dif_neg hb).trans ((hx _ _).trans ?_)
      exact congrArg₂ (fun r c => (X r c : EReal)) (by dsimp only; omega) (by dsimp only; omega)

/-- The bands of values. -/
theorem value_at (n : Fin 16) (k : Fin 256) (g : Fin 2) (d : Fin 64) :
    val_main_v20 (F := Ideal) x0 (ix4 n k g d) = (band (fun j => X j (640 + 64 * g + d)) n k : EReal) := by
  pointwise [val_main_v20, val_main_v18, val_main_v19, val_main_v17, val_main_v15, val_main_v14, val_main_cst_1, val_main_v5,
    val_main_v4]
  unfold band
  by_cases hf : n.val * 128 + k.val < 128
  · refine (dif_pos (by omega)).trans ((dif_pos hf).trans ?_)
    rw [if_neg (by omega), EReal.coe_zero]
  · refine Eq.trans ?_ (congrArg Real.toEReal (if_pos (by omega)).symm)
    by_cases hb : k.val < 128
    · refine (dif_pos hb).trans ((dif_neg hf).trans ((hx _ _).trans ?_))
      exact congrArg (fun c => (X (n.val * 128 + k.val - 128) c : EReal)) (by dsimp only; omega)
    · refine (dif_neg hb).trans ((hx _ _).trans ?_)
      exact congrArg₂ (fun r c => (X r c : EReal)) (by dsimp only; omega) (by dsimp only; omega)

/-- The scaled logits. -/
theorem score_at (n : Fin 16) (g : Fin 2) (e : Fin 4) (a : Fin 128) (k : Fin 256) :
    val_main_v24 (F := Ideal) x0 (ix5 n g e a k) = (band (score X (n * 128 + a) (4 * g + e)) n k : EReal) := by
  pointwise [val_main_v24, val_main_v22, val_main_v21, val_main_v23, val_main_cst_3]
  rw [sum_mul_eq (fun d => key_at hx n k g d) (fun d => query_at hx n a g e d), ofBits_eighth, ← EReal.coe_mul]
  congr 1
  have hg : (4 * g.val + e.val) / 4 = g.val := by omega
  unfold band score
  rw [hg]
  split
  · exact congrArg (· * (1 / 8)) (Finset.sum_congr rfl fun d _ => mul_comm _ _)
  · simp

omit hx

/-- The mask is the window. -/
theorem mask_at (n : Fin 16) (g : Fin 2) (e : Fin 4) (a : Fin 128) (k : Fin 256) :
    val_main_v57_1 (F := Ideal) (ix5 n g e a k) = if Seen n a k then 1#1 else 0#1 := by
  pointwise [val_main_v57_1, val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_c, val_main_c_4, val_main_c_5, val_main_c_6, val_main_c_7, val_main_c_8]
  have hw (x : ℕ) (hx : x < 4096) : (BitVec.ofNat 32 x).toInt = x := by
    rw [BitVec.toInt_ofNat', Int.bmod_def]
    omega
  have h128 : (128#32 : BitVec 32).toInt = 128 := rfl
  have h0 : (0#32 : BitVec 32).toInt = 0 := rfl
  have hd : (BitVec.ofNat 32 a.val + 128#32 - BitVec.ofNat 32 k.val).toInt = a.val + 128 - k.val := by
    rw [BitVec.toInt_sub, BitVec.toInt_add, hw a.val (by omega), hw k.val (by omega), h128, Int.bmod_def, Int.bmod_def]
    omega
  have hm : BitVec.ofNat 32 n.val * 128#32 = BitVec.ofNat 32 (n.val * 128) := (BitVec.ofNat_mul n.val 128).symm
  have hn : (BitVec.ofNat 32 n.val * 128#32 - 128#32 + BitVec.ofNat 32 k.val).toInt = n.val * 128 - 128 + k.val := by
    rw [hm, BitVec.toInt_add, BitVec.toInt_sub, hw (n.val * 128) (by omega), hw k.val (by omega), h128, Int.bmod_def, Int.bmod_def]
    omega
  unfold IntOp.cmpi IntOp.subi IntOp.addi IntOp.muli
  dsimp only
  rw [BitVec.sle_eq_decide, BitVec.slt_eq_decide, BitVec.sle_eq_decide, hd, hn, h0, h128]
  by_cases h1 : (0 : ℤ) ≤ a.val + 128 - k.val <;> by_cases h2 : (a.val : ℤ) + 128 - k.val < 128 <;>
    by_cases h3 : (0 : ℤ) ≤ n.val * 128 - 128 + k.val <;> simp only [h1, h2, h3, decide_true, decide_false]
  · rw [if_pos (by omega)]; rfl
  all_goals rw [if_neg (by omega)]; rfl

end

end Cert.AttnRef
end
-- ==== Proof.AttnReferenceSoftmax.lean ====
module

public import proofs.«01_k».proof.Proof.AttnReferenceForward

/-! The attention's plain text, its softmax, where the arguments are real numbers. -/

@[expose] public section

noncomputable section

open Idealize.ShloMosaic Idealize.ShloMosaic.TcCoe Idealize.ShloMosaic.Tactic

namespace Cert.AttnRef

open Cert.Attn Cert.Reference2Ideal Cert.Reference2Ideal.Read

/-- A row of 257 entries: a band, and one more. -/
def row (f : ℕ → ℝ) (s : ℝ) (n k : ℕ) : ℝ := if k < 256 then band f n k else s

theorem row_sum {n a : ℕ} (hn : n < 16) (ha : a < 128) (f : ℕ → ℝ) (s : ℝ)
    (hf : ∀ j, ¬ Valid (n * 128 + a) j → f j = 0) :
    ∑ k : Fin 257, row f s n k = ∑ j ∈ Finset.range 2048, f j + s := by
  rw [Fin.sum_univ_castSucc, ← band_sum_eq hn ha f hf]
  congr 1

/-- The exponential of a band's masked logit. -/
theorem eRow_eq (X : ℕ → ℕ → ℝ) (n a h : ℕ) (k : Fin 256) :
    eRow (fun k : Fin 256 => Seen n a k) (fun k : Fin 256 => band (score X (n * 128 + a) h) n k) k
      = band (expo X (n * 128 + a) h) n k := by
  unfold eRow band expo Seen
  by_cases h1 : 128 ≤ n * 128 + k.val
  · simp only [h1, true_and, if_true]
  · simp only [h1, false_and, if_false]

theorem ofBits_zero : Ideal.ofBits .f32 0#32 = 0 := by simp [Ideal.ofBits, Ideal.ieee]

/-- The maximum of finitely many extended reals, none of them `⊤` and one of them above `⊥`, is a real number. -/
theorem fold_real {n : ℕ} (s : Fin n → EReal) (ht : ∀ k, s k < ⊤) (i : Fin n) (hi : ⊥ < s i) :
    ∃ M : ℝ, Finset.fold max ⊥ s Finset.univ = (M : EReal) := by
  refine ⟨_, (EReal.coe_toReal (ne_of_lt ?_) (ne_of_gt ?_)).symm⟩
  · exact (Finset.fold_max_lt ⊤).mpr ⟨bot_lt_top, fun k _ => ht k⟩
  · exact (Finset.lt_fold_max ⊥).mpr (Or.inr ⟨i, Finset.mem_univ _, hi⟩)

theorem select_one (x y : EReal) : Scalar.select (1#1) x y = x := rfl

theorem select_zero (x y : EReal) : Scalar.select (0#1) x y = y := rfl

section

variable {x0 : FVec Ideal S2048x768 .f32} {x1 : FVec Ideal S1x8 .f32} {x2 : FVec Ideal S2048x512 .f32}
  {X : ℕ → ℕ → ℝ} {sk : ℕ → ℝ} {G : ℕ → ℕ → ℝ}
  (hx : ∀ (r : Fin 2048) (d : Fin 768), x0 (ix2 r d) = (X r d : EReal))
  (hk : ∀ h : Fin 8, x1 (ix2 0 h) = (sk h : EReal))

include hx

/-- The masked logits. -/
theorem masked_at (n : Fin 16) (g : Fin 2) (e : Fin 4) (a : Fin 128) (k : Fin 256) :
    val_main_v57_0 (F := Ideal) x0 (ix5 n g e a k)
      = masked (fun k : Fin 256 => Seen n a k) (fun k : Fin 256 => band (score X (n * 128 + a) (4 * g + e)) n k) k := by
  rw [val_main_v57_0_apply, mask_at, score_at hx]
  unfold masked
  by_cases h : Seen n a k
  · rw [if_pos h, if_pos h]
    exact select_one _ _
  · rw [if_neg h, if_neg h]
    refine (select_zero _ _).trans ?_
    pointwise [val_main_call0_v2, val_main_call0_v0, val_main_cst_9]
    show Ideal.ofBits .f32 4286578688#32 = ⊥
    simp [Ideal.ofBits, Ideal.ieee]

include hk

/-- The logits, the sink's last. -/
theorem logit_at (n : Fin 16) (g : Fin 2) (e : Fin 4) (a : Fin 128) (k : Fin 257) :
    val_main_v60 (F := Ideal) x0 x1 (ix5 n g e a k) = if h : k.val < 256 then
      masked (fun k : Fin 256 => Seen n a k) (fun k : Fin 256 => band (score X (n * 128 + a) (4 * g + e)) n k) ⟨k, h⟩
      else (sk (4 * g + e) : EReal) := by
  pointwise [val_main_v60, val_main_v59, val_main_v58]
  by_cases h : k.val < 256
  · rw [dif_pos h, dif_pos h, masked_at hx]
  · rw [dif_neg h, dif_neg h, hk]
    exact congrArg (fun c => (sk c : EReal)) (by dsimp only; omega)

omit hx hk in
/-- A row's maximum, a fold. -/
theorem max_fold (n : Fin 16) (g : Fin 2) (e : Fin 4) (a : Fin 128) :
    val_main_v61 (F := Ideal) x0 x1 (ix4 n g e a) = Finset.fold max (Ideal.ofBits .f32 4286578688#32)
      (fun k : Fin 257 => val_main_v60 (F := Ideal) x0 x1 (ix5 n g e a k)) Finset.univ := by
  pointwise [val_main_v61, val_main_cst_10]

/-- The row's maximum is a real number. -/
theorem max_at (n : Fin 16) (g : Fin 2) (e : Fin 4) (a : Fin 128) :
    ∃ M : ℝ, val_main_v68 (F := Ideal) x0 x1 (ix4 n g e a) = (M : EReal) := by
  have h68 : val_main_v68 (F := Ideal) x0 x1 (ix4 n g e a)
      = max (Ideal.ofBits .f32 4286578688#32) (val_main_v61 (F := Ideal) x0 x1 (ix4 n g e a)) := by
    rw [val_main_v68_apply, val_main_v67_apply, val_main_cst_12_apply]
    rfl
  have hb : Ideal.ofBits .f32 4286578688#32 = ⊥ := by simp [Ideal.ofBits, Ideal.ieee]
  have hl := fun k => logit_at hx hk n g e a k
  rw [h68, max_fold, hb, max_eq_right bot_le]
  simp only [hl]
  refine fold_real _ (fun k => ?_) (Fin.last 256) ?_
  · split
    · exact lt_top_iff_ne_top.mpr (masked_ne_top _ _ _)
    · exact EReal.coe_lt_top _
  · rw [dif_neg (show ¬ (Fin.last 256).val < 256 by decide)]
    exact EReal.bot_lt_coe _

section Shifted

variable {n : Fin 16} {g : Fin 2} {e : Fin 4} {a : Fin 128} {M : ℝ}
  (hM : val_main_v68 (F := Ideal) x0 x1 (ix4 n g e a) = (M : EReal))

include hM

/-- The exponentials, -/
theorem exp_at (k : Fin 257) : val_main_v81 (F := Ideal) x0 x1 (ix5 n g e a k)
    = (row (expo X (n * 128 + a) (4 * g + e)) (Real.exp (sk (4 * g + e))) n k * Real.exp (-M) : ℝ) := by
  have h79 : val_main_v79 (F := Ideal) x0 x1 (ix5 n g e a k) = (M : EReal) := by
    rw [← hM]
    pointwise [val_main_v79, val_main_v78]
  rw [val_main_v81_apply, val_main_v80_apply, h79, logit_at hx hk]
  unfold row
  by_cases h : k.val < 256
  · rw [dif_pos h, if_pos h, ← eRow_eq X n a (4 * g + e) ⟨k, h⟩]
    exact exp_masked _ _ M ⟨k, h⟩
  · rw [dif_neg h, if_neg h]
    exact exp_sink _ M

/-- their sum, -/
theorem sum_at : val_main_v82 (F := Ideal) x0 x1 (ix4 n g e a)
    = (tot X sk (n * 128 + a) (4 * g + e) * Real.exp (-M) : ℝ) := by
  have hi (k : Fin 257) : idx_main_v82 (ix4 n g e a) k = ix5 n g e a k := by
    funext b; match b with | ⟨0, _⟩ => rfl | ⟨1, _⟩ => rfl | ⟨2, _⟩ => rfl | ⟨3, _⟩ => rfl | ⟨4, _⟩ => rfl
  rw [val_main_v82_apply]
  simp only [hi, exp_at hx hk hM]
  rw [← coe_sum, ← Finset.sum_mul, row_sum n.isLt a.isLt _ _ fun j hj => expo_of_not X hj, ← tot, val_main_cst_18_apply]
  refine (congrArg (· + _) ?_).trans (zero_add _)
  exact ofBits_zero

end Shifted

/-- and the weights. -/
theorem prob_at (n : Fin 16) (g : Fin 2) (e : Fin 4) (a : Fin 128) (k : Fin 256) :
    val_main_v89 (F := Ideal) x0 x1 (ix5 n g e a k) = (band (prob X sk (n * 128 + a) (4 * g + e)) n k : EReal) := by
  obtain ⟨M, hM⟩ := max_at hx hk n g e a
  have hz : tot X sk (n * 128 + a) (4 * g + e) * Real.exp (-M) ≠ 0 := (mul_pos (tot_pos X sk _ _) (Real.exp_pos _)).ne'
  have h84 (k : Fin 257) : val_main_v84 (F := Ideal) x0 x1 (ix5 n g e a k)
      = (tot X sk (n * 128 + a) (4 * g + e) * Real.exp (-M) : ℝ) := by
    rw [← sum_at hx hk hM]
    pointwise [val_main_v84, val_main_v83]
  have h89 : val_main_v89 (F := Ideal) x0 x1 (ix5 n g e a k)
      = val_main_v85 (F := Ideal) x0 x1 (ix5 n g e a ⟨k, by omega⟩) := by
    pointwise [val_main_v89]
  rw [h89, val_main_v85_apply, h84, exp_at hx hk hM]
  refine (Ideal.div_coe hz _).trans ?_
  rw [← EReal.coe_mul]
  refine congrArg Real.toEReal ?_
  have := (tot_pos X sk (n * 128 + a) (4 * g + e)).ne'
  have := (Real.exp_pos (-M)).ne'
  unfold row band prob
  rw [if_pos k.isLt]
  split
  · field_simp
  · simp

/-- The attention's output. -/
theorem out_at (r : Fin 2048) (c : Fin 512) :
    val_main_v154 (F := Ideal) x0 x1 (ix2 r c) = (out X sk r c : EReal) := by
  pointwise [val_main_v154, val_main_v92, val_main_v91, val_main_v90]
  rw [sum_mul_eq (fun k => value_at hx _ k _ _) (fun k => prob_at hx hk _ _ _ _ k)]
  congr 1
  have hr : r.val / 128 * 128 + r.val % 128 = r := by omega
  have hc : 4 * (c.val / 256) + c.val / 64 % 4 = c.val / 64 := by omega
  have hg : c.val / 64 / 4 = c.val / 256 := by omega
  dsimp only
  simp only [band_mul]
  rw [band_sum_eq (n := r.val / 128) (a := r.val % 128) (by omega) (by omega), hr, hc, out, hg]
  · exact Finset.sum_congr rfl fun j _ => mul_comm _ _
  · intro j hj
    rw [prob_of_not X sk hj, mul_zero]

end

end Cert.AttnRef
end
-- ==== Proof.AttnReferenceScores.lean ====
module

public import proofs.«01_k».proof.Proof.AttnReferenceSoftmax

/-! The attention's plain text, the gradient of its logits, where the arguments are real numbers. -/

@[expose] public section

noncomputable section

open Idealize.ShloMosaic Idealize.ShloMosaic.TcCoe Idealize.ShloMosaic.Tactic

namespace Cert.AttnRef

open Cert.Attn Cert.Reference2Ideal Cert.Reference2Ideal.Read

theorem ofBits_one : Ideal.ofBits .f32 1065353216#32 = 1 := by
  simp [Ideal.ofBits, Ideal.ieee, ← EReal.coe_mul]
  norm_num

/-- The rows, one block of 128 after another. -/
theorem rows_sum (f : ℕ → ℝ) (N : ℕ) :
    ∑ n : Fin N, ∑ a : Fin 128, f (n * 128 + a) = ∑ r ∈ Finset.range (N * 128), f r := by
  induction N with
  | zero => simp
  | succ N ih =>
    rw [range_block, ← ih, Fin.sum_univ_castSucc]
    rfl

/-- A sum over the first, fourth and last of five axes, the last of length one. -/
theorem reduce_rows (h : S16x2x4x128x1.ReducesTo [0, 3, 4] S2x4) (v : S16x2x4x128x1.Idx → EReal) (g : Fin 2) (e : Fin 4) :
    Ideal.hostReduceAdd h v 0 (ix2 g e) = ∑ n : Fin 16, ∑ a : Fin 128, v (ix5 n g e a 0) := by
  have hd (n : Fin 16) (g' : Fin 2) (e' : Fin 4) (a : Fin 128) (z : Fin 1) :
      h.drop (ix5 n g' e' a z) = ix2 g' e' := by
    funext b; match b with | ⟨0, _⟩ => rfl | ⟨1, _⟩ => rfl
  unfold Ideal.hostReduceAdd
  rw [zero_add, Finset.sum_filter, sum_idx5]
  refine Finset.sum_congr rfl fun n _ => ?_
  simp only [hd, ix2_inj]
  rw [Finset.sum_eq_single g (fun g' _ hg => ?_) (by simp), Finset.sum_eq_single e (fun e' _ he => ?_) (by simp)]
  · refine Finset.sum_congr rfl fun a _ => ?_
    rw [Fin.sum_univ_one, if_pos ⟨rfl, rfl⟩]
  · exact Finset.sum_eq_zero fun a _ => Finset.sum_eq_zero fun z _ => if_neg fun hc => he hc.2
  · exact Finset.sum_eq_zero fun e' _ => Finset.sum_eq_zero fun a _ => Finset.sum_eq_zero fun z _ => if_neg fun hc => hg hc.1

section

variable {x0 : FVec Ideal S2048x768 .f32} {x1 : FVec Ideal S1x8 .f32} {x2 : FVec Ideal S2048x512 .f32}
  {X : ℕ → ℕ → ℝ} {sk : ℕ → ℝ} {G : ℕ → ℕ → ℝ}
  (hx : ∀ (r : Fin 2048) (d : Fin 768), x0 (ix2 r d) = (X r d : EReal))
  (hk : ∀ h : Fin 8, x1 (ix2 0 h) = (sk h : EReal))
  (hg : ∀ (r : Fin 2048) (d : Fin 512), x2 (ix2 r d) = (G r d : EReal))

include hg

/-- The gradient of the output, by heads. -/
theorem grad_at (n : Fin 16) (g : Fin 2) (d : Fin 64) (e : Fin 4) (a : Fin 128) :
    val_main_v94 (F := Ideal) x2 (ix5 n g d e a) = (G (n * 128 + a) (64 * (4 * g + e) + d) : EReal) := by
  pointwise [val_main_v94, val_main_v93]
  rw [hg]
  exact congrArg (fun c => (G (n * 128 + a) c : EReal)) (by dsimp only; omega)

include hx

/-- The gradient of the weights. -/
theorem dprob_at (n : Fin 16) (g : Fin 2) (e : Fin 4) (a : Fin 128) (k : Fin 256) :
    val_main_v95 (F := Ideal) x0 x2 (ix5 n g e a k) = (band (dprob X G (n * 128 + a) (4 * g + e)) n k : EReal) := by
  pointwise [val_main_v95]
  rw [sum_mul_eq (fun d => grad_at hg n g d e a) (fun d => value_at hx n k g d)]
  have hh : (4 * g.val + e.val) / 4 = g.val := by omega
  simp only [band_mul_left]
  rw [band_sum_fin]
  unfold dprob
  rw [hh]

/-- The same with a last entry, zero. -/
theorem padded_at (n : Fin 16) (g : Fin 2) (e : Fin 4) (a : Fin 128) (k : Fin 257) :
    val_main_v98 (F := Ideal) x0 x2 (ix5 n g e a k) = (row (dprob X G (n * 128 + a) (4 * g + e)) 0 n k : EReal) := by
  pointwise [val_main_v98, val_main_cst_20]
  unfold row
  by_cases h : k.val < 256
  · rw [dif_pos h, if_pos h, dprob_at hx hg]
  · rw [dif_neg h, if_neg h, EReal.coe_zero]

include hk

section Shifted

variable {n : Fin 16} {g : Fin 2} {e : Fin 4} {a : Fin 128} {M : ℝ}
  (hM : val_main_v68 (F := Ideal) x0 x1 (ix4 n g e a) = (M : EReal))

include hM

theorem weighted_at (k : Fin 257) : val_main_v101 (F := Ideal) x0 x1 x2 (ix5 n g e a k)
    = (row (fun j => prob X sk (n * 128 + a) (4 * g + e) j * dprob X G (n * 128 + a) (4 * g + e) j) 0 n k
        * (1 / (tot X sk (n * 128 + a) (4 * g + e) * Real.exp (-M))) : ℝ) := by
  have h : val_main_v101 (F := Ideal) x0 x1 x2 (ix5 n g e a k)
      = val_main_v98 (F := Ideal) x0 x2 (ix5 n g e a k)
        * Ideal.div (Ideal.ofBits .f32 1065353216#32)
          (val_main_v82 (F := Ideal) x0 x1 (ix4 n g e a) * val_main_v82 (F := Ideal) x0 x1 (ix4 n g e a))
        * val_main_v81 (F := Ideal) x0 x1 (ix5 n g e a k) := by
    rw [ofBits_one]
    pointwise [val_main_v101, val_main_v100, val_main_v99, val_main_v88, val_main_v87, val_main_v86, val_main_v83,
      val_main_cst_19]
  have ht := tot_pos X sk (n * 128 + a) (4 * g + e)
  have hz := mul_pos ht (Real.exp_pos (-M))
  rw [h, ofBits_one, padded_at hx hg, exp_at hx hk hM, sum_at hx hk hM, ← EReal.coe_mul, Ideal.div_coe (mul_pos hz hz).ne',
    one_mul, ← EReal.coe_mul, ← EReal.coe_mul]
  refine congrArg Real.toEReal ?_
  have := ht.ne'
  have := (Real.exp_pos (-M)).ne'
  unfold row band prob
  split
  · split
    · field_simp
    · simp
  · simp

/-- The rows' inner products. -/
theorem inner_at : val_main_v102 (F := Ideal) x0 x1 x2 (ix4 n g e a)
    = (inner X sk G (n * 128 + a) (4 * g + e) * (1 / (tot X sk (n * 128 + a) (4 * g + e) * Real.exp (-M))) : ℝ) := by
  have hi (k : Fin 257) : idx_main_v102 (ix4 n g e a) k = ix5 n g e a k := by
    funext b; match b with | ⟨0, _⟩ => rfl | ⟨1, _⟩ => rfl | ⟨2, _⟩ => rfl | ⟨3, _⟩ => rfl | ⟨4, _⟩ => rfl
  rw [val_main_v102_apply]
  simp only [hi, weighted_at hx hk hg hM]
  rw [← coe_sum, ← Finset.sum_mul, row_sum n.isLt a.isLt _ _ fun j hj => by rw [prob_of_not X sk hj, zero_mul], add_zero,
    ← Attn.inner, val_main_cst_21_apply]
  refine (congrArg (· + _) ?_).trans (zero_add _)
  exact ofBits_zero

end Shifted

/-- The gradient of the logits, the sink's last. -/
theorem dlogit_at (n : Fin 16) (g : Fin 2) (e : Fin 4) (a : Fin 128) (k : Fin 257) :
    val_main_v110 (F := Ideal) x0 x1 x2 (ix5 n g e a k)
      = (row (dscore X sk G (n * 128 + a) (4 * g + e))
          (-(Real.exp (sk (4 * g + e)) / tot X sk (n * 128 + a) (4 * g + e) * inner X sk G (n * 128 + a) (4 * g + e))) n k
          : EReal) := by
  obtain ⟨M, hM⟩ := max_at hx hk n g e a
  have h : val_main_v110 (F := Ideal) x0 x1 x2 (ix5 n g e a k)
      = (Ideal.div (val_main_v98 (F := Ideal) x0 x2 (ix5 n g e a k)) (val_main_v82 (F := Ideal) x0 x1 (ix4 n g e a))
          + -val_main_v102 (F := Ideal) x0 x1 x2 (ix4 n g e a)) * val_main_v81 (F := Ideal) x0 x1 (ix5 n g e a k) := by
    pointwise [val_main_v110, val_main_v109, val_main_v108, val_main_v107, val_main_v106, val_main_v105, val_main_v104,
      val_main_v103, val_main_v83, val_main_cst_22]
    rw [Fin.sum_univ_one]
  have ht := tot_pos X sk (n * 128 + a) (4 * g + e)
  have hz := mul_pos ht (Real.exp_pos (-M))
  rw [h, padded_at hx hg, exp_at hx hk hM, sum_at hx hk hM, inner_at hx hk hg hM, Ideal.div_coe hz.ne', ← EReal.coe_mul,
    ← EReal.coe_neg, ← EReal.coe_add, ← EReal.coe_mul]
  refine congrArg Real.toEReal ?_
  have := ht.ne'
  have := (Real.exp_pos (-M)).ne'
  unfold row band dscore prob
  split
  · split
    · field_simp
      ring
    · simp
  · field_simp
    ring

/-- The gradient of the sinks. -/
theorem dsink_at (h : Fin 8) (z : Fin 128) :
    val_main_v153 (F := Ideal) x0 x1 x2 (ix2 h z) = (dsink X sk G 2048 h : EReal) := by
  have hl : val_main_v153 (F := Ideal) x0 x1 x2 (ix2 h z)
      = ∑ n : Fin 16, ∑ a : Fin 128, val_main_v110 (F := Ideal) x0 x1 x2
          (ix5 n ⟨h / 4, by omega⟩ ⟨h % 4, by omega⟩ a (Fin.last 256)) := by
    pointwise [val_main_v153, val_main_v152, val_main_v115, val_main_v114, val_main_v113, val_main_cst_23]
    rw [reduce_rows]
    refine Finset.sum_congr rfl fun n _ => Finset.sum_congr rfl fun a _ => ?_
    pointwise [val_main_v112]
    rfl
  have hh : 4 * (h.val / 4) + h.val % 4 = h := by omega
  rw [hl]
  simp only [dlogit_at hx hk hg, row, Fin.val_last, lt_irrefl, if_false, hh, ← coe_sum]
  refine congrArg Real.toEReal ?_
  exact rows_sum (fun r => -(Real.exp (sk h) / tot X sk r h * inner X sk G r h)) 16

/-- The gradient of the scaled products of queries and keys. -/
theorem dscore_at (n : Fin 16) (g : Fin 2) (e : Fin 4) (a : Fin 128) (k : Fin 256) :
    val_main_v119 (F := Ideal) x0 x1 x2 (ix5 n g k a e)
      = (band (dscore X sk G (n * 128 + a) (4 * g + e)) n k * (1 / 8) : ℝ) := by
  have h : val_main_v119 (F := Ideal) x0 x1 x2 (ix5 n g k a e)
      = Scalar.select (val_main_v57_1 (F := Ideal) (ix5 n g e a k))
          (val_main_v110 (F := Ideal) x0 x1 x2 (ix5 n g e a ⟨k, by omega⟩)) (0 : EReal)
        * Ideal.ofBits .f32 1040187392#32 := by
    pointwise [val_main_v119, val_main_v118, val_main_v117, val_main_v116, val_main_cst_24, val_main_v111,
      val_main_call1_v0, val_main_call1_cst]
  rw [h, mask_at, dlogit_at hx hk hg, ofBits_eighth]
  have hr : row (dscore X sk G (n * 128 + a) (4 * g + e))
      (-(Real.exp (sk (4 * g + e)) / tot X sk (n * 128 + a) (4 * g + e) * inner X sk G (n * 128 + a) (4 * g + e))) n k
      = band (dscore X sk G (n * 128 + a) (4 * g + e)) n k := if_pos k.isLt
  by_cases hs : Seen n a k
  · rw [if_pos hs, select_one, EReal.coe_mul]
    exact congrArg (fun c : ℝ => (c : EReal) * _) hr
  · rw [if_neg hs, select_zero, band_of_not (fun j hj => dscore_of_not X sk G hj) hs, zero_mul, zero_mul, EReal.coe_zero]

end

end Cert.AttnRef
end
-- ==== Proof.AttnReferenceGradients.lean ====
module

public import proofs.«01_k».proof.Proof.AttnReferenceScores

/-! The attention's plain text, the gradients of queries, keys and values, where the arguments are real numbers. -/

@[expose] public section

noncomputable section

open Idealize.ShloMosaic Idealize.ShloMosaic.TcCoe Idealize.ShloMosaic.Tactic

namespace Cert.AttnRef

open Cert.Attn Cert.Reference2Ideal Cert.Reference2Ideal.Read

/-- Only the rows of a key's own block and of the next one see the key. -/
theorem two_blocks {j : ℕ} (hj : j < 2048) (f : ℕ → ℝ) (hf : ∀ r, ¬ Valid r j → f r = 0) :
    ∑ a : Fin 128, f (j / 128 * 128 + a) + (if 128 + j < 2048 then ∑ a : Fin 128, f ((128 + j) / 128 * 128 + a) else 0)
      = ∑ r ∈ Finset.range 2048, f r := by
  have h0 (n : ℕ) (h : n ≠ j / 128 ∧ n ≠ (128 + j) / 128) : ∑ a : Fin 128, f (n * 128 + a) = 0 :=
    Finset.sum_eq_zero fun a _ => hf _ fun hv => by
      have := a.isLt
      omega
  rw [show (2048 : ℕ) = 16 * 128 from rfl, ← rows_sum f 16,
    Fin.sum_univ_eq_sum_range (fun n => ∑ a : Fin 128, f (n * 128 + a)) 16]
  split
  · refine (Finset.sum_eq_add_of_mem _ _ (Finset.mem_range.mpr (by omega)) (Finset.mem_range.mpr (by omega)) (by omega)
      fun n _ hn => h0 n hn).symm
  · rw [add_zero]
    refine (Finset.sum_eq_single_of_mem _ (Finset.mem_range.mpr (by omega)) fun n hn hne => h0 n ⟨hne, ?_⟩).symm
    have := Finset.mem_range.mp hn
    omega

/-- A key is in the second half of its own block's band, -/
theorem band_here (f : ℕ → ℝ) (j : ℕ) : band f (j / 128) (128 + j % 128) = f j := by
  unfold band
  rw [if_pos (by omega)]
  exact congrArg f (by omega)

/-- and in the first half of the next block's. -/
theorem band_next (f : ℕ → ℝ) (j : ℕ) : band f ((128 + j) / 128) ((128 + j) % 128) = f j := by
  unfold band
  rw [if_pos (by omega)]
  exact congrArg f (by omega)

/-- A sum of products of real numbers over two indices. -/
theorem sum_sum_mul {m n : ℕ} {a b : Fin m → Fin n → EReal} {a' b' : Fin m → Fin n → ℝ}
    (ha : ∀ i j, a i j = (a' i j : EReal)) (hb : ∀ i j, b i j = (b' i j : EReal)) :
    ∑ i, ∑ j, a i j * b i j = ((∑ i, ∑ j, a' i j * b' i j : ℝ) : EReal) := by
  rw [coe_sum]
  exact Finset.sum_congr rfl fun i _ => sum_mul_eq (ha i) (hb i)

section

variable {x0 : FVec Ideal S2048x768 .f32} {x1 : FVec Ideal S1x8 .f32} {x2 : FVec Ideal S2048x512 .f32}
  {X : ℕ → ℕ → ℝ} {sk : ℕ → ℝ} {G : ℕ → ℕ → ℝ}
  (hx : ∀ (r : Fin 2048) (d : Fin 768), x0 (ix2 r d) = (X r d : EReal))
  (hk : ∀ h : Fin 8, x1 (ix2 0 h) = (sk h : EReal))
  (hg : ∀ (r : Fin 2048) (d : Fin 512), x2 (ix2 r d) = (G r d : EReal))

/-- The packed gradient is the queries' in its first 512 columns, then the keys', then the values'. -/
theorem packed_at (r : Fin 2048) (c : Fin 768) : val_main_v148 (F := Ideal) x0 x1 x2 (ix2 r c)
    = (((if h : 640 ≤ c.val ∧ c.val - 640 < 128 then val_main_v131 (F := Ideal) x0 x1 x2
          (ix3 r ⟨(c.val - 640) / 64, by omega⟩ ⟨(c.val - 640) % 64, by omega⟩) else 0)
        + if h : 512 ≤ c.val ∧ c.val - 512 < 128 then val_main_v139 (F := Ideal) x0 x1 x2
          (ix3 r ⟨(c.val - 512) / 64, by omega⟩ ⟨(c.val - 512) % 64, by omega⟩) else 0)
        + if h : c.val < 512 then val_main_v121 (F := Ideal) x0 x1 x2 (ix5 ⟨r / 128, by omega⟩ ⟨r % 128, by omega⟩
          ⟨c / 256, by omega⟩ ⟨c / 64 % 4, by omega⟩ ⟨c % 64, by omega⟩) else 0 : EReal) := by
  pointwise [val_main_v148, val_main_v147, val_main_v146, val_main_v145, val_main_v144, val_main_v143, val_main_v142,
    val_main_v141, val_main_v140, val_main_cst_27, val_main_cst_28, val_main_cst_29]

include hx hk hg

/-- The queries' gradient. -/
theorem dq_at (r : Fin 2048) (c : Fin 512) :
    val_main_v150 (F := Ideal) x0 x1 x2 (ix2 r c) = (dq X sk G r c : EReal) := by
  pointwise [val_main_v150, val_main_v149]
  rw [packed_at, dif_neg (by dsimp only; omega), dif_neg (by dsimp only; omega), dif_pos c.isLt, zero_add, zero_add]
  pointwise [val_main_v121, val_main_v120]
  rw [sum_mul_eq (fun k => dscore_at hx hk hg _ _ _ _ k) (fun k => key_at hx _ k _ _)]
  congr 1
  have hr : r.val / 128 * 128 + r.val % 128 = r := by omega
  have hc : 4 * (c.val / 256) + c.val / 64 % 4 = c.val / 64 := by omega
  have hq : c.val / 64 / 4 = c.val / 256 := by omega
  dsimp only
  simp only [mul_right_comm _ (1 / 8 : ℝ) _, band_mul]
  rw [← Finset.sum_mul, band_sum_eq (n := r.val / 128) (a := r.val % 128) (by omega) (by omega), hr, hc, dq, hq]
  intro j hj
  rw [dscore_of_not X sk G hj, zero_mul]

/-- The keys' gradient over bands. -/
theorem key_band_at (n : Fin 16) (k : Fin 256) (g : Fin 2) (d : Fin 64) :
    val_main_v123 (F := Ideal) x0 x1 x2 (ix4 n k g d)
      = (∑ a : Fin 128, ∑ e : Fin 4, band (dscore X sk G (n * 128 + a) (4 * g + e)) n k * (1 / 8)
          * X (n * 128 + a) (64 * (4 * g + e) + d) : ℝ) := by
  rw [← sum_sum_mul (fun a e => dscore_at hx hk hg n g e a k) (fun a e => query_at hx n a g e d)]
  pointwise [val_main_v123, val_main_v122]

/-- The values' gradient over bands. -/
theorem value_band_at (n : Fin 16) (k : Fin 256) (g : Fin 2) (d : Fin 64) :
    val_main_v97 (F := Ideal) x0 x1 x2 (ix4 n k g d)
      = (∑ e : Fin 4, ∑ a : Fin 128, G (n * 128 + a) (64 * (4 * g + e) + d)
          * band (prob X sk (n * 128 + a) (4 * g + e)) n k : ℝ) := by
  rw [← sum_sum_mul (fun e a => grad_at hg n g d e a) (fun e a => prob_at hx hk n g e a k)]
  pointwise [val_main_v97, val_main_v96]

/-- The keys' gradient. -/
theorem dkey_at (r : Fin 2048) (g : Fin 2) (d : Fin 64) : val_main_v139 (F := Ideal) x0 x1 x2 (ix3 r g d)
    = (((∑ e : Fin 4, ∑ r' ∈ Finset.range 2048, dscore X sk G r' (4 * g + e) r * X r' (64 * (4 * g + e) + d)) * (1 / 8)
        : ℝ) : EReal) := by
  have h2 := two_blocks r.isLt (fun r' => ∑ e : Fin 4, dscore X sk G r' (4 * g + e) r * X r' (64 * (4 * g + e) + d))
    fun r' hr => Finset.sum_eq_zero fun e _ => by rw [dscore_of_not X sk G hr, zero_mul]
  have hl : val_main_v139 (F := Ideal) x0 x1 x2 (ix3 r g d)
      = val_main_v123 (F := Ideal) x0 x1 x2 (ix4 ⟨r / 128, by omega⟩ ⟨128 + r % 128, by omega⟩ g d)
        + if h : 128 + r.val < 2048 then
          val_main_v123 (F := Ideal) x0 x1 x2 (ix4 ⟨(128 + r) / 128, by omega⟩ ⟨(128 + r) % 128, by omega⟩ g d) else 0 := by
    pointwise [val_main_v139, val_main_v138, val_main_v136, val_main_v135, val_main_v134, val_main_v133, val_main_v132,
      val_main_cst_26]
  have hb (n : Fin 16) (k : Fin 256) (hf : ∀ f : ℕ → ℝ, band f n k = f r) : val_main_v123 (F := Ideal) x0 x1 x2 (ix4 n k g d)
      = (((∑ a : Fin 128, ∑ e : Fin 4, dscore X sk G (n * 128 + a) (4 * g + e) r * X (n * 128 + a) (64 * (4 * g + e) + d))
          * (1 / 8) : ℝ) : EReal) := by
    rw [key_band_at hx hk hg]
    simp only [hf, Finset.sum_mul, mul_right_comm _ (1 / 8 : ℝ) _]
  rw [Finset.sum_comm, ← h2, hl, hb ⟨r / 128, by omega⟩ ⟨128 + r % 128, by omega⟩ fun f => band_here f r]
  by_cases h : 128 + r.val < 2048
  · rw [dif_pos h, if_pos h, hb ⟨(128 + r) / 128, by omega⟩ ⟨(128 + r) % 128, by omega⟩ fun f => band_next f r, ← EReal.coe_add, ← add_mul]
  · rw [dif_neg h, if_neg h, add_zero, add_zero]

/-- The values' gradient. -/
theorem dvalue_at (r : Fin 2048) (g : Fin 2) (d : Fin 64) : val_main_v131 (F := Ideal) x0 x1 x2 (ix3 r g d)
    = ((∑ e : Fin 4, ∑ r' ∈ Finset.range 2048, prob X sk r' (4 * g + e) r * G r' (64 * (4 * g + e) + d)
        : ℝ) : EReal) := by
  have h2 := two_blocks r.isLt (fun r' => ∑ e : Fin 4, prob X sk r' (4 * g + e) r * G r' (64 * (4 * g + e) + d))
    fun r' hr => Finset.sum_eq_zero fun e _ => by rw [prob_of_not X sk hr, zero_mul]
  have hl : val_main_v131 (F := Ideal) x0 x1 x2 (ix3 r g d)
      = val_main_v97 (F := Ideal) x0 x1 x2 (ix4 ⟨r / 128, by omega⟩ ⟨128 + r % 128, by omega⟩ g d)
        + if h : 128 + r.val < 2048 then
          val_main_v97 (F := Ideal) x0 x1 x2 (ix4 ⟨(128 + r) / 128, by omega⟩ ⟨(128 + r) % 128, by omega⟩ g d) else 0 := by
    pointwise [val_main_v131, val_main_v130, val_main_v128, val_main_v127, val_main_v126, val_main_v125, val_main_v124,
      val_main_cst_25]
  have hb (n : Fin 16) (k : Fin 256) (hf : ∀ f : ℕ → ℝ, band f n k = f r) : val_main_v97 (F := Ideal) x0 x1 x2 (ix4 n k g d)
      = ((∑ a : Fin 128, ∑ e : Fin 4, prob X sk (n * 128 + a) (4 * g + e) r * G (n * 128 + a) (64 * (4 * g + e) + d)
          : ℝ) : EReal) := by
    rw [value_band_at hx hk hg, Finset.sum_comm]
    simp only [hf, mul_comm]
  rw [Finset.sum_comm, ← h2, hl, hb ⟨r / 128, by omega⟩ ⟨128 + r % 128, by omega⟩ fun f => band_here f r]
  by_cases h : 128 + r.val < 2048
  · rw [dif_pos h, if_pos h, hb ⟨(128 + r) / 128, by omega⟩ ⟨(128 + r) % 128, by omega⟩ fun f => band_next f r, ← EReal.coe_add]
  · rw [dif_neg h, if_neg h, add_zero, add_zero]

/-- The gradient of the keys and of the values, side by side. -/
theorem dkv_at (r : Fin 2048) (c : Fin 256) :
    val_main_v151 (F := Ideal) x0 x1 x2 (ix2 r c) = (dkv X sk G 2048 r c : EReal) := by
  pointwise [val_main_v151]
  rw [packed_at, dif_neg (c := _ < 512) (by dsimp only; omega), add_zero]
  unfold dkv
  by_cases h : c.val < 128
  · rw [dif_neg (by dsimp only; omega), dif_pos (by dsimp only; omega), zero_add, dkey_at hx hk hg, if_pos h, dk]
    dsimp only
    rw [show 512 + c.val - 512 = c.val by omega]
  · rw [dif_pos (by dsimp only; omega), dif_neg (by dsimp only; omega), add_zero, dvalue_at hx hk hg, if_neg h, dv]
    dsimp only
    rw [show 512 + c.val - 640 = c.val - 128 by omega]

end

end Cert.AttnRef
end
-- ==== Proof.AttnValue.lean ====
module

public import proofs.«01_k».proof.Proof.AttnFinite
public import proofs.«01_k».proof.Proof.AttnKernel
public import proofs.«01_k».proof.Proof.AttnReferenceGradients
public import proofs.«01_k».proof.Proof.ReferenceFrames
public import Idealize.ShloMosaic.Lib.Claim

/-! The attention's value: on finite arguments the kernel's two launches leave the output, and the gradients of the
queries, of the keys and values, and of the sinks, that the plain text has. -/

@[expose] public section

set_option maxRecDepth 16384

noncomputable section

open Idealize.ShloMosaic Idealize.ShloMosaic.TcCoe Idealize.ShloMosaic.Tactic Idealize.SL.Sem

namespace Cert.AttnValue

open Cert.Attn Cert.AttnRef

/-- An array of real numbers by rows and columns, zero outside. -/
def table {a b : ℕ} (x : Fin a → Fin b → EReal) (r c : ℕ) : ℝ :=
  if h : r < a ∧ c < b then (x ⟨r, h.1⟩ ⟨c, h.2⟩).toReal else 0

theorem table_eq {a b : ℕ} (x : Fin a → Fin b → EReal) (r : Fin a) (c : Fin b) :
    table x r c = (x r c).toReal := dif_pos ⟨r.isLt, c.isLt⟩

open Cert.Reference2Ideal.Read Cert.Reference2Ideal in
/-- The reference's four result arrays are the functions of `AttnSpec`. -/
theorem reference_eq {x0 : FVec Ideal S2048x768 .f32} {x1 : FVec Ideal S1x8 .f32} {x2 : FVec Ideal S2048x512 .f32}
    {X : ℕ → ℕ → ℝ} {sk : ℕ → ℝ} {G : ℕ → ℕ → ℝ}
    (hx : ∀ (r : Fin 2048) (d : Fin 768), x0 (ix2 r d) = (X r d : EReal))
    (hk : ∀ h : Fin 8, x1 (ix2 0 h) = (sk h : EReal))
    (hg : ∀ (r : Fin 2048) (d : Fin 512), x2 (ix2 r d) = (G r d : EReal)) :
    val_main_v150 (F := Ideal) x0 x1 x2 = dqArr X sk G ∧ val_main_v151 (F := Ideal) x0 x1 x2 = dkvArr X sk G 16
      ∧ val_main_v153 (F := Ideal) x0 x1 x2 = dsinkArr X sk G 16 ∧ val_main_v154 (F := Ideal) x0 x1 = outArr X sk := by
  refine ⟨?_, ?_, ?_, ?_⟩ <;> funext j <;> idx_vars j
  · exact dq_at hx hk hg _ _
  · exact dkv_at hx hk hg _ _
  · exact dsink_at hx hk hg _ _
  · exact out_at hx hk _ _

/-- The frame of the kernel, where the precondition is assumed, -/
theorem frame_kernel : Cert.quiescent_Kernel2Ideal_pre_finite2 (hKernel2Ideal := Cert.Kernel2Ideal.Gen.facts) :=
  fun m g _ => Cert.AttnFrame.frame (F := Ideal) m g

/-- and of the reference. -/
theorem frame_reference : Cert.quiescent_Reference2Ideal_pre_finite2 :=
  fun m g _ => Cert.ReferenceFrames.frame_reference2 m g trivial

open Cert.Reference2Ideal.Read in
/-- On finite arguments the kernel's four results are the reference's. -/
theorem algebraic : Cert.algebraic_Kernel2Ideal_Reference2Ideal_pre_finite2
    (hKernel2Ideal := Cert.Kernel2Ideal.Gen.facts) := by
  intro m g m' g' hpre hagree
  have hreal := fun c => Cert.AttnFinite.real _ _ _ (hpre c)
  let X := fun c => table (fun (r : Fin 2048) (d : Fin 768) => aX m c (ix2 r d))
  let sk := fun c => table (fun (r : Fin 1) (h : Fin 8) => aS m c (ix2 r h)) 0
  let G := fun c => table (fun (r : Fin 2048) (d : Fin 512) => aG m c (ix2 r d))
  have hx (c) (r : Fin 2048) (d : Fin 768) : aX m c (ix2 r d) = (X c r d : EReal) := by
    refine Eq.trans ?_ (congrArg Real.toEReal (table_eq _ r d).symm)
    exact (hreal c).1 r d
  have hk (c) (h : Fin 8) : aS m c (ix2 0 h) = (sk c h : EReal) :=
    ((hreal c).2.1 h).trans
      (congrArg Real.toEReal (table_eq (fun (r : Fin 1) (h : Fin 8) => aS m c (ix2 r h)) 0 h).symm)
  have hg (c) (r : Fin 2048) (d : Fin 512) : aG m c (ix2 r d) = (G c r d : EReal) := by
    refine Eq.trans ?_ (congrArg Real.toEReal (table_eq _ r d).symm)
    exact (hreal c).2.2 r d
  refine ⟨fun c => dqArr (X c) (sk c) (G c), fun c => dkvArr (X c) (sk c) (G c) 16,
    fun c => dsinkArr (X c) (sk c) (G c) 16, fun c => outArr (X c) (sk c), ?_, ?_⟩
  · refine θ_run_mono (Cert.AttnFrame.run_all m g) ?_
    intro r hr c
    refine ⟨(hr.1 c _ (Cert.AttnFrame.mem_uc _ (by decide))).trans (dq_eq m g c _ _ _ (hx c) (hk c) (hg c)),
      (hr.1 c _ (Cert.AttnFrame.mem_uc _ (by decide))).trans (dkv_eq m g c _ _ _ (hx c) (hk c) (hg c)),
      (hr.1 c _ (Cert.AttnFrame.mem_uc _ (by decide))).trans (ds_eq m g c _ _ _ (hx c) (hk c) (hg c)),
      (hr.1 c _ (Cert.AttnFrame.mem_uc _ (by decide))).trans (out_eq m g c _ _ (hx c) (hk c)), ?_, ?_, ?_⟩
    · exact (hr.1 c _ (Cert.AttnFrame.mem_uc Cert.Kernel2Ideal.main_arg0 (by decide))).trans
        (Cert.AttnFrame.W3_args m g c Cert.Kernel2Ideal.main_arg0 (by decide))
    · exact (hr.1 c _ (Cert.AttnFrame.mem_uc Cert.Kernel2Ideal.main_arg1 (by decide))).trans
        (Cert.AttnFrame.W3_args m g c Cert.Kernel2Ideal.main_arg1 (by decide))
    · exact (hr.1 c _ (Cert.AttnFrame.mem_uc Cert.Kernel2Ideal.main_arg2 (by decide))).trans
        (Cert.AttnFrame.W3_args m g c Cert.Kernel2Ideal.main_arg2 (by decide))
  · refine θ_run_mono (Cert.Reference2Ideal.Value.run m' g') ?_
    intro r hr c
    obtain ⟨h150, h151, h153, h154, hargs⟩ := hr c
    obtain ⟨e0, e1, e2⟩ := hagree c
    obtain ⟨q, kv, s, o⟩ := reference_eq (hx c) (hk c) (hg c)
    refine ⟨h150.trans ?_, h151.trans ?_, h153.trans ?_, h154.trans ?_, hargs⟩
    · refine (val_main_v150_eq _).trans ?_
      refine (congr (congr (congrArg (val_main_v150 (F := Ideal)) e0) e1) e2).trans ?_
      exact q
    · refine (val_main_v151_eq _).trans ?_
      refine (congr (congr (congrArg (val_main_v151 (F := Ideal)) e0) e1) e2).trans ?_
      exact kv
    · refine (val_main_v153_eq _).trans ?_
      refine (congr (congr (congrArg (val_main_v153 (F := Ideal)) e0) e1) e2).trans ?_
      exact s
    · refine (val_main_v154_eq _).trans ?_
      refine (congr (congrArg (val_main_v154 (F := Ideal)) e0) e1).trans ?_
      exact o

end Cert.AttnValue
end
-- ==== Proof.FfnSpec.lean ====
module

public import proofs.«01_k».proof.Proof.InpSpec
public import proofs.«01_k».proof.Proof.MixSpec

/-! The gated feed-forward after its norm, row by row, and its gradients: a product brings the normalised row to 2816
gates and as many factors side by side, a gate times its sigmoid weighs its factor, and the second product takes the
2816 weighed factors. -/

@[expose] public section

noncomputable section

open Idealize.ShloMosaic Idealize.ShloMosaic.TcCoe

namespace Cert.Ffn

open Cert.Mix (row gate)

/-- The normalised row, -/
def norm (x g : Fin 1024 → EReal) (q : Fin 1024) : EReal := x q * RmsNorm.rinv x * g q

/-- a column's product with a row, -/
def proj (h w : Fin 1024 → EReal) : EReal := ∑ q, h q * w q

/-- the weighed factor, of a gate and a factor, -/
def weighed (u v : EReal) : EReal := u * gate u * v

/-- and with the cotangent `t` of the weighed factor the gradients of the gate and of the factor. -/
def dgate (t u v : EReal) : EReal := t * v * gate u * (1 + u * (1 - gate u))
def dfactor (t u : EReal) : EReal := t * u * gate u

/-- Two rows of 2816 entries side by side. -/
def both (a b : Fin 2816 → EReal) (k : Fin 5632) : EReal :=
  if h : k.val < 2816 then a ⟨k.val, h⟩ else b ⟨k.val - 2816, by omega⟩

/-- The column of a gate and of a factor. -/
abbrev lo (j : Fin 2816) : Fin 5632 := ⟨j.val, by omega⟩
abbrev hi (j : Fin 2816) : Fin 5632 := ⟨2816 + j.val, by omega⟩

section Arrays

variable (x : FVec Ideal ⟨2, ![2048, 1024]⟩ .f32) (g : FVec Ideal ⟨2, ![1, 1024]⟩ .f32)
  (wf : FVec Ideal ⟨2, ![1024, 5632]⟩ .f32) (wd : FVec Ideal ⟨2, ![2816, 1024]⟩ .f32)
  (d : FVec Ideal ⟨2, ![2048, 1024]⟩ .f32)

/-- The same for every row of the arguments: the normalised row, -/
def hh (i : Fin 2048) : Fin 1024 → EReal := norm (row x i) (row g 0)

/-- the gates and factors, -/
def pp (i : Fin 2048) (k : Fin 5632) : EReal := proj (hh x g i) (fun q => wf (ix2 q k))

/-- the weighed factors, and their cotangent, -/
def aa (i : Fin 2048) (j : Fin 2816) : EReal := weighed (pp x g wf i (lo j)) (pp x g wf i (hi j))
def tt (i : Fin 2048) (j : Fin 2816) : EReal := proj (row d i) (row wd j)

/-- the gradients of the gates and of the factors, -/
def gg (i : Fin 2048) (j : Fin 2816) : EReal := dgate (tt wd d i j) (pp x g wf i (lo j)) (pp x g wf i (hi j))
def uu (i : Fin 2048) (j : Fin 2816) : EReal := dfactor (tt wd d i j) (pp x g wf i (lo j))
def dp (i : Fin 2048) : Fin 5632 → EReal := both (gg x g wf wd d i) (uu x g wf wd d i)

/-- of the normalised row, of the row, and of the gain. -/
def dn (i : Fin 2048) (q : Fin 1024) : EReal := ∑ k, dp x g wf wd d i k * wf (ix2 q k)
def dx (i : Fin 2048) : Fin 1024 → EReal := Inp.dx (row x i) (row g 0) (dn x g wf wd d i) (row d i)
def dg : Fin 1024 → EReal := Inp.dgain (row x) (dn x g wf wd d)

end Arrays

/-- A sum over the 5632 columns, a quarter after the other as the kernel takes them: the first gates, the first factors,
    the other gates, the other factors. -/
theorem sum_parts (f : Fin 5632 → EReal) : ∑ k, f k
    = (((∑ j : Fin 1408, f ⟨j.val, by omega⟩) + ∑ j : Fin 1408, f ⟨2816 + j.val, by omega⟩)
      + ∑ j : Fin 1408, f ⟨1408 + j.val, by omega⟩) + ∑ j : Fin 1408, f ⟨4224 + j.val, by omega⟩ := by
  refine (Fin.sum_univ_add (a := 4224) (b := 1408) f).trans (congrArg₂ (· + ·) ?_ rfl)
  refine (Fin.sum_univ_add (a := 2816) (b := 1408) _).trans ?_
  rw [add_right_comm]
  exact congrArg₂ (· + ·) (Fin.sum_univ_add (a := 1408) (b := 1408) _) rfl

end Cert.Ffn
end
-- ==== Proof.FfnPayload.lean ====
module

public import proofs.«01_k».proof.Proof.Gen.Kernel6Ideal.Skeleton
public import proofs.«01_k».proof.Proof.FfnSpec
public import Idealize.ShloMosaic.Lib.Pipeline.ReadBack
public import Idealize.ShloMosaic.Lib.Pipeline.ValueKit

/-! What the feed-forward calls' bodies compute from their blocks, entry by entry. -/

@[expose] public section

set_option maxRecDepth 16384

noncomputable section

open Idealize.ShloMosaic Idealize.ShloMosaic.TcCoe

namespace Cert.Ffn

open Cert.Mix (row gate)
open Cert.Kernel6Ideal Cert.Kernel6Ideal.Gen

/-- A column of one of the four matrices of the first weights. -/
def column (w : Vec Ideal S1x1024x1408 .bf16) (j : Fin 1408) (q : Fin 1024) : EReal := w (ix3 0 q j)

section Forward

variable (x : Vec Ideal S512x1024 .f32) (h : Vec Ideal S512x1024 .bf16) (g : Vec Ideal S1x1024 .f32)
  (wg wu : Vec Ideal S1x1024x1408 .bf16)

/-- The first call's body: the normalised row, -/
theorem pay2_at (p : Fin 512) (q : Fin 1024) : k0_pay2 x g (ix2 p q) = norm (row x p) (row g 0) q := by
  pointwise [k0_pay2, norm, RmsNorm.rinv, RmsNorm.meanSq, row]

/-- the gates, the factors, -/
theorem pay3_at (p : Fin 512) (j : Fin 1408) :
    k0_pay3 x g wg (ix2 p j) = proj (norm (row x p) (row g 0)) (column wg j) := by
  pointwise [k0_pay3, pay2_at, proj, column]

theorem pay4_at (p : Fin 512) (j : Fin 1408) :
    k0_pay4 x g wu (ix2 p j) = proj (norm (row x p) (row g 0)) (column wu j) := by
  pointwise [k0_pay4, pay2_at, proj, column]

theorem pay5_at (p : Fin 512) (j : Fin 1408) :
    k0_pay5 x g wg (ix2 p j) = proj (norm (row x p) (row g 0)) (column wg j) := by
  pointwise [k0_pay5, pay3_at]

theorem pay6_at (p : Fin 512) (j : Fin 1408) :
    k0_pay6 x g wu (ix2 p j) = proj (norm (row x p) (row g 0)) (column wu j) := by
  pointwise [k0_pay6, pay4_at]

/-- and the weighed factors. -/
theorem pay1_at (p : Fin 512) (j : Fin 1408) :
    k0_pay1 (k0_pay3 x g wg) (k0_pay4 x g wu) (k0_pay7 x g wg) (k0_pay8 (F := Ideal)) (ix2 p j)
      = weighed (proj (norm (row x p) (row g 0)) (column wg j)) (proj (norm (row x p) (row g 0)) (column wu j)) := by
  pointwise [k0_pay1, k0_pay7, k0_pay8, pay3_at, pay4_at, weighed, gate]
  rw [zero_sub]

/-- The second's: the same from the normalised row. -/
theorem spay2_at (p : Fin 512) (j : Fin 1408) : k1_pay2 h wg (ix2 p j) = proj (row h p) (column wg j) := by
  pointwise [k1_pay2, k1_pay1, proj, column, row]

theorem spay3_at (p : Fin 512) (j : Fin 1408) : k1_pay3 h wu (ix2 p j) = proj (row h p) (column wu j) := by
  pointwise [k1_pay3, k1_pay1, proj, column, row]

theorem spay4_at (p : Fin 512) (j : Fin 1408) : k1_pay4 h wg (ix2 p j) = proj (row h p) (column wg j) := by
  pointwise [k1_pay4, spay2_at]

theorem spay5_at (p : Fin 512) (j : Fin 1408) : k1_pay5 h wu (ix2 p j) = proj (row h p) (column wu j) := by
  pointwise [k1_pay5, spay3_at]

theorem spay6_at (p : Fin 512) (j : Fin 1408) :
    k1_pay6 h wg wu (ix2 p j) = weighed (proj (row h p) (column wg j)) (proj (row h p) (column wu j)) := by
  pointwise [k1_pay6, spay2_at, spay3_at, weighed, gate]
  rw [zero_sub]

end Forward

section Backward

variable (d : Vec Ideal S256x1024 .bf16) (wd : Vec Ideal S1408x1024 .bf16) (u v : Vec Ideal S256x1408 .bf16)
  (t : FVec Ideal S256x1408 .f32)

/-- The backward body's cotangent of the weighed factors, -/
theorem bpay5_at (p : Fin 256) (j : Fin 1408) : k2_pay5 d wd (ix2 p j) = proj (row d p) (row wd j) := by
  pointwise [k2_pay5, k2_pay3, proj, row]

theorem bpay6_at (p : Fin 256) (j : Fin 1408) : k2_pay6 d wd (ix2 p j) = proj (row d p) (row wd j) := by
  pointwise [k2_pay6, k2_pay3, proj, row]

/-- the gradients of the factors and of the gates, -/
theorem bpay8_at (p : Fin 256) (j : Fin 1408) : k2_pay8 u (ix2 p j) = gate (u (ix2 p j)) := by
  pointwise [k2_pay8, k2_pay7, gate]
  rw [zero_sub]

theorem bpay13_at (p : Fin 256) (j : Fin 1408) : k2_pay13 u (ix2 p j) = gate (u (ix2 p j)) := by
  pointwise [k2_pay13, k2_pay12, gate]
  rw [zero_sub]

theorem bpay9_at (p : Fin 256) (j : Fin 1408) :
    k2_pay9 d wd u (ix2 p j) = dfactor (proj (row d p) (row wd j)) (u (ix2 p j)) := by
  pointwise [k2_pay9, k2_pay7, bpay5_at, bpay8_at, dfactor]

theorem bpay14_at (p : Fin 256) (j : Fin 1408) : k2_pay14 t u (ix2 p j) = dfactor (t (ix2 p j)) (u (ix2 p j)) := by
  pointwise [k2_pay14, k2_pay12, bpay13_at, dfactor]

theorem bpay10_at (p : Fin 256) (j : Fin 1408) :
    k2_pay10 d wd u v (ix2 p j) = dgate (proj (row d p) (row wd j)) (u (ix2 p j)) (v (ix2 p j)) := by
  pointwise [k2_pay10, k2_pay7, bpay5_at, bpay8_at, dgate]

theorem bpay15_at (p : Fin 256) (j : Fin 1408) :
    k2_pay15 t u v (ix2 p j) = dgate (t (ix2 p j)) (u (ix2 p j)) (v (ix2 p j)) := by
  pointwise [k2_pay15, k2_pay12, bpay13_at, dgate]

/-- of the normalised row, -/
theorem bpay16_at (a0 b0 a1 b1 : FVec Ideal S256x1408 .bf16) (w0 w1 w2 w3 : Vec Ideal S1x1024x1408 .bf16)
    (p : Fin 256) (q : Fin 1024) :
    k2_pay16 (k2_pay11 (k2_pay4 (F := Ideal)) b0 a0 w0 w2) b1 a1 w1 w3 (ix2 p q)
      = (((∑ j : Fin 1408, a0 (ix2 p j) * column w0 j q) + ∑ j : Fin 1408, b0 (ix2 p j) * column w2 j q)
        + ∑ j : Fin 1408, a1 (ix2 p j) * column w1 j q) + ∑ j : Fin 1408, b1 (ix2 p j) * column w3 j q := by
  pointwise [k2_pay16, k2_pay11, k2_pay4, column]

variable (x e : Vec Ideal S256x1024 .f32) (g : Vec Ideal S1x1024 .f32)

theorem bpay17_at (p : Fin 256) (q : Fin 1) : k2_pay17 x (ix2 p q) = RmsNorm.rinv (row x p) := by
  pointwise [k2_pay17, RmsNorm.rinv, RmsNorm.meanSq, row]

theorem bpay18_at (p : Fin 256) (q : Fin 1024) : k2_pay18 x (ix2 p q) = row x p q * RmsNorm.rinv (row x p) := by
  pointwise [k2_pay18, bpay17_at, row]

/-- of the row, -/
theorem bpay19_at (a : FVec Ideal S256x1024 .f32) (b1 a1 : FVec Ideal S256x1408 .bf16)
    (w1 w3 : Vec Ideal S1x1024x1408 .bf16) (p : Fin 256) (q : Fin 1024) :
    k2_pay19 a b1 a1 w1 w3 x g e (ix2 p q)
      = Inp.dx (row x p) (row g 0) (row (k2_pay16 a b1 a1 w1 w3) p) (row e p) q := by
  pointwise [k2_pay19, bpay17_at, bpay18_at, Inp.dx, RmsNorm.gradK, row]

theorem bpay20_at (a : FVec Ideal S256x1024 .f32) (b1 a1 : FVec Ideal S256x1408 .bf16)
    (w1 w3 : Vec Ideal S1x1024x1408 .bf16) (p : Fin 256) (q : Fin 1024) :
    k2_pay20 a b1 a1 w1 w3 x g e (ix2 p q)
      = Inp.dx (row x p) (row g 0) (row (k2_pay16 a b1 a1 w1 w3) p) (row e p) q := by
  pointwise [k2_pay20, bpay19_at]

/-- and of the gain. -/
theorem bpay2_at (y : FVec Ideal S256x1024 .f32) (acc : Vec Ideal S1x1024 .f32) (j : S1x1024.Idx) :
    k2_pay2 y (k2_pay18 x) acc j
      = acc j + ∑ p : Fin 256, row y p (j 1) * (row x p (j 1) * RmsNorm.rinv (row x p)) := by
  pointwise [k2_pay2, bpay18_at, row]

theorem bpay1_at (j : S1x1024.Idx) : k2_pay1 (F := Ideal) j = 0 := by pointwise [k2_pay1]

end Backward

end Cert.Ffn
end
-- ==== Proof.FfnStores.lean ====
module

public import proofs.«01_k».proof.Proof.FfnPayload

/-! How the kernel lays its columns: the first weights as four matrices of 1408 columns, the gates and factors as four
blocks of 1408 columns, the two in the middle the other way round, and a call's stores side by side. -/

@[expose] public section

set_option maxRecDepth 16384

noncomputable section

open Idealize.ShloMosaic Idealize.ShloMosaic.TcCoe Idealize.ShloMosaic.Tactic

namespace Cert.Ffn

open Cert.Kernel6Ideal Cert.Kernel6Ideal.Gen

/-- The whole weights from the four matrices. -/
def full (w : FVec Ideal S4x1024x1408 .bf16) (q : Fin 1024) (k : Fin 5632) : EReal :=
  w (ix3 ⟨k.val / 1408, by omega⟩ q ⟨k.val % 1408, by omega⟩)

theorem full_of (w : FVec Ideal S4x1024x1408 .bf16) (s : Fin 4) (q : Fin 1024) (j : Fin 1408) (k : Fin 5632)
    (h : k.val = s.val * 1408 + j.val) : full w q k = w (ix3 s q j) := by
  unfold full
  exact congrArg₂ (fun s j => w (ix3 s q j)) (Fin.ext (by dsimp; omega)) (Fin.ext (by dsimp; omega))

/-- Where a column is laid; what is laid there. -/
def src (k : Fin 5632) : Fin 5632 :=
  if k.val < 1408 then k else if h : k.val < 2816 then ⟨k.val + 1408, by omega⟩
  else if k.val < 4224 then ⟨k.val - 1408, by omega⟩ else k

theorem src_val (k : Fin 5632) : (src k).val = if k.val < 1408 then k.val else if k.val < 2816 then k.val + 1408
    else if k.val < 4224 then k.val - 1408 else k.val := by
  unfold src
  split_ifs <;> rfl

theorem src_src (k : Fin 5632) : src (src k) = k := by
  refine Fin.ext ?_
  rw [src_val, src_val]
  split_ifs <;> omega

theorem src_0 (j : Fin 1408) : src ⟨j.val, by omega⟩ = ⟨j.val, by omega⟩ := if_pos j.isLt
theorem src_1 (j : Fin 1408) : src ⟨1408 + j.val, by omega⟩ = ⟨2816 + j.val, by omega⟩ := by
  unfold src
  rw [if_neg (by dsimp; omega), dif_pos (by dsimp; omega)]
  exact Fin.ext (by dsimp; omega)
theorem src_2 (j : Fin 1408) : src ⟨2816 + j.val, by omega⟩ = ⟨1408 + j.val, by omega⟩ := by
  unfold src
  rw [if_neg (by dsimp; omega), dif_neg (by dsimp; omega), if_pos (by dsimp; omega)]
  exact Fin.ext (by dsimp; omega)
theorem src_3 (j : Fin 1408) : src ⟨4224 + j.val, by omega⟩ = ⟨4224 + j.val, by omega⟩ := by
  unfold src
  rw [if_neg (by dsimp; omega), dif_neg (by dsimp; omega), if_neg (by dsimp; omega)]

/-- The gates and factors of a normalised row as they are laid, and the weighed factors. -/
def laid (h : Fin 1024 → EReal) (w : FVec Ideal S4x1024x1408 .bf16) (k : Fin 5632) : EReal :=
  proj h (fun q => full w q (src k))
def acts (h : Fin 1024 → EReal) (w : FVec Ideal S4x1024x1408 .bf16) (j : Fin 2816) : EReal :=
  weighed (proj h (fun q => full w q (lo j))) (proj h (fun q => full w q (hi j)))

/-- Two blocks side by side, -/
def pair (a b : FVec Ideal S512x1408 .bf16) : Vec Ideal S512x2816 .bf16 := fun j =>
  if h : (j 1).val < 1408 then a (ix2 (j 0) ⟨(j 1).val, h⟩)
  else b (ix2 (j 0) ⟨(j 1).val - 1408, by have : (j 1).val < 2816 := (j 1).isLt; omega⟩)

theorem pair_pos (a b : FVec Ideal S512x1408 .bf16) (i : Fin 512) (k : Fin 2816) (h : k.val < 1408) :
    pair a b (ix2 i k) = a (ix2 i ⟨k.val, h⟩) := dif_pos h

theorem pair_neg (a b : FVec Ideal S512x1408 .bf16) (i : Fin 512) (k : Fin 2816) (h : 1408 ≤ k.val) :
    pair a b (ix2 i k) = b (ix2 i ⟨k.val - 1408, by omega⟩) := dif_neg (not_lt.mpr h)

/-- as two stores leave them. -/
theorem pair_at (a b : FVec Ideal S512x1408 .bf16) (j : S512x2816.Idx) :
    View.canon (Val := Elt Ideal) (s := S512x2816) (e := .bf16) [⟨Rect.unit ![0, 1408] ![512, 1408] inb_S512x2816_S512x1408_0_1408, b⟩,
        ⟨Rect.unit ![0, 0] ![512, 1408] inb_S512x2816_S512x1408_0_0, a⟩] j = pair a b j := by
  refine View.canon_append_of_piecesOf (pair a b) [] [_, _] ?_ j ?_
  · refine ⟨fun x => ?_, fun x => ?_, trivial⟩ <;> idx_vars x
    · rw [show Rect.emb (Rect.unit (s := S512x2816) ![0, 1408] ![512, 1408] inb_S512x2816_S512x1408_0_1408) (ix2 x0 x1)
        = (ix2 x0 ⟨1408 + x1.val, by omega⟩ : S512x2816.Idx) by blk_ext]
      refine Eq.trans ?_ (pair_neg a b x0 _ (Nat.le_add_right 1408 x1.val)).symm
      exact congrArg (fun k => b (ix2 x0 k)) (Fin.ext (Nat.add_sub_cancel_left 1408 x1.val).symm)
    · rw [show Rect.emb (Rect.unit (s := S512x2816) ![0, 0] ![512, 1408] inb_S512x2816_S512x1408_0_0) (ix2 x0 x1)
        = (ix2 x0 ⟨x1.val, by omega⟩ : S512x2816.Idx) by blk_ext]
      exact (pair_pos a b x0 ⟨x1.val, by omega⟩ x1.isLt).symm
  · have h0 : (j 0).val < 512 := (j 0).isLt
    have h1 : (j 1).val < 2816 := (j 1).isLt
    by_cases h : 1408 ≤ (j 1).val
    · exact ⟨_, .head _, (Rect.mem_set_unit (inb := inb_S512x2816_S512x1408_0_1408)).mpr fun k =>
        by fin_cases k <;> (dsimp; omega)⟩
    · exact ⟨_, .tail _ (.head _), (Rect.mem_set_unit (inb := inb_S512x2816_S512x1408_0_0)).mpr fun k =>
        by fin_cases k <;> (dsimp; omega)⟩

/-- Four stores side by side leave `f` where each leaves its part of it. -/
theorem four_at (f : Fin 256 → Fin 5632 → EReal) (a b e d : FVec Ideal S256x1408 .bf16)
    (ha : ∀ i (j : Fin 1408), a (ix2 i j) = f i ⟨j.val, by omega⟩)
    (hb : ∀ i (j : Fin 1408), b (ix2 i j) = f i ⟨1408 + j.val, by omega⟩)
    (he : ∀ i (j : Fin 1408), e (ix2 i j) = f i ⟨2816 + j.val, by omega⟩)
    (hd : ∀ i (j : Fin 1408), d (ix2 i j) = f i ⟨4224 + j.val, by omega⟩) (j : S256x5632.Idx) :
    View.canon (Val := Elt Ideal) (s := S256x5632) (e := .bf16)
      [⟨Rect.unit ![0, 4224] ![256, 1408] inb_S256x5632_S256x1408_0_4224, d⟩,
        ⟨Rect.unit ![0, 1408] ![256, 1408] inb_S256x5632_S256x1408_0_1408, b⟩,
        ⟨Rect.unit ![0, 2816] ![256, 1408] inb_S256x5632_S256x1408_0_2816, e⟩,
        ⟨Rect.unit ![0, 0] ![256, 1408] inb_S256x5632_S256x1408_0_0, a⟩] j = f (j 0) (j 1) := by
  refine View.canon_append_of_piecesOf (show Vec Ideal S256x5632 .bf16 from fun j => f (j 0) (j 1)) [] [_, _, _, _] ?_ j ?_
  · refine ⟨fun x => ?_, fun x => ?_, fun x => ?_, fun x => ?_, trivial⟩ <;> idx_vars x
    · rw [show Rect.emb (Rect.unit (s := S256x5632) ![0, 4224] ![256, 1408] inb_S256x5632_S256x1408_0_4224) (ix2 x0 x1)
        = (ix2 x0 ⟨4224 + x1.val, by omega⟩ : S256x5632.Idx) by blk_ext]
      exact hd x0 x1
    · rw [show Rect.emb (Rect.unit (s := S256x5632) ![0, 1408] ![256, 1408] inb_S256x5632_S256x1408_0_1408) (ix2 x0 x1)
        = (ix2 x0 ⟨1408 + x1.val, by omega⟩ : S256x5632.Idx) by blk_ext]
      exact hb x0 x1
    · rw [show Rect.emb (Rect.unit (s := S256x5632) ![0, 2816] ![256, 1408] inb_S256x5632_S256x1408_0_2816) (ix2 x0 x1)
        = (ix2 x0 ⟨2816 + x1.val, by omega⟩ : S256x5632.Idx) by blk_ext]
      exact he x0 x1
    · rw [show Rect.emb (Rect.unit (s := S256x5632) ![0, 0] ![256, 1408] inb_S256x5632_S256x1408_0_0) (ix2 x0 x1)
        = (ix2 x0 ⟨x1.val, by omega⟩ : S256x5632.Idx) by blk_ext]
      exact ha x0 x1
  · have h0 : (j 0).val < 256 := (j 0).isLt
    have h1 : (j 1).val < 5632 := (j 1).isLt
    by_cases h : 4224 ≤ (j 1).val
    · exact ⟨_, .head _, (Rect.mem_set_unit (inb := inb_S256x5632_S256x1408_0_4224)).mpr fun k =>
        by fin_cases k <;> (dsimp; omega)⟩
    by_cases h' : 2816 ≤ (j 1).val
    · exact ⟨_, .tail _ (.tail _ (.head _)), (Rect.mem_set_unit (inb := inb_S256x5632_S256x1408_0_2816)).mpr fun k =>
        by fin_cases k <;> (dsimp; omega)⟩
    by_cases h'' : 1408 ≤ (j 1).val
    · exact ⟨_, .tail _ (.head _), (Rect.mem_set_unit (inb := inb_S256x5632_S256x1408_0_1408)).mpr fun k =>
        by fin_cases k <;> (dsimp; omega)⟩
    · exact ⟨_, .tail _ (.tail _ (.tail _ (.head _))), (Rect.mem_set_unit (inb := inb_S256x5632_S256x1408_0_0)).mpr fun k =>
        by fin_cases k <;> (dsimp; omega)⟩

end Cert.Ffn
end
-- ==== Proof.FfnForwardFirst.lean ====
module

public import proofs.«01_k».proof.Proof.FfnStores
public import proofs.«01_k».proof.Proof.Gen.Kernel6Ideal.Frame

/-! The first forward call: the normalised rows, and of the gates, the factors and the weighed factors the first half. -/

@[expose] public section

set_option maxRecDepth 16384

noncomputable section

open Idealize.ShloMosaic Idealize.ShloMosaic.TcCoe Idealize.ShloMosaic.Tactic
open Idealize.ShloMosaic.Pipeline (Dat)

namespace Cert.Ffn

open Cert.Mix (row)
open Cert.Kernel6Ideal Cert.Kernel6Ideal.Gen

variable (V : (c : Dev nD) → (b : Ref sig .tc) → Buf (Elt Ideal) ((c : Thread nD τ).loc b)) (c : Dev nD)

/-- What the calls read. -/
abbrev rX : FVec Ideal S2048x1024 .f32 := V c main_arg0
abbrev rG : FVec Ideal S1x1024 .f32 := V c main_arg1
abbrev rW : FVec Ideal S4x1024x1408 .bf16 := V c main_v2

/-- A normalised row. -/
def fH (i : Fin 2048) : Fin 1024 → EReal := norm (row (rX V c) i) (row (rG V c) 0)

theorem idx0 : ∀ t : Fin cfg0.N, win0_0.index t = ![t.val, 0] ∧ win0_1.index t = ![0, 0] ∧ win0_2.index t = ![0, 0, 0]
    ∧ win0_3.index t = ![2, 0, 0] ∧ win0_5.index t = ![t.val, 0] ∧ win0_6.index t = ![t.val, 0] ∧ win0_7.index t = ![t.val, 0] :=
  (by decide +kernel : ∀ t : Fin grid0.N, _)

theorem lt0 (t : Fin cfg0.N) : t.val < 4 := lt_of_lt_of_eq t.isLt N_0

/-- Row `p` of the block at grid point `t` is row `512 t + p` of the array. -/
def at0 (t : Fin cfg0.N) (p : Fin 512) : Fin 2048 := ⟨t.val * 512 + p.val, by have := lt0 t; omega⟩

variable (t : Fin cfg0.N) (p : Fin 512)

theorem rx_0 : row (show FVec Ideal S512x1024 .f32 from iblk0 V c 0 t) p = row (rX V c) (at0 t p) := by
  funext q; unfold row; blk_point [iblk0, idx0 t, at0]
theorem rg_0 : row (show FVec Ideal S1x1024 .f32 from iblk0 V c 1 t) 0 = row (rG V c) 0 := by
  funext q; unfold row; blk_point [iblk0, idx0 t]
theorem rw0_0 (j : Fin 1408) : column (iblk0 V c 2 t) j = fun q => full (rW V c) q ⟨j.val, by omega⟩ := by
  funext q; rw [full_of (rW V c) 0 q j _ (by dsimp; omega)]; unfold column; blk_point [iblk0, idx0 t]
theorem rw2_0 (j : Fin 1408) : column (iblk0 V c 3 t) j = fun q => full (rW V c) q ⟨2816 + j.val, by omega⟩ := by
  funext q; rw [full_of (rW V c) 2 q j _ (by dsimp)]; unfold column; blk_point [iblk0, idx0 t]

/-- What the body leaves in its blocks. -/
theorem o5_0 (q : Fin 1024) : (show FVec Ideal S512x1024 .bf16 from (dat0 V c).after 5 t) (ix2 p q) = fH V c (at0 t p) q := by
  rw [after0_5]; dsimp only; unfold out0_5; frame_out
  refine (pay2_at (iblk0 V c 0 t) (iblk0 V c 1 t) p q).trans ?_
  rw [rx_0, rg_0]; rfl

theorem o6_0 (k : Fin 2816) : (show FVec Ideal S512x2816 .bf16 from (dat0 V c).after 6 t) (ix2 p k)
    = laid (fH V c (at0 t p)) (rW V c) ⟨k.val, by omega⟩ := by
  rw [after0_6]; dsimp only; unfold out0_6; frame_out
  refine (pair_at (k0_pay5 (iblk0 V c 0 t) (iblk0 V c 1 t) (iblk0 V c 2 t))
    (k0_pay6 (iblk0 V c 0 t) (iblk0 V c 1 t) (iblk0 V c 3 t)) (ix2 p k)).trans ?_
  unfold laid
  by_cases h : k.val < 1408
  · rw [pair_pos _ _ p k h, pay5_at, rx_0, rg_0, rw0_0, src_0 ⟨k.val, h⟩]; rfl
  · rw [pair_neg _ _ p k (not_lt.mp h), pay6_at, rx_0, rg_0, rw2_0,
      ← src_1, show (⟨1408 + (k.val - 1408), _⟩ : Fin 5632) = ⟨k.val, by omega⟩ from Fin.ext (by dsimp; omega)]; rfl

theorem o7_0 (j : Fin 1408) : (show FVec Ideal S512x1408 .bf16 from (dat0 V c).after 7 t) (ix2 p j)
    = acts (fH V c (at0 t p)) (rW V c) ⟨j.val, by omega⟩ := by
  rw [after0_7]; dsimp only; unfold out0_7; frame_out
  refine (pay1_at (iblk0 V c 0 t) (iblk0 V c 1 t) (iblk0 V c 2 t) (iblk0 V c 3 t) p j).trans ?_
  rw [rx_0, rg_0, rw0_0, rw2_0]; rfl

theorem emb5_0 (q : Fin 1024) : ((cfg0.win 5).blk t).view.emb (ix2 p q) = (ix2 (at0 t p) q : S2048x1024.Idx) := by
  blk_ext [idx0 t, at0]
theorem emb6_0 (q : Fin 2816) : ((cfg0.win 6).blk t).view.emb (ix2 p q) = (ix2 (at0 t p) ⟨q.val, by omega⟩ : S2048x5632.Idx) := by
  blk_ext [idx0 t, at0]
theorem emb7_0 (q : Fin 1408) : ((cfg0.win 7).blk t).view.emb (ix2 p q) = (ix2 (at0 t p) ⟨q.val, by omega⟩ : S2048x2816.Idx) := by
  blk_ext [idx0 t, at0]

/-- The arrays: the normalised rows, -/
theorem final5_0 : (dat0 V c).arrAt 5 cfg0.N = fun j : S2048x1024.Idx => fH V c (j 0) (j 1) := by
  refine (dat0 V c).arrAt_eq_of_covers 5 _ (by decide +kernel) fun t _ y => ?_
  blk_simp
  idx_vars y
  refine (o5_0 V c t y0 y1).trans ?_
  exact (congrArg (fun j : S2048x1024.Idx => fH V c (j 0) (j 1)) (emb5_0 t y0 y1)).symm

/-- the gates and factors laid in the first half, -/
theorem final6_0 (q : Fin 2816) : (dat0 V c).arrAt 6 cfg0.N (ix2 (at0 t p) ⟨q.val, by omega⟩ : S2048x5632.Idx)
    = laid (fH V c (at0 t p)) (rW V c) ⟨q.val, by omega⟩ := by
  refine (dat0 V c).arrAt_apply_of_mem 6 (fun j : S2048x5632.Idx => laid (fH V c (j 0)) (rW V c) (j 1)) (fun t _ => ?_) cfg0.N t _
    t.isLt (flush0_6 t) (by rw [← emb6_0]; exact View.emb_mem_set _ _)
  funext y
  blk_simp
  idx_vars y
  refine (o6_0 V c t y0 y1).trans ?_
  exact (congrArg (fun j : S2048x5632.Idx => laid (fH V c (j 0)) (rW V c) (j 1)) (emb6_0 t y0 y1)).symm

/-- and the first half of the weighed factors. -/
theorem final7_0 (q : Fin 1408) : (dat0 V c).arrAt 7 cfg0.N (ix2 (at0 t p) ⟨q.val, by omega⟩ : S2048x2816.Idx)
    = acts (fH V c (at0 t p)) (rW V c) ⟨q.val, by omega⟩ := by
  refine (dat0 V c).arrAt_apply_of_mem 7 (fun j : S2048x2816.Idx => acts (fH V c (j 0)) (rW V c) (j 1)) (fun t _ => ?_) cfg0.N t _
    t.isLt (flush0_7 t) (by rw [← emb7_0]; exact View.emb_mem_set _ _)
  funext y
  blk_simp
  idx_vars y
  refine (o7_0 V c t y0 y1).trans ?_
  exact (congrArg (fun j : S2048x2816.Idx => acts (fH V c (j 0)) (rW V c) (j 1)) (emb7_0 t y0 y1)).symm

end Cert.Ffn
end
-- ==== Proof.FfnForwardSecond.lean ====
module

public import proofs.«01_k».proof.Proof.FfnForwardFirst

/-! The second forward call: the other half of the gates, the factors and the weighed factors, beside the first. -/

@[expose] public section

set_option maxRecDepth 16384

noncomputable section

open Idealize.ShloMosaic Idealize.ShloMosaic.TcCoe Idealize.ShloMosaic.Tactic
open Idealize.ShloMosaic.Pipeline (Dat)

namespace Cert.Ffn

open Cert.Mix (row)
open Cert.Kernel6Ideal Cert.Kernel6Ideal.Gen

variable (V : (c : Dev nD) → (b : Ref sig .tc) → Buf (Elt Ideal) ((c : Thread nD τ).loc b)) (c : Dev nD)

/-- The normalised rows the call reads. -/
abbrev rH : FVec Ideal S2048x1024 .bf16 := V c main_v4_0

section Second

theorem idx1 : ∀ t : Fin cfg1.N, win1_0.index t = ![t.val, 0] ∧ win1_1.index t = ![1, 0, 0] ∧ win1_2.index t = ![3, 0, 0]
    ∧ win1_4.index t = ![t.val, 1] ∧ win1_5.index t = ![t.val, 1] :=
  (by decide +kernel : ∀ t : Fin grid1.N, _)

theorem lt1 (t : Fin cfg1.N) : t.val < 4 := lt_of_lt_of_eq t.isLt N_1

/-- Row `p` of the block at grid point `t` is row `512 t + p` of the array. -/
def at1 (t : Fin cfg1.N) (p : Fin 512) : Fin 2048 := ⟨t.val * 512 + p.val, by have := lt1 t; omega⟩

variable (t : Fin cfg1.N) (p : Fin 512)

theorem rh_1 : row (show FVec Ideal S512x1024 .bf16 from iblk1 V c 0 t) p = row (rH V c) (at1 t p) := by
  funext q; unfold row; blk_point [iblk1, idx1 t, at1]
theorem rw1_1 (j : Fin 1408) : column (iblk1 V c 1 t) j = fun q => full (rW V c) q ⟨1408 + j.val, by omega⟩ := by
  funext q; rw [full_of (rW V c) 1 q j _ (by dsimp)]; unfold column; blk_point [iblk1, idx1 t]
theorem rw3_1 (j : Fin 1408) : column (iblk1 V c 2 t) j = fun q => full (rW V c) q ⟨4224 + j.val, by omega⟩ := by
  funext q; rw [full_of (rW V c) 3 q j _ (by dsimp)]; unfold column; blk_point [iblk1, idx1 t]

/-- What the body leaves in its blocks. -/
theorem o4_1 (k : Fin 2816) : (show FVec Ideal S512x2816 .bf16 from (dat1 V c).after 4 t) (ix2 p k)
    = laid (row (rH V c) (at1 t p)) (rW V c) ⟨2816 + k.val, by omega⟩ := by
  rw [after1_4]; unfold outsAt1; dsimp only; frame_out
  refine (pair_at (k1_pay4 (iblk1 V c 0 t) (iblk1 V c 1 t)) (k1_pay5 (iblk1 V c 0 t) (iblk1 V c 2 t)) (ix2 p k)).trans ?_
  unfold laid
  by_cases h : k.val < 1408
  · rw [pair_pos _ _ p k h, spay4_at, rh_1, rw1_1, src_2 ⟨k.val, h⟩]
  · rw [pair_neg _ _ p k (not_lt.mp h), spay5_at, rh_1, rw3_1,
      ← src_3, show (⟨4224 + (k.val - 1408), _⟩ : Fin 5632) = ⟨2816 + k.val, by omega⟩ from Fin.ext (by dsimp; omega)]

theorem o5_1 (j : Fin 1408) : (show FVec Ideal S512x1408 .bf16 from (dat1 V c).after 5 t) (ix2 p j)
    = acts (row (rH V c) (at1 t p)) (rW V c) ⟨1408 + j.val, by omega⟩ := by
  rw [after1_5]; unfold outsAt1; dsimp only; frame_out
  refine (spay6_at (iblk1 V c 0 t) (iblk1 V c 1 t) (iblk1 V c 2 t) p j).trans ?_
  rw [rh_1, rw1_1, rw3_1]
  unfold acts
  rw [show hi ⟨1408 + j.val, by omega⟩ = ⟨4224 + j.val, by omega⟩ from Fin.ext (by dsimp; omega)]

theorem emb4_1 (q : Fin 2816) : ((cfg1.win 4).blk t).view.emb (ix2 p q) = (ix2 (at1 t p) ⟨2816 + q.val, by omega⟩ : S2048x5632.Idx) := by
  blk_ext [idx1 t, at1]
theorem emb5_1 (q : Fin 1408) : ((cfg1.win 5).blk t).view.emb (ix2 p q) = (ix2 (at1 t p) ⟨1408 + q.val, by omega⟩ : S2048x2816.Idx) := by
  blk_ext [idx1 t, at1]

/-- The arrays: the gates and factors laid in the second half, -/
theorem final4_1 (q : Fin 2816) : (dat1 V c).arrAt 4 cfg1.N (ix2 (at1 t p) ⟨2816 + q.val, by omega⟩ : S2048x5632.Idx)
    = laid (row (rH V c) (at1 t p)) (rW V c) ⟨2816 + q.val, by omega⟩ := by
  refine (dat1 V c).arrAt_apply_of_mem 4 (fun j : S2048x5632.Idx => laid (row (rH V c) (j 0)) (rW V c) (j 1)) (fun t _ => ?_)
    cfg1.N t _ t.isLt (flush1_4 t) (by rw [← emb4_1]; exact View.emb_mem_set _ _)
  funext y
  blk_simp
  idx_vars y
  refine (o4_1 V c t y0 y1).trans ?_
  exact (congrArg (fun j : S2048x5632.Idx => laid (row (rH V c) (j 0)) (rW V c) (j 1)) (emb4_1 t y0 y1)).symm

/-- and the second half of the weighed factors. -/
theorem final5_1 (q : Fin 1408) : (dat1 V c).arrAt 5 cfg1.N (ix2 (at1 t p) ⟨1408 + q.val, by omega⟩ : S2048x2816.Idx)
    = acts (row (rH V c) (at1 t p)) (rW V c) ⟨1408 + q.val, by omega⟩ := by
  refine (dat1 V c).arrAt_apply_of_mem 5 (fun j : S2048x2816.Idx => acts (row (rH V c) (j 0)) (rW V c) (j 1)) (fun t _ => ?_)
    cfg1.N t _ t.isLt (flush1_5 t) (by rw [← emb5_1]; exact View.emb_mem_set _ _)
  funext y
  blk_simp
  idx_vars y
  refine (o5_1 V c t y0 y1).trans ?_
  exact (congrArg (fun j : S2048x2816.Idx => acts (row (rH V c) (j 0)) (rW V c) (j 1)) (emb5_1 t y0 y1)).symm

/-- The first halves are left as they were. -/
theorem keep4 (i : Fin 2048) (k : Fin 5632) (hk : k.val < 2816) :
    (dat1 V c).arrAt 4 cfg1.N (ix2 i k : S2048x5632.Idx) = (V c main_v5_0 : FVec Ideal S2048x5632 .bf16) (ix2 i k) := by
  refine (dat1 V c).arrAt_apply_of_forall_not_mem 4 cfg1.N _ fun t _ _ h => ?_
  obtain ⟨y, -, hy⟩ := Finset.mem_map.mp h
  idx_vars y
  have := congrArg (fun j : S2048x5632.Idx => (j 1).val) ((emb4_1 t y0 y1).symm.trans hy)
  exact absurd this (by dsimp; omega)
theorem keep5 (i : Fin 2048) (k : Fin 2816) (hk : k.val < 1408) :
    (dat1 V c).arrAt 5 cfg1.N (ix2 i k : S2048x2816.Idx) = (V c main_v5_1 : FVec Ideal S2048x2816 .bf16) (ix2 i k) := by
  refine (dat1 V c).arrAt_apply_of_forall_not_mem 5 cfg1.N _ fun t _ _ h => ?_
  obtain ⟨y, -, hy⟩ := Finset.mem_map.mp h
  idx_vars y
  have := congrArg (fun j : S2048x2816.Idx => (j 1).val) ((emb5_1 t y0 y1).symm.trans hy)
  exact absurd this (by dsimp; omega)

end Second

end Cert.Ffn
end
-- ==== Proof.FfnBackward.lean ====
module

public import proofs.«01_k».proof.Proof.FfnForwardSecond

/-! The backward call: the gradients of the gates and factors side by side, of the rows twice, and of the gain. -/

@[expose] public section

set_option maxRecDepth 16384

noncomputable section

open Idealize.ShloMosaic Idealize.ShloMosaic.TcCoe Idealize.ShloMosaic.Tactic
open Idealize.ShloMosaic.Pipeline (Dat)

namespace Cert.Ffn

open Cert.Mix (row)
open Cert.Kernel6Ideal Cert.Kernel6Ideal.Gen

variable (V : (c : Dev nD) → (b : Ref sig .tc) → Buf (Elt Ideal) ((c : Thread nD τ).loc b)) (c : Dev nD)

/-- What the call reads besides: the cotangent twice, the gates and factors as they are laid, the second weights. -/
abbrev rE : FVec Ideal S2048x1024 .f32 := V c main_arg4
abbrev rD : FVec Ideal S2048x1024 .bf16 := V c main_v6
abbrev rU : FVec Ideal S2048x5632 .bf16 := V c main_v5_0
abbrev rWd : FVec Ideal S2816x1024 .bf16 := V c main_v7

/-- A row of each of its results. -/
def bT (i : Fin 2048) (j : Fin 2816) : EReal := proj (row (rD V c) i) (row (rWd V c) j)
def bG (i : Fin 2048) (j : Fin 2816) : EReal :=
  dgate (bT V c i j) (row (rU V c) i (src (lo j))) (row (rU V c) i (src (hi j)))
def bU (i : Fin 2048) (j : Fin 2816) : EReal := dfactor (bT V c i j) (row (rU V c) i (src (lo j)))
def bP (i : Fin 2048) : Fin 5632 → EReal := both (bG V c i) (bU V c i)
def bN (i : Fin 2048) (q : Fin 1024) : EReal := ∑ k, bP V c i k * full (rW V c) q k
def bX (i : Fin 2048) : Fin 1024 → EReal := Inp.dx (row (rX V c) i) (row (rG V c) 0) (bN V c i) (row (rE V c) i)

theorem idx2 : ∀ t : Fin cfg2.N, win2_0.index t = ![t.val, 0] ∧ win2_1.index t = ![t.val, 0] ∧ win2_2.index t = ![t.val, 0]
    ∧ win2_3.index t = ![t.val, 0] ∧ win2_4.index t = ![0, 0] ∧ win2_5.index t = ![0, 0] ∧ win2_6.index t = ![0, 0, 0]
    ∧ win2_7.index t = ![t.val, 0] ∧ win2_8.index t = ![t.val, 0] ∧ win2_9.index t = ![t.val, 0] :=
  (by decide +kernel : ∀ t : Fin grid2.N, _)

variable (t : Fin cfg2.N) (p : Fin 256)

/-- Row `p` of the block at grid point `t` is row `256 t + p` of the array. -/
abbrev at2 : Fin 2048 := ⟨t.val * 256 + p.val, by have := lt_of_lt_of_eq t.isLt N_2; omega⟩

theorem re_2 : row (show FVec Ideal S256x1024 .f32 from iblk2 V c 0 t) p = row (rE V c) (at2 t p) := by
  funext q; unfold row; blk_point [iblk2, idx2 t]
theorem rd_2 : row (show FVec Ideal S256x1024 .bf16 from iblk2 V c 1 t) p = row (rD V c) (at2 t p) := by
  funext q; unfold row; blk_point [iblk2, idx2 t]
theorem ru_2 : row (show FVec Ideal S256x5632 .bf16 from iblk2 V c 2 t) p = row (rU V c) (at2 t p) := by
  funext q; unfold row; blk_point [iblk2, idx2 t]
theorem rx_2 : row (show FVec Ideal S256x1024 .f32 from iblk2 V c 3 t) p = row (rX V c) (at2 t p) := by
  funext q; unfold row; blk_point [iblk2, idx2 t]
theorem rg_2 : row (show FVec Ideal S1x1024 .f32 from iblk2 V c 4 t) 0 = row (rG V c) 0 := by
  funext q; unfold row; blk_point [iblk2, idx2 t]
theorem rwd_2 : row (show FVec Ideal S2816x1024 .bf16 from iblk2 V c 5 t) = row (rWd V c) := by
  funext k q; unfold row; blk_point [iblk2, idx2 t]
theorem rw_2 : full (show FVec Ideal S4x1024x1408 .bf16 from iblk2 V c 6 t) = full (rW V c) := by
  funext q k; unfold full; blk_point [iblk2, idx2 t]

section Loads

variable (u : Vec Ideal S256x5632 .bf16) (wd : Vec Ideal S2816x1024 .bf16) (w : Vec Ideal S4x1024x1408 .bf16)

/-- The body's loads: the gates and the factors, each in two halves, -/
abbrev u0 : Vec Ideal S256x1408 .bf16 := View.ld u (Rect.unit ![0, 0] ![256, 1408] inb_S256x5632_S256x1408_0_0)
abbrev u1 : Vec Ideal S256x1408 .bf16 := View.ld u (Rect.unit ![0, 1408] ![256, 1408] inb_S256x5632_S256x1408_0_1408)
abbrev u2 : Vec Ideal S256x1408 .bf16 := View.ld u (Rect.unit ![0, 2816] ![256, 1408] inb_S256x5632_S256x1408_0_2816)
abbrev u3 : Vec Ideal S256x1408 .bf16 := View.ld u (Rect.unit ![0, 4224] ![256, 1408] inb_S256x5632_S256x1408_0_4224)

/-- the second weights, -/
abbrev d0 : Vec Ideal S1408x1024 .bf16 := View.ld wd (Rect.unit ![0, 0] ![1408, 1024] inb_S2816x1024_S1408x1024_0_0)
abbrev d1 : Vec Ideal S1408x1024 .bf16 := View.ld wd (Rect.unit ![1408, 0] ![1408, 1024] inb_S2816x1024_S1408x1024_1408_0)

/-- and the first. -/
abbrev w0 : Vec Ideal S1x1024x1408 .bf16 := View.ld w (Rect.unit ![0, 0, 0] ![1, 1024, 1408] inb_S4x1024x1408_S1x1024x1408_0_0_0)
abbrev w1 : Vec Ideal S1x1024x1408 .bf16 := View.ld w (Rect.unit ![1, 0, 0] ![1, 1024, 1408] inb_S4x1024x1408_S1x1024x1408_1_0_0)
abbrev w2 : Vec Ideal S1x1024x1408 .bf16 := View.ld w (Rect.unit ![2, 0, 0] ![1, 1024, 1408] inb_S4x1024x1408_S1x1024x1408_2_0_0)
abbrev w3 : Vec Ideal S1x1024x1408 .bf16 := View.ld w (Rect.unit ![3, 0, 0] ![1, 1024, 1408] inb_S4x1024x1408_S1x1024x1408_3_0_0)

variable (j : Fin 1408) (q : Fin 1024)

theorem u0_at : u0 u (ix2 p j) = row u p ⟨j.val, by omega⟩ := by unfold row; pointwise [u0]
theorem u1_at : u1 u (ix2 p j) = row u p ⟨1408 + j.val, by omega⟩ := by unfold row; pointwise [u1]
theorem u2_at : u2 u (ix2 p j) = row u p ⟨2816 + j.val, by omega⟩ := by unfold row; pointwise [u2]
theorem u3_at : u3 u (ix2 p j) = row u p ⟨4224 + j.val, by omega⟩ := by unfold row; pointwise [u3]
theorem d0_at : row (d0 wd) j = row wd ⟨j.val, by omega⟩ := by funext q; unfold row; pointwise [d0]
theorem d1_at : row (d1 wd) j = row wd ⟨1408 + j.val, by omega⟩ := by funext q; unfold row; pointwise [d1]
theorem w0_at : column (w0 w) j q = full w q ⟨j.val, by omega⟩ := by
  rw [full_of w 0 q j _ (by dsimp; omega)]; unfold column; pointwise [w0]
theorem w1_at : column (w1 w) j q = full w q ⟨1408 + j.val, by omega⟩ := by
  rw [full_of w 1 q j _ (by dsimp)]; unfold column; pointwise [w1]
theorem w2_at : column (w2 w) j q = full w q ⟨2816 + j.val, by omega⟩ := by
  rw [full_of w 2 q j _ (by dsimp)]; unfold column; pointwise [w2]
theorem w3_at : column (w3 w) j q = full w q ⟨4224 + j.val, by omega⟩ := by
  rw [full_of w 3 q j _ (by dsimp)]; unfold column; pointwise [w3]

end Loads

/-- What the body computes on the way: the four blocks of the gates' and factors' gradients, and the normalised row's. -/
abbrev hG0 : FVec Ideal S256x1408 .bf16 := k2_pay10 (iblk2 V c 1 t) (d0 (iblk2 V c 5 t)) (u0 (iblk2 V c 2 t)) (u1 (iblk2 V c 2 t))
abbrev hU0 : FVec Ideal S256x1408 .bf16 := k2_pay9 (iblk2 V c 1 t) (d0 (iblk2 V c 5 t)) (u0 (iblk2 V c 2 t))
abbrev hT1 : FVec Ideal S256x1408 .f32 := k2_pay6 (iblk2 V c 1 t) (d1 (iblk2 V c 5 t))
abbrev hG1 : FVec Ideal S256x1408 .bf16 := k2_pay15 (hT1 V c t) (u2 (iblk2 V c 2 t)) (u3 (iblk2 V c 2 t))
abbrev hU1 : FVec Ideal S256x1408 .bf16 := k2_pay14 (hT1 V c t) (u2 (iblk2 V c 2 t))
abbrev hN0 : FVec Ideal S256x1024 .f32 :=
  k2_pay11 (k2_pay4 (F := Ideal)) (hU0 V c t) (hG0 V c t) (w0 (iblk2 V c 6 t)) (w2 (iblk2 V c 6 t))
abbrev hN : FVec Ideal S256x1024 .f32 := k2_pay16 (hN0 V c t) (hU1 V c t) (hG1 V c t) (w1 (iblk2 V c 6 t)) (w3 (iblk2 V c 6 t))

/-- A gate's gradient and a factor's, from where the two are laid. -/
theorem gate_of (i : Fin 2048) (j : Fin 2816) (a b : Fin 5632) (ha : src (lo j) = a) (hb : src (hi j) = b) :
    dgate (bT V c i j) (row (rU V c) i a) (row (rU V c) i b) = bG V c i j := by
  subst ha hb; rfl
theorem factor_of (i : Fin 2048) (j k : Fin 2816) (a : Fin 5632) (ha : src (lo j) = a) (hk : j = k) :
    dfactor (bT V c i j) (row (rU V c) i a) = bU V c i k := by
  subst ha hk; rfl

theorem hG0_at (j : Fin 1408) : hG0 V c t (ix2 p j) = bP V c (at2 t p) ⟨j.val, by omega⟩ := by
  refine (bpay10_at (iblk2 V c 1 t) (d0 (iblk2 V c 5 t)) (u0 (iblk2 V c 2 t)) (u1 (iblk2 V c 2 t)) p j).trans ?_
  rw [u0_at, u1_at, d0_at, rd_2, ru_2, rwd_2]
  unfold bP both
  rw [dif_pos (by dsimp; omega)]
  exact gate_of V c _ ⟨j.val, by omega⟩ _ _ (src_0 j) (src_2 j)
theorem hU0_at (j : Fin 1408) : hU0 V c t (ix2 p j) = bP V c (at2 t p) ⟨2816 + j.val, by omega⟩ := by
  refine (bpay9_at (iblk2 V c 1 t) (d0 (iblk2 V c 5 t)) (u0 (iblk2 V c 2 t)) p j).trans ?_
  rw [u0_at, d0_at, rd_2, ru_2, rwd_2]
  unfold bP both
  rw [dif_neg (by dsimp; omega)]
  exact factor_of V c _ ⟨j.val, by omega⟩ _ _ (src_0 j) (Fin.ext (by dsimp; omega))
theorem hT1_at (j : Fin 1408) : hT1 V c t (ix2 p j) = bT V c (at2 t p) ⟨1408 + j.val, by omega⟩ := by
  refine (bpay6_at (iblk2 V c 1 t) (d1 (iblk2 V c 5 t)) p j).trans ?_
  rw [d1_at, rd_2, rwd_2]; rfl
theorem hG1_at (j : Fin 1408) : hG1 V c t (ix2 p j) = bP V c (at2 t p) ⟨1408 + j.val, by omega⟩ := by
  refine (bpay15_at (u2 (iblk2 V c 2 t)) (u3 (iblk2 V c 2 t)) (hT1 V c t) p j).trans ?_
  rw [u2_at, u3_at, ru_2, hT1_at]
  unfold bP both
  rw [dif_pos (by dsimp; omega)]
  exact gate_of V c _ ⟨1408 + j.val, by omega⟩ _ _ (src_1 j) ((congrArg src (Fin.ext (by dsimp; omega))).trans (src_3 j))
theorem hU1_at (j : Fin 1408) : hU1 V c t (ix2 p j) = bP V c (at2 t p) ⟨4224 + j.val, by omega⟩ := by
  refine (bpay14_at (u2 (iblk2 V c 2 t)) (hT1 V c t) p j).trans ?_
  rw [u2_at, ru_2, hT1_at]
  unfold bP both
  rw [dif_neg (by dsimp; omega)]
  exact factor_of V c _ ⟨1408 + j.val, by omega⟩ _ _ (src_1 j) (Fin.ext (by dsimp; omega))

theorem hN_at (q : Fin 1024) : hN V c t (ix2 p q) = bN V c (at2 t p) q := by
  refine (bpay16_at (hG0 V c t) (hU0 V c t) (hG1 V c t) (hU1 V c t) (w0 (iblk2 V c 6 t)) (w1 (iblk2 V c 6 t))
    (w2 (iblk2 V c 6 t)) (w3 (iblk2 V c 6 t)) p q).trans ?_
  unfold bN
  rw [sum_parts]
  refine congrArg₂ (· + ·) (congrArg₂ (· + ·) (congrArg₂ (· + ·) ?_ ?_) ?_) ?_ <;>
    refine Finset.sum_congr rfl fun j _ => congrArg₂ (· * ·) ?_ ?_
  · exact hG0_at V c t p j
  · rw [w0_at, rw_2]
  · exact hU0_at V c t p j
  · rw [w2_at, rw_2]
  · exact hG1_at V c t p j
  · rw [w1_at, rw_2]
  · exact hU1_at V c t p j
  · rw [w3_at, rw_2]
theorem hN_row : row (hN V c t) p = bN V c (at2 t p) := funext (hN_at V c t p)

/-- What it leaves in its blocks: the gates' and factors' gradients, -/
theorem o7 (k : Fin 5632) : (show FVec Ideal S256x5632 .bf16 from (dat2 V c).after 7 t) (ix2 p k) = bP V c (at2 t p) k := by
  rw [after2_7]
  by_cases h : t.val % 8 = 0
  · rw [outsAt2_A V c t h]; dsimp only; frame_out
    exact four_at (fun p => bP V c (at2 t p)) (hG0 V c t) (hG1 V c t) (hU0 V c t) (hU1 V c t) (hG0_at V c t) (hG1_at V c t)
      (hU0_at V c t) (hU1_at V c t) (ix2 p k)
  · rw [outsAt2_B V c t h]; dsimp only; frame_out
    exact four_at (fun p => bP V c (at2 t p)) (hG0 V c t) (hG1 V c t) (hU0 V c t) (hU1 V c t) (hG0_at V c t) (hG1_at V c t)
      (hU0_at V c t) (hU1_at V c t) (ix2 p k)

/-- the rows' twice, -/
theorem hX_at (q : Fin 1024) : Inp.dx (row (iblk2 V c 3 t) p) (row (iblk2 V c 4 t) 0) (row (hN V c t) p)
    (row (iblk2 V c 0 t) p) q = bX V c (at2 t p) q := by
  rw [hN_row, rx_2, rg_2, re_2]; rfl
theorem o8 (q : Fin 1024) : (show FVec Ideal S256x1024 .f32 from (dat2 V c).after 8 t) (ix2 p q) = bX V c (at2 t p) q := by
  rw [after2_8]
  by_cases h : t.val % 8 = 0
  · rw [outsAt2_A V c t h]; dsimp only; frame_out
    exact (bpay19_at (iblk2 V c 3 t) (iblk2 V c 0 t) (iblk2 V c 4 t) (hN0 V c t) (hU1 V c t) (hG1 V c t) (w1 (iblk2 V c 6 t))
      (w3 (iblk2 V c 6 t)) p q).trans (hX_at V c t p q)
  · rw [outsAt2_B V c t h]; dsimp only; frame_out
    exact (bpay19_at (iblk2 V c 3 t) (iblk2 V c 0 t) (iblk2 V c 4 t) (hN0 V c t) (hU1 V c t) (hG1 V c t) (w1 (iblk2 V c 6 t))
      (w3 (iblk2 V c 6 t)) p q).trans (hX_at V c t p q)
theorem o9 (q : Fin 1024) : (show FVec Ideal S256x1024 .bf16 from (dat2 V c).after 9 t) (ix2 p q) = bX V c (at2 t p) q := by
  rw [after2_9]
  by_cases h : t.val % 8 = 0
  · rw [outsAt2_A V c t h]; dsimp only; frame_out
    exact (bpay20_at (iblk2 V c 3 t) (iblk2 V c 0 t) (iblk2 V c 4 t) (hN0 V c t) (hU1 V c t) (hG1 V c t) (w1 (iblk2 V c 6 t))
      (w3 (iblk2 V c 6 t)) p q).trans (hX_at V c t p q)
  · rw [outsAt2_B V c t h]; dsimp only; frame_out
    exact (bpay20_at (iblk2 V c 3 t) (iblk2 V c 0 t) (iblk2 V c 4 t) (hN0 V c t) (hU1 V c t) (hG1 V c t) (w1 (iblk2 V c 6 t))
      (w3 (iblk2 V c 6 t)) p q).trans (hX_at V c t p q)

/-- and the gain's, gathered over the grid. -/
theorem hS_at (q : Fin 1024) :
    row (hN V c t) p q * (row (show FVec Ideal S256x1024 .f32 from iblk2 V c 3 t) p q
        * RmsNorm.rinv (row (show FVec Ideal S256x1024 .f32 from iblk2 V c 3 t) p))
      = bN V c (at2 t p) q * (row (rX V c) (at2 t p) q * RmsNorm.rinv (row (rX V c) (at2 t p))) := by
  rw [hN_row, rx_2]
theorem o10_A (h : t.val % 8 = 0) (j : S1x1024.Idx) : (outsAt2 V c t.val t.isLt).2.2.2 j
    = 0 + ∑ p : Fin 256, bN V c (at2 t p) (j 1) * (row (rX V c) (at2 t p) (j 1) * RmsNorm.rinv (row (rX V c) (at2 t p))) := by
  rw [outsAt2_A V c t h]; dsimp only; frame_out
  refine (bpay2_at (iblk2 V c 3 t) (hN V c t) (k2_pay1 (F := Ideal)) j).trans ?_
  rw [bpay1_at]
  exact congrArg (0 + ·) (Finset.sum_congr rfl fun p _ => hS_at V c t p _)
theorem o10_B (h : ¬t.val % 8 = 0) (j : S1x1024.Idx) : (outsAt2 V c t.val t.isLt).2.2.2 j
    = (outsAt2 V c (t.val - 1) (Nat.lt_of_le_of_lt (Nat.sub_le _ _) t.isLt)).2.2.2 j
      + ∑ p : Fin 256, bN V c (at2 t p) (j 1) * (row (rX V c) (at2 t p) (j 1) * RmsNorm.rinv (row (rX V c) (at2 t p))) := by
  rw [outsAt2_B V c t h]; dsimp only; frame_out
  refine (bpay2_at (iblk2 V c 3 t) (hN V c t) _ j).trans ?_
  exact congrArg (_ + ·) (Finset.sum_congr rfl fun p _ => hS_at V c t p _)

theorem emb7_2 (q : Fin 5632) : ((cfg2.win 7).blk t).view.emb (ix2 p q) = (ix2 (at2 t p) q : S2048x5632.Idx) := by
  blk_ext [idx2 t]
theorem emb8_2 (q : Fin 1024) : ((cfg2.win 8).blk t).view.emb (ix2 p q) = (ix2 (at2 t p) q : S2048x1024.Idx) := by
  blk_ext [idx2 t]
theorem emb9_2 (q : Fin 1024) : ((cfg2.win 9).blk t).view.emb (ix2 p q) = (ix2 (at2 t p) q : S2048x1024.Idx) := by
  blk_ext [idx2 t]

/-- The whole arrays: the gradients of the gates and factors, -/
theorem final7_2 : (dat2 V c).arrAt 7 cfg2.N = fun j : S2048x5632.Idx => bP V c (j 0) (j 1) := by
  refine (dat2 V c).arrAt_eq_of_covers 7 _ (by decide +kernel) fun t _ y => ?_
  blk_simp
  idx_vars y
  refine (o7 V c t y0 y1).trans ?_
  exact (congrArg (fun j : S2048x5632.Idx => bP V c (j 0) (j 1)) (emb7_2 t y0 y1)).symm

/-- of the rows, twice, -/
theorem final8_2 : (dat2 V c).arrAt 8 cfg2.N = fun j : S2048x1024.Idx => bX V c (j 0) (j 1) := by
  refine (dat2 V c).arrAt_eq_of_covers 8 _ (by decide +kernel) fun t _ y => ?_
  blk_simp
  idx_vars y
  refine (o8 V c t y0 y1).trans ?_
  exact (congrArg (fun j : S2048x1024.Idx => bX V c (j 0) (j 1)) (emb8_2 t y0 y1)).symm
theorem final9_2 : (dat2 V c).arrAt 9 cfg2.N = fun j : S2048x1024.Idx => bX V c (j 0) (j 1) := by
  refine (dat2 V c).arrAt_eq_of_covers 9 _ (by decide +kernel) fun t _ y => ?_
  blk_simp
  idx_vars y
  refine (o9 V c t y0 y1).trans ?_
  exact (congrArg (fun j : S2048x1024.Idx => bX V c (j 0) (j 1)) (emb9_2 t y0 y1)).symm

/-- and of the gain. -/
theorem final10_2 : (dat2 V c).arrAt 10 cfg2.N = fun j : S1x1024.Idx => Inp.dgain (row (rX V c)) (bN V c) (j 1) := by
  refine (dat2 V c).arrAt_eq_of_after_last 10 t2_7 (by decide +kernel) _ fun j => ?_
  blk_simp
  rw [after2_10, Pipeline.eq_sum_fin_of_reset_step_apply_last (fun n h => (outsAt2 V c n h).2.2.2) 8 (fun _ => 0) _
    (fun t h j => o10_A V c t h j) (fun t h j => o10_B V c t h j) (le_of_eq N_2) t2_7 rfl j, zero_add]
  exact Fin.sum_mul_add_congr fun s k hl => rfl

end Cert.Ffn
end
-- ==== Proof.FfnKernel.lean ====
module

public import proofs.«01_k».proof.Proof.FfnBackward

/-! The feed-forward program's six results, as functions of its arguments. -/

@[expose] public section

set_option maxRecDepth 16384

noncomputable section

open Idealize.ShloMosaic Idealize.ShloMosaic.TcCoe Idealize.ShloMosaic.Tactic

namespace Cert.Ffn

open Cert.Mix (row)
open Cert.Kernel6Ideal Cert.Kernel6Ideal.Gen

variable (m : (ℓ : Loc nD τ sig) → Buf (Elt Ideal) ℓ) (ρ : Dev nD → PrngReg) (c : Dev nD)

/-- The arguments. -/
abbrev aX : FVec Ideal S2048x1024 .f32 := m ((c : Thread nD τ).loc main_arg0)
abbrev aG : FVec Ideal S1x1024 .f32 := m ((c : Thread nD τ).loc main_arg1)
abbrev aWf : FVec Ideal S1024x5632 .f32 := m ((c : Thread nD τ).loc main_arg2)
abbrev aWd : FVec Ideal S2816x1024 .f32 := m ((c : Thread nD τ).loc main_arg3)
abbrev aE : FVec Ideal S2048x1024 .f32 := m ((c : Thread nD τ).loc main_arg4)

/-! What the first call finds, and the rows it normalises. -/

theorem x_1 : rX (V1 m ρ) c = aX m c := W1_args m ρ c main_arg0 (by simp)
theorem g_1 : rG (V1 m ρ) c = aG m c := W1_args m ρ c main_arg1 (by simp)
theorem w_1 : full (rW (V1 m ρ) c) = row (aWf m c) := by
  funext k j
  unfold full
  show StableHlo.after hostOps0 (W0 m ρ c) (Proc.devRef .tc main_v2) _ = _
  after_results
  pointwise [row]
  exact congrArg (fun j => aWf m c (ix2 k j)) (Fin.ext (Nat.div_add_mod' j.val 1408))

theorem fH_1 (i : Fin 2048) : fH (V1 m ρ) c i = hh (aX m c) (aG m c) i := by
  unfold fH hh; rw [x_1, g_1]

theorem laid_1 (i : Fin 2048) (k : Fin 5632) :
    laid (fH (V1 m ρ) c i) (rW (V1 m ρ) c) k = pp (aX m c) (aG m c) (aWf m c) i (src k) := by
  unfold laid pp; rw [fH_1, w_1]; rfl
theorem acts_1 (i : Fin 2048) (j : Fin 2816) :
    acts (fH (V1 m ρ) c i) (rW (V1 m ρ) c) j = aa (aX m c) (aG m c) (aWf m c) i j := by
  unfold acts aa pp; rw [fH_1, w_1]; rfl

theorem h_2 : W2 m ρ c (Proc.devRef .tc main_v4_0) = fun j : S2048x1024.Idx => hh (aX m c) (aG m c) (j 0) (j 1) :=
  (W2_arr m ρ c 5).trans ((final5_0 (V1 m ρ) c).trans (funext fun j => congrFun (fH_1 m ρ c (j 0)) (j 1)))

/-! What the second finds. -/

theorem w_3 : full (rW (V3 m ρ) c) = row (aWf m c) :=
  (congrArg full ((W3_of m ρ c main_v2 (by decide)).trans (W2_of m ρ c main_v2 (by decide +kernel)))).trans (w_1 m ρ c)
theorem h_3 (i : Fin 2048) : row (rH (V3 m ρ) c) i = hh (aX m c) (aG m c) i :=
  congrArg (fun x : S2048x1024.Idx → EReal => row x i) ((W3_of m ρ c main_v4_0 (by decide)).trans (h_2 m ρ c))

theorem laid_3 (i : Fin 2048) (k : Fin 5632) :
    laid (row (rH (V3 m ρ) c) i) (rW (V3 m ρ) c) k = pp (aX m c) (aG m c) (aWf m c) i (src k) := by
  unfold laid pp; rw [h_3, w_3]; rfl
theorem acts_3 (i : Fin 2048) (j : Fin 2816) :
    acts (row (rH (V3 m ρ) c) i) (rW (V3 m ρ) c) j = aa (aX m c) (aG m c) (aWf m c) i j := by
  unfold acts aa pp; rw [h_3, w_3]; rfl

/-- Every row is in one of the first call's blocks, and in one of the second's. -/
theorem row0 (i : Fin 2048) : ∃ t p, i = at0 t p :=
  ⟨⟨i.val / 512, by show _ < grid0.N; rw [N_0]; omega⟩, ⟨i.val % 512, by omega⟩, Fin.ext (by unfold at0; dsimp only; omega)⟩
theorem row1 (i : Fin 2048) : ∃ t p, i = at1 t p :=
  ⟨⟨i.val / 512, by show _ < grid1.N; rw [N_1]; omega⟩, ⟨i.val % 512, by omega⟩, Fin.ext (by unfold at1; dsimp only; omega)⟩

/-! After both calls the gates, the factors and the weighed factors are whole. -/

theorem u_4 : W4 m ρ c (Proc.devRef .tc main_v5_0)
    = fun j : S2048x5632.Idx => pp (aX m c) (aG m c) (aWf m c) (j 0) (src (j 1)) := by
  funext j
  idx_vars j
  refine (congrFun (W4_arr m ρ c 4) _).trans ?_
  by_cases h : j1.val < 2816
  · refine (keep4 (V3 m ρ) c j0 j1 h).trans ?_
    refine Eq.trans (b := W2 m ρ c (Proc.devRef .tc main_v4_1) (ix2 j0 j1 : S2048x5632.Idx)) ?_ ?_
    · show StableHlo.after hostOps1 (W2 m ρ c) (Proc.devRef .tc main_v5_0) _ = _
      after_results
      rfl
    · obtain ⟨t, p, rfl⟩ := row0 j0
      exact (congrFun (W2_arr m ρ c 6) _).trans ((final6_0 (V1 m ρ) c t p ⟨j1.val, h⟩).trans (laid_1 m ρ c _ _))
  · obtain ⟨t, p, rfl⟩ := row1 j0
    obtain ⟨k, rfl⟩ : ∃ k : Fin 2816, j1 = ⟨2816 + k.val, Nat.add_lt_add_left k.isLt 2816⟩ :=
      ⟨⟨j1.val - 2816, by omega⟩, Fin.ext (by dsimp; omega)⟩
    exact (final4_1 (V3 m ρ) c t p k).trans (laid_3 m ρ c _ _)

theorem a_4 : W4 m ρ c (Proc.devRef .tc main_v5_1)
    = fun j : S2048x2816.Idx => aa (aX m c) (aG m c) (aWf m c) (j 0) (j 1) := by
  funext j
  idx_vars j
  refine (congrFun (W4_arr m ρ c 5) _).trans ?_
  by_cases h : j1.val < 1408
  · refine (keep5 (V3 m ρ) c j0 j1 h).trans ?_
    refine Eq.trans (b := W2 m ρ c (Proc.devRef .tc main_v4_2) (ix2 j0 j1 : S2048x2816.Idx)) ?_ ?_
    · show StableHlo.after hostOps1 (W2 m ρ c) (Proc.devRef .tc main_v5_1) _ = _
      after_results
      rfl
    · obtain ⟨t, p, rfl⟩ := row0 j0
      exact (congrFun (W2_arr m ρ c 7) _).trans ((final7_0 (V1 m ρ) c t p ⟨j1.val, h⟩).trans (acts_1 m ρ c _ _))
  · obtain ⟨t, p, rfl⟩ := row1 j0
    obtain ⟨k, rfl⟩ : ∃ k : Fin 1408, j1 = ⟨1408 + k.val, Nat.add_lt_add_left k.isLt 1408⟩ :=
      ⟨⟨j1.val - 1408, by omega⟩, Fin.ext (by dsimp; omega)⟩
    exact (final5_1 (V3 m ρ) c t p k).trans (acts_3 m ρ c _ _)

/-! What the backward call finds. -/

theorem x_5 : rX (V5 m ρ) c = aX m c := W5_args m ρ c main_arg0 (by simp)
theorem g_5 : rG (V5 m ρ) c = aG m c := W5_args m ρ c main_arg1 (by simp)
theorem e_5 : rE (V5 m ρ) c = aE m c := W5_args m ρ c main_arg4 (by simp)
theorem d_5 : rD (V5 m ρ) c = aE m c := by
  refine Eq.trans ?_ (W4_args m ρ c main_arg4 (by simp))
  show StableHlo.after hostOps2 (W4 m ρ c) (Proc.devRef .tc main_v6) = _
  after_results
  rfl
theorem wd_5 : rWd (V5 m ρ) c = aWd m c := by
  refine Eq.trans ?_ (W4_args m ρ c main_arg3 (by simp))
  show StableHlo.after hostOps2 (W4 m ρ c) (Proc.devRef .tc main_v7) = _
  after_results
  rfl
theorem w_5 : full (rW (V5 m ρ) c) = row (aWf m c) :=
  (congrArg full ((W5_of m ρ c main_v2 (by decide)).trans (W4_of m ρ c main_v2 (by decide +kernel)))).trans (w_3 m ρ c)
theorem u_5 (i : Fin 2048) (k : Fin 5632) : row (rU (V5 m ρ) c) i (src k) = pp (aX m c) (aG m c) (aWf m c) i k :=
  (congrArg (fun x : S2048x5632.Idx → EReal => row x i (src k)) ((W5_of m ρ c main_v5_0 (by decide)).trans (u_4 m ρ c))).trans
    (congrArg (pp (aX m c) (aG m c) (aWf m c) i) (src_src k))

theorem bT_5 : bT (V5 m ρ) c = tt (aWd m c) (aE m c) := by
  funext i j
  unfold bT tt; rw [d_5, wd_5]
theorem bG_5 : bG (V5 m ρ) c = gg (aX m c) (aG m c) (aWf m c) (aWd m c) (aE m c) := by
  funext i j
  unfold bG gg; rw [bT_5, u_5, u_5]
theorem bU_5 : bU (V5 m ρ) c = uu (aX m c) (aG m c) (aWf m c) (aWd m c) (aE m c) := by
  funext i j
  unfold bU uu; rw [bT_5, u_5]
theorem bP_5 : bP (V5 m ρ) c = dp (aX m c) (aG m c) (aWf m c) (aWd m c) (aE m c) := by
  funext i
  unfold bP dp; rw [bG_5, bU_5]
theorem bN_5 : bN (V5 m ρ) c = dn (aX m c) (aG m c) (aWf m c) (aWd m c) (aE m c) := by
  funext i q
  unfold bN dn; rw [bP_5, w_5]; rfl
theorem bX_5 : bX (V5 m ρ) c = dx (aX m c) (aG m c) (aWf m c) (aWd m c) (aE m c) := by
  funext i
  unfold bX dx; rw [x_5, g_5, e_5, bN_5]

/-! The six results. -/

theorem p_6 : W6 m ρ c (Proc.devRef .tc main_v8_0)
    = fun j : S2048x5632.Idx => dp (aX m c) (aG m c) (aWf m c) (aWd m c) (aE m c) (j 0) (j 1) :=
  (W6_arr m ρ c 7).trans ((final7_2 (V5 m ρ) c).trans (by rw [bP_5]))
theorem x_6 : W6 m ρ c (Proc.devRef .tc main_v8_1)
    = fun j : S2048x1024.Idx => dx (aX m c) (aG m c) (aWf m c) (aWd m c) (aE m c) (j 0) (j 1) :=
  (W6_arr m ρ c 8).trans ((final8_2 (V5 m ρ) c).trans (by rw [bX_5]))
theorem y_6 : W6 m ρ c (Proc.devRef .tc main_v8_2)
    = fun j : S2048x1024.Idx => dx (aX m c) (aG m c) (aWf m c) (aWd m c) (aE m c) (j 0) (j 1) :=
  (W6_arr m ρ c 9).trans ((final9_2 (V5 m ρ) c).trans (by rw [bX_5]))
theorem g_6 : W6 m ρ c (Proc.devRef .tc main_v8_3)
    = fun j : S1x1024.Idx => dg (aX m c) (aG m c) (aWf m c) (aWd m c) (aE m c) (j 1) :=
  (W6_arr m ρ c 10).trans ((final10_2 (V5 m ρ) c).trans (by rw [bN_5, x_5]; rfl))
theorem h_6 : W6 m ρ c (Proc.devRef .tc main_v4_0) = fun j : S2048x1024.Idx => hh (aX m c) (aG m c) (j 0) (j 1) :=
  (W6_of m ρ c main_v4_0 (by decide +kernel)).trans ((W5_of m ρ c main_v4_0 (by decide)).trans
    ((W4_of m ρ c main_v4_0 (by decide +kernel)).trans ((W3_of m ρ c main_v4_0 (by decide)).trans (h_2 m ρ c))))
theorem a_6 : W6 m ρ c (Proc.devRef .tc main_v5_1)
    = fun j : S2048x2816.Idx => aa (aX m c) (aG m c) (aWf m c) (j 0) (j 1) :=
  (W6_of m ρ c main_v5_1 (by decide +kernel)).trans ((W5_of m ρ c main_v5_1 (by decide)).trans (a_4 m ρ c))

end Cert.Ffn
end
-- ==== Proof.FfnFinite.lean ====
module

public import proofs.«01_k».proof.Proof.AttnFinite
public import proofs.«01_k».proof.Proof.FfnSpec

/-! The precondition of the feed-forward's claim, read: every element of the gain, of the two weights and of the cotangent
is a real number. Then so is every gate, every factor and every cotangent of a weighed factor, whatever the rows are. -/

@[expose] public section

noncomputable section

open Idealize.ShloMosaic Idealize.ShloMosaic.TcCoe Idealize.ShloMosaic.Tactic

namespace Cert.Ffn

open Cert.Mix (row gate)

instance facts : Cert.Pre_finite6.Facts where
  transposes_S1024x5632_S5632x1024_1_0 := by decide
  concatenates_S1x1024_S5632x1024_S2816x1024_S2048x1024_S10497x1024_d0 := by decide
  bcast_S_S10497x1024 := by decide

/-- Being a real number. -/
def Real (x : EReal) : Prop := ∃ r : ℝ, x = (r : EReal)

theorem Real.mul {a b : EReal} : Real a → Real b → Real (a * b)
  | ⟨r, hr⟩, ⟨s, hs⟩ => ⟨r * s, by rw [hr, hs, EReal.coe_mul]⟩

theorem Real.sum {ι : Type} (s : Finset ι) (f : ι → EReal) (h : ∀ k, Real (f k)) : Real (∑ k ∈ s, f k) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

theorem real_proj {h w : Fin 1024 → EReal} (hh : ∀ q, Real (h q)) (hw : ∀ q, Real (w q)) : Real (proj h w) :=
  Real.sum _ _ fun q => (hh q).mul (hw q)

/-- A normalised row's entries are real numbers, whatever the row's: where one of the row's is infinite the reciprocal root
    is zero. -/
theorem real_scaled (x : Fin 1024 → EReal) (q : Fin 1024) : Real (x q * RmsNorm.rinv x) := by
  rcases RmsNorm.rinv_cases x with ⟨-, hr⟩ | ⟨v, r, -, -, hv, hr, -⟩
  · exact ⟨0, by rw [hr]; simp⟩
  · rw [hr]
    refine Real.mul ?_ ⟨r, rfl⟩
    by_contra hx
    have hsq : x q * x q = ⊤ := by
      generalize x q = a at hx
      induction a with
      | bot => rfl
      | coe s => exact absurd ⟨s, rfl⟩ hx
      | top => rfl
    have hs : ∑ k, x k * x k = ⊤ := top_le_iff.mp (hsq ▸
      Finset.single_le_sum (f := fun k => x k * x k) (fun k _ => RmsNorm.mul_self_nonneg (x k)) (Finset.mem_univ q))
    obtain ⟨e, -, hb⟩ := RmsNorm.bits_eps
    unfold RmsNorm.meanSq at hv
    rw [hs, hb, RmsNorm.bits_1024, RmsNorm.div_coe _ _ (by norm_num), EReal.top_mul_coe_of_pos (by norm_num),
      EReal.top_add_coe] at hv
    exact EReal.coe_ne_top v hv.symm

/-- The sigmoid of a real number is one. -/
theorem real_gate (u : ℝ) : Real (gate (u : EReal)) := by
  have h : (1 : EReal) + Ideal.exp (-(u : EReal)) = ((1 + Real.exp (-u) : ℝ) : EReal) := by
    rw [← EReal.coe_neg, EReal.coe_add]; rfl
  refine ⟨1 * (1 + Real.exp (-u))⁻¹, ?_⟩
  unfold gate
  rw [h, RmsNorm.div_coe _ _ (by positivity)]
  norm_num

/-- The gradient of a gate, as the chain rule gives it. -/
theorem dgate_split {t u v : EReal} (ht : Real t) (hu : Real u) (hv : Real v) :
    t * v * gate u + u * (t * v) * (gate u * (1 - gate u)) = dgate t u v := by
  obtain ⟨t, rfl⟩ := ht
  obtain ⟨u, rfl⟩ := hu
  obtain ⟨v, rfl⟩ := hv
  obtain ⟨s, hs⟩ := real_gate u
  unfold dgate
  rw [hs]
  have h1 : (1 : EReal) = ((1 : ℝ) : EReal) := rfl
  rw [h1]
  simp only [← EReal.coe_mul, ← EReal.coe_add, ← EReal.coe_sub]
  congr 1
  ring

section Arrays

variable (x : FVec Ideal ⟨2, ![2048, 1024]⟩ .f32) (g : FVec Ideal ⟨2, ![1, 1024]⟩ .f32)
  (wf : FVec Ideal ⟨2, ![1024, 5632]⟩ .f32) (wd : FVec Ideal ⟨2, ![2816, 1024]⟩ .f32)
  (d : FVec Ideal ⟨2, ![2048, 1024]⟩ .f32)

/-- What the precondition says. -/
structure Finite : Prop where
  gain : ∀ q, Real (g (ix2 0 q))
  first : ∀ q k, Real (wf (ix2 q k))
  second : ∀ j q, Real (wd (ix2 j q))
  cotangent : ∀ i q, Real (d (ix2 i q))

/-- Where the precondition holds, every element of the four arguments is a real number. -/
theorem finite (hp : Cert.Pre_finite6.fn (F := Ideal) x g wf wd d = fun _ => 1#1) : Finite g wf wd d := by
  have key (r : Fin 10497) (c : Fin 1024) := congrFun hp (ix2 r c)
  unfold Cert.Pre_finite6.fn at key
  refine ⟨fun q => ⟨_, Cert.AttnFinite.real_of_abs (Eq.trans ?_ (key 0 q))⟩,
    fun q k => ⟨_, Cert.AttnFinite.real_of_abs (Eq.trans ?_ (key ⟨1 + k, by omega⟩ q))⟩,
    fun j q => ⟨_, Cert.AttnFinite.real_of_abs (Eq.trans ?_ (key ⟨5633 + j, by omega⟩ q))⟩,
    fun i q => ⟨_, Cert.AttnFinite.real_of_abs (Eq.trans ?_ (key ⟨8449 + i, by omega⟩ q))⟩⟩
  · pointwise []
  · pointwise []
  · pointwise []
    rw [dif_neg (by omega), dif_neg (by omega), dif_pos (by omega)]
    simp only [show 5633 + j.val - 1 - 5632 = j.val by omega, Fin.eta]
  · pointwise []
    rw [dif_neg (by omega), dif_neg (by omega), dif_neg (by omega)]
    simp only [show 8449 + i.val - 1 - 5632 - 2816 = i.val by omega, Fin.eta]

variable {g wf wd d}

theorem real_pp (h : Finite g wf wd d) (i : Fin 2048) (k : Fin 5632) : Real (pp x g wf i k) :=
  real_proj (fun q => (real_scaled _ q).mul (h.gain q)) (fun q => h.first q k)

theorem real_tt (h : Finite g wf wd d) (i : Fin 2048) (j : Fin 2816) : Real (tt wd d i j) :=
  real_proj (fun q => h.cotangent i q) (fun q => h.second j q)

end Arrays

end Cert.Ffn
end
-- ==== Proof.FfnReference.lean ====
module

public import proofs.«01_k».proof.Proof.Gen.Reference6Ideal.Read
public import proofs.«01_k».proof.Proof.FfnFinite

/-! The reference's six results, read entry by entry, are the functions of `FfnSpec`. -/

@[expose] public section

set_option maxRecDepth 16384

noncomputable section

open Idealize.ShloMosaic Idealize.ShloMosaic.TcCoe

namespace Cert.Ffn

open Cert.Mix (row gate)
open Cert.Reference6Ideal Cert.Reference6Ideal.Read Cert.Reference6Ideal.Value

variable (x : FVec Ideal S2048x1024 .f32) (g : FVec Ideal S1x1024 .f32) (wf : FVec Ideal S1024x5632 .f32)
  (wd : FVec Ideal S2816x1024 .f32) (d : FVec Ideal S2048x1024 .f32)

theorem v6_at (p : Fin 2048) (q : Fin 1) : val_main_v6 (F := Ideal) x (ix2 p q) = RmsNorm.meanSq (row x p) := by
  pointwise [val_main_v6, val_main_v5, val_main_v4, val_main_v3, val_main_v2, val_main_v1, val_main_v0, val_main_cst,
    val_main_cst_0, val_main_cst_1, RmsNorm.meanSq, row]

theorem v7_at (p : Fin 2048) (q : Fin 1) : val_main_v7 (F := Ideal) x (ix2 p q) = RmsNorm.rinv (row x p) := by
  unfold val_main_v7
  pointwise [v6_at, RmsNorm.rinv]

theorem v10_at (p : Fin 2048) (q : Fin 1) : val_main_v10 (F := Ideal) x (ix2 p q)
    = Ideal.ofBits .f32 0xBF000000#32 * Ideal.div (RmsNorm.rinv (row x p)) (RmsNorm.meanSq (row x p)) := by
  pointwise [val_main_v10, val_main_v9, val_main_v8, v6_at, v7_at, val_main_cst_2]

theorem v12_at (p : Fin 2048) (q : Fin 1024) :
    val_main_v12 (F := Ideal) x (ix2 p q) = row x p q * RmsNorm.rinv (row x p) := by
  pointwise [val_main_v12, val_main_v11, v7_at, row]

theorem v14_at (p : Fin 2048) (q : Fin 1024) : val_main_v14 (F := Ideal) x g (ix2 p q) = hh x g p q := by
  pointwise [val_main_v14, val_main_v13, v12_at, hh, norm, row]

theorem v15_at (p : Fin 2048) (k : Fin 5632) : val_main_v15 (F := Ideal) x g wf (ix2 p k) = pp x g wf p k := by
  pointwise [val_main_v15, v14_at, pp, proj]

theorem v16_at (p : Fin 2048) (j : Fin 2816) : val_main_v16 (F := Ideal) x g wf (ix2 p j) = pp x g wf p (lo j) := by
  pointwise [val_main_v16, v15_at]

theorem v17_at (p : Fin 2048) (j : Fin 2816) : val_main_v17 (F := Ideal) x g wf (ix2 p j) = pp x g wf p (hi j) := by
  pointwise [val_main_v17, v15_at]

theorem v18_2_at (p : Fin 2048) (j : Fin 2816) :
    val_main_v18_2 (F := Ideal) x g wf (ix2 p j) = gate (pp x g wf p (lo j)) := by
  pointwise [val_main_v18_2, val_main_call0_v4, val_main_call0_v3, val_main_call0_v2, val_main_call0_v1,
    val_main_call0_v0, val_main_call0_cst, val_main_call0_cst_0, v16_at, gate]

theorem v18_1_at (p : Fin 2048) (j : Fin 2816) : val_main_v18_1 (F := Ideal) x g wf (ix2 p j)
    = gate (pp x g wf p (lo j)) * (1 - gate (pp x g wf p (lo j))) := by
  pointwise [val_main_v18_1, val_main_call0_v7, val_main_call0_v6, val_main_call0_cst_1, v18_2_at]

theorem v18_0_at (p : Fin 2048) (j : Fin 2816) : val_main_v18_0 (F := Ideal) x g wf (ix2 p j)
    = pp x g wf p (lo j) * gate (pp x g wf p (lo j)) := by
  pointwise [val_main_v18_0, v16_at, v18_2_at]

theorem v19_at (p : Fin 2048) (j : Fin 2816) : val_main_v19 (F := Ideal) x g wf (ix2 p j) = aa x g wf p j := by
  pointwise [val_main_v19, v18_0_at, v17_at, aa, weighed]

theorem v21_at (p : Fin 2048) (j : Fin 2816) : val_main_v21 (F := Ideal) wd d (ix2 p j) = tt wd d p j := by
  pointwise [val_main_v21, tt, proj, row]

theorem v22_at (p : Fin 2048) (j : Fin 2816) : val_main_v22 (F := Ideal) x g wf wd d (ix2 p j) = uu x g wf wd d p j := by
  pointwise [val_main_v22, v18_0_at, v21_at, uu, dfactor]
  rw [mul_comm, mul_assoc]

section Finite

variable {g wf wd d}
variable (h : Finite g wf wd d)
include h

theorem v24_at (p : Fin 2048) (j : Fin 2816) :
    val_main_v24 (F := Ideal) x g wf wd d (ix2 p j) = gg x g wf wd d p j := by
  refine Eq.trans ?_ (dgate_split (real_tt h p j) (real_pp x h p (lo j)) (real_pp x h p (hi j)))
  pointwise [val_main_v24, val_main_call1_v0, val_main_call1_v1, val_main_call1_v2, val_main_v23, v16_at, v17_at,
    v18_1_at, v18_2_at, v21_at]

/-- The gradients of the gates and factors, side by side: each part is the other's padding. -/
theorem v27_at (p : Fin 2048) (k : Fin 5632) :
    val_main_v27 (F := Ideal) x g wf wd d (ix2 p k) = dp x g wf wd d p k := by
  pointwise [val_main_v27, val_main_v25, val_main_v26, val_main_cst_3, val_main_cst_4]
  unfold dp both
  by_cases hk : k.val < 2816
  · rw [dif_neg (by omega), dif_pos hk, dif_pos hk, zero_add, v24_at x h]
  · rw [dif_pos ⟨by omega, by omega⟩, dif_neg hk, dif_neg hk, add_zero, v22_at]

theorem v28_at (p : Fin 2048) (q : Fin 1024) :
    val_main_v28 (F := Ideal) x g wf wd d (ix2 p q) = dn x g wf wd d p q := by
  pointwise [val_main_v28, v27_at x h, dn]

theorem v33_at (p : Fin 2048) (q : Fin 1024) :
    val_main_v33 (F := Ideal) x g wf wd d (ix2 p q) = dn x g wf wd d p q * row g 0 q := by
  pointwise [val_main_v33, val_main_v32, v28_at x h, row]

theorem v48_at (p : Fin 2048) (q : Fin 1024) :
    val_main_v48 (F := Ideal) x g wf wd d (ix2 p q) = dx x g wf wd d p q := by
  rw [dx, Inp.dx, RmsNorm.gradK_eq_gradR, RmsNorm.gradR]
  pointwise [val_main_v48, val_main_v47, val_main_v46, val_main_v45, val_main_v44, val_main_v43, val_main_v42,
    val_main_v41, val_main_v40, val_main_v39, val_main_v38, val_main_v37, val_main_v36, val_main_v35, val_main_v34,
    v33_at x h, v7_at, v10_at, RmsNorm.slope, val_main_cst_6, val_main_cst_7, val_main_cst_8, row]
  rw [Fin.sum_univ_one]

theorem v31_at (p : Fin 1) (q : Fin 1024) : val_main_v31 (F := Ideal) x g wf wd d (ix2 p q) = dg x g wf wd d q := by
  pointwise [val_main_v31, val_main_v30, val_main_v29, v12_at, v28_at x h, val_main_cst_5, dg, Inp.dgain]
  exact Finset.sum_congr rfl fun k _ => mul_comm _ _

end Finite

end Cert.Ffn
end
-- ==== Proof.FfnRun.lean ====
module

public import proofs.«01_k».proof.Proof.Gen.Kernel6Ideal.Frame

/-! The feed-forward program's run: what every buffer outside the calls' staging holds at its end. -/

@[expose] public section

set_option maxRecDepth 16384

noncomputable section

namespace Cert.Ffn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' staging ends at `W6`, every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.Ffn
end
-- ==== Proof.FfnValue.lean ====
module

public import proofs.«01_k».proof.Proof.FfnKernel
public import proofs.«01_k».proof.Proof.FfnReference
public import proofs.«01_k».proof.Proof.FfnRun
public import proofs.«01_k».proof.Proof.Gen.Kernel6Ideal.Frame
public import proofs.«01_k».proof.Proof.Gen.Reference6Ideal.Run
public import proofs.«01_k».proof.Proof.ReferenceFrames
public import Idealize.ShloMosaic.Lib.Claim

/-! Each of the feed-forward program's six results is the reference's where the gain, the weights and the cotangent are
finite: both are the functions of `FfnSpec`. -/

@[expose] public section

set_option maxRecDepth 16384

noncomputable section

open Idealize.ShloMosaic Idealize.ShloMosaic.TcCoe Idealize.ShloMosaic.Tactic Idealize.SL.Sem

namespace Cert.Ffn

section Reference

open Cert.Reference6Ideal Cert.Reference6Ideal.Read

variable (x : FVec Ideal S2048x1024 .f32) {g : FVec Ideal S1x1024 .f32} {wf : FVec Ideal S1024x5632 .f32}
  {wd : FVec Ideal S2816x1024 .f32} {d : FVec Ideal S2048x1024 .f32}

/-! The reference's result arrays; a rounding changes nothing. -/

theorem ref_dp (h : Finite g wf wd d) :
    val_main_v49 (F := Ideal) x g wf wd d = fun j : S2048x5632.Idx => dp x g wf wd d (j 0) (j 1) := by
  funext j
  idx_vars j
  exact v27_at x h j0 j1
theorem ref_dx (h : Finite g wf wd d) :
    val_main_v48 (F := Ideal) x g wf wd d = fun j : S2048x1024.Idx => dx x g wf wd d (j 0) (j 1) := by
  funext j
  idx_vars j
  exact v48_at x h j0 j1
theorem ref_dy (h : Finite g wf wd d) :
    val_main_v50 (F := Ideal) x g wf wd d = fun j : S2048x1024.Idx => dx x g wf wd d (j 0) (j 1) := by
  funext j
  idx_vars j
  exact v48_at x h j0 j1
theorem ref_dg (h : Finite g wf wd d) :
    val_main_v31 (F := Ideal) x g wf wd d = fun j : S1x1024.Idx => dg x g wf wd d (j 1) := by
  funext j
  idx_vars j
  exact v31_at x h j0 j1
theorem ref_h : val_main_v51 (F := Ideal) x g = fun j : S2048x1024.Idx => hh x g (j 0) (j 1) := by
  funext j
  idx_vars j
  exact v14_at x g j0 j1
theorem ref_a : val_main_v52 (F := Ideal) x g wf = fun j : S2048x2816.Idx => aa x g wf (j 0) (j 1) := by
  funext j
  idx_vars j
  exact v19_at x g wf j0 j1

end Reference

/-- The kernel's frame under the precondition, which it does not need. -/
theorem frame_kernel : Cert.quiescent_Kernel6Ideal_pre_finite6 (hKernel6Ideal := Cert.Kernel6Ideal.Gen.facts) :=
  fun m g _ => Cert.Kernel6Ideal.Gen.frame m g

/-- The reference's. -/
theorem frame_reference : Cert.quiescent_Reference6Ideal_pre_finite6 :=
  fun m g _ => Cert.ReferenceFrames.frame_reference6 m g trivial

open Cert.Reference6Ideal.Read in
/-- The kernel's six results are the reference's. -/
theorem algebraic : Cert.algebraic_Kernel6Ideal_Reference6Ideal_pre_finite6
    (hKernel6Ideal := Cert.Kernel6Ideal.Gen.facts) := by
  intro m g m' g' hpre hagree
  refine ⟨fun c => fun j : Cert.Kernel6Ideal.S2048x5632.Idx => dp (aX m c) (aG m c) (aWf m c) (aWd m c) (aE m c) (j 0) (j 1),
    fun c => fun j : Cert.Kernel6Ideal.S2048x1024.Idx => dx (aX m c) (aG m c) (aWf m c) (aWd m c) (aE m c) (j 0) (j 1),
    fun c => fun j : Cert.Kernel6Ideal.S2048x1024.Idx => dx (aX m c) (aG m c) (aWf m c) (aWd m c) (aE m c) (j 0) (j 1),
    fun c => fun j : Cert.Kernel6Ideal.S1x1024.Idx => dg (aX m c) (aG m c) (aWf m c) (aWd m c) (aE m c) (j 1),
    fun c => fun j : Cert.Kernel6Ideal.S2048x1024.Idx => hh (aX m c) (aG m c) (j 0) (j 1),
    fun c => fun j : Cert.Kernel6Ideal.S2048x2816.Idx => aa (aX m c) (aG m c) (aWf m c) (j 0) (j 1), ?_, ?_⟩
  · refine θ_run_mono (run_all m g) ?_
    intro r hr c
    refine ⟨(hr.1 c _ (Cert.Kernel6Ideal.Gen.mem_uc _ (by decide))).trans (p_6 m g c),
      (hr.1 c _ (Cert.Kernel6Ideal.Gen.mem_uc _ (by decide))).trans (x_6 m g c),
      (hr.1 c _ (Cert.Kernel6Ideal.Gen.mem_uc _ (by decide))).trans (y_6 m g c),
      (hr.1 c _ (Cert.Kernel6Ideal.Gen.mem_uc _ (by decide))).trans (g_6 m g c),
      (hr.1 c _ (Cert.Kernel6Ideal.Gen.mem_uc _ (by decide))).trans (h_6 m g c),
      (hr.1 c _ (Cert.Kernel6Ideal.Gen.mem_uc _ (by decide))).trans (a_6 m g c),
      (hr.1 c _ (Cert.Kernel6Ideal.Gen.mem_uc _ (by decide))).trans (Cert.Kernel6Ideal.Gen.W6_main_arg0 m g c),
      (hr.1 c _ (Cert.Kernel6Ideal.Gen.mem_uc _ (by decide))).trans (Cert.Kernel6Ideal.Gen.W6_main_arg1 m g c),
      (hr.1 c _ (Cert.Kernel6Ideal.Gen.mem_uc _ (by decide))).trans (Cert.Kernel6Ideal.Gen.W6_main_arg2 m g c),
      (hr.1 c _ (Cert.Kernel6Ideal.Gen.mem_uc _ (by decide))).trans (Cert.Kernel6Ideal.Gen.W6_main_arg3 m g c),
      (hr.1 c _ (Cert.Kernel6Ideal.Gen.mem_uc _ (by decide))).trans (Cert.Kernel6Ideal.Gen.W6_main_arg4 m g c)⟩
  · refine θ_run_mono (Cert.Reference6Ideal.Value.run m' g') ?_
    intro r hr c
    obtain ⟨h49, h48, h50, h31, h51, h52, hargs⟩ := hr c
    obtain ⟨e0, e1, e2, e3, e4⟩ := hagree c
    have hf : Finite (aG m c) (aWf m c) (aWd m c) (aE m c) := finite (aX m c) _ _ _ _ (hpre c)
    refine ⟨h49.trans ?_, h48.trans ?_, h50.trans ?_, h31.trans ?_, h51.trans ?_, h52.trans ?_, hargs⟩
    · exact (val_main_v49_eq _ _).trans ((congr (congr (congr (congr (congrArg (val_main_v49 (F := Ideal)) e0) e1) e2) e3) e4).trans (ref_dp _ hf))
    · exact (val_main_v48_eq _ _).trans ((congr (congr (congr (congr (congrArg (val_main_v48 (F := Ideal)) e0) e1) e2) e3) e4).trans (ref_dx _ hf))
    · exact (val_main_v50_eq _ _).trans ((congr (congr (congr (congr (congrArg (val_main_v50 (F := Ideal)) e0) e1) e2) e3) e4).trans (ref_dy _ hf))
    · exact (val_main_v31_eq _ _).trans ((congr (congr (congr (congr (congrArg (val_main_v31 (F := Ideal)) e0) e1) e2) e3) e4).trans (ref_dg _ hf))
    · exact (val_main_v51_eq _ _).trans ((congr (congrArg (val_main_v51 (F := Ideal)) e0) e1).trans (ref_h _))
    · exact (val_main_v52_eq _ _ _).trans ((congr (congr (congrArg (val_main_v52 (F := Ideal)) e0) e1) e2).trans (ref_a _))

end Cert.Ffn
end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Loss
public import proofs.«01_k».proof.Proof.Inp
public import proofs.«01_k».proof.Proof.MixValue
public import proofs.«01_k».proof.Proof.AttnClaims
public import proofs.«01_k».proof.Proof.AttnValue
public import proofs.«01_k».proof.Proof.FfnValue
public import proofs.«01_k».proof.Proof.ReferenceFrames
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Regions
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Regions
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.AttnFinite.facts, Cert.Ffn.facts,
  fun m ρ _ => Cert.Kernel.Gen.frame m ρ, fun m ρ _ => Cert.KernelIdeal.Gen.frame m ρ, Cert.Loss.frame_reference,
  Cert.AttnClaims.frame_kernel, Cert.AttnClaims.frame_ideal, Cert.AttnValue.frame_kernel,
  Cert.ReferenceFrames.frame_reference2, Cert.AttnValue.frame_reference,
  fun m ρ _ => Cert.Kernel3.Gen.frame m ρ, fun m ρ _ => Cert.Kernel3Ideal.Gen.frame m ρ,
  Cert.ReferenceFrames.frame_reference3,
  fun m ρ _ => Cert.Kernel4.Gen.frame m ρ, fun m ρ _ => Cert.Kernel4Ideal.Gen.frame m ρ, Cert.Inp.frame_reference,
  fun m ρ _ => Cert.Kernel5.Gen.frame m ρ, fun m ρ _ => Cert.Kernel5Ideal.Gen.frame m ρ,
  Cert.ReferenceFrames.frame_reference5,
  fun m ρ _ => Cert.Kernel6.Gen.frame m ρ, fun m ρ _ => Cert.Kernel6Ideal.Gen.frame m ρ,
  Cert.Ffn.frame_kernel, Cert.ReferenceFrames.frame_reference6, Cert.Ffn.frame_reference,
  trivial, Cert.Loss.algebraic, Cert.AttnClaims.preserves, Cert.AttnValue.algebraic,
  trivial, trivial, Cert.Inp.algebraic, trivial, Cert.Mix.algebraic, trivial, Cert.Ffn.algebraic⟩

end Cert.Proof

end
